-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite [hPre_finite : Cert.Pre_finite.Facts] (m : (ℓ : Loc Cert.SwaIdeal.nD Cert.SwaIdeal.τ Cert.SwaIdeal.sig) → Buf (Elt Ideal) ℓ) : Prop :=
  ∀ c : Dev Cert.SwaIdeal.nD,
    (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedIdeal_finite_shared [hPre_finite_shared : Cert.Pre_finite_shared.Facts] (m : (ℓ : Loc Cert.SharedIdeal.nD Cert.SharedIdeal.τ Cert.SharedIdeal.sig) → Buf (Elt Ideal) ℓ) : Prop :=
  ∀ c : Dev Cert.SharedIdeal.nD,
    (Cert.Pre_finite_shared.fn (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3))) = (fun _ => 1#1)

def Pre_SharedRefIdeal (m : (ℓ : Loc Cert.SharedRefIdeal.nD Cert.SharedRefIdeal.τ Cert.SharedRefIdeal.sig) → Buf (Elt Ideal) ℓ) : Prop :=
  True

def Pre_SharedRefIdeal_finite_shared [hPre_finite_shared : Cert.Pre_finite_shared.Facts] (m : (ℓ : Loc Cert.SharedRefIdeal.nD Cert.SharedRefIdeal.τ Cert.SharedRefIdeal.sig) → Buf (Elt Ideal) ℓ) : Prop :=
  ∀ c : Dev Cert.SharedRefIdeal.nD,
    (Cert.Pre_finite_shared.fn (F := Ideal) (m ((c.tc : Thread Cert.SharedRefIdeal.nD Cert.SharedRefIdeal.τ).loc Cert.SharedRefIdeal.main_arg0)) (m ((c.tc : Thread Cert.SharedRefIdeal.nD Cert.SharedRefIdeal.τ).loc Cert.SharedRefIdeal.main_arg1)) (m ((c.tc : Thread Cert.SharedRefIdeal.nD Cert.SharedRefIdeal.τ).loc Cert.SharedRefIdeal.main_arg2)) (m ((c.tc : Thread Cert.SharedRefIdeal.nD Cert.SharedRefIdeal.τ).loc Cert.SharedRefIdeal.main_arg3))) = (fun _ => 1#1)

def Pre_SharedS (m : (ℓ : Loc Cert.SharedS.nD Cert.SharedS.τ Cert.SharedS.sig) → Buf (Elt Bits) ℓ) : Prop :=
  True

def Pre_SharedSIdeal (m : (ℓ : Loc Cert.SharedSIdeal.nD Cert.SharedSIdeal.τ Cert.SharedSIdeal.sig) → Buf (Elt Ideal) ℓ) : Prop :=
  True

def Pre_SharedSIdeal_finite_shared_sample [hPre_finite_shared_sample : Cert.Pre_finite_shared_sample.Facts] (m : (ℓ : Loc Cert.SharedSIdeal.nD Cert.SharedSIdeal.τ Cert.SharedSIdeal.sig) → Buf (Elt Ideal) ℓ) : Prop :=
  ∀ c : Dev Cert.SharedSIdeal.nD,
    (Cert.Pre_finite_shared_sample.fn (F := Ideal) (m ((c.tc : Thread Cert.SharedSIdeal.nD Cert.SharedSIdeal.τ).loc Cert.SharedSIdeal.main_arg0)) (m ((c.tc : Thread Cert.SharedSIdeal.nD Cert.SharedSIdeal.τ).loc Cert.SharedSIdeal.main_arg1)) (m ((c.tc : Thread Cert.SharedSIdeal.nD Cert.SharedSIdeal.τ).loc Cert.SharedSIdeal.main_arg2)) (m ((c.tc : Thread Cert.SharedSIdeal.nD Cert.SharedSIdeal.τ).loc Cert.SharedSIdeal.main_arg3)) (m ((c.tc : Thread Cert.SharedSIdeal.nD Cert.SharedSIdeal.τ).loc Cert.SharedSIdeal.main_arg4))) = (fun _ => 1#1)

def Pre_SharedSRefIdeal (m : (ℓ : Loc Cert.SharedSRefIdeal.nD Cert.SharedSRefIdeal.τ Cert.SharedSRefIdeal.sig) → Buf (Elt Ideal) ℓ) : Prop :=
  True

def Pre_SharedSRefIdeal_finite_shared_sample [hPre_finite_shared_sample : Cert.Pre_finite_shared_sample.Facts] (m : (ℓ : Loc Cert.SharedSRefIdeal.nD Cert.SharedSRefIdeal.τ Cert.SharedSRefIdeal.sig) → Buf (Elt Ideal) ℓ) : Prop :=
  ∀ c : Dev Cert.SharedSRefIdeal.nD,
    (Cert.Pre_finite_shared_sample.fn (F := Ideal) (m ((c.tc : Thread Cert.SharedSRefIdeal.nD Cert.SharedSRefIdeal.τ).loc Cert.SharedSRefIdeal.main_arg0)) (m ((c.tc : Thread Cert.SharedSRefIdeal.nD Cert.SharedSRefIdeal.τ).loc Cert.SharedSRefIdeal.main_arg1)) (m ((c.tc : Thread Cert.SharedSRefIdeal.nD Cert.SharedSRefIdeal.τ).loc Cert.SharedSRefIdeal.main_arg2)) (m ((c.tc : Thread Cert.SharedSRefIdeal.nD Cert.SharedSRefIdeal.τ).loc Cert.SharedSRefIdeal.main_arg3)) (m ((c.tc : Thread Cert.SharedSRefIdeal.nD Cert.SharedSRefIdeal.τ).loc Cert.SharedSRefIdeal.main_arg4))) = (fun _ => 1#1)

def Pre_QueryB (m : (ℓ : Loc Cert.QueryB.nD Cert.QueryB.τ Cert.QueryB.sig) → Buf (Elt Bits) ℓ) : Prop :=
  True

def Pre_QueryBIdeal (m : (ℓ : Loc Cert.QueryBIdeal.nD Cert.QueryBIdeal.τ Cert.QueryBIdeal.sig) → Buf (Elt Ideal) ℓ) : Prop :=
  True

def Pre_QueryBIdeal_finite_query [hPre_finite_query : Cert.Pre_finite_query.Facts] (m : (ℓ : Loc Cert.QueryBIdeal.nD Cert.QueryBIdeal.τ Cert.QueryBIdeal.sig) → Buf (Elt Ideal) ℓ) : Prop :=
  ∀ c : Dev Cert.QueryBIdeal.nD,
    (Cert.Pre_finite_query.fn (F := Ideal) (m ((c.tc : Thread Cert.QueryBIdeal.nD Cert.QueryBIdeal.τ).loc Cert.QueryBIdeal.main_arg0)) (m ((c.tc : Thread Cert.QueryBIdeal.nD Cert.QueryBIdeal.τ).loc Cert.QueryBIdeal.main_arg1)) (m ((c.tc : Thread Cert.QueryBIdeal.nD Cert.QueryBIdeal.τ).loc Cert.QueryBIdeal.main_arg2)) (m ((c.tc : Thread Cert.QueryBIdeal.nD Cert.QueryBIdeal.τ).loc Cert.QueryBIdeal.main_arg3))) = (fun _ => 1#1)

def Pre_QueryBRefIdeal (m : (ℓ : Loc Cert.QueryBRefIdeal.nD Cert.QueryBRefIdeal.τ Cert.QueryBRefIdeal.sig) → Buf (Elt Ideal) ℓ) : Prop :=
  True

def Pre_QueryBRefIdeal_finite_query [hPre_finite_query : Cert.Pre_finite_query.Facts] (m : (ℓ : Loc Cert.QueryBRefIdeal.nD Cert.QueryBRefIdeal.τ Cert.QueryBRefIdeal.sig) → Buf (Elt Ideal) ℓ) : Prop :=
  ∀ c : Dev Cert.QueryBRefIdeal.nD,
    (Cert.Pre_finite_query.fn (F := Ideal) (m ((c.tc : Thread Cert.QueryBRefIdeal.nD Cert.QueryBRefIdeal.τ).loc Cert.QueryBRefIdeal.main_arg0)) (m ((c.tc : Thread Cert.QueryBRefIdeal.nD Cert.QueryBRefIdeal.τ).loc Cert.QueryBRefIdeal.main_arg1)) (m ((c.tc : Thread Cert.QueryBRefIdeal.nD Cert.QueryBRefIdeal.τ).loc Cert.QueryBRefIdeal.main_arg2)) (m ((c.tc : Thread Cert.QueryBRefIdeal.nD Cert.QueryBRefIdeal.τ).loc Cert.QueryBRefIdeal.main_arg3))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite [hSwaIdeal : Cert.SwaIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2)
      ∧ r.2.mem ((c.tc : Thread Cert.KvS.nD Cert.KvS.τ).loc Cert.KvS.main_arg3) = m ((c.tc : Thread Cert.KvS.nD Cert.KvS.τ).loc Cert.KvS.main_arg3)
      ∧ r.2.mem ((c.tc : Thread Cert.KvS.nD Cert.KvS.τ).loc Cert.KvS.main_arg4) = m ((c.tc : Thread Cert.KvS.nD Cert.KvS.τ).loc Cert.KvS.main_arg4))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
      ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3)
      ∧ r.2.mem ((c.tc : Thread Cert.KvSIdeal.nD Cert.KvSIdeal.τ).loc Cert.KvSIdeal.main_arg4) = m ((c.tc : Thread Cert.KvSIdeal.nD Cert.KvSIdeal.τ).loc Cert.KvSIdeal.main_arg4))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2)
      ∧ r.2.mem ((c.tc : Thread Cert.KvSRefIdeal.nD Cert.KvSRefIdeal.τ).loc Cert.KvSRefIdeal.main_arg3) = m ((c.tc : Thread Cert.KvSRefIdeal.nD Cert.KvSRefIdeal.τ).loc Cert.KvSRefIdeal.main_arg3)
      ∧ r.2.mem ((c.tc : Thread Cert.KvSRefIdeal.nD Cert.KvSRefIdeal.τ).loc Cert.KvSRefIdeal.main_arg4) = m ((c.tc : Thread Cert.KvSRefIdeal.nD Cert.KvSRefIdeal.τ).loc Cert.KvSRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedIdeal_pre_finite_shared [hSharedIdeal : Cert.SharedIdeal.Facts] [hPre_finite_shared : Cert.Pre_finite_shared.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal_finite_shared m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3))
      ∧ r.2.sem = fun _ => 0)

def quiescent_SharedRefIdeal_pre_finite_shared [hSharedRefIdeal : Cert.SharedRefIdeal.Facts] [hPre_finite_shared : Cert.Pre_finite_shared.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal_finite_shared m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3))
      ∧ r.2.sem = fun _ => 0)

def quiescent_SharedS [hSharedS : Cert.SharedS.Facts] : Prop :=
  ∀ (m : (ℓ : Loc Cert.SharedS.nD Cert.SharedS.τ Cert.SharedS.sig) → Buf (Elt Bits) ℓ) (g : Dev Cert.SharedS.nD → PrngReg), Pre_SharedS m →
    θ_run (Cert.SharedS.defs (F := Bits)) (onTc (τ := Cert.SharedS.τ) (Cert.SharedS.main (F := Bits))) ⟨m, fun _ => 0, g⟩ (fun r => (∀ c : Dev Cert.SharedS.nD,
      r.2.mem ((c.tc : Thread Cert.SharedS.nD Cert.SharedS.τ).loc Cert.SharedS.main_arg0) = m ((c.tc : Thread Cert.SharedS.nD Cert.SharedS.τ).loc Cert.SharedS.main_arg0)
      ∧ r.2.mem ((c.tc : Thread Cert.SharedS.nD Cert.SharedS.τ).loc Cert.SharedS.main_arg1) = m ((c.tc : Thread Cert.SharedS.nD Cert.SharedS.τ).loc Cert.SharedS.main_arg1)
      ∧ r.2.mem ((c.tc : Thread Cert.SharedS.nD Cert.SharedS.τ).loc Cert.SharedS.main_arg2) = m ((c.tc : Thread Cert.SharedS.nD Cert.SharedS.τ).loc Cert.SharedS.main_arg2)
      ∧ r.2.mem ((c.tc : Thread Cert.SharedS.nD Cert.SharedS.τ).loc Cert.SharedS.main_arg3) = m ((c.tc : Thread Cert.SharedS.nD Cert.SharedS.τ).loc Cert.SharedS.main_arg3)
      ∧ r.2.mem ((c.tc : Thread Cert.SharedS.nD Cert.SharedS.τ).loc Cert.SharedS.main_arg4) = m ((c.tc : Thread Cert.SharedS.nD Cert.SharedS.τ).loc Cert.SharedS.main_arg4))
      ∧ r.2.sem = fun _ => 0)

def quiescent_SharedSIdeal [hSharedSIdeal : Cert.SharedSIdeal.Facts] : Prop :=
  ∀ (m : (ℓ : Loc Cert.SharedSIdeal.nD Cert.SharedSIdeal.τ Cert.SharedSIdeal.sig) → Buf (Elt Ideal) ℓ) (g : Dev Cert.SharedSIdeal.nD → PrngReg), Pre_SharedSIdeal m →
    θ_run (Cert.SharedSIdeal.defs (F := Ideal)) (onTc (τ := Cert.SharedSIdeal.τ) (Cert.SharedSIdeal.main (F := Ideal))) ⟨m, fun _ => 0, g⟩ (fun r => (∀ c : Dev Cert.SharedSIdeal.nD,
      r.2.mem ((c.tc : Thread Cert.SharedSIdeal.nD Cert.SharedSIdeal.τ).loc Cert.SharedSIdeal.main_arg0) = m ((c.tc : Thread Cert.SharedSIdeal.nD Cert.SharedSIdeal.τ).loc Cert.SharedSIdeal.main_arg0)
      ∧ r.2.mem ((c.tc : Thread Cert.SharedSIdeal.nD Cert.SharedSIdeal.τ).loc Cert.SharedSIdeal.main_arg1) = m ((c.tc : Thread Cert.SharedSIdeal.nD Cert.SharedSIdeal.τ).loc Cert.SharedSIdeal.main_arg1)
      ∧ r.2.mem ((c.tc : Thread Cert.SharedSIdeal.nD Cert.SharedSIdeal.τ).loc Cert.SharedSIdeal.main_arg2) = m ((c.tc : Thread Cert.SharedSIdeal.nD Cert.SharedSIdeal.τ).loc Cert.SharedSIdeal.main_arg2)
      ∧ r.2.mem ((c.tc : Thread Cert.SharedSIdeal.nD Cert.SharedSIdeal.τ).loc Cert.SharedSIdeal.main_arg3) = m ((c.tc : Thread Cert.SharedSIdeal.nD Cert.SharedSIdeal.τ).loc Cert.SharedSIdeal.main_arg3)
      ∧ r.2.mem ((c.tc : Thread Cert.SharedSIdeal.nD Cert.SharedSIdeal.τ).loc Cert.SharedSIdeal.main_arg4) = m ((c.tc : Thread Cert.SharedSIdeal.nD Cert.SharedSIdeal.τ).loc Cert.SharedSIdeal.main_arg4))
      ∧ r.2.sem = fun _ => 0)

def quiescent_SharedSIdeal_pre_finite_shared_sample [hSharedSIdeal : Cert.SharedSIdeal.Facts] [hPre_finite_shared_sample : Cert.Pre_finite_shared_sample.Facts] : Prop :=
  ∀ (m : (ℓ : Loc Cert.SharedSIdeal.nD Cert.SharedSIdeal.τ Cert.SharedSIdeal.sig) → Buf (Elt Ideal) ℓ) (g : Dev Cert.SharedSIdeal.nD → PrngReg), Pre_SharedSIdeal_finite_shared_sample m →
    θ_run (Cert.SharedSIdeal.defs (F := Ideal)) (onTc (τ := Cert.SharedSIdeal.τ) (Cert.SharedSIdeal.main (F := Ideal))) ⟨m, fun _ => 0, g⟩ (fun r => (∀ c : Dev Cert.SharedSIdeal.nD,
      r.2.mem ((c.tc : Thread Cert.SharedSIdeal.nD Cert.SharedSIdeal.τ).loc Cert.SharedSIdeal.main_arg0) = m ((c.tc : Thread Cert.SharedSIdeal.nD Cert.SharedSIdeal.τ).loc Cert.SharedSIdeal.main_arg0)
      ∧ r.2.mem ((c.tc : Thread Cert.SharedSIdeal.nD Cert.SharedSIdeal.τ).loc Cert.SharedSIdeal.main_arg1) = m ((c.tc : Thread Cert.SharedSIdeal.nD Cert.SharedSIdeal.τ).loc Cert.SharedSIdeal.main_arg1)
      ∧ r.2.mem ((c.tc : Thread Cert.SharedSIdeal.nD Cert.SharedSIdeal.τ).loc Cert.SharedSIdeal.main_arg2) = m ((c.tc : Thread Cert.SharedSIdeal.nD Cert.SharedSIdeal.τ).loc Cert.SharedSIdeal.main_arg2)
      ∧ r.2.mem ((c.tc : Thread Cert.SharedSIdeal.nD Cert.SharedSIdeal.τ).loc Cert.SharedSIdeal.main_arg3) = m ((c.tc : Thread Cert.SharedSIdeal.nD Cert.SharedSIdeal.τ).loc Cert.SharedSIdeal.main_arg3)
      ∧ r.2.mem ((c.tc : Thread Cert.SharedSIdeal.nD Cert.SharedSIdeal.τ).loc Cert.SharedSIdeal.main_arg4) = m ((c.tc : Thread Cert.SharedSIdeal.nD Cert.SharedSIdeal.τ).loc Cert.SharedSIdeal.main_arg4))
      ∧ r.2.sem = fun _ => 0)

def quiescent_SharedSRefIdeal [hSharedSRefIdeal : Cert.SharedSRefIdeal.Facts] : Prop :=
  ∀ (m : (ℓ : Loc Cert.SharedSRefIdeal.nD Cert.SharedSRefIdeal.τ Cert.SharedSRefIdeal.sig) → Buf (Elt Ideal) ℓ) (g : Dev Cert.SharedSRefIdeal.nD → PrngReg), Pre_SharedSRefIdeal m →
    θ_run (Cert.SharedSRefIdeal.defs (F := Ideal)) (onTc (τ := Cert.SharedSRefIdeal.τ) (Cert.SharedSRefIdeal.main (F := Ideal))) ⟨m, fun _ => 0, g⟩ (fun r => (∀ c : Dev Cert.SharedSRefIdeal.nD,
      r.2.mem ((c.tc : Thread Cert.SharedSRefIdeal.nD Cert.SharedSRefIdeal.τ).loc Cert.SharedSRefIdeal.main_arg0) = m ((c.tc : Thread Cert.SharedSRefIdeal.nD Cert.SharedSRefIdeal.τ).loc Cert.SharedSRefIdeal.main_arg0)
      ∧ r.2.mem ((c.tc : Thread Cert.SharedSRefIdeal.nD Cert.SharedSRefIdeal.τ).loc Cert.SharedSRefIdeal.main_arg1) = m ((c.tc : Thread Cert.SharedSRefIdeal.nD Cert.SharedSRefIdeal.τ).loc Cert.SharedSRefIdeal.main_arg1)
      ∧ r.2.mem ((c.tc : Thread Cert.SharedSRefIdeal.nD Cert.SharedSRefIdeal.τ).loc Cert.SharedSRefIdeal.main_arg2) = m ((c.tc : Thread Cert.SharedSRefIdeal.nD Cert.SharedSRefIdeal.τ).loc Cert.SharedSRefIdeal.main_arg2)
      ∧ r.2.mem ((c.tc : Thread Cert.SharedSRefIdeal.nD Cert.SharedSRefIdeal.τ).loc Cert.SharedSRefIdeal.main_arg3) = m ((c.tc : Thread Cert.SharedSRefIdeal.nD Cert.SharedSRefIdeal.τ).loc Cert.SharedSRefIdeal.main_arg3)
      ∧ r.2.mem ((c.tc : Thread Cert.SharedSRefIdeal.nD Cert.SharedSRefIdeal.τ).loc Cert.SharedSRefIdeal.main_arg4) = m ((c.tc : Thread Cert.SharedSRefIdeal.nD Cert.SharedSRefIdeal.τ).loc Cert.SharedSRefIdeal.main_arg4))
      ∧ r.2.sem = fun _ => 0)

def quiescent_SharedSRefIdeal_pre_finite_shared_sample [hSharedSRefIdeal : Cert.SharedSRefIdeal.Facts] [hPre_finite_shared_sample : Cert.Pre_finite_shared_sample.Facts] : Prop :=
  ∀ (m : (ℓ : Loc Cert.SharedSRefIdeal.nD Cert.SharedSRefIdeal.τ Cert.SharedSRefIdeal.sig) → Buf (Elt Ideal) ℓ) (g : Dev Cert.SharedSRefIdeal.nD → PrngReg), Pre_SharedSRefIdeal_finite_shared_sample m →
    θ_run (Cert.SharedSRefIdeal.defs (F := Ideal)) (onTc (τ := Cert.SharedSRefIdeal.τ) (Cert.SharedSRefIdeal.main (F := Ideal))) ⟨m, fun _ => 0, g⟩ (fun r => (∀ c : Dev Cert.SharedSRefIdeal.nD,
      r.2.mem ((c.tc : Thread Cert.SharedSRefIdeal.nD Cert.SharedSRefIdeal.τ).loc Cert.SharedSRefIdeal.main_arg0) = m ((c.tc : Thread Cert.SharedSRefIdeal.nD Cert.SharedSRefIdeal.τ).loc Cert.SharedSRefIdeal.main_arg0)
      ∧ r.2.mem ((c.tc : Thread Cert.SharedSRefIdeal.nD Cert.SharedSRefIdeal.τ).loc Cert.SharedSRefIdeal.main_arg1) = m ((c.tc : Thread Cert.SharedSRefIdeal.nD Cert.SharedSRefIdeal.τ).loc Cert.SharedSRefIdeal.main_arg1)
      ∧ r.2.mem ((c.tc : Thread Cert.SharedSRefIdeal.nD Cert.SharedSRefIdeal.τ).loc Cert.SharedSRefIdeal.main_arg2) = m ((c.tc : Thread Cert.SharedSRefIdeal.nD Cert.SharedSRefIdeal.τ).loc Cert.SharedSRefIdeal.main_arg2)
      ∧ r.2.mem ((c.tc : Thread Cert.SharedSRefIdeal.nD Cert.SharedSRefIdeal.τ).loc Cert.SharedSRefIdeal.main_arg3) = m ((c.tc : Thread Cert.SharedSRefIdeal.nD Cert.SharedSRefIdeal.τ).loc Cert.SharedSRefIdeal.main_arg3)
      ∧ r.2.mem ((c.tc : Thread Cert.SharedSRefIdeal.nD Cert.SharedSRefIdeal.τ).loc Cert.SharedSRefIdeal.main_arg4) = m ((c.tc : Thread Cert.SharedSRefIdeal.nD Cert.SharedSRefIdeal.τ).loc Cert.SharedSRefIdeal.main_arg4))
      ∧ r.2.sem = fun _ => 0)

def quiescent_QueryB [hQueryB : Cert.QueryB.Facts] : Prop :=
  ∀ (m : (ℓ : Loc Cert.QueryB.nD Cert.QueryB.τ Cert.QueryB.sig) → Buf (Elt Bits) ℓ) (g : Dev Cert.QueryB.nD → PrngReg), Pre_QueryB m →
    θ_run (Cert.QueryB.defs (F := Bits)) (onTc (τ := Cert.QueryB.τ) (Cert.QueryB.main (F := Bits))) ⟨m, fun _ => 0, g⟩ (fun r => (∀ c : Dev Cert.QueryB.nD,
      r.2.mem ((c.tc : Thread Cert.QueryB.nD Cert.QueryB.τ).loc Cert.QueryB.main_arg0) = m ((c.tc : Thread Cert.QueryB.nD Cert.QueryB.τ).loc Cert.QueryB.main_arg0)
      ∧ r.2.mem ((c.tc : Thread Cert.QueryB.nD Cert.QueryB.τ).loc Cert.QueryB.main_arg1) = m ((c.tc : Thread Cert.QueryB.nD Cert.QueryB.τ).loc Cert.QueryB.main_arg1)
      ∧ r.2.mem ((c.tc : Thread Cert.QueryB.nD Cert.QueryB.τ).loc Cert.QueryB.main_arg2) = m ((c.tc : Thread Cert.QueryB.nD Cert.QueryB.τ).loc Cert.QueryB.main_arg2)
      ∧ r.2.mem ((c.tc : Thread Cert.QueryB.nD Cert.QueryB.τ).loc Cert.QueryB.main_arg3) = m ((c.tc : Thread Cert.QueryB.nD Cert.QueryB.τ).loc Cert.QueryB.main_arg3))
      ∧ r.2.sem = fun _ => 0)

def quiescent_QueryBIdeal [hQueryBIdeal : Cert.QueryBIdeal.Facts] : Prop :=
  ∀ (m : (ℓ : Loc Cert.QueryBIdeal.nD Cert.QueryBIdeal.τ Cert.QueryBIdeal.sig) → Buf (Elt Ideal) ℓ) (g : Dev Cert.QueryBIdeal.nD → PrngReg), Pre_QueryBIdeal m →
    θ_run (Cert.QueryBIdeal.defs (F := Ideal)) (onTc (τ := Cert.QueryBIdeal.τ) (Cert.QueryBIdeal.main (F := Ideal))) ⟨m, fun _ => 0, g⟩ (fun r => (∀ c : Dev Cert.QueryBIdeal.nD,
      r.2.mem ((c.tc : Thread Cert.QueryBIdeal.nD Cert.QueryBIdeal.τ).loc Cert.QueryBIdeal.main_arg0) = m ((c.tc : Thread Cert.QueryBIdeal.nD Cert.QueryBIdeal.τ).loc Cert.QueryBIdeal.main_arg0)
      ∧ r.2.mem ((c.tc : Thread Cert.QueryBIdeal.nD Cert.QueryBIdeal.τ).loc Cert.QueryBIdeal.main_arg1) = m ((c.tc : Thread Cert.QueryBIdeal.nD Cert.QueryBIdeal.τ).loc Cert.QueryBIdeal.main_arg1)
      ∧ r.2.mem ((c.tc : Thread Cert.QueryBIdeal.nD Cert.QueryBIdeal.τ).loc Cert.QueryBIdeal.main_arg2) = m ((c.tc : Thread Cert.QueryBIdeal.nD Cert.QueryBIdeal.τ).loc Cert.QueryBIdeal.main_arg2)
      ∧ r.2.mem ((c.tc : Thread Cert.QueryBIdeal.nD Cert.QueryBIdeal.τ).loc Cert.QueryBIdeal.main_arg3) = m ((c.tc : Thread Cert.QueryBIdeal.nD Cert.QueryBIdeal.τ).loc Cert.QueryBIdeal.main_arg3))
      ∧ r.2.sem = fun _ => 0)

def quiescent_QueryBIdeal_pre_finite_query [hQueryBIdeal : Cert.QueryBIdeal.Facts] [hPre_finite_query : Cert.Pre_finite_query.Facts] : Prop :=
  ∀ (m : (ℓ : Loc Cert.QueryBIdeal.nD Cert.QueryBIdeal.τ Cert.QueryBIdeal.sig) → Buf (Elt Ideal) ℓ) (g : Dev Cert.QueryBIdeal.nD → PrngReg), Pre_QueryBIdeal_finite_query m →
    θ_run (Cert.QueryBIdeal.defs (F := Ideal)) (onTc (τ := Cert.QueryBIdeal.τ) (Cert.QueryBIdeal.main (F := Ideal))) ⟨m, fun _ => 0, g⟩ (fun r => (∀ c : Dev Cert.QueryBIdeal.nD,
      r.2.mem ((c.tc : Thread Cert.QueryBIdeal.nD Cert.QueryBIdeal.τ).loc Cert.QueryBIdeal.main_arg0) = m ((c.tc : Thread Cert.QueryBIdeal.nD Cert.QueryBIdeal.τ).loc Cert.QueryBIdeal.main_arg0)
      ∧ r.2.mem ((c.tc : Thread Cert.QueryBIdeal.nD Cert.QueryBIdeal.τ).loc Cert.QueryBIdeal.main_arg1) = m ((c.tc : Thread Cert.QueryBIdeal.nD Cert.QueryBIdeal.τ).loc Cert.QueryBIdeal.main_arg1)
      ∧ r.2.mem ((c.tc : Thread Cert.QueryBIdeal.nD Cert.QueryBIdeal.τ).loc Cert.QueryBIdeal.main_arg2) = m ((c.tc : Thread Cert.QueryBIdeal.nD Cert.QueryBIdeal.τ).loc Cert.QueryBIdeal.main_arg2)
      ∧ r.2.mem ((c.tc : Thread Cert.QueryBIdeal.nD Cert.QueryBIdeal.τ).loc Cert.QueryBIdeal.main_arg3) = m ((c.tc : Thread Cert.QueryBIdeal.nD Cert.QueryBIdeal.τ).loc Cert.QueryBIdeal.main_arg3))
      ∧ r.2.sem = fun _ => 0)

def quiescent_QueryBRefIdeal [hQueryBRefIdeal : Cert.QueryBRefIdeal.Facts] : Prop :=
  ∀ (m : (ℓ : Loc Cert.QueryBRefIdeal.nD Cert.QueryBRefIdeal.τ Cert.QueryBRefIdeal.sig) → Buf (Elt Ideal) ℓ) (g : Dev Cert.QueryBRefIdeal.nD → PrngReg), Pre_QueryBRefIdeal m →
    θ_run (Cert.QueryBRefIdeal.defs (F := Ideal)) (onTc (τ := Cert.QueryBRefIdeal.τ) (Cert.QueryBRefIdeal.main (F := Ideal))) ⟨m, fun _ => 0, g⟩ (fun r => (∀ c : Dev Cert.QueryBRefIdeal.nD,
      r.2.mem ((c.tc : Thread Cert.QueryBRefIdeal.nD Cert.QueryBRefIdeal.τ).loc Cert.QueryBRefIdeal.main_arg0) = m ((c.tc : Thread Cert.QueryBRefIdeal.nD Cert.QueryBRefIdeal.τ).loc Cert.QueryBRefIdeal.main_arg0)
      ∧ r.2.mem ((c.tc : Thread Cert.QueryBRefIdeal.nD Cert.QueryBRefIdeal.τ).loc Cert.QueryBRefIdeal.main_arg1) = m ((c.tc : Thread Cert.QueryBRefIdeal.nD Cert.QueryBRefIdeal.τ).loc Cert.QueryBRefIdeal.main_arg1)
      ∧ r.2.mem ((c.tc : Thread Cert.QueryBRefIdeal.nD Cert.QueryBRefIdeal.τ).loc Cert.QueryBRefIdeal.main_arg2) = m ((c.tc : Thread Cert.QueryBRefIdeal.nD Cert.QueryBRefIdeal.τ).loc Cert.QueryBRefIdeal.main_arg2)
      ∧ r.2.mem ((c.tc : Thread Cert.QueryBRefIdeal.nD Cert.QueryBRefIdeal.τ).loc Cert.QueryBRefIdeal.main_arg3) = m ((c.tc : Thread Cert.QueryBRefIdeal.nD Cert.QueryBRefIdeal.τ).loc Cert.QueryBRefIdeal.main_arg3))
      ∧ r.2.sem = fun _ => 0)

def quiescent_QueryBRefIdeal_pre_finite_query [hQueryBRefIdeal : Cert.QueryBRefIdeal.Facts] [hPre_finite_query : Cert.Pre_finite_query.Facts] : Prop :=
  ∀ (m : (ℓ : Loc Cert.QueryBRefIdeal.nD Cert.QueryBRefIdeal.τ Cert.QueryBRefIdeal.sig) → Buf (Elt Ideal) ℓ) (g : Dev Cert.QueryBRefIdeal.nD → PrngReg), Pre_QueryBRefIdeal_finite_query m →
    θ_run (Cert.QueryBRefIdeal.defs (F := Ideal)) (onTc (τ := Cert.QueryBRefIdeal.τ) (Cert.QueryBRefIdeal.main (F := Ideal))) ⟨m, fun _ => 0, g⟩ (fun r => (∀ c : Dev Cert.QueryBRefIdeal.nD,
      r.2.mem ((c.tc : Thread Cert.QueryBRefIdeal.nD Cert.QueryBRefIdeal.τ).loc Cert.QueryBRefIdeal.main_arg0) = m ((c.tc : Thread Cert.QueryBRefIdeal.nD Cert.QueryBRefIdeal.τ).loc Cert.QueryBRefIdeal.main_arg0)
      ∧ r.2.mem ((c.tc : Thread Cert.QueryBRefIdeal.nD Cert.QueryBRefIdeal.τ).loc Cert.QueryBRefIdeal.main_arg1) = m ((c.tc : Thread Cert.QueryBRefIdeal.nD Cert.QueryBRefIdeal.τ).loc Cert.QueryBRefIdeal.main_arg1)
      ∧ r.2.mem ((c.tc : Thread Cert.QueryBRefIdeal.nD Cert.QueryBRefIdeal.τ).loc Cert.QueryBRefIdeal.main_arg2) = m ((c.tc : Thread Cert.QueryBRefIdeal.nD Cert.QueryBRefIdeal.τ).loc Cert.QueryBRefIdeal.main_arg2)
      ∧ r.2.mem ((c.tc : Thread Cert.QueryBRefIdeal.nD Cert.QueryBRefIdeal.τ).loc Cert.QueryBRefIdeal.main_arg3) = m ((c.tc : Thread Cert.QueryBRefIdeal.nD Cert.QueryBRefIdeal.τ).loc Cert.QueryBRefIdeal.main_arg3))
      ∧ r.2.sem = fun _ => 0)

def preserves_Swa_SwaIdeal : Prop :=
  IdealRules.named_const.Statement Cert.SwaIdeal.κ "far" .f32 0x76453719#32 ⊤
  ∧ IdealRules.named_const.Statement Cert.SwaIdeal.κ "log2e" .f32 0x3FB8AA3B#32 (((Real.log 2)⁻¹ : ℝ) : EReal)
  ∧ IdealRules.named_const.Statement Cert.SwaIdeal.κ "slope11" .f32 0x3E38AA3B#32 (((1 / 8) * (Real.log 2)⁻¹ : ℝ) : EReal)
  ∧ IdealRules.named_const.Statement Cert.SwaIdeal.κ "slope0" .f32 0x3F9B48BB#32 (((14107901 / 16777216) * (Real.log 2)⁻¹ : ℝ) : EReal)
  ∧ IdealRules.named_const.Statement Cert.SwaIdeal.κ "slope1" .f32 0x3F8293EE#32 (((11863283 / 16777216) * (Real.log 2)⁻¹ : ℝ) : EReal)
  ∧ IdealRules.named_const.Statement Cert.SwaIdeal.κ "slope2" .f32 0x3F5B9ADA#32 (((623487 / 1048576) * (Real.log 2)⁻¹ : ℝ) : EReal)
  ∧ IdealRules.named_const.Statement Cert.SwaIdeal.κ "slope3" .f32 0x3F38AA3B#32 (((1 / 2) * (Real.log 2)⁻¹ : ℝ) : EReal)
  ∧ IdealRules.named_const.Statement Cert.SwaIdeal.κ "slope4" .f32 0x3F1B48BB#32 (((14107901 / 33554432) * (Real.log 2)⁻¹ : ℝ) : EReal)
  ∧ IdealRules.named_const.Statement Cert.SwaIdeal.κ "slope5" .f32 0x3F0293EE#32 (((11863283 / 33554432) * (Real.log 2)⁻¹ : ℝ) : EReal)
  ∧ IdealRules.named_const.Statement Cert.SwaIdeal.κ "slope6" .f32 0x3EDB9ADA#32 (((623487 / 2097152) * (Real.log 2)⁻¹ : ℝ) : EReal)
  ∧ IdealRules.named_const.Statement Cert.SwaIdeal.κ "slope7" .f32 0x3EB8AA3B#32 (((1 / 4) * (Real.log 2)⁻¹ : ℝ) : EReal)
  ∧ IdealRules.named_const.Statement Cert.SwaIdeal.κ "slope8" .f32 0x3E9B48BB#32 (((14107901 / 67108864) * (Real.log 2)⁻¹ : ℝ) : EReal)
  ∧ IdealRules.named_const.Statement Cert.SwaIdeal.κ "slope9" .f32 0x3E8293EE#32 (((11863283 / 67108864) * (Real.log 2)⁻¹ : ℝ) : EReal)
  ∧ IdealRules.named_const.Statement Cert.SwaIdeal.κ "slope10" .f32 0x3E5B9ADA#32 (((623487 / 4194304) * (Real.log 2)⁻¹ : ℝ) : EReal)
  ∧ IdealRules.named_const.Statement Cert.SwaIdeal.κ "slope12" .f32 0x3E1B48BB#32 (((14107901 / 134217728) * (Real.log 2)⁻¹ : ℝ) : EReal)
  ∧ IdealRules.named_const.Statement Cert.SwaIdeal.κ "slope13" .f32 0x3E0293EE#32 (((11863283 / 134217728) * (Real.log 2)⁻¹ : ℝ) : EReal)
  ∧ IdealRules.named_const.Statement Cert.SwaIdeal.κ "slope14" .f32 0x3DDB9ADA#32 (((623487 / 8388608) * (Real.log 2)⁻¹ : ℝ) : EReal)
  ∧ IdealRules.named_const.Statement Cert.SwaIdeal.κ "slope15" .f32 0x3DB8AA3B#32 (((1 / 16) * (Real.log 2)⁻¹ : ℝ) : EReal)
  ∧ IdealRules.named_const.Statement Cert.SwaIdeal.κ "slope16" .f32 0x3D9B48BB#32 (((14107901 / 268435456) * (Real.log 2)⁻¹ : ℝ) : EReal)
  ∧ IdealRules.named_const.Statement Cert.SwaIdeal.κ "slope17" .f32 0x3D8293EE#32 (((11863283 / 268435456) * (Real.log 2)⁻¹ : ℝ) : EReal)
  ∧ IdealRules.named_const.Statement Cert.SwaIdeal.κ "slope18" .f32 0x3D5B9ADA#32 (((623487 / 16777216) * (Real.log 2)⁻¹ : ℝ) : EReal)
  ∧ IdealRules.named_const.Statement Cert.SwaIdeal.κ "slope19" .f32 0x3D38AA3B#32 (((1 / 32) * (Real.log 2)⁻¹ : ℝ) : EReal)
  ∧ IdealRules.named_const.Statement Cert.SwaIdeal.κ "slope20" .f32 0x3D1B48BB#32 (((14107901 / 536870912) * (Real.log 2)⁻¹ : ℝ) : EReal)
  ∧ IdealRules.named_const.Statement Cert.SwaIdeal.κ "slope21" .f32 0x3D0293EE#32 (((11863283 / 536870912) * (Real.log 2)⁻¹ : ℝ) : EReal)
  ∧ IdealRules.named_const.Statement Cert.SwaIdeal.κ "slope22" .f32 0x3CDB9ADA#32 (((623487 / 33554432) * (Real.log 2)⁻¹ : ℝ) : EReal)
  ∧ IdealRules.named_const.Statement Cert.SwaIdeal.κ "slope23" .f32 0x3CB8AA3B#32 (((1 / 64) * (Real.log 2)⁻¹ : ℝ) : EReal)
  ∧ IdealRules.named_const.Statement Cert.SwaIdeal.κ "slope24" .f32 0x3C9B48BB#32 (((14107901 / 1073741824) * (Real.log 2)⁻¹ : ℝ) : EReal)
  ∧ IdealRules.named_const.Statement Cert.SwaIdeal.κ "slope25" .f32 0x3C8293EE#32 (((11863283 / 1073741824) * (Real.log 2)⁻¹ : ℝ) : EReal)
  ∧ IdealRules.named_const.Statement Cert.SwaIdeal.κ "slope26" .f32 0x3C5B9ADA#32 (((623487 / 67108864) * (Real.log 2)⁻¹ : ℝ) : EReal)
  ∧ IdealRules.named_const.Statement Cert.SwaIdeal.κ "slope27" .f32 0x3C38AA3B#32 (((1 / 128) * (Real.log 2)⁻¹ : ℝ) : EReal)
  ∧ IdealRules.named_const.Statement Cert.SwaIdeal.κ "slope28" .f32 0x3C1B48BB#32 (((14107901 / 2147483648) * (Real.log 2)⁻¹ : ℝ) : EReal)
  ∧ IdealRules.named_const.Statement Cert.SwaIdeal.κ "slope29" .f32 0x3C0293EE#32 (((11863283 / 2147483648) * (Real.log 2)⁻¹ : ℝ) : EReal)
  ∧ IdealRules.named_const.Statement Cert.SwaIdeal.κ "slope30" .f32 0x3BDB9ADA#32 (((623487 / 134217728) * (Real.log 2)⁻¹ : ℝ) : EReal)
  ∧ IdealRules.named_const.Statement Cert.SwaIdeal.κ "slope31" .f32 0x3BB8AA3B#32 (((1 / 256) * (Real.log 2)⁻¹ : ℝ) : EReal)

def algebraic_SwaIdeal_SwaRefIdeal_pre_finite [hSwaIdeal : Cert.SwaIdeal.Facts] [hSwaRefIdeal : Cert.SwaRefIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v54) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v19) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)) →
    ∃ (v0 : (c : Dev Cert.MlpSIdeal.nD) → Buf (Elt Ideal) ((c.tc : Thread Cert.MlpSIdeal.nD Cert.MlpSIdeal.τ).loc Cert.MlpSIdeal.main_v1_0)) (v1 : (c : Dev Cert.MlpSIdeal.nD) → Buf (Elt Ideal) ((c.tc : Thread Cert.MlpSIdeal.nD Cert.MlpSIdeal.τ).loc Cert.MlpSIdeal.main_v1_1)) (v2 : (c : Dev Cert.MlpSIdeal.nD) → Buf (Elt Ideal) ((c.tc : Thread Cert.MlpSIdeal.nD Cert.MlpSIdeal.τ).loc Cert.MlpSIdeal.main_v1_2)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v1_0) = v0 c
          ∧ r.2.mem ((c.tc : Thread Cert.MlpSIdeal.nD Cert.MlpSIdeal.τ).loc Cert.MlpSIdeal.main_v1_1) = v1 c
          ∧ r.2.mem ((c.tc : Thread Cert.MlpSIdeal.nD Cert.MlpSIdeal.τ).loc Cert.MlpSIdeal.main_v1_2) = v2 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v17) = v0 c
          ∧ r.2.mem ((c.tc : Thread Cert.MlpSRefIdeal.nD Cert.MlpSRefIdeal.τ).loc Cert.MlpSRefIdeal.main_v18) = v1 c
          ∧ r.2.mem ((c.tc : Thread Cert.MlpSRefIdeal.nD Cert.MlpSRefIdeal.τ).loc Cert.MlpSRefIdeal.main_v19) = v2 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v25)) (v1 : (c : Dev Cert.KvIdeal.nD) → Buf (Elt Ideal) ((c.tc : Thread Cert.KvIdeal.nD Cert.KvIdeal.τ).loc Cert.KvIdeal.main_v27)) (v2 : (c : Dev Cert.KvIdeal.nD) → Buf (Elt Ideal) ((c.tc : Thread Cert.KvIdeal.nD Cert.KvIdeal.τ).loc Cert.KvIdeal.main_v24_0)) (v3 : (c : Dev Cert.KvIdeal.nD) → Buf (Elt Ideal) ((c.tc : Thread Cert.KvIdeal.nD Cert.KvIdeal.τ).loc Cert.KvIdeal.main_v24_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v25) = v0 c
          ∧ r.2.mem ((c.tc : Thread Cert.KvIdeal.nD Cert.KvIdeal.τ).loc Cert.KvIdeal.main_v27) = v1 c
          ∧ r.2.mem ((c.tc : Thread Cert.KvIdeal.nD Cert.KvIdeal.τ).loc Cert.KvIdeal.main_v24_0) = v2 c
          ∧ r.2.mem ((c.tc : Thread Cert.KvIdeal.nD Cert.KvIdeal.τ).loc Cert.KvIdeal.main_v24_1) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v69) = v0 c
          ∧ r.2.mem ((c.tc : Thread Cert.KvRefIdeal.nD Cert.KvRefIdeal.τ).loc Cert.KvRefIdeal.main_v71) = v1 c
          ∧ r.2.mem ((c.tc : Thread Cert.KvRefIdeal.nD Cert.KvRefIdeal.τ).loc Cert.KvRefIdeal.main_v72) = v2 c
          ∧ r.2.mem ((c.tc : Thread Cert.KvRefIdeal.nD Cert.KvRefIdeal.τ).loc Cert.KvRefIdeal.main_v73) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)
      ∧ m' ((c.tc : Thread Cert.KvSRefIdeal.nD Cert.KvSRefIdeal.τ).loc Cert.KvSRefIdeal.main_arg3) = m ((c.tc : Thread Cert.KvSIdeal.nD Cert.KvSIdeal.τ).loc Cert.KvSIdeal.main_arg3)
      ∧ m' ((c.tc : Thread Cert.KvSRefIdeal.nD Cert.KvSRefIdeal.τ).loc Cert.KvSRefIdeal.main_arg4) = m ((c.tc : Thread Cert.KvSIdeal.nD Cert.KvSIdeal.τ).loc Cert.KvSIdeal.main_arg4)) →
    ∃ (v0 : (c : Dev Cert.KvSIdeal.nD) → Buf (Elt Ideal) ((c.tc : Thread Cert.KvSIdeal.nD Cert.KvSIdeal.τ).loc Cert.KvSIdeal.main_v26)) (v1 : (c : Dev Cert.KvSIdeal.nD) → Buf (Elt Ideal) ((c.tc : Thread Cert.KvSIdeal.nD Cert.KvSIdeal.τ).loc Cert.KvSIdeal.main_v30)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v26) = v0 c
          ∧ r.2.mem ((c.tc : Thread Cert.KvSIdeal.nD Cert.KvSIdeal.τ).loc Cert.KvSIdeal.main_v30) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
          ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3)
          ∧ r.2.mem ((c.tc : Thread Cert.KvSIdeal.nD Cert.KvSIdeal.τ).loc Cert.KvSIdeal.main_arg4) = m ((c.tc : Thread Cert.KvSIdeal.nD Cert.KvSIdeal.τ).loc Cert.KvSIdeal.main_arg4))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v71) = v0 c
          ∧ r.2.mem ((c.tc : Thread Cert.KvSRefIdeal.nD Cert.KvSRefIdeal.τ).loc Cert.KvSRefIdeal.main_v73) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2)
          ∧ r.2.mem ((c.tc : Thread Cert.KvSRefIdeal.nD Cert.KvSRefIdeal.τ).loc Cert.KvSRefIdeal.main_arg3) = m' ((c.tc : Thread Cert.KvSRefIdeal.nD Cert.KvSRefIdeal.τ).loc Cert.KvSRefIdeal.main_arg3)
          ∧ r.2.mem ((c.tc : Thread Cert.KvSRefIdeal.nD Cert.KvSRefIdeal.τ).loc Cert.KvSRefIdeal.main_arg4) = m' ((c.tc : Thread Cert.KvSRefIdeal.nD Cert.KvSRefIdeal.τ).loc Cert.KvSRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v14)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v14) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v35) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def preserves_Shared_SharedIdeal : Prop :=
  True

def algebraic_SharedIdeal_SharedRefIdeal_pre_finite_shared [hSharedIdeal : Cert.SharedIdeal.Facts] [hSharedRefIdeal : Cert.SharedRefIdeal.Facts] [hPre_finite_shared : Cert.Pre_finite_shared.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal_finite_shared m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v13)) (v1 : (c : Dev Cert.SharedIdeal.nD) → Buf (Elt Ideal) ((c.tc : Thread Cert.SharedIdeal.nD Cert.SharedIdeal.τ).loc Cert.SharedIdeal.main_v15)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v13) = v0 c
          ∧ r.2.mem ((c.tc : Thread Cert.SharedIdeal.nD Cert.SharedIdeal.τ).loc Cert.SharedIdeal.main_v15) = v1 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v35) = v0 c
          ∧ r.2.mem ((c.tc : Thread Cert.SharedRefIdeal.nD Cert.SharedRefIdeal.τ).loc Cert.SharedRefIdeal.main_v36) = v1 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3))

def preserves_SharedS_SharedSIdeal : Prop :=
  True

def algebraic_SharedSIdeal_SharedSRefIdeal_pre_finite_shared_sample [hSharedSIdeal : Cert.SharedSIdeal.Facts] [hSharedSRefIdeal : Cert.SharedSRefIdeal.Facts] [hPre_finite_shared_sample : Cert.Pre_finite_shared_sample.Facts] : Prop :=
  ∀ (m : (ℓ : Loc Cert.SharedSIdeal.nD Cert.SharedSIdeal.τ Cert.SharedSIdeal.sig) → Buf (Elt Ideal) ℓ) (g : Dev Cert.SharedSIdeal.nD → PrngReg)
    (m' : (ℓ : Loc Cert.SharedSRefIdeal.nD Cert.SharedSRefIdeal.τ Cert.SharedSRefIdeal.sig) → Buf (Elt Ideal) ℓ) (g' : Dev Cert.SharedSRefIdeal.nD → PrngReg), Pre_SharedSIdeal_finite_shared_sample m →
    (∀ c : Dev Cert.SharedSIdeal.nD,
      m' ((c.tc : Thread Cert.SharedSRefIdeal.nD Cert.SharedSRefIdeal.τ).loc Cert.SharedSRefIdeal.main_arg0) = m ((c.tc : Thread Cert.SharedSIdeal.nD Cert.SharedSIdeal.τ).loc Cert.SharedSIdeal.main_arg0)
      ∧ m' ((c.tc : Thread Cert.SharedSRefIdeal.nD Cert.SharedSRefIdeal.τ).loc Cert.SharedSRefIdeal.main_arg1) = m ((c.tc : Thread Cert.SharedSIdeal.nD Cert.SharedSIdeal.τ).loc Cert.SharedSIdeal.main_arg1)
      ∧ m' ((c.tc : Thread Cert.SharedSRefIdeal.nD Cert.SharedSRefIdeal.τ).loc Cert.SharedSRefIdeal.main_arg2) = m ((c.tc : Thread Cert.SharedSIdeal.nD Cert.SharedSIdeal.τ).loc Cert.SharedSIdeal.main_arg2)
      ∧ m' ((c.tc : Thread Cert.SharedSRefIdeal.nD Cert.SharedSRefIdeal.τ).loc Cert.SharedSRefIdeal.main_arg3) = m ((c.tc : Thread Cert.SharedSIdeal.nD Cert.SharedSIdeal.τ).loc Cert.SharedSIdeal.main_arg3)
      ∧ m' ((c.tc : Thread Cert.SharedSRefIdeal.nD Cert.SharedSRefIdeal.τ).loc Cert.SharedSRefIdeal.main_arg4) = m ((c.tc : Thread Cert.SharedSIdeal.nD Cert.SharedSIdeal.τ).loc Cert.SharedSIdeal.main_arg4)) →
    ∃ (v0 : (c : Dev Cert.SharedSIdeal.nD) → Buf (Elt Ideal) ((c.tc : Thread Cert.SharedSIdeal.nD Cert.SharedSIdeal.τ).loc Cert.SharedSIdeal.main_v13)) (v1 : (c : Dev Cert.SharedSIdeal.nD) → Buf (Elt Ideal) ((c.tc : Thread Cert.SharedSIdeal.nD Cert.SharedSIdeal.τ).loc Cert.SharedSIdeal.main_v16)),
      θ_run (Cert.SharedSIdeal.defs (F := Ideal)) (onTc (τ := Cert.SharedSIdeal.τ) (Cert.SharedSIdeal.main (F := Ideal))) ⟨m, fun _ => 0, g⟩ (fun r => ∀ c : Dev Cert.SharedSIdeal.nD,
          r.2.mem ((c.tc : Thread Cert.SharedSIdeal.nD Cert.SharedSIdeal.τ).loc Cert.SharedSIdeal.main_v13) = v0 c
          ∧ r.2.mem ((c.tc : Thread Cert.SharedSIdeal.nD Cert.SharedSIdeal.τ).loc Cert.SharedSIdeal.main_v16) = v1 c
          ∧ r.2.mem ((c.tc : Thread Cert.SharedSIdeal.nD Cert.SharedSIdeal.τ).loc Cert.SharedSIdeal.main_arg0) = m ((c.tc : Thread Cert.SharedSIdeal.nD Cert.SharedSIdeal.τ).loc Cert.SharedSIdeal.main_arg0)
          ∧ r.2.mem ((c.tc : Thread Cert.SharedSIdeal.nD Cert.SharedSIdeal.τ).loc Cert.SharedSIdeal.main_arg1) = m ((c.tc : Thread Cert.SharedSIdeal.nD Cert.SharedSIdeal.τ).loc Cert.SharedSIdeal.main_arg1)
          ∧ r.2.mem ((c.tc : Thread Cert.SharedSIdeal.nD Cert.SharedSIdeal.τ).loc Cert.SharedSIdeal.main_arg2) = m ((c.tc : Thread Cert.SharedSIdeal.nD Cert.SharedSIdeal.τ).loc Cert.SharedSIdeal.main_arg2)
          ∧ r.2.mem ((c.tc : Thread Cert.SharedSIdeal.nD Cert.SharedSIdeal.τ).loc Cert.SharedSIdeal.main_arg3) = m ((c.tc : Thread Cert.SharedSIdeal.nD Cert.SharedSIdeal.τ).loc Cert.SharedSIdeal.main_arg3)
          ∧ r.2.mem ((c.tc : Thread Cert.SharedSIdeal.nD Cert.SharedSIdeal.τ).loc Cert.SharedSIdeal.main_arg4) = m ((c.tc : Thread Cert.SharedSIdeal.nD Cert.SharedSIdeal.τ).loc Cert.SharedSIdeal.main_arg4))
      ∧ θ_run (Cert.SharedSRefIdeal.defs (F := Ideal)) (onTc (τ := Cert.SharedSRefIdeal.τ) (Cert.SharedSRefIdeal.main (F := Ideal))) ⟨m', fun _ => 0, g'⟩ (fun r => ∀ c : Dev Cert.SharedSRefIdeal.nD,
          r.2.mem ((c.tc : Thread Cert.SharedSRefIdeal.nD Cert.SharedSRefIdeal.τ).loc Cert.SharedSRefIdeal.main_v35) = v0 c
          ∧ r.2.mem ((c.tc : Thread Cert.SharedSRefIdeal.nD Cert.SharedSRefIdeal.τ).loc Cert.SharedSRefIdeal.main_v37) = v1 c
          ∧ r.2.mem ((c.tc : Thread Cert.SharedSRefIdeal.nD Cert.SharedSRefIdeal.τ).loc Cert.SharedSRefIdeal.main_arg0) = m' ((c.tc : Thread Cert.SharedSRefIdeal.nD Cert.SharedSRefIdeal.τ).loc Cert.SharedSRefIdeal.main_arg0)
          ∧ r.2.mem ((c.tc : Thread Cert.SharedSRefIdeal.nD Cert.SharedSRefIdeal.τ).loc Cert.SharedSRefIdeal.main_arg1) = m' ((c.tc : Thread Cert.SharedSRefIdeal.nD Cert.SharedSRefIdeal.τ).loc Cert.SharedSRefIdeal.main_arg1)
          ∧ r.2.mem ((c.tc : Thread Cert.SharedSRefIdeal.nD Cert.SharedSRefIdeal.τ).loc Cert.SharedSRefIdeal.main_arg2) = m' ((c.tc : Thread Cert.SharedSRefIdeal.nD Cert.SharedSRefIdeal.τ).loc Cert.SharedSRefIdeal.main_arg2)
          ∧ r.2.mem ((c.tc : Thread Cert.SharedSRefIdeal.nD Cert.SharedSRefIdeal.τ).loc Cert.SharedSRefIdeal.main_arg3) = m' ((c.tc : Thread Cert.SharedSRefIdeal.nD Cert.SharedSRefIdeal.τ).loc Cert.SharedSRefIdeal.main_arg3)
          ∧ r.2.mem ((c.tc : Thread Cert.SharedSRefIdeal.nD Cert.SharedSRefIdeal.τ).loc Cert.SharedSRefIdeal.main_arg4) = m' ((c.tc : Thread Cert.SharedSRefIdeal.nD Cert.SharedSRefIdeal.τ).loc Cert.SharedSRefIdeal.main_arg4))

def preserves_QueryB_QueryBIdeal : Prop :=
  True

def algebraic_QueryBIdeal_QueryBRefIdeal_pre_finite_query [hQueryBIdeal : Cert.QueryBIdeal.Facts] [hQueryBRefIdeal : Cert.QueryBRefIdeal.Facts] [hPre_finite_query : Cert.Pre_finite_query.Facts] : Prop :=
  ∀ (m : (ℓ : Loc Cert.QueryBIdeal.nD Cert.QueryBIdeal.τ Cert.QueryBIdeal.sig) → Buf (Elt Ideal) ℓ) (g : Dev Cert.QueryBIdeal.nD → PrngReg)
    (m' : (ℓ : Loc Cert.QueryBRefIdeal.nD Cert.QueryBRefIdeal.τ Cert.QueryBRefIdeal.sig) → Buf (Elt Ideal) ℓ) (g' : Dev Cert.QueryBRefIdeal.nD → PrngReg), Pre_QueryBIdeal_finite_query m →
    (∀ c : Dev Cert.QueryBIdeal.nD,
      m' ((c.tc : Thread Cert.QueryBRefIdeal.nD Cert.QueryBRefIdeal.τ).loc Cert.QueryBRefIdeal.main_arg0) = m ((c.tc : Thread Cert.QueryBIdeal.nD Cert.QueryBIdeal.τ).loc Cert.QueryBIdeal.main_arg0)
      ∧ m' ((c.tc : Thread Cert.QueryBRefIdeal.nD Cert.QueryBRefIdeal.τ).loc Cert.QueryBRefIdeal.main_arg1) = m ((c.tc : Thread Cert.QueryBIdeal.nD Cert.QueryBIdeal.τ).loc Cert.QueryBIdeal.main_arg1)
      ∧ m' ((c.tc : Thread Cert.QueryBRefIdeal.nD Cert.QueryBRefIdeal.τ).loc Cert.QueryBRefIdeal.main_arg2) = m ((c.tc : Thread Cert.QueryBIdeal.nD Cert.QueryBIdeal.τ).loc Cert.QueryBIdeal.main_arg2)
      ∧ m' ((c.tc : Thread Cert.QueryBRefIdeal.nD Cert.QueryBRefIdeal.τ).loc Cert.QueryBRefIdeal.main_arg3) = m ((c.tc : Thread Cert.QueryBIdeal.nD Cert.QueryBIdeal.τ).loc Cert.QueryBIdeal.main_arg3)) →
    ∃ (v0 : (c : Dev Cert.QueryBIdeal.nD) → Buf (Elt Ideal) ((c.tc : Thread Cert.QueryBIdeal.nD Cert.QueryBIdeal.τ).loc Cert.QueryBIdeal.main_v13)),
      θ_run (Cert.QueryBIdeal.defs (F := Ideal)) (onTc (τ := Cert.QueryBIdeal.τ) (Cert.QueryBIdeal.main (F := Ideal))) ⟨m, fun _ => 0, g⟩ (fun r => ∀ c : Dev Cert.QueryBIdeal.nD,
          r.2.mem ((c.tc : Thread Cert.QueryBIdeal.nD Cert.QueryBIdeal.τ).loc Cert.QueryBIdeal.main_v13) = v0 c
          ∧ r.2.mem ((c.tc : Thread Cert.QueryBIdeal.nD Cert.QueryBIdeal.τ).loc Cert.QueryBIdeal.main_arg0) = m ((c.tc : Thread Cert.QueryBIdeal.nD Cert.QueryBIdeal.τ).loc Cert.QueryBIdeal.main_arg0)
          ∧ r.2.mem ((c.tc : Thread Cert.QueryBIdeal.nD Cert.QueryBIdeal.τ).loc Cert.QueryBIdeal.main_arg1) = m ((c.tc : Thread Cert.QueryBIdeal.nD Cert.QueryBIdeal.τ).loc Cert.QueryBIdeal.main_arg1)
          ∧ r.2.mem ((c.tc : Thread Cert.QueryBIdeal.nD Cert.QueryBIdeal.τ).loc Cert.QueryBIdeal.main_arg2) = m ((c.tc : Thread Cert.QueryBIdeal.nD Cert.QueryBIdeal.τ).loc Cert.QueryBIdeal.main_arg2)
          ∧ r.2.mem ((c.tc : Thread Cert.QueryBIdeal.nD Cert.QueryBIdeal.τ).loc Cert.QueryBIdeal.main_arg3) = m ((c.tc : Thread Cert.QueryBIdeal.nD Cert.QueryBIdeal.τ).loc Cert.QueryBIdeal.main_arg3))
      ∧ θ_run (Cert.QueryBRefIdeal.defs (F := Ideal)) (onTc (τ := Cert.QueryBRefIdeal.τ) (Cert.QueryBRefIdeal.main (F := Ideal))) ⟨m', fun _ => 0, g'⟩ (fun r => ∀ c : Dev Cert.QueryBRefIdeal.nD,
          r.2.mem ((c.tc : Thread Cert.QueryBRefIdeal.nD Cert.QueryBRefIdeal.τ).loc Cert.QueryBRefIdeal.main_v34) = v0 c
          ∧ r.2.mem ((c.tc : Thread Cert.QueryBRefIdeal.nD Cert.QueryBRefIdeal.τ).loc Cert.QueryBRefIdeal.main_arg0) = m' ((c.tc : Thread Cert.QueryBRefIdeal.nD Cert.QueryBRefIdeal.τ).loc Cert.QueryBRefIdeal.main_arg0)
          ∧ r.2.mem ((c.tc : Thread Cert.QueryBRefIdeal.nD Cert.QueryBRefIdeal.τ).loc Cert.QueryBRefIdeal.main_arg1) = m' ((c.tc : Thread Cert.QueryBRefIdeal.nD Cert.QueryBRefIdeal.τ).loc Cert.QueryBRefIdeal.main_arg1)
          ∧ r.2.mem ((c.tc : Thread Cert.QueryBRefIdeal.nD Cert.QueryBRefIdeal.τ).loc Cert.QueryBRefIdeal.main_arg2) = m' ((c.tc : Thread Cert.QueryBRefIdeal.nD Cert.QueryBRefIdeal.τ).loc Cert.QueryBRefIdeal.main_arg2)
          ∧ r.2.mem ((c.tc : Thread Cert.QueryBRefIdeal.nD Cert.QueryBRefIdeal.τ).loc Cert.QueryBRefIdeal.main_arg3) = m' ((c.tc : Thread Cert.QueryBRefIdeal.nD Cert.QueryBRefIdeal.τ).loc Cert.QueryBRefIdeal.main_arg3))

def Claim : Prop :=
  ∃ (hSwa : Cert.Swa.Facts) (hSwaIdeal : Cert.SwaIdeal.Facts) (hSwaRefIdeal : Cert.SwaRefIdeal.Facts) (hMlp : Cert.Mlp.Facts) (hMlpIdeal : Cert.MlpIdeal.Facts) (hMlpRefIdeal : Cert.MlpRefIdeal.Facts) (hMlpS : Cert.MlpS.Facts) (hMlpSIdeal : Cert.MlpSIdeal.Facts) (hMlpSRefIdeal : Cert.MlpSRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hQuery : Cert.Query.Facts) (hQueryIdeal : Cert.QueryIdeal.Facts) (hQueryRefIdeal : Cert.QueryRefIdeal.Facts) (hShared : Cert.Shared.Facts) (hSharedIdeal : Cert.SharedIdeal.Facts) (hSharedRefIdeal : Cert.SharedRefIdeal.Facts) (hSharedS : Cert.SharedS.Facts) (hSharedSIdeal : Cert.SharedSIdeal.Facts) (hSharedSRefIdeal : Cert.SharedSRefIdeal.Facts) (hQueryB : Cert.QueryB.Facts) (hQueryBIdeal : Cert.QueryBIdeal.Facts) (hQueryBRefIdeal : Cert.QueryBRefIdeal.Facts) (hPre_finite : Cert.Pre_finite.Facts) (hPre_finite_shared : Cert.Pre_finite_shared.Facts) (hPre_finite_shared_sample : Cert.Pre_finite_shared_sample.Facts) (hPre_finite_query : Cert.Pre_finite_query.Facts),
    quiescent_Swa (hSwa := hSwa)
    ∧ quiescent_SwaIdeal (hSwaIdeal := hSwaIdeal)
    ∧ quiescent_SwaIdeal_pre_finite (hSwaIdeal := hSwaIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ quiescent_KvS (hKvS := hKvS)
    ∧ quiescent_KvSIdeal (hKvSIdeal := hKvSIdeal)
    ∧ quiescent_KvSRefIdeal (hKvSRefIdeal := hKvSRefIdeal)
    ∧ quiescent_Query (hQuery := hQuery)
    ∧ quiescent_QueryIdeal (hQueryIdeal := hQueryIdeal)
    ∧ quiescent_QueryRefIdeal (hQueryRefIdeal := hQueryRefIdeal)
    ∧ quiescent_Shared (hShared := hShared)
    ∧ quiescent_SharedIdeal (hSharedIdeal := hSharedIdeal)
    ∧ quiescent_SharedIdeal_pre_finite_shared (hSharedIdeal := hSharedIdeal) (hPre_finite_shared := hPre_finite_shared)
    ∧ quiescent_SharedRefIdeal (hSharedRefIdeal := hSharedRefIdeal)
    ∧ quiescent_SharedRefIdeal_pre_finite_shared (hSharedRefIdeal := hSharedRefIdeal) (hPre_finite_shared := hPre_finite_shared)
    ∧ quiescent_SharedS (hSharedS := hSharedS)
    ∧ quiescent_SharedSIdeal (hSharedSIdeal := hSharedSIdeal)
    ∧ quiescent_SharedSIdeal_pre_finite_shared_sample (hSharedSIdeal := hSharedSIdeal) (hPre_finite_shared_sample := hPre_finite_shared_sample)
    ∧ quiescent_SharedSRefIdeal (hSharedSRefIdeal := hSharedSRefIdeal)
    ∧ quiescent_SharedSRefIdeal_pre_finite_shared_sample (hSharedSRefIdeal := hSharedSRefIdeal) (hPre_finite_shared_sample := hPre_finite_shared_sample)
    ∧ quiescent_QueryB (hQueryB := hQueryB)
    ∧ quiescent_QueryBIdeal (hQueryBIdeal := hQueryBIdeal)
    ∧ quiescent_QueryBIdeal_pre_finite_query (hQueryBIdeal := hQueryBIdeal) (hPre_finite_query := hPre_finite_query)
    ∧ quiescent_QueryBRefIdeal (hQueryBRefIdeal := hQueryBRefIdeal)
    ∧ quiescent_QueryBRefIdeal_pre_finite_query (hQueryBRefIdeal := hQueryBRefIdeal) (hPre_finite_query := hPre_finite_query)
    ∧ preserves_Swa_SwaIdeal
    ∧ algebraic_SwaIdeal_SwaRefIdeal_pre_finite (hSwaIdeal := hSwaIdeal) (hSwaRefIdeal := hSwaRefIdeal) (hPre_finite := hPre_finite)
    ∧ preserves_Mlp_MlpIdeal
    ∧ algebraic_MlpIdeal_MlpRefIdeal (hMlpIdeal := hMlpIdeal) (hMlpRefIdeal := hMlpRefIdeal)
    ∧ preserves_MlpS_MlpSIdeal
    ∧ algebraic_MlpSIdeal_MlpSRefIdeal (hMlpSIdeal := hMlpSIdeal) (hMlpSRefIdeal := hMlpSRefIdeal)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
    ∧ preserves_KvS_KvSIdeal
    ∧ algebraic_KvSIdeal_KvSRefIdeal (hKvSIdeal := hKvSIdeal) (hKvSRefIdeal := hKvSRefIdeal)
    ∧ preserves_Query_QueryIdeal
    ∧ algebraic_QueryIdeal_QueryRefIdeal (hQueryIdeal := hQueryIdeal) (hQueryRefIdeal := hQueryRefIdeal)
    ∧ preserves_Shared_SharedIdeal
    ∧ algebraic_SharedIdeal_SharedRefIdeal_pre_finite_shared (hSharedIdeal := hSharedIdeal) (hSharedRefIdeal := hSharedRefIdeal) (hPre_finite_shared := hPre_finite_shared)
    ∧ preserves_SharedS_SharedSIdeal
    ∧ algebraic_SharedSIdeal_SharedSRefIdeal_pre_finite_shared_sample (hSharedSIdeal := hSharedSIdeal) (hSharedSRefIdeal := hSharedSRefIdeal) (hPre_finite_shared_sample := hPre_finite_shared_sample)
    ∧ preserves_QueryB_QueryBIdeal
    ∧ algebraic_QueryBIdeal_QueryBRefIdeal_pre_finite_query (hQueryBIdeal := hQueryBIdeal) (hQueryBRefIdeal := hQueryBRefIdeal) (hPre_finite_query := hPre_finite_query)
-- ==== Pre_finite.lean ====
abbrev S2048x16384 : Shape := ⟨2, ![2048, 16384]⟩
abbrev S16384x512 : Shape := ⟨2, ![16384, 512]⟩
abbrev S32 : Shape := ⟨1, ![32]⟩
abbrev S_ : Shape := ⟨0, ![]⟩
abbrev S16384x256 : Shape := ⟨2, ![16384, 256]⟩

class Facts : Prop where
  bitsLt_bf16_f32 : FTy.bits .bf16 < FTy.bits .f32
  bcast_S_S2048x16384 : S_.BroadcastsInDim S2048x16384 (![] : Fin 0 → Fin S2048x16384.rank)
  reducesTo_S2048x16384_S_d0_1 : S2048x16384.ReducesTo [0, 1] S_
  h_S_ : 0 < S_.numel
  slices_S16384x512_S16384x256_0_0 : S16384x512.Slices ![0, 0] S16384x256
  bcast_S_S16384x256 : S_.BroadcastsInDim S16384x256 (![] : Fin 0 → Fin S16384x256.rank)
  reducesTo_S16384x256_S_d0_1 : S16384x256.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S2048x16384 .bf16) (main_arg1 : FVec F S16384x512 .f32) (main_arg2 : FVec F S32 .f32) : IVec S_ 1 :=
  let main_v0 : FVec F S2048x16384 .f32 := (extf .f32 · bitsLt_bf16_f32) main_arg0
  let main_v1 : FVec F S2048x16384 .f32 := Host.absf main_v0
  let main_cst : FVec F S_ .f32 := constant S_ .f32 0x7F800000#32
  let main_v2 : FVec F S2048x16384 .f32 := broadcastInDim S2048x16384 ![] bcast_S_S2048x16384 main_cst
  let main_v3 : IVec S2048x16384 1 := cmpf .olt main_v1 main_v2
  let main_c : IVec S_ 1 := constantI S_ 1 1#1
  let main_v4 : IVec S_ 1 := (fun x v => Host.reduce IntOp.andi x v reducesTo_S2048x16384_S_d0_1 h_S_) main_v3 main_c
  let main_v5 : FVec F S16384x256 .f32 := (extractStridedSlice S16384x256 ![0, 0] · slices_S16384x512_S16384x256_0_0) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_c_1 : IVec S_ 1 := constantI S_ 1 1#1
  let main_v9 : IVec S_ 1 := (fun x v => Host.reduce IntOp.andi x v reducesTo_S16384x256_S_d0_1 h_S_) main_v8 main_c_1
  let main_v10 : IVec S_ 1 := andi main_v4 main_v9
  let main_v11 : FVec F S32 .f32 := Host.absf main_arg2
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v10 main_v14
  main_v15
-- ==== Pre_finite_query.lean ====
abbrev S8x2048x2048 : Shape := ⟨3, ![8, 2048, 2048]⟩
abbrev S2x2048 : Shape := ⟨2, ![2, 2048]⟩
abbrev S1x2048x2048 : Shape := ⟨3, ![1, 2048, 2048]⟩
abbrev S1x64 : Shape := ⟨2, ![1, 64]⟩
abbrev S1x2048 : Shape := ⟨2, ![1, 2048]⟩
abbrev S2048 : Shape := ⟨1, ![2048]⟩
abbrev S2048x2048 : Shape := ⟨2, ![2048, 2048]⟩
abbrev S_ : Shape := ⟨0, ![]⟩

class Facts : Prop where
  slices_S2x2048_S1x2048_1_0 : S2x2048.Slices ![1, 0] S1x2048
  shapeCasts_S1x2048_S2048 : S1x2048.ShapeCasts S2048
  shapeCasts_S1x2048x2048_S2048x2048 : S1x2048x2048.ShapeCasts S2048x2048
  bcast_S_S2048 : S_.BroadcastsInDim S2048 (![] : Fin 0 → Fin S2048.rank)
  reducesTo_S2048_S_d0 : S2048.ReducesTo [0] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8x2048x2048 .f32) (main_arg1 : FVec F S2x2048 .f32) (main_arg2 : FVec F S1x2048x2048 .f32) (main_arg3 : FVec F S1x64 .f32) : IVec S_ 1 :=
  let main_v0 : FVec F S1x2048 .f32 := (extractStridedSlice S1x2048 ![1, 0] · slices_S2x2048_S1x2048_1_0) main_arg1
  let main_v1 : FVec F S2048 .f32 := shapeCast S2048 main_v0 shapeCasts_S1x2048_S2048
  let main_v2 : FVec F S2048x2048 .f32 := shapeCast S2048x2048 main_arg2 shapeCasts_S1x2048x2048_S2048x2048
  let main_v3 : FVec F S2048 .f32 := Host.absf main_v1
  let main_cst : FVec F S_ .f32 := constant S_ .f32 0x7F800000#32
  let main_v4 : FVec F S2048 .f32 := broadcastInDim S2048 ![] bcast_S_S2048 main_cst
  let main_v5 : IVec S2048 1 := cmpf .olt main_v3 main_v4
  let main_c : IVec S_ 1 := constantI S_ 1 1#1
  let main_v6 : IVec S_ 1 := (fun x v => Host.reduce IntOp.andi x v reducesTo_S2048_S_d0 h_S_) main_v5 main_c
  let main_v7 : FVec F S2048x2048 .f32 := Host.absf main_v2
  let main_cst_0 : FVec F S_ .f32 := constant S_ .f32 0x7F800000#32
  let main_v8 : FVec F S2048x2048 .f32 := broadcastInDim S2048x2048 ![] bcast_S_S2048x2048 main_cst_0
  let main_v9 : IVec S2048x2048 1 := cmpf .olt main_v7 main_v8
  let main_c_1 : IVec S_ 1 := constantI S_ 1 1#1
  let main_v10 : IVec S_ 1 := (fun x v => Host.reduce IntOp.andi x v reducesTo_S2048x2048_S_d0_1 h_S_) main_v9 main_c_1
  let main_v11 : IVec S_ 1 := andi main_v6 main_v10
  main_v11
-- ==== Pre_finite_shared.lean ====
abbrev S8x2048x2048 : Shape := ⟨3, ![8, 2048, 2048]⟩
abbrev S2048 : Shape := ⟨1, ![2048]⟩
abbrev S2048x512 : Shape := ⟨2, ![2048, 512]⟩
abbrev S64 : Shape := ⟨1, ![64]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S8x2048x2048 .f32) (main_arg1 : FVec F S2048 .f32) (main_arg2 : FVec F S2048x512 .f32) (main_arg3 : FVec F S64 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Pre_finite_shared_sample.lean ====
abbrev S128x4x2048 : Shape := ⟨3, ![128, 4, 2048]⟩
abbrev S128x128x2x4x64 : Shape := ⟨5, ![128, 128, 2, 4, 64]⟩
abbrev S2048 : Shape := ⟨1, ![2048]⟩
abbrev S2048x512 : Shape := ⟨2, ![2048, 512]⟩
abbrev S64 : Shape := ⟨1, ![64]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S128x4x2048 .f32) (main_arg1 : FVec F S128x128x2x4x64 .f32) (main_arg2 : FVec F S2048 .f32) (main_arg3 : FVec F S2048x512 .f32) (main_arg4 : FVec F S64 .f32) : IVec S_ 1 :=
  let main_v0 : FVec F S2048 .f32 := Host.absf main_arg2
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x512 .f32 := Host.absf main_arg3
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Swa.lean ====
abbrev S2048x16384 : Shape := ⟨2, ![2048, 16384]⟩
abbrev S16384x512 : Shape := ⟨2, ![16384, 512]⟩
abbrev S32 : Shape := ⟨1, ![32]⟩
abbrev S16384x2048 : Shape := ⟨2, ![16384, 2048]⟩
abbrev S2048x256 : Shape := ⟨2, ![2048, 256]⟩
abbrev S2048x512 : Shape := ⟨2, ![2048, 512]⟩
abbrev S256x2048 : Shape := ⟨2, ![256, 2048]⟩
abbrev S16x256x128 : Shape := ⟨3, ![16, 256, 128]⟩
abbrev S128x256 : Shape := ⟨2, ![128, 256]⟩
abbrev S256x128 : Shape := ⟨2, ![256, 128]⟩
abbrev S1x256x128 : Shape := ⟨3, ![1, 256, 128]⟩
abbrev S1x256 : Shape := ⟨2, ![1, 256]⟩
abbrev S384x1 : Shape := ⟨2, ![384, 1]⟩
abbrev S384x256 : Shape := ⟨2, ![384, 256]⟩
abbrev S256x384 : Shape := ⟨2, ![256, 384]⟩
abbrev S64x256 : Shape := ⟨2, ![64, 256]⟩
abbrev S384x128 : Shape := ⟨2, ![384, 128]⟩
abbrev S128x2048 : Shape := ⟨2, ![128, 2048]⟩
abbrev S384x2048 : Shape := ⟨2, ![384, 2048]⟩
abbrev S1 : Shape := ⟨1, ![1]⟩
abbrev S256 : Shape := ⟨1, ![256]⟩
abbrev S64x384 : Shape := ⟨2, ![64, 384]⟩
abbrev S64x2048 : Shape := ⟨2, ![64, 2048]⟩
abbrev S1x2048 : Shape := ⟨2, ![1, 2048]⟩

abbrev nBuf : Space → Nat
  | .hbm => 4
  | .vmem => 8
  | .smem => 1
  | _ => 0

abbrev bufTy : (tb : Table) → Fin (tcTables nBuf tb) → BufTy
  | .hbm, ⟨0, _⟩ => ⟨S2048x16384, .bf16⟩
  | .hbm, ⟨1, _⟩ => ⟨S16384x512, .f32⟩
  | .hbm, ⟨2, _⟩ => ⟨S32, .f32⟩
  | .hbm, ⟨3, _⟩ => ⟨S16384x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .f32⟩
  | .local _ .vmem, ⟨3, _⟩ => ⟨S2048x512, .f32⟩
  | .local _ .vmem, ⟨4, _⟩ => ⟨S256x2048, .bf16⟩
  | .local _ .vmem, ⟨5, _⟩ => ⟨S256x2048, .bf16⟩
  | .local _ .vmem, ⟨6, _⟩ => ⟨S2048x256, .bf16⟩
  | .local _ .vmem, ⟨7, _⟩ => ⟨S16x256x128, .bf16⟩
  | .local _ .smem, ⟨0, _⟩ => ⟨S32, .f32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2_i32 : BitVec 32 := 2#32
  let v4 : BitVec 32 := Scalar.muli arg1 c2_i32
  let c1_i32 : BitVec 32 := 1#32
  let v5 : BitVec 32 := Scalar.subi v4 c1_i32
  let c0_i32_1 : BitVec 32 := 0#32
  let v6 : BitVec 32 := Scalar.maxsi v5 c0_i32_1
  let c128_i32 : BitVec 32 := 128#32
  let v7 : BitVec 32 := Scalar.muli v6 c128_i32
  v7
def k0_off1 (i : grid0.Coords) : Fin 2 → Nat :=
  let arg1 : BitVec 32 := BitVec.ofNat 32 (i 1).val
  let c2_i32 : BitVec 32 := 2#32
  let v4 : BitVec 32 := Scalar.muli arg1 c2_i32
  let c1_i32 : BitVec 32 := 1#32
  let v5 : BitVec 32 := Scalar.subi v4 c1_i32
  let c0_i32_1 : BitVec 32 := 0#32
  let v6 : BitVec 32 := Scalar.maxsi v5 c0_i32_1
  let c128_i32 : BitVec 32 := 128#32
  let v7 : BitVec 32 := Scalar.muli v6 c128_i32
  let v8 : BitVec 32 := v7
  let v26 : Index := Scalar.indexCast v8
  let c0 : Index := 0#32
  ![v26.toNat, 0]
def k0_off2 (i : grid0.Coords) (c0_i32_4 : BitVec 32) : Fin 3 → Nat :=
  let arg1 : BitVec 32 := BitVec.ofNat 32 (i 1).val
  let c2_i32 : BitVec 32 := 2#32
  let v4 : BitVec 32 := Scalar.muli arg1 c2_i32
  let c1_i32 : BitVec 32 := 1#32
  let v5 : BitVec 32 := Scalar.subi v4 c1_i32
  let c0_i32_1 : BitVec 32 := 0#32
  let v6 : BitVec 32 := Scalar.maxsi v5 c0_i32_1
  let v28 : BitVec 32 := Scalar.addi v6 c0_i32_4
  let v29 : Index := Scalar.indexCast v28
  let c0_5 : Index := 0#32
  let c0_6 : Index := 0#32
  ![v29.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwaIdeal.lean ====
variable {F : FTy → Type} [FloatOps F] [Named F]
def κ : String → Option EReal := fun
  | "far" => some ⊤
  | "log2e" => some (((Real.log 2)⁻¹ : ℝ) : EReal)
  | "slope0" => some (((14107901 / 16777216) * (Real.log 2)⁻¹ : ℝ) : EReal)
  | "slope1" => some (((11863283 / 16777216) * (Real.log 2)⁻¹ : ℝ) : EReal)
  | "slope10" => some (((623487 / 4194304) * (Real.log 2)⁻¹ : ℝ) : EReal)
  | "slope11" => some (((1 / 8) * (Real.log 2)⁻¹ : ℝ) : EReal)
  | "slope12" => some (((14107901 / 134217728) * (Real.log 2)⁻¹ : ℝ) : EReal)
  | "slope13" => some (((11863283 / 134217728) * (Real.log 2)⁻¹ : ℝ) : EReal)
  | "slope14" => some (((623487 / 8388608) * (Real.log 2)⁻¹ : ℝ) : EReal)
  | "slope15" => some (((1 / 16) * (Real.log 2)⁻¹ : ℝ) : EReal)
  | "slope16" => some (((14107901 / 268435456) * (Real.log 2)⁻¹ : ℝ) : EReal)
  | "slope17" => some (((11863283 / 268435456) * (Real.log 2)⁻¹ : ℝ) : EReal)
  | "slope18" => some (((623487 / 16777216) * (Real.log 2)⁻¹ : ℝ) : EReal)
  | "slope19" => some (((1 / 32) * (Real.log 2)⁻¹ : ℝ) : EReal)
  | "slope2" => some (((623487 / 1048576) * (Real.log 2)⁻¹ : ℝ) : EReal)
  | "slope20" => some (((14107901 / 536870912) * (Real.log 2)⁻¹ : ℝ) : EReal)
  | "slope21" => some (((11863283 / 536870912) * (Real.log 2)⁻¹ : ℝ) : EReal)
  | "slope22" => some (((623487 / 33554432) * (Real.log 2)⁻¹ : ℝ) : EReal)
  | "slope23" => some (((1 / 64) * (Real.log 2)⁻¹ : ℝ) : EReal)
  | "slope24" => some (((14107901 / 1073741824) * (Real.log 2)⁻¹ : ℝ) : EReal)
  | "slope25" => some (((11863283 / 1073741824) * (Real.log 2)⁻¹ : ℝ) : EReal)
  | "slope26" => some (((623487 / 67108864) * (Real.log 2)⁻¹ : ℝ) : EReal)
  | "slope27" => some (((1 / 128) * (Real.log 2)⁻¹ : ℝ) : EReal)
  | "slope28" => some (((14107901 / 2147483648) * (Real.log 2)⁻¹ : ℝ) : EReal)
  | "slope29" => some (((11863283 / 2147483648) * (Real.log 2)⁻¹ : ℝ) : EReal)
  | "slope3" => some (((1 / 2) * (Real.log 2)⁻¹ : ℝ) : EReal)
  | "slope30" => some (((623487 / 134217728) * (Real.log 2)⁻¹ : ℝ) : EReal)
  | "slope31" => some (((1 / 256) * (Real.log 2)⁻¹ : ℝ) : EReal)
  | "slope4" => some (((14107901 / 33554432) * (Real.log 2)⁻¹ : ℝ) : EReal)
  | "slope5" => some (((11863283 / 33554432) * (Real.log 2)⁻¹ : ℝ) : EReal)
  | "slope6" => some (((623487 / 2097152) * (Real.log 2)⁻¹ : ℝ) : EReal)
  | "slope7" => some (((1 / 4) * (Real.log 2)⁻¹ : ℝ) : EReal)
  | "slope8" => some (((14107901 / 67108864) * (Real.log 2)⁻¹ : ℝ) : EReal)
  | "slope9" => some (((11863283 / 67108864) * (Real.log 2)⁻¹ : ℝ) : EReal)
  | _ => none
-- ==== SwaRefIdeal.lean ====
abbrev S2048x16384 : Shape := ⟨2, ![2048, 16384]⟩
abbrev S16384x512 : Shape := ⟨2, ![16384, 512]⟩
abbrev S32 : Shape := ⟨1, ![32]⟩
abbrev S16384x2048 : Shape := ⟨2, ![16384, 2048]⟩
abbrev S8x2048x4x8x64 : Shape := ⟨5, ![8, 2048, 4, 8, 64]⟩
abbrev S8x2048x2x4x64 : Shape := ⟨5, ![8, 2048, 2, 4, 64]⟩
abbrev S8x2048x1x4x64 : Shape := ⟨5, ![8, 2048, 1, 4, 64]⟩
abbrev S8x2048x4x64 : Shape := ⟨4, ![8, 2048, 4, 64]⟩
abbrev S4x8 : Shape := ⟨2, ![4, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x4x2048x2048x8 : Shape := ⟨5, ![8, 4, 2048, 2048, 8]⟩
abbrev S8x4x8x2048x2048 : Shape := ⟨5, ![8, 4, 8, 2048, 2048]⟩
abbrev S4x8x1x1 : Shape := ⟨4, ![4, 8, 1, 1]⟩
abbrev S1x1x2048x2048 : Shape := ⟨4, ![1, 1, 2048, 2048]⟩
abbrev S4x8x2048x2048 : Shape := ⟨4, ![4, 8, 2048, 2048]⟩
abbrev S1x4x8x2048x2048 : Shape := ⟨5, ![1, 4, 8, 2048, 2048]⟩
abbrev S1x4x8x1x1 : Shape := ⟨5, ![1, 4, 8, 1, 1]⟩
abbrev S8x4x8x2048 : Shape := ⟨4, ![8, 4, 8, 2048]⟩
abbrev S8x4x8x2048x1 : Shape := ⟨5, ![8, 4, 8, 2048, 1]⟩
abbrev S8x4x64x8x2048 : Shape := ⟨5, ![8, 4, 64, 8, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x512, .f32⟩
  | .hbm, ⟨2, _⟩ => ⟨S32, .f32⟩
  | .hbm, ⟨3, _⟩ => ⟨S32, .f32⟩
  | .hbm, ⟨4, _⟩ => ⟨S2048x16384, .f32⟩
  | .hbm, ⟨5, _⟩ => ⟨S16384x2048, .f32⟩
  | .hbm, ⟨6, _⟩ => ⟨S8x2048x4x8x64, .f32⟩
  | .hbm, ⟨7, _⟩ => ⟨S8x2048x2x4x64, .f32⟩
  | .hbm, ⟨8, _⟩ => ⟨S8x2048x1x4x64, .f32⟩
  | .hbm, ⟨9, _⟩ => ⟨S8x2048x4x64, .f32⟩
  | .hbm, ⟨10, _⟩ => ⟨S8x2048x1x4x64, .f32⟩
  | .hbm, ⟨11, _⟩ => ⟨S8x2048x4x64, .f32⟩
  | .hbm, ⟨12, _⟩ => ⟨S4x8, .f32⟩
  | .hbm, ⟨13, _⟩ => ⟨S2048, .i32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S2048x2048, .i1⟩
  | .hbm, ⟨26, _⟩ => ⟨S8x4x2048x2048x8, .f32⟩
  | .hbm, ⟨27, _⟩ => ⟨S8x4x8x2048x2048, .f32⟩
  | .hbm, ⟨28, _⟩ => ⟨S_, .f32⟩
  | .hbm, ⟨29, _⟩ => ⟨S8x4x8x2048x2048, .f32⟩
  | .hbm, ⟨30, _⟩ => ⟨S8x4x8x2048x2048, .f32⟩
  | .hbm, ⟨31, _⟩ => ⟨S2048x2048, .f32⟩
  | .hbm, ⟨32, _⟩ => ⟨S4x8x1x1, .f32⟩
  | .hbm, ⟨33, _⟩ => ⟨S1x1x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S1x4x8x2048x2048, .f32⟩
  | .hbm, ⟨38, _⟩ => ⟨S8x4x8x2048x2048, .f32⟩
  | .hbm, ⟨39, _⟩ => ⟨S8x4x8x2048x2048, .f32⟩
  | .hbm, ⟨40, _⟩ => ⟨S_, .f32⟩
  | .hbm, ⟨41, _⟩ => ⟨S_, .f32⟩
  | .hbm, ⟨42, _⟩ => ⟨S8x4x8x2048x2048, .i1⟩
  | .hbm, ⟨43, _⟩ => ⟨S8x4x8x2048x2048, .f32⟩
  | .hbm, ⟨44, _⟩ => ⟨S8x4x8x2048x2048, .f32⟩
  | .hbm, ⟨45, _⟩ => ⟨S4x8, .f32⟩
  | .hbm, ⟨46, _⟩ => ⟨S1x4x8x1x1, .f32⟩
  | .hbm, ⟨47, _⟩ => ⟨S_, .f32⟩
  | .hbm, ⟨48, _⟩ => ⟨S8x4x8x2048, .f32⟩
  | .hbm, ⟨49, _⟩ => ⟨S8x4x8x2048x1, .f32⟩
  | .hbm, ⟨50, _⟩ => ⟨S8x4x8x2048x1, .f32⟩
  | .hbm, ⟨51, _⟩ => ⟨S8x4x8x2048x1, .f32⟩
  | .hbm, ⟨52, _⟩ => ⟨S8x4x8x2048x2048, .f32⟩
  | .hbm, ⟨53, _⟩ => ⟨S8x4x8x2048x2048, .f32⟩
  | .hbm, ⟨54, _⟩ => ⟨S8x4x8x2048x2048, .f32⟩
  | .hbm, ⟨55, _⟩ => ⟨S_, .f32⟩
  | .hbm, ⟨56, _⟩ => ⟨S8x4x8x2048, .f32⟩
  | .hbm, ⟨57, _⟩ => ⟨S8x4x8x2048x1, .f32⟩
  | .hbm, ⟨58, _⟩ => ⟨S8x4x8x2048x1, .f32⟩
  | .hbm, ⟨59, _⟩ => ⟨S8x4x8x2048x1, .f32⟩
  | .hbm, ⟨60, _⟩ => ⟨S8x4x8x2048x1, .f32⟩
  | .hbm, ⟨61, _⟩ => ⟨S8x4x8x2048x1, .f32⟩
  | .hbm, ⟨62, _⟩ => ⟨S8x4x8x2048x2048, .f32⟩
  | .hbm, ⟨63, _⟩ => ⟨S8x4x8x2048x2048, .f32⟩
  | .hbm, ⟨64, _⟩ => ⟨S8x4x64x8x2048, .f32⟩
  | .hbm, ⟨65, _⟩ => ⟨S8x2048x4x8x64, .f32⟩
  | .hbm, ⟨66, _⟩ => ⟨S16384x2048, .f32⟩
  | .hbm, ⟨67, _⟩ => ⟨S16384x2048, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Mlp.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x8192, .f32⟩
  | .hbm, ⟨21, _⟩ => ⟨S8192x2048, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S16384x8192, .f32⟩
  | .hbm, ⟨27, _⟩ => ⟨S16384x2048, .f32⟩
  | .hbm, ⟨28, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== MlpS.lean ====
abbrev S512x2048 : Shape := ⟨2, ![512, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S1x2048, .f32⟩
  | .hbm, ⟨5, _⟩ => ⟨S512x2048, .f32⟩
  | .hbm, ⟨6, _⟩ => ⟨S2048x8192, .bf16⟩
  | .hbm, ⟨7, _⟩ => ⟨S8192x2048, .bf16⟩
  | .local _ .vmem, ⟨0, _⟩ => ⟨S512x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpSRefIdeal.lean ====
abbrev S512x2048 : Shape := ⟨2, ![512, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x8192 : Shape := ⟨2, ![512, 8192]⟩

abbrev nBuf : Space → Nat
  | .hbm => 29
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S512x2048, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x2048, .f32⟩
  | .hbm, ⟨16, _⟩ => ⟨S512x2048, .f32⟩
  | .hbm, ⟨17, _⟩ => ⟨S1x2048, .f32⟩
  | .hbm, ⟨18, _⟩ => ⟨S512x2048, .f32⟩
  | .hbm, ⟨19, _⟩ => ⟨S512x2048, .f32⟩
  | .hbm, ⟨20, _⟩ => ⟨S512x8192, .f32⟩
  | .hbm, ⟨21, _⟩ => ⟨S_, .f32⟩
  | .hbm, ⟨22, _⟩ => ⟨S512x8192, .f32⟩
  | .hbm, ⟨23, _⟩ => ⟨S512x8192, .f32⟩
  | .hbm, ⟨24, _⟩ => ⟨S512x8192, .f32⟩
  | .hbm, ⟨25, _⟩ => ⟨S512x2048, .f32⟩
  | .hbm, ⟨26, _⟩ => ⟨S512x2048, .f32⟩
  | .hbm, ⟨27, _⟩ => ⟨S2048x8192, .bf16⟩
  | .hbm, ⟨28, _⟩ => ⟨S8192x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kv.lean ====
abbrev S8x2048x2048 : Shape := ⟨3, ![8, 2048, 2048]⟩
abbrev S2x2048 : Shape := ⟨2, ![2, 2048]⟩
abbrev S1x2048x3632 : Shape := ⟨3, ![1, 2048, 3632]⟩
abbrev S1x3x128 : Shape := ⟨3, ![1, 3, 128]⟩
abbrev S2048x3632 : Shape := ⟨2, ![2048, 3632]⟩
abbrev S3x128 : Shape := ⟨2, ![3, 128]⟩
abbrev S_ : Shape := ⟨0, ![]⟩
abbrev S256 : Shape := ⟨1, ![256]⟩
abbrev S1x128 : Shape := ⟨2, ![1, 128]⟩
abbrev S128 : Shape := ⟨1, ![128]⟩
abbrev S2x128 : Shape := ⟨2, ![2, 128]⟩
abbrev S1536 : Shape := ⟨1, ![1536]⟩
abbrev S2048x1536 : Shape := ⟨2, ![2048, 1536]⟩
abbrev S16384x2048 : Shape := ⟨2, ![16384, 2048]⟩
abbrev S1x2048 : Shape := ⟨2, ![1, 2048]⟩
abbrev S2048 : Shape := ⟨1, ![2048]⟩
abbrev S1x1536 : Shape := ⟨2, ![1, 1536]⟩
abbrev S16384x1024 : Shape := ⟨2, ![16384, 1024]⟩
abbrev S16384x512 : Shape := ⟨2, ![16384, 512]⟩
abbrev S16384x8x128 : Shape := ⟨3, ![16384, 8, 128]⟩
abbrev S512x2048 : Shape := ⟨2, ![512, 2048]⟩
abbrev S512x1024 : Shape := ⟨2, ![512, 1024]⟩
abbrev S512x512 : Shape := ⟨2, ![512, 512]⟩
abbrev S512x8x128 : Shape := ⟨3, ![512, 8, 128]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S512x1x128 : Shape := ⟨3, ![512, 1, 128]⟩
abbrev S1x8x2048x4x2x128 : Shape := ⟨6, ![1, 8, 2048, 4, 2, 128]⟩
abbrev S1x8x2048x2x2x128 : Shape := ⟨6, ![1, 8, 2048, 2, 2, 128]⟩
abbrev S1x8x512x2x2x128 : Shape := ⟨6, ![1, 8, 512, 2, 2, 128]⟩

abbrev nBuf : Space → Nat
  | .hbm => 36
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x3632, .f32⟩
  | .hbm, ⟨3, _⟩ => ⟨S1x3x128, .f32⟩
  | .hbm, ⟨4, _⟩ => ⟨S2048x3632, .f32⟩
  | .hbm, ⟨5, _⟩ => ⟨S3x128, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S2x128, .f32⟩
  | .hbm, ⟨14, _⟩ => ⟨S256, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S2x128, .f32⟩
  | .hbm, ⟨19, _⟩ => ⟨S256, .f32⟩
  | .hbm, ⟨20, _⟩ => ⟨S1536, .f32⟩
  | .hbm, ⟨21, _⟩ => ⟨S1536, .f32⟩
  | .hbm, ⟨22, _⟩ => ⟨S2048x1536, .f32⟩
  | .hbm, ⟨23, _⟩ => ⟨S2048x1536, .bf16⟩
  | .hbm, ⟨24, _⟩ => ⟨S16384x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S1x1536, .f32⟩
  | .hbm, ⟨29, _⟩ => ⟨S1x1536, .f32⟩
  | .hbm, ⟨30, _⟩ => ⟨S16384x1024, .f32⟩
  | .hbm, ⟨31, _⟩ => ⟨S16384x512, .f32⟩
  | .hbm, ⟨32, _⟩ => ⟨S16384x8x128, .f32⟩
  | .hbm, ⟨33, _⟩ => ⟨S1x8x2048x4x2x128, .f32⟩
  | .hbm, ⟨34, _⟩ => ⟨S1x8x2048x2x2x128, .f32⟩
  | .hbm, ⟨35, _⟩ => ⟨S1x8x512x2x2x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S1x1536, .f32⟩
  | .local _ .vmem, ⟨5, _⟩ => ⟨S1x1536, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x8x128, .f32⟩
  | .local _ .vmem, ⟨11, _⟩ => ⟨S512x8x128, .f32⟩
  | .local _ .vmem, ⟨12, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v24_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KvRefIdeal.lean ====
abbrev S8x2048x2048 : Shape := ⟨3, ![8, 2048, 2048]⟩
abbrev S2x2048 : Shape := ⟨2, ![2, 2048]⟩
abbrev S1x2048x3632 : Shape := ⟨3, ![1, 2048, 3632]⟩
abbrev S1x3x128 : Shape := ⟨3, ![1, 3, 128]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x3632 : Shape := ⟨2, ![2048, 3632]⟩
abbrev S8x2048x3632 : Shape := ⟨3, ![8, 2048, 3632]⟩
abbrev S8x2048x1536 : Shape := ⟨3, ![8, 2048, 1536]⟩
abbrev S8x2048x6x2x128 : Shape := ⟨5, ![8, 2048, 6, 2, 128]⟩
abbrev S8x2048x1x2x128 : Shape := ⟨5, ![8, 2048, 1, 2, 128]⟩
abbrev S8x2048x2x128 : Shape := ⟨4, ![8, 2048, 2, 128]⟩
abbrev S1x1x128 : Shape := ⟨3, ![1, 1, 128]⟩
abbrev S128 : Shape := ⟨1, ![128]⟩
abbrev S8x2048x2 : Shape := ⟨3, ![8, 2048, 2]⟩
abbrev S8x2048x2x1 : Shape := ⟨4, ![8, 2048, 2, 1]⟩
abbrev S1x1x1x128 : Shape := ⟨4, ![1, 1, 1, 128]⟩
abbrev S8x2048x4x2x128 : Shape := ⟨5, ![8, 2048, 4, 2, 128]⟩
abbrev S8x2048x2x2x128 : Shape := ⟨5, ![8, 2048, 2, 2, 128]⟩
abbrev S1x8x2048x4x2x128 : Shape := ⟨6, ![1, 8, 2048, 4, 2, 128]⟩
abbrev S8x512x2x2x128 : Shape := ⟨5, ![8, 512, 2, 2, 128]⟩
abbrev S1x8x512x2x2x128 : Shape := ⟨6, ![1, 8, 512, 2, 2, 128]⟩
abbrev S16384x1024 : Shape := ⟨2, ![16384, 1024]⟩
abbrev S16384x512 : Shape := ⟨2, ![16384, 512]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x3632, .f32⟩
  | .hbm, ⟨3, _⟩ => ⟨S1x3x128, .f32⟩
  | .hbm, ⟨4, _⟩ => ⟨S1x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x3632, .f32⟩
  | .hbm, ⟨23, _⟩ => ⟨S8x2048x3632, .f32⟩
  | .hbm, ⟨24, _⟩ => ⟨S8x2048x1536, .f32⟩
  | .hbm, ⟨25, _⟩ => ⟨S8x2048x6x2x128, .f32⟩
  | .hbm, ⟨26, _⟩ => ⟨S8x2048x1x2x128, .f32⟩
  | .hbm, ⟨27, _⟩ => ⟨S8x2048x2x128, .f32⟩
  | .hbm, ⟨28, _⟩ => ⟨S1x1x128, .f32⟩
  | .hbm, ⟨29, _⟩ => ⟨S128, .f32⟩
  | .hbm, ⟨30, _⟩ => ⟨S8x2048x2x128, .f32⟩
  | .hbm, ⟨31, _⟩ => ⟨S_, .f32⟩
  | .hbm, ⟨32, _⟩ => ⟨S8x2048x2, .f32⟩
  | .hbm, ⟨33, _⟩ => ⟨S8x2048x2x1, .f32⟩
  | .hbm, ⟨34, _⟩ => ⟨S_, .f32⟩
  | .hbm, ⟨35, _⟩ => ⟨S8x2048x2x1, .f32⟩
  | .hbm, ⟨36, _⟩ => ⟨S8x2048x2x1, .f32⟩
  | .hbm, ⟨37, _⟩ => ⟨S_, .f32⟩
  | .hbm, ⟨38, _⟩ => ⟨S8x2048x2x1, .f32⟩
  | .hbm, ⟨39, _⟩ => ⟨S8x2048x2x1, .f32⟩
  | .hbm, ⟨40, _⟩ => ⟨S8x2048x2x1, .f32⟩
  | .hbm, ⟨41, _⟩ => ⟨S8x2048x2x128, .f32⟩
  | .hbm, ⟨42, _⟩ => ⟨S8x2048x2x128, .f32⟩
  | .hbm, ⟨43, _⟩ => ⟨S1x1x1x128, .f32⟩
  | .hbm, ⟨44, _⟩ => ⟨S8x2048x2x128, .f32⟩
  | .hbm, ⟨45, _⟩ => ⟨S8x2048x2x128, .f32⟩
  | .hbm, ⟨46, _⟩ => ⟨S8x2048x1x2x128, .f32⟩
  | .hbm, ⟨47, _⟩ => ⟨S8x2048x2x128, .f32⟩
  | .hbm, ⟨48, _⟩ => ⟨S1x1x128, .f32⟩
  | .hbm, ⟨49, _⟩ => ⟨S128, .f32⟩
  | .hbm, ⟨50, _⟩ => ⟨S8x2048x2x128, .f32⟩
  | .hbm, ⟨51, _⟩ => ⟨S_, .f32⟩
  | .hbm, ⟨52, _⟩ => ⟨S8x2048x2, .f32⟩
  | .hbm, ⟨53, _⟩ => ⟨S8x2048x2x1, .f32⟩
  | .hbm, ⟨54, _⟩ => ⟨S_, .f32⟩
  | .hbm, ⟨55, _⟩ => ⟨S8x2048x2x1, .f32⟩
  | .hbm, ⟨56, _⟩ => ⟨S8x2048x2x1, .f32⟩
  | .hbm, ⟨57, _⟩ => ⟨S_, .f32⟩
  | .hbm, ⟨58, _⟩ => ⟨S8x2048x2x1, .f32⟩
  | .hbm, ⟨59, _⟩ => ⟨S8x2048x2x1, .f32⟩
  | .hbm, ⟨60, _⟩ => ⟨S8x2048x2x1, .f32⟩
  | .hbm, ⟨61, _⟩ => ⟨S8x2048x2x128, .f32⟩
  | .hbm, ⟨62, _⟩ => ⟨S8x2048x2x128, .f32⟩
  | .hbm, ⟨63, _⟩ => ⟨S1x1x1x128, .f32⟩
  | .hbm, ⟨64, _⟩ => ⟨S8x2048x2x128, .f32⟩
  | .hbm, ⟨65, _⟩ => ⟨S8x2048x2x128, .f32⟩
  | .hbm, ⟨66, _⟩ => ⟨S8x2048x1x2x128, .f32⟩
  | .hbm, ⟨67, _⟩ => ⟨S8x2048x2x128, .f32⟩
  | .hbm, ⟨68, _⟩ => ⟨S8x2048x1x2x128, .f32⟩
  | .hbm, ⟨69, _⟩ => ⟨S8x2048x2x128, .f32⟩
  | .hbm, ⟨70, _⟩ => ⟨S8x2048x1x2x128, .f32⟩
  | .hbm, ⟨71, _⟩ => ⟨S8x2048x2x128, .f32⟩
  | .hbm, ⟨72, _⟩ => ⟨S8x2048x1x2x128, .f32⟩
  | .hbm, ⟨73, _⟩ => ⟨S8x2048x1x2x128, .f32⟩
  | .hbm, ⟨74, _⟩ => ⟨S8x2048x1x2x128, .f32⟩
  | .hbm, ⟨75, _⟩ => ⟨S8x2048x1x2x128, .f32⟩
  | .hbm, ⟨76, _⟩ => ⟨S8x2048x4x2x128, .f32⟩
  | .hbm, ⟨77, _⟩ => ⟨S8x2048x1x2x128, .f32⟩
  | .hbm, ⟨78, _⟩ => ⟨S8x2048x2x128, .f32⟩
  | .hbm, ⟨79, _⟩ => ⟨S8x2048x1x2x128, .f32⟩
  | .hbm, ⟨80, _⟩ => ⟨S8x2048x1x2x128, .f32⟩
  | .hbm, ⟨81, _⟩ => ⟨S8x2048x2x2x128, .f32⟩
  | .hbm, ⟨82, _⟩ => ⟨S1x8x2048x4x2x128, .f32⟩
  | .hbm, ⟨83, _⟩ => ⟨S8x512x2x2x128, .f32⟩
  | .hbm, ⟨84, _⟩ => ⟨S1x8x512x2x2x128, .f32⟩
  | .hbm, ⟨85, _⟩ => ⟨S16384x1024, .f32⟩
  | .hbm, ⟨86, _⟩ => ⟨S16384x512, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]
-- ==== KvS.lean ====
abbrev S128x4x2048 : Shape := ⟨3, ![128, 4, 2048]⟩
abbrev S1x128x512x2x2x128 : Shape := ⟨6, ![1, 128, 512, 2, 2, 128]⟩
abbrev S2x2048 : Shape := ⟨2, ![2, 2048]⟩
abbrev S1x2048x3632 : Shape := ⟨3, ![1, 2048, 3632]⟩
abbrev S1x3x128 : Shape := ⟨3, ![1, 3, 128]⟩
abbrev S2048x3632 : Shape := ⟨2, ![2048, 3632]⟩
abbrev S3x128 : Shape := ⟨2, ![3, 128]⟩
abbrev S_ : Shape := ⟨0, ![]⟩
abbrev S256 : Shape := ⟨1, ![256]⟩
abbrev S1x128 : Shape := ⟨2, ![1, 128]⟩
abbrev S128 : Shape := ⟨1, ![128]⟩
abbrev S2x128 : Shape := ⟨2, ![2, 128]⟩
abbrev S1536 : Shape := ⟨1, ![1536]⟩
abbrev S2048x1536 : Shape := ⟨2, ![2048, 1536]⟩
abbrev S512x2048 : Shape := ⟨2, ![512, 2048]⟩
abbrev S1x2048 : Shape := ⟨2, ![1, 2048]⟩
abbrev S2048 : Shape := ⟨1, ![2048]⟩
abbrev S1x1536 : Shape := ⟨2, ![1, 1536]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S128x512x2x2x128 : Shape := ⟨5, ![128, 512, 2, 2, 128]⟩
abbrev S1x128x4x4x2x128 : Shape := ⟨6, ![1, 128, 4, 4, 2, 128]⟩
abbrev S128x4x2x2x128 : Shape := ⟨5, ![128, 4, 2, 2, 128]⟩
abbrev S128x516x2x2x128 : Shape := ⟨5, ![128, 516, 2, 2, 128]⟩

abbrev nBuf : Space → Nat
  | .hbm => 39
  | .vmem => 8
  | .smem => 0
  | _ => 0

abbrev bufTy : (tb : Table) → Fin (tcTables nBuf tb) → BufTy
  | .hbm, ⟨0, _⟩ => ⟨S128x4x2048, .f32⟩
  | .hbm, ⟨1, _⟩ => ⟨S1x128x512x2x2x128, .f32⟩
  | .hbm, ⟨2, _⟩ => ⟨S2x2048, .f32⟩
  | .hbm, ⟨3, _⟩ => ⟨S1x2048x3632, .f32⟩
  | .hbm, ⟨4, _⟩ => ⟨S1x3x128, .f32⟩
  | .hbm, ⟨5, _⟩ => ⟨S2048x3632, .f32⟩
  | .hbm, ⟨6, _⟩ => ⟨S3x128, .f32⟩
  | .hbm, ⟨7, _⟩ => ⟨S_, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S2x128, .f32⟩
  | .hbm, ⟨15, _⟩ => ⟨S256, .f32⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S2x128, .f32⟩
  | .hbm, ⟨20, _⟩ => ⟨S256, .f32⟩
  | .hbm, ⟨21, _⟩ => ⟨S1536, .f32⟩
  | .hbm, ⟨22, _⟩ => ⟨S1536, .f32⟩
  | .hbm, ⟨23, _⟩ => ⟨S2048x1536, .f32⟩
  | .hbm, ⟨24, _⟩ => ⟨S2048x1536, .bf16⟩
  | .hbm, ⟨25, _⟩ => ⟨S512x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S1x1536, .f32⟩
  | .hbm, ⟨30, _⟩ => ⟨S1x1536, .f32⟩
  | .hbm, ⟨31, _⟩ => ⟨S512x1024, .f32⟩
  | .hbm, ⟨32, _⟩ => ⟨S512x512, .f32⟩
  | .hbm, ⟨33, _⟩ => ⟨S128x512x2x2x128, .f32⟩
  | .hbm, ⟨34, _⟩ => ⟨S1x128x4x4x2x128, .f32⟩
  | .hbm, ⟨35, _⟩ => ⟨S128x4x2x2x128, .f32⟩
  | .hbm, ⟨36, _⟩ => ⟨S128x516x2x2x128, .f32⟩
  | .hbm, ⟨37, _⟩ => ⟨S128x512x2x2x128, .f32⟩
  | .hbm, ⟨38, _⟩ => ⟨S1x128x512x2x2x128, .f32⟩
  | .local _ .vmem, ⟨0, _⟩ => ⟨S512x2048, .f32⟩
  | .local _ .vmem, ⟨1, _⟩ => ⟨S1x2048, .f32⟩
  | .local _ .vmem, ⟨2, _⟩ => ⟨S2048x1536, .bf16⟩
  | .local _ .vmem, ⟨3, _⟩ => ⟨S1x1536, .f32⟩
  | .local _ .vmem, ⟨4, _⟩ => ⟨S1x1536, .f32⟩
  | .local _ .vmem, ⟨5, _⟩ => ⟨S512x1024, .f32⟩
  | .local _ .vmem, ⟨6, _⟩ => ⟨S512x512, .f32⟩
  | .local _ .vmem, ⟨7, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== KvSRefIdeal.lean ====
abbrev S128x4x2048 : Shape := ⟨3, ![128, 4, 2048]⟩
abbrev S1x128x512x2x2x128 : Shape := ⟨6, ![1, 128, 512, 2, 2, 128]⟩
abbrev S2x2048 : Shape := ⟨2, ![2, 2048]⟩
abbrev S1x2048x3632 : Shape := ⟨3, ![1, 2048, 3632]⟩
abbrev S1x3x128 : Shape := ⟨3, ![1, 3, 128]⟩
abbrev S1x2048 : Shape := ⟨2, ![1, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S2048x3632 : Shape := ⟨2, ![2048, 3632]⟩
abbrev S128x4x3632 : Shape := ⟨3, ![128, 4, 3632]⟩
abbrev S128x4x1536 : Shape := ⟨3, ![128, 4, 1536]⟩
abbrev S128x4x6x2x128 : Shape := ⟨5, ![128, 4, 6, 2, 128]⟩
abbrev S128x4x1x2x128 : Shape := ⟨5, ![128, 4, 1, 2, 128]⟩
abbrev S128x4x2x128 : Shape := ⟨4, ![128, 4, 2, 128]⟩
abbrev S1x1x128 : Shape := ⟨3, ![1, 1, 128]⟩
abbrev S128 : Shape := ⟨1, ![128]⟩
abbrev S128x4x2 : Shape := ⟨3, ![128, 4, 2]⟩
abbrev S128x4x2x1 : Shape := ⟨4, ![128, 4, 2, 1]⟩
abbrev S1x1x1x128 : Shape := ⟨4, ![1, 1, 1, 128]⟩
abbrev S128x4x4x2x128 : Shape := ⟨5, ![128, 4, 4, 2, 128]⟩
abbrev S128x4x2x2x128 : Shape := ⟨5, ![128, 4, 2, 2, 128]⟩
abbrev S128x512x2x2x128 : Shape := ⟨5, ![128, 512, 2, 2, 128]⟩
abbrev S128x516x2x2x128 : Shape := ⟨5, ![128, 516, 2, 2, 128]⟩
abbrev S1x128x4x4x2x128 : Shape := ⟨6, ![1, 128, 4, 4, 2, 128]⟩

abbrev nBuf : Space → Nat
  | .hbm => 88
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x128x512x2x2x128, .f32⟩
  | .hbm, ⟨2, _⟩ => ⟨S2x2048, .f32⟩
  | .hbm, ⟨3, _⟩ => ⟨S1x2048x3632, .f32⟩
  | .hbm, ⟨4, _⟩ => ⟨S1x3x128, .f32⟩
  | .hbm, ⟨5, _⟩ => ⟨S1x2048, .f32⟩
  | .hbm, ⟨6, _⟩ => ⟨S2048, .f32⟩
  | .hbm, ⟨7, _⟩ => ⟨S128x4x2048, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x2048, .f32⟩
  | .hbm, ⟨19, _⟩ => ⟨S128x4x2048, .f32⟩
  | .hbm, ⟨20, _⟩ => ⟨S1x1x2048, .f32⟩
  | .hbm, ⟨21, _⟩ => ⟨S128x4x2048, .f32⟩
  | .hbm, ⟨22, _⟩ => ⟨S128x4x2048, .f32⟩
  | .hbm, ⟨23, _⟩ => ⟨S2048x3632, .f32⟩
  | .hbm, ⟨24, _⟩ => ⟨S128x4x3632, .f32⟩
  | .hbm, ⟨25, _⟩ => ⟨S128x4x1536, .f32⟩
  | .hbm, ⟨26, _⟩ => ⟨S128x4x6x2x128, .f32⟩
  | .hbm, ⟨27, _⟩ => ⟨S128x4x1x2x128, .f32⟩
  | .hbm, ⟨28, _⟩ => ⟨S128x4x2x128, .f32⟩
  | .hbm, ⟨29, _⟩ => ⟨S1x1x128, .f32⟩
  | .hbm, ⟨30, _⟩ => ⟨S128, .f32⟩
  | .hbm, ⟨31, _⟩ => ⟨S128x4x2x128, .f32⟩
  | .hbm, ⟨32, _⟩ => ⟨S_, .f32⟩
  | .hbm, ⟨33, _⟩ => ⟨S128x4x2, .f32⟩
  | .hbm, ⟨34, _⟩ => ⟨S128x4x2x1, .f32⟩
  | .hbm, ⟨35, _⟩ => ⟨S_, .f32⟩
  | .hbm, ⟨36, _⟩ => ⟨S128x4x2x1, .f32⟩
  | .hbm, ⟨37, _⟩ => ⟨S128x4x2x1, .f32⟩
  | .hbm, ⟨38, _⟩ => ⟨S_, .f32⟩
  | .hbm, ⟨39, _⟩ => ⟨S128x4x2x1, .f32⟩
  | .hbm, ⟨40, _⟩ => ⟨S128x4x2x1, .f32⟩
  | .hbm, ⟨41, _⟩ => ⟨S128x4x2x1, .f32⟩
  | .hbm, ⟨42, _⟩ => ⟨S128x4x2x128, .f32⟩
  | .hbm, ⟨43, _⟩ => ⟨S128x4x2x128, .f32⟩
  | .hbm, ⟨44, _⟩ => ⟨S1x1x1x128, .f32⟩
  | .hbm, ⟨45, _⟩ => ⟨S128x4x2x128, .f32⟩
  | .hbm, ⟨46, _⟩ => ⟨S128x4x2x128, .f32⟩
  | .hbm, ⟨47, _⟩ => ⟨S128x4x1x2x128, .f32⟩
  | .hbm, ⟨48, _⟩ => ⟨S128x4x2x128, .f32⟩
  | .hbm, ⟨49, _⟩ => ⟨S1x1x128, .f32⟩
  | .hbm, ⟨50, _⟩ => ⟨S128, .f32⟩
  | .hbm, ⟨51, _⟩ => ⟨S128x4x2x128, .f32⟩
  | .hbm, ⟨52, _⟩ => ⟨S_, .f32⟩
  | .hbm, ⟨53, _⟩ => ⟨S128x4x2, .f32⟩
  | .hbm, ⟨54, _⟩ => ⟨S128x4x2x1, .f32⟩
  | .hbm, ⟨55, _⟩ => ⟨S_, .f32⟩
  | .hbm, ⟨56, _⟩ => ⟨S128x4x2x1, .f32⟩
  | .hbm, ⟨57, _⟩ => ⟨S128x4x2x1, .f32⟩
  | .hbm, ⟨58, _⟩ => ⟨S_, .f32⟩
  | .hbm, ⟨59, _⟩ => ⟨S128x4x2x1, .f32⟩
  | .hbm, ⟨60, _⟩ => ⟨S128x4x2x1, .f32⟩
  | .hbm, ⟨61, _⟩ => ⟨S128x4x2x1, .f32⟩
  | .hbm, ⟨62, _⟩ => ⟨S128x4x2x128, .f32⟩
  | .hbm, ⟨63, _⟩ => ⟨S128x4x2x128, .f32⟩
  | .hbm, ⟨64, _⟩ => ⟨S1x1x1x128, .f32⟩
  | .hbm, ⟨65, _⟩ => ⟨S128x4x2x128, .f32⟩
  | .hbm, ⟨66, _⟩ => ⟨S128x4x2x128, .f32⟩
  | .hbm, ⟨67, _⟩ => ⟨S128x4x1x2x128, .f32⟩
  | .hbm, ⟨68, _⟩ => ⟨S128x4x2x128, .f32⟩
  | .hbm, ⟨69, _⟩ => ⟨S128x4x1x2x128, .f32⟩
  | .hbm, ⟨70, _⟩ => ⟨S128x4x2x128, .f32⟩
  | .hbm, ⟨71, _⟩ => ⟨S128x4x1x2x128, .f32⟩
  | .hbm, ⟨72, _⟩ => ⟨S128x4x2x128, .f32⟩
  | .hbm, ⟨73, _⟩ => ⟨S128x4x1x2x128, .f32⟩
  | .hbm, ⟨74, _⟩ => ⟨S128x4x1x2x128, .f32⟩
  | .hbm, ⟨75, _⟩ => ⟨S128x4x1x2x128, .f32⟩
  | .hbm, ⟨76, _⟩ => ⟨S128x4x1x2x128, .f32⟩
  | .hbm, ⟨77, _⟩ => ⟨S128x4x4x2x128, .f32⟩
  | .hbm, ⟨78, _⟩ => ⟨S128x4x1x2x128, .f32⟩
  | .hbm, ⟨79, _⟩ => ⟨S128x4x2x128, .f32⟩
  | .hbm, ⟨80, _⟩ => ⟨S128x4x1x2x128, .f32⟩
  | .hbm, ⟨81, _⟩ => ⟨S128x4x1x2x128, .f32⟩
  | .hbm, ⟨82, _⟩ => ⟨S128x4x2x2x128, .f32⟩
  | .hbm, ⟨83, _⟩ => ⟨S128x512x2x2x128, .f32⟩
  | .hbm, ⟨84, _⟩ => ⟨S128x516x2x2x128, .f32⟩
  | .hbm, ⟨85, _⟩ => ⟨S1x128x4x4x2x128, .f32⟩
  | .hbm, ⟨86, _⟩ => ⟨S128x512x2x2x128, .f32⟩
  | .hbm, ⟨87, _⟩ => ⟨S1x128x512x2x2x128, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Query.lean ====
abbrev S8x2048x2048 : Shape := ⟨3, ![8, 2048, 2048]⟩
abbrev S2x2048 : Shape := ⟨2, ![2, 2048]⟩
abbrev S1x2048x3632 : Shape := ⟨3, ![1, 2048, 3632]⟩
abbrev S1x128 : Shape := ⟨2, ![1, 128]⟩
abbrev S2048x3632 : Shape := ⟨2, ![2048, 3632]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S128 : Shape := ⟨1, ![128]⟩
abbrev S16x128 : Shape := ⟨2, ![16, 128]⟩
abbrev S_ : Shape := ⟨0, ![]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x128 : Shape := ⟨2, ![512, 128]⟩

abbrev nBuf : Space → Nat
  | .hbm => 20
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x3632, .f32⟩
  | .hbm, ⟨3, _⟩ => ⟨S1x128, .f32⟩
  | .hbm, ⟨4, _⟩ => ⟨S2048x3632, .f32⟩
  | .hbm, ⟨5, _⟩ => ⟨S2048x2048, .f32⟩
  | .hbm, ⟨6, _⟩ => ⟨S2048x2048, .bf16⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S128, .f32⟩
  | .hbm, ⟨11, _⟩ => ⟨S1x128, .f32⟩
  | .hbm, ⟨12, _⟩ => ⟨S16x128, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueryRefIdeal.lean ====
abbrev S8x2048x2048 : Shape := ⟨3, ![8, 2048, 2048]⟩
abbrev S2x2048 : Shape := ⟨2, ![2, 2048]⟩
abbrev S1x2048x3632 : Shape := ⟨3, ![1, 2048, 3632]⟩
abbrev S1x128 : Shape := ⟨2, ![1, 128]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x3632 : Shape := ⟨2, ![2048, 3632]⟩
abbrev S8x2048x3632 : Shape := ⟨3, ![8, 2048, 3632]⟩
abbrev S8x2048x16x128 : Shape := ⟨4, ![8, 2048, 16, 128]⟩
abbrev S128 : Shape := ⟨1, ![128]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩
abbrev S16384x2048 : Shape := ⟨2, ![16384, 2048]⟩
abbrev S2048x16384 : Shape := ⟨2, ![2048, 16384]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x3632, .f32⟩
  | .hbm, ⟨3, _⟩ => ⟨S1x128, .f32⟩
  | .hbm, ⟨4, _⟩ => ⟨S1x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x3632, .f32⟩
  | .hbm, ⟨23, _⟩ => ⟨S8x2048x3632, .f32⟩
  | .hbm, ⟨24, _⟩ => ⟨S8x2048x2048, .f32⟩
  | .hbm, ⟨25, _⟩ => ⟨S8x2048x16x128, .f32⟩
  | .hbm, ⟨26, _⟩ => ⟨S128, .f32⟩
  | .hbm, ⟨27, _⟩ => ⟨S8x2048x16x128, .f32⟩
  | .hbm, ⟨28, _⟩ => ⟨S_, .f32⟩
  | .hbm, ⟨29, _⟩ => ⟨S8x2048x16, .f32⟩
  | .hbm, ⟨30, _⟩ => ⟨S8x2048x16x1, .f32⟩
  | .hbm, ⟨31, _⟩ => ⟨S_, .f32⟩
  | .hbm, ⟨32, _⟩ => ⟨S8x2048x16x1, .f32⟩
  | .hbm, ⟨33, _⟩ => ⟨S8x2048x16x1, .f32⟩
  | .hbm, ⟨34, _⟩ => ⟨S_, .f32⟩
  | .hbm, ⟨35, _⟩ => ⟨S8x2048x16x1, .f32⟩
  | .hbm, ⟨36, _⟩ => ⟨S8x2048x16x1, .f32⟩
  | .hbm, ⟨37, _⟩ => ⟨S8x2048x16x1, .f32⟩
  | .hbm, ⟨38, _⟩ => ⟨S8x2048x16x128, .f32⟩
  | .hbm, ⟨39, _⟩ => ⟨S8x2048x16x128, .f32⟩
  | .hbm, ⟨40, _⟩ => ⟨S1x1x1x128, .f32⟩
  | .hbm, ⟨41, _⟩ => ⟨S8x2048x16x128, .f32⟩
  | .hbm, ⟨42, _⟩ => ⟨S8x2048x16x128, .f32⟩
  | .hbm, ⟨43, _⟩ => ⟨S16384x2048, .f32⟩
  | .hbm, ⟨44, _⟩ => ⟨S2048x16384, .f32⟩
  | .hbm, ⟨45, _⟩ => ⟨S2048x16384, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Shared.lean ====
abbrev S8x2048x2048 : Shape := ⟨3, ![8, 2048, 2048]⟩
abbrev S2048 : Shape := ⟨1, ![2048]⟩
abbrev S2048x512 : Shape := ⟨2, ![2048, 512]⟩
abbrev S64 : Shape := ⟨1, ![64]⟩
abbrev S16384x2048 : Shape := ⟨2, ![16384, 2048]⟩
abbrev S1x64 : Shape := ⟨2, ![1, 64]⟩
abbrev S4x64 : Shape := ⟨2, ![4, 64]⟩
abbrev S256 : Shape := ⟨1, ![256]⟩
abbrev S_ : Shape := ⟨0, ![]⟩
abbrev S512 : Shape := ⟨1, ![512]⟩
abbrev S1x2048 : Shape := ⟨2, ![1, 2048]⟩
abbrev S1x512 : Shape := ⟨2, ![1, 512]⟩
abbrev S16384x512 : Shape := ⟨2, ![16384, 512]⟩
abbrev S512x2048 : Shape := ⟨2, ![512, 2048]⟩
abbrev S512x512 : Shape := ⟨2, ![512, 512]⟩
abbrev S512x1 : Shape := ⟨2, ![512, 1]⟩
abbrev S512x128 : Shape := ⟨2, ![512, 128]⟩
abbrev S128x128 : Shape := ⟨2, ![128, 128]⟩
abbrev S1x128 : Shape := ⟨2, ![1, 128]⟩
abbrev S8x2048x2x4x64 : Shape := ⟨5, ![8, 2048, 2, 4, 64]⟩
abbrev S8x128x2x4x64 : Shape := ⟨5, ![8, 128, 2, 4, 64]⟩

abbrev nBuf : Space → Nat
  | .hbm => 23
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x512, .f32⟩
  | .hbm, ⟨3, _⟩ => ⟨S64, .f32⟩
  | .hbm, ⟨4, _⟩ => ⟨S16384x2048, .f32⟩
  | .hbm, ⟨5, _⟩ => ⟨S2048x512, .bf16⟩
  | .hbm, ⟨6, _⟩ => ⟨S1x64, .f32⟩
  | .hbm, ⟨7, _⟩ => ⟨S4x64, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S512, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S512, .f32⟩
  | .hbm, ⟨17, _⟩ => ⟨S1x2048, .f32⟩
  | .hbm, ⟨18, _⟩ => ⟨S1x512, .f32⟩
  | .hbm, ⟨19, _⟩ => ⟨S1x512, .f32⟩
  | .hbm, ⟨20, _⟩ => ⟨S16384x512, .f32⟩
  | .hbm, ⟨21, _⟩ => ⟨S8x2048x2x4x64, .f32⟩
  | .hbm, ⟨22, _⟩ => ⟨S8x128x2x4x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SharedRefIdeal.lean ====
abbrev S8x2048x2048 : Shape := ⟨3, ![8, 2048, 2048]⟩
abbrev S2048 : Shape := ⟨1, ![2048]⟩
abbrev S2048x512 : Shape := ⟨2, ![2048, 512]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x512 : Shape := ⟨3, ![8, 2048, 512]⟩
abbrev S8x2048x2x4x64 : Shape := ⟨5, ![8, 2048, 2, 4, 64]⟩
abbrev S8x2048x1x4x64 : Shape := ⟨5, ![8, 2048, 1, 4, 64]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S16384x512 : Shape := ⟨2, ![16384, 512]⟩
abbrev S8x128x2x4x64 : Shape := ⟨5, ![8, 128, 2, 4, 64]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x512, .f32⟩
  | .hbm, ⟨3, _⟩ => ⟨S64, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S8x2048x512, .f32⟩
  | .hbm, ⟨21, _⟩ => ⟨S8x2048x2x4x64, .f32⟩
  | .hbm, ⟨22, _⟩ => ⟨S8x2048x1x4x64, .f32⟩
  | .hbm, ⟨23, _⟩ => ⟨S8x2048x4x64, .f32⟩
  | .hbm, ⟨24, _⟩ => ⟨S8x2048x4x64, .f32⟩
  | .hbm, ⟨25, _⟩ => ⟨S_, .f32⟩
  | .hbm, ⟨26, _⟩ => ⟨S8x2048x4, .f32⟩
  | .hbm, ⟨27, _⟩ => ⟨S8x2048x4x1, .f32⟩
  | .hbm, ⟨28, _⟩ => ⟨S_, .f32⟩
  | .hbm, ⟨29, _⟩ => ⟨S8x2048x4x1, .f32⟩
  | .hbm, ⟨30, _⟩ => ⟨S8x2048x4x1, .f32⟩
  | .hbm, ⟨31, _⟩ => ⟨S_, .f32⟩
  | .hbm, ⟨32, _⟩ => ⟨S8x2048x4x1, .f32⟩
  | .hbm, ⟨33, _⟩ => ⟨S8x2048x4x1, .f32⟩
  | .hbm, ⟨34, _⟩ => ⟨S8x2048x4x1, .f32⟩
  | .hbm, ⟨35, _⟩ => ⟨S8x2048x4x64, .f32⟩
  | .hbm, ⟨36, _⟩ => ⟨S8x2048x4x64, .f32⟩
  | .hbm, ⟨37, _⟩ => ⟨S1x1x1x64, .f32⟩
  | .hbm, ⟨38, _⟩ => ⟨S8x2048x4x64, .f32⟩
  | .hbm, ⟨39, _⟩ => ⟨S8x2048x4x64, .f32⟩
  | .hbm, ⟨40, _⟩ => ⟨S8x2048x1x4x64, .f32⟩
  | .hbm, ⟨41, _⟩ => ⟨S8x2048x4x64, .f32⟩
  | .hbm, ⟨42, _⟩ => ⟨S8x2048x1x4x64, .f32⟩
  | .hbm, ⟨43, _⟩ => ⟨S8x2048x1x4x64, .f32⟩
  | .hbm, ⟨44, _⟩ => ⟨S8x2048x2x4x64, .f32⟩
  | .hbm, ⟨45, _⟩ => ⟨S16384x512, .f32⟩
  | .hbm, ⟨46, _⟩ => ⟨S8x128x2x4x64, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== SharedS.lean ====
abbrev S128x4x2048 : Shape := ⟨3, ![128, 4, 2048]⟩
abbrev S128x128x2x4x64 : Shape := ⟨5, ![128, 128, 2, 4, 64]⟩
abbrev S2048 : Shape := ⟨1, ![2048]⟩
abbrev S2048x512 : Shape := ⟨2, ![2048, 512]⟩
abbrev S64 : Shape := ⟨1, ![64]⟩
abbrev S512x2048 : Shape := ⟨2, ![512, 2048]⟩
abbrev S1x64 : Shape := ⟨2, ![1, 64]⟩
abbrev S4x64 : Shape := ⟨2, ![4, 64]⟩
abbrev S256 : Shape := ⟨1, ![256]⟩
abbrev S_ : Shape := ⟨0, ![]⟩
abbrev S512 : Shape := ⟨1, ![512]⟩
abbrev S1x2048 : Shape := ⟨2, ![1, 2048]⟩
abbrev S1x512 : Shape := ⟨2, ![1, 512]⟩
abbrev S512x512 : Shape := ⟨2, ![512, 512]⟩
abbrev S512x1 : Shape := ⟨2, ![512, 1]⟩
abbrev S512x128 : Shape := ⟨2, ![512, 128]⟩
abbrev S128x128 : Shape := ⟨2, ![128, 128]⟩
abbrev S1x128 : Shape := ⟨2, ![1, 128]⟩
abbrev S128x4x2x4x64 : Shape := ⟨5, ![128, 4, 2, 4, 64]⟩
abbrev S128x132x2x4x64 : Shape := ⟨5, ![128, 132, 2, 4, 64]⟩

abbrev nBuf : Space → Nat
  | .hbm => 25
  | .vmem => 7
  | .smem => 0
  | _ => 0

abbrev bufTy : (tb : Table) → Fin (tcTables nBuf tb) → BufTy
  | .hbm, ⟨0, _⟩ => ⟨S128x4x2048, .f32⟩
  | .hbm, ⟨1, _⟩ => ⟨S128x128x2x4x64, .f32⟩
  | .hbm, ⟨2, _⟩ => ⟨S2048, .f32⟩
  | .hbm, ⟨3, _⟩ => ⟨S2048x512, .f32⟩
  | .hbm, ⟨4, _⟩ => ⟨S64, .f32⟩
  | .hbm, ⟨5, _⟩ => ⟨S512x2048, .f32⟩
  | .hbm, ⟨6, _⟩ => ⟨S2048x512, .bf16⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S512, .f32⟩
  | .hbm, ⟨13, _⟩ => ⟨S_, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S512, .f32⟩
  | .hbm, ⟨18, _⟩ => ⟨S1x2048, .f32⟩
  | .hbm, ⟨19, _⟩ => ⟨S1x512, .f32⟩
  | .hbm, ⟨20, _⟩ => ⟨S1x512, .f32⟩
  | .hbm, ⟨21, _⟩ => ⟨S512x512, .f32⟩
  | .hbm, ⟨22, _⟩ => ⟨S128x4x2x4x64, .f32⟩
  | .hbm, ⟨23, _⟩ => ⟨S128x132x2x4x64, .f32⟩
  | .hbm, ⟨24, _⟩ => ⟨S128x128x2x4x64, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== SharedSRefIdeal.lean ====
abbrev S128x4x2048 : Shape := ⟨3, ![128, 4, 2048]⟩
abbrev S128x128x2x4x64 : Shape := ⟨5, ![128, 128, 2, 4, 64]⟩
abbrev S2048 : Shape := ⟨1, ![2048]⟩
abbrev S2048x512 : Shape := ⟨2, ![2048, 512]⟩
abbrev S64 : Shape := ⟨1, ![64]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S128x4x512 : Shape := ⟨3, ![128, 4, 512]⟩
abbrev S128x4x2x4x64 : Shape := ⟨5, ![128, 4, 2, 4, 64]⟩
abbrev S128x4x1x4x64 : Shape := ⟨5, ![128, 4, 1, 4, 64]⟩
abbrev S128x4x4x64 : Shape := ⟨4, ![128, 4, 4, 64]⟩
abbrev S128x4x4 : Shape := ⟨3, ![128, 4, 4]⟩
abbrev S128x4x4x1 : Shape := ⟨4, ![128, 4, 4, 1]⟩
abbrev S1x1x1x64 : Shape := ⟨4, ![1, 1, 1, 64]⟩
abbrev S512x512 : Shape := ⟨2, ![512, 512]⟩
abbrev S128x132x2x4x64 : Shape := ⟨5, ![128, 132, 2, 4, 64]⟩

abbrev nBuf : Space → Nat
  | .hbm => 49
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S128x128x2x4x64, .f32⟩
  | .hbm, ⟨2, _⟩ => ⟨S2048, .f32⟩
  | .hbm, ⟨3, _⟩ => ⟨S2048x512, .f32⟩
  | .hbm, ⟨4, _⟩ => ⟨S64, .f32⟩
  | .hbm, ⟨5, _⟩ => ⟨S128x4x2048, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x2048, .f32⟩
  | .hbm, ⟨17, _⟩ => ⟨S128x4x2048, .f32⟩
  | .hbm, ⟨18, _⟩ => ⟨S1x1x2048, .f32⟩
  | .hbm, ⟨19, _⟩ => ⟨S128x4x2048, .f32⟩
  | .hbm, ⟨20, _⟩ => ⟨S128x4x2048, .f32⟩
  | .hbm, ⟨21, _⟩ => ⟨S128x4x512, .f32⟩
  | .hbm, ⟨22, _⟩ => ⟨S128x4x2x4x64, .f32⟩
  | .hbm, ⟨23, _⟩ => ⟨S128x4x1x4x64, .f32⟩
  | .hbm, ⟨24, _⟩ => ⟨S128x4x4x64, .f32⟩
  | .hbm, ⟨25, _⟩ => ⟨S128x4x4x64, .f32⟩
  | .hbm, ⟨26, _⟩ => ⟨S_, .f32⟩
  | .hbm, ⟨27, _⟩ => ⟨S128x4x4, .f32⟩
  | .hbm, ⟨28, _⟩ => ⟨S128x4x4x1, .f32⟩
  | .hbm, ⟨29, _⟩ => ⟨S_, .f32⟩
  | .hbm, ⟨30, _⟩ => ⟨S128x4x4x1, .f32⟩
  | .hbm, ⟨31, _⟩ => ⟨S128x4x4x1, .f32⟩
  | .hbm, ⟨32, _⟩ => ⟨S_, .f32⟩
  | .hbm, ⟨33, _⟩ => ⟨S128x4x4x1, .f32⟩
  | .hbm, ⟨34, _⟩ => ⟨S128x4x4x1, .f32⟩
  | .hbm, ⟨35, _⟩ => ⟨S128x4x4x1, .f32⟩
  | .hbm, ⟨36, _⟩ => ⟨S128x4x4x64, .f32⟩
  | .hbm, ⟨37, _⟩ => ⟨S128x4x4x64, .f32⟩
  | .hbm, ⟨38, _⟩ => ⟨S1x1x1x64, .f32⟩
  | .hbm, ⟨39, _⟩ => ⟨S128x4x4x64, .f32⟩
  | .hbm, ⟨40, _⟩ => ⟨S128x4x4x64, .f32⟩
  | .hbm, ⟨41, _⟩ => ⟨S128x4x1x4x64, .f32⟩
  | .hbm, ⟨42, _⟩ => ⟨S128x4x4x64, .f32⟩
  | .hbm, ⟨43, _⟩ => ⟨S128x4x1x4x64, .f32⟩
  | .hbm, ⟨44, _⟩ => ⟨S128x4x1x4x64, .f32⟩
  | .hbm, ⟨45, _⟩ => ⟨S128x4x2x4x64, .f32⟩
  | .hbm, ⟨46, _⟩ => ⟨S512x512, .f32⟩
  | .hbm, ⟨47, _⟩ => ⟨S128x132x2x4x64, .f32⟩
  | .hbm, ⟨48, _⟩ => ⟨S128x128x2x4x64, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== QueryB.lean ====
abbrev S8x2048x2048 : Shape := ⟨3, ![8, 2048, 2048]⟩
abbrev S2x2048 : Shape := ⟨2, ![2, 2048]⟩
abbrev S1x2048x2048 : Shape := ⟨3, ![1, 2048, 2048]⟩
abbrev S1x64 : Shape := ⟨2, ![1, 64]⟩
abbrev S16384x2048 : Shape := ⟨2, ![16384, 2048]⟩
abbrev S1x2048 : Shape := ⟨2, ![1, 2048]⟩
abbrev S2048 : Shape := ⟨1, ![2048]⟩
abbrev S2048x2048 : Shape := ⟨2, ![2048, 2048]⟩
abbrev S64 : Shape := ⟨1, ![64]⟩
abbrev S32x64 : Shape := ⟨2, ![32, 64]⟩
abbrev S_ : Shape := ⟨0, ![]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x128 : Shape := ⟨2, ![512, 128]⟩
abbrev S128x128 : Shape := ⟨2, ![128, 128]⟩
abbrev S1x128 : Shape := ⟨2, ![1, 128]⟩

abbrev nBuf : Space → Nat
  | .hbm => 19
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x2048, .f32⟩
  | .hbm, ⟨3, _⟩ => ⟨S1x64, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S64, .f32⟩
  | .hbm, ⟨10, _⟩ => ⟨S1x64, .f32⟩
  | .hbm, ⟨11, _⟩ => ⟨S32x64, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueryBRefIdeal.lean ====
abbrev S8x2048x2048 : Shape := ⟨3, ![8, 2048, 2048]⟩
abbrev S2x2048 : Shape := ⟨2, ![2, 2048]⟩
abbrev S1x2048x2048 : Shape := ⟨3, ![1, 2048, 2048]⟩
abbrev S1x64 : Shape := ⟨2, ![1, 64]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩
abbrev S8x2048x32x64 : Shape := ⟨4, ![8, 2048, 32, 64]⟩
abbrev S64 : Shape := ⟨1, ![64]⟩
abbrev S8x2048x32 : Shape := ⟨3, ![8, 2048, 32]⟩
abbrev S8x2048x32x1 : Shape := ⟨4, ![8, 2048, 32, 1]⟩
abbrev S1x1x1x64 : Shape := ⟨4, ![1, 1, 1, 64]⟩
abbrev S16384x2048 : Shape := ⟨2, ![16384, 2048]⟩
abbrev S2048x16384 : Shape := ⟨2, ![2048, 16384]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x2048, .f32⟩
  | .hbm, ⟨3, _⟩ => ⟨S1x64, .f32⟩
  | .hbm, ⟨4, _⟩ => ⟨S1x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x2048, .f32⟩
  | .hbm, ⟨23, _⟩ => ⟨S8x2048x2048, .f32⟩
  | .hbm, ⟨24, _⟩ => ⟨S8x2048x32x64, .f32⟩
  | .hbm, ⟨25, _⟩ => ⟨S64, .f32⟩
  | .hbm, ⟨26, _⟩ => ⟨S8x2048x32x64, .f32⟩
  | .hbm, ⟨27, _⟩ => ⟨S_, .f32⟩
  | .hbm, ⟨28, _⟩ => ⟨S8x2048x32, .f32⟩
  | .hbm, ⟨29, _⟩ => ⟨S8x2048x32x1, .f32⟩
  | .hbm, ⟨30, _⟩ => ⟨S_, .f32⟩
  | .hbm, ⟨31, _⟩ => ⟨S8x2048x32x1, .f32⟩
  | .hbm, ⟨32, _⟩ => ⟨S8x2048x32x1, .f32⟩
  | .hbm, ⟨33, _⟩ => ⟨S_, .f32⟩
  | .hbm, ⟨34, _⟩ => ⟨S8x2048x32x1, .f32⟩
  | .hbm, ⟨35, _⟩ => ⟨S8x2048x32x1, .f32⟩
  | .hbm, ⟨36, _⟩ => ⟨S8x2048x32x1, .f32⟩
  | .hbm, ⟨37, _⟩ => ⟨S8x2048x32x64, .f32⟩
  | .hbm, ⟨38, _⟩ => ⟨S8x2048x32x64, .f32⟩
  | .hbm, ⟨39, _⟩ => ⟨S1x1x1x64, .f32⟩
  | .hbm, ⟨40, _⟩ => ⟨S8x2048x32x64, .f32⟩
  | .hbm, ⟨41, _⟩ => ⟨S8x2048x32x64, .f32⟩
  | .hbm, ⟨42, _⟩ => ⟨S16384x2048, .f32⟩
  | .hbm, ⟨43, _⟩ => ⟨S2048x16384, .f32⟩
  | .hbm, ⟨44, _⟩ => ⟨S2048x16384, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.Mlp.Rows.lean ====
/- A row of the feed-forward part: its norm, its hidden units, and their sum taken in slabs. -/
module

public import Idealize.ShloMosaic.Lib.Pointwise

@[expose] public section

set_option maxRecDepth 16384

noncomputable section

namespace Cert.Feed

open Idealize.ShloMosaic Idealize.ShloMosaic.TcCoe Idealize.ShloMosaic.Tactic Idealize.SL.Sem

/-- A row divided by its root mean square, times a gain. -/
def normed (x g : Fin 2048 → EReal) (k : Fin 2048) : EReal :=
  x k * Ideal.rsqrt (Ideal.div (∑ i, x i * x i) (Ideal.ofBits .f32 0x45000000#32) + Ideal.ofBits .f32 0x358637BD#32) * g k

/-- The square of the positive part. -/
def squared (z : EReal) : EReal :=
  max z (Ideal.ofBits .f32 0x00000000#32) * max z (Ideal.ofBits .f32 0x00000000#32)

/-- A hidden unit: the square of the positive part of the normed row's product with the unit's weights. -/
def unit (x g : Fin 2048 → EReal) (w : Fin 2048 → EReal) : EReal := squared (∑ k, normed x g k * w k)

/-- The row's result at a column: the row's entry plus the hidden units' product with the column's weights. -/
def fed (x g : Fin 2048 → EReal) (w1 : Fin 2048 → Fin 8192 → EReal) (w2 : Fin 8192 → Fin 2048 → EReal) (y : Fin 2048) : EReal :=
  x y + ∑ u, unit x g (fun k => w1 k u) * w2 u y

/-- The part of the hidden units' sum that slab `s` of 512 units gives. -/
def slab (f : Fin 8192 → EReal) (s : ℕ) : EReal := ∑ u : Fin 512, if h : 512 * s + u.val < 8192 then f ⟨512 * s + u.val, h⟩ else 0

/-- The sum over all hidden units is the sum of the sixteen slabs. -/
theorem sum_slabs (f : Fin 8192 → EReal) : ∑ s ∈ Finset.range 16, slab f s = ∑ u, f u := by
  rw [Finset.sum_range, ← (finProdFinEquiv (m := 16) (n := 512)).sum_comp f, Fintype.sum_prod_type]
  refine Finset.sum_congr rfl fun s _ => Finset.sum_congr rfl fun u _ => ?_
  have h : 512 * s.val + u.val < 8192 := by omega
  rw [dif_pos h]
  exact congrArg f (Fin.ext (by show 512 * s.val + u.val = u.val + 512 * s.val; omega))

end Cert.Feed

end
-- ==== Proof.Mlp.Body.lean ====
/- What a point of the feed-forward kernel computes, entry by entry. -/
module

public import proofs.«01_k».proof.Proof.Mlp.Rows
public import proofs.«01_k».proof.Proof.Gen.MlpIdeal.Skeleton

@[expose] public section

set_option maxRecDepth 16384

noncomputable section

namespace Cert.MlpIdeal.Own

open Idealize.ShloMosaic Idealize.ShloMosaic.TcCoe Idealize.ShloMosaic.Tactic Idealize.SL.Sem
open Cert.MlpIdeal.Gen Cert.Feed

theorem norm_at (v : Vec Ideal S1024x2048 .f32) (g : Vec Ideal S1x2048 .f32) (x : Fin 1024) (k : Fin 2048) :
    k0_pay1 v g (ix2 x k) = normed (fun i => v (ix2 x i)) (fun i => g (ix2 0 i)) k := by
  unfold k0_pay1 normed
  pointwise []

theorem part_at (xn : Vec Ideal S1024x2048 .bf16) (w1 : Vec Ideal S2048x512 .bf16) (o : Vec Ideal S1024x2048 .f32) (w2 : Vec Ideal S512x2048 .bf16) (x : Fin 1024) (y : Fin 2048) :
    k0_pay2 xn w1 o w2 (ix2 x y) = o (ix2 x y) + ∑ u : Fin 512, squared (∑ k : Fin 2048, xn (ix2 x k) * w1 (ix2 k u)) * w2 (ix2 u y) := by
  unfold k0_pay2 squared
  pointwise []

end Cert.MlpIdeal.Own

end
-- ==== Proof.Mlp.Points.lean ====
/- What the feed-forward kernel holds after each of its points, and the array it leaves. -/
module

public import proofs.«01_k».proof.Proof.Mlp.Body
public import proofs.«01_k».proof.Proof.Gen.MlpIdeal.Value
public import Idealize.ShloMosaic.Lib.Pipeline.ValueKit
public import Idealize.ShloMosaic.Lib.WholeRead
public import Idealize.ShloMosaic.Lib.Pipeline.ReadBack

@[expose] public section

set_option maxRecDepth 16384

noncomputable section

namespace Cert.MlpIdeal.Own

open Idealize.ShloMosaic Idealize.ShloMosaic.TcCoe Idealize.ShloMosaic.Tactic Idealize.SL.Sem
open Cert.MlpIdeal.Gen Cert.Feed

variable (m : (ℓ : Loc nD τ sig) → Buf (Elt Ideal) ℓ)

/-- The four arguments of the launch, as functions of their coordinates. -/
def rows (c : Dev nD) (r : Fin 16384) (k : Fin 2048) : EReal := (m ((c : Thread nD τ).loc main_arg0) : FVec Ideal S16384x2048 .f32) (ix2 r k)
def gain (c : Dev nD) (k : Fin 2048) : EReal := (m ((c : Thread nD τ).loc main_arg1) : FVec Ideal S2048 .f32) (ix1 k)
def up (c : Dev nD) (k : Fin 2048) (u : Fin 8192) : EReal := (m ((c : Thread nD τ).loc main_arg2) : FVec Ideal S2048x8192 .bf16) (ix2 k u)
def down (c : Dev nD) (u : Fin 8192) (y : Fin 2048) : EReal := (m ((c : Thread nD τ).loc main_arg3) : FVec Ideal S8192x2048 .bf16) (ix2 u y)

theorem index_at : ∀ t : Fin cfg0.N, win0_0.index t = ![t.val / 16, 0] ∧ win0_1.index t = ![0, 0] ∧ win0_2.index t = ![0, t.val % 16] ∧ win0_3.index t = ![t.val % 16, 0] ∧ win0_4.index t = ![t.val / 16, 0] :=
  (by decide +kernel : ∀ t : Fin grid0.N, _)

theorem points_lt (t : Fin cfg0.N) : t.val < 256 := lt_of_lt_of_eq t.isLt N_0

/-- The gain as the host lays it out, one row. -/
theorem V_gain (c : Dev nD) (k : Fin 2048) : (V m c main_v0 : FVec Ideal S1x2048 .f32) (ix2 0 k) = gain m c k := by
  have e : (V m c main_v0 : FVec Ideal S1x2048 .f32) = shapeCast S1x2048 (m ((c : Thread nD τ).loc main_arg1)) shapeCasts_S2048_S1x2048 := by
    show StableHlo.after hostOps0 _ _ = _
    after_results
    rfl
  rw [e]
  unfold gain
  pointwise []

theorem rows_blk (c : Dev nD) (t : Fin cfg0.N) (x : Fin 1024) (k : Fin 2048) :
    (iblk m c 0 t : FVec Ideal S1024x2048 .f32) (ix2 x k) = rows m c ⟨1024 * (t.val / 16) + x.val, by have := points_lt t; omega⟩ k := by
  unfold rows
  rw [← V_main_arg0 m c]
  blk_point [iblk, index_at t]

theorem gain_blk (c : Dev nD) (t : Fin cfg0.N) (k : Fin 2048) :
    (iblk m c 1 t : FVec Ideal S1x2048 .f32) (ix2 0 k) = gain m c k := by
  rw [← V_gain]
  blk_point [iblk, index_at t]

theorem up_blk (c : Dev nD) (t : Fin cfg0.N) (k : Fin 2048) (u : Fin 512) :
    (iblk m c 2 t : FVec Ideal S2048x512 .bf16) (ix2 k u) = up m c k ⟨512 * (t.val % 16) + u.val, by omega⟩ := by
  unfold up
  rw [← V_main_arg2 m c]
  blk_point [iblk, index_at t]

theorem down_blk (c : Dev nD) (t : Fin cfg0.N) (u : Fin 512) (y : Fin 2048) :
    (iblk m c 3 t : FVec Ideal S512x2048 .bf16) (ix2 u y) = down m c ⟨512 * (t.val % 16) + u.val, by omega⟩ y := by
  unfold down
  rw [← V_main_arg3 m c]
  blk_point [iblk, index_at t]

/-- At the first of a row block's points: the scratch gets the normed rows, the block the rows plus the first slab's part. -/
theorem outs_first (c : Dev nD) (t : Fin cfg0.N) (h : t.val % 16 = 0) :
    outsAt0 m c t.val t.isLt = (k0_pay2 (k0_pay1 (iblk m c 0 t) (iblk m c 1 t)) (iblk m c 2 t) (iblk m c 0 t) (iblk m c 3 t), k0_pay1 (iblk m c 0 t) (iblk m c 1 t)) := by
  rw [outsAt0_A m c t h]
  refine Prod.ext ?_ ?_
  · frame_out
  · unfold sout0_A_0
    frame_out

/-- At the others: the scratch stays, the block gets the slab's part added. -/
theorem outs_next (c : Dev nD) (t : Fin cfg0.N) (h : ¬t.val % 16 = 0) :
    outsAt0 m c t.val t.isLt = (k0_pay2 (outsAt0 m c (t.val - 1) (Nat.lt_of_le_of_lt (Nat.sub_le _ _) t.isLt)).2 (iblk m c 2 t) (outsAt0 m c (t.val - 1) (Nat.lt_of_le_of_lt (Nat.sub_le _ _) t.isLt)).1 (iblk m c 3 t),
      (outsAt0 m c (t.val - 1) (Nat.lt_of_le_of_lt (Nat.sub_le _ _) t.isLt)).2) := by
  rw [outsAt0_B m c t h]
  refine Prod.ext ?_ ?_
  · frame_out
    rw [read_unread_whole]
  · rfl

/-- A row's hidden units' products with a column's weights. -/
def parts (c : Dev nD) (r : Fin 16384) (y : Fin 2048) (u : Fin 8192) : EReal :=
  unit (rows m c r) (gain m c) (fun k => up m c k u) * down m c u y

/-- The row of the array that row `x` of a point's block is. -/
abbrev rowOf (n : ℕ) (hn : n < cfg0.N) (x : Fin 1024) : Fin 16384 := ⟨1024 * (n / 16) + x.val, by have h : n < 256 := points_lt ⟨n, hn⟩; omega⟩

/-- One point's part of the block. -/
theorem slab_at (c : Dev nD) (t : Fin cfg0.N) (xn : FVec Ideal S1024x2048 .bf16) (o : FVec Ideal S1024x2048 .f32) (x : Fin 1024) (y : Fin 2048)
    (hx : ∀ k, xn (ix2 x k) = normed (rows m c (rowOf t.val t.isLt x)) (gain m c) k) :
    k0_pay2 (F := Ideal) xn (iblk m c 2 t) o (iblk m c 3 t) (ix2 x y) = o (ix2 x y) + slab (parts m c (rowOf t.val t.isLt x) y) (t.val % 16) := by
  rw [part_at]
  refine congrArg (o (ix2 x y) + ·) (Finset.sum_congr rfl fun u _ => ?_)
  have h : 512 * (t.val % 16) + u.val < 8192 := by omega
  rw [dif_pos h, down_blk]
  unfold parts unit
  refine congrArg (squared · * _) (Finset.sum_congr rfl fun k _ => ?_)
  rw [hx, up_blk]

theorem normed_blk (c : Dev nD) (t : Fin cfg0.N) (x : Fin 1024) (k : Fin 2048) :
    k0_pay1 (F := Ideal) (iblk m c 0 t) (iblk m c 1 t) (ix2 x k) = normed (rows m c (rowOf t.val t.isLt x)) (gain m c) k := by
  rw [norm_at]
  refine congrArg₂ (fun f g => normed f g k) (funext fun i => ?_) (funext fun i => ?_)
  · exact rows_blk m c t x i
  · exact gain_blk m c t i

/-- After point `n`: the scratch holds the normed rows, the block the rows plus the slabs so far. -/
theorem carried (c : Dev nD) : ∀ (n : ℕ) (hn : n < cfg0.N),
    (∀ (x : Fin 1024) (k : Fin 2048), (outsAt0 m c n hn).2 (ix2 x k) = normed (rows m c (rowOf n hn x)) (gain m c) k) ∧
    (∀ (x : Fin 1024) (y : Fin 2048), (outsAt0 m c n hn).1 (ix2 x y)
      = rows m c (rowOf n hn x) y + ∑ s ∈ Finset.range (n % 16 + 1), slab (parts m c (rowOf n hn x) y) s) := by
  intro n
  induction n using Nat.strong_induction_on with
  | _ n ih =>
    intro hn
    by_cases h : n % 16 = 0
    · have e := outs_first m c ⟨n, hn⟩ h
      rw [show outsAt0 m c n hn = _ from e]
      refine ⟨fun x k => normed_blk m c ⟨n, hn⟩ x k, fun x y => ?_⟩
      refine (slab_at m c ⟨n, hn⟩ _ _ x y fun k => normed_blk m c ⟨n, hn⟩ x k).trans ?_
      rw [rows_blk]
      rw [show n % 16 + 1 = 1 by omega, Finset.sum_range_one]
      rw [show (⟨n, hn⟩ : Fin cfg0.N).val % 16 = 0 from h]
    · have e := outs_next m c ⟨n, hn⟩ h
      have hp : n - 1 < cfg0.N := Nat.lt_of_le_of_lt (Nat.sub_le _ _) hn
      obtain ⟨i1, i2⟩ := ih (n - 1) (by omega) hp
      have er : ∀ x, rowOf (n - 1) hp x = rowOf n hn x := fun x => Fin.ext (by show 1024 * ((n - 1) / 16) + x.val = 1024 * (n / 16) + x.val; omega)
      rw [show outsAt0 m c n hn = _ from e]
      refine ⟨fun x k => (i1 x k).trans (by rw [er]), fun x y => ?_⟩
      refine (slab_at m c ⟨n, hn⟩ _ _ x y fun k => (i1 x k).trans (by rw [er])).trans ?_
      rw [i2, er, add_assoc, Finset.sum_range_succ _ (n % 16), show (n - 1) % 16 + 1 = n % 16 by omega]

/-- The rows' results, an entry at a time. -/
def fedRows (c : Dev nD) : S16384x2048.Idx → EReal := fun i => fed (rows m c (i 0)) (gain m c) (up m c) (down m c) (i 1)

/-- The array the launch leaves. -/
theorem result (c : Dev nD) : (dats m 0 c).arrAt 4 cfg0.N = fedRows m c := by
  refine (dats m 0 c).arrAt_eq_of_covers 4 _ (by decide +kernel) fun t hf y => ?_
  have h15 : t.val % 16 = 15 := (flush0_4 t).mp hf
  blk_simp
  rw [after0_4]
  idx_vars y
  refine ((carried m c t.val t.isLt).2 _ _).trans ?_
  rw [h15, sum_slabs]
  have key : ∀ A : S16384x2048.Idx → EReal, A (ix2 (rowOf t.val t.isLt y0) y1) = A (((View.whole main_v1).slice (win0_4.rect t)).emb (ix2 y0 y1)) := by
    intro A
    symm
    blk_point [index_at t]
  exact key (fedRows m c)

end Cert.MlpIdeal.Own

end
-- ==== Proof.Mlp.Plain.lean ====
/- The plain feed-forward part of the prompt, stage by stage, read on the extended reals. -/
module

public import proofs.«01_k».proof.Proof.Mlp.Rows
public import proofs.«01_k».proof.Proof.Gen.MlpRefIdeal.Run
public import Idealize.ShloMosaic.Lib.Pointwise

@[expose] public section

set_option maxRecDepth 16384

noncomputable section

namespace Cert.MlpRefIdeal.Own

open Idealize.ShloMosaic Idealize.ShloMosaic.TcCoe Idealize.ShloMosaic.Tactic Idealize.SL.Sem
open Cert.MlpRefIdeal Cert.MlpRefIdeal.Gen Cert.Feed

/-- The rows, each divided by its root mean square, times the gain. -/
def norms (h : FVec Ideal S16384x2048 .f32) (g : FVec Ideal S2048 .f32) : FVec Ideal S16384x2048 .f32 :=
  mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The positive parts of the products with the first weights. -/
def positive (n : FVec Ideal S16384x2048 .f32) (w : FVec Ideal S2048x8192 .f32) : FVec Ideal S16384x8192 .f32 :=
  maximumf (Host.dotGeneral dot_S16384x2048_S2048x8192_S16384x8192_1_0_0_1_n_n none n w) (broadcastInDim S16384x8192 ![] bcast_S_S16384x8192 (constant S_ .f32 0x00000000#32))

/-- The rows plus the squares' products with the second weights. -/
def total (h : FVec Ideal S16384x2048 .f32) (p : FVec Ideal S16384x8192 .f32) (w : FVec Ideal S8192x2048 .f32) : FVec Ideal S16384x2048 .f32 :=
  addf h (Host.dotGeneral dot_S16384x8192_S8192x2048_S16384x2048_1_0_0_1_n_n none (mulf p p) w)

theorem norms_at (h : FVec Ideal S16384x2048 .f32) (g : FVec Ideal S2048 .f32) (x : Fin 16384) (k : Fin 2048) :
    norms h g (ix2 x k) = normed (fun i => h (ix2 x i)) (fun i => g (ix1 i)) k := by
  unfold norms normed
  pointwise []

theorem positive_at (n : FVec Ideal S16384x2048 .f32) (w : FVec Ideal S2048x8192 .f32) (x : Fin 16384) (u : Fin 8192) :
    positive n w (ix2 x u) = max (∑ k, n (ix2 x k) * w (ix2 k u)) (Ideal.ofBits .f32 0x00000000#32) := by
  unfold positive
  pointwise []

theorem total_at (h : FVec Ideal S16384x2048 .f32) (p : FVec Ideal S16384x8192 .f32) (w : FVec Ideal S8192x2048 .f32) (x : Fin 16384) (y : Fin 2048) :
    total h p w (ix2 x y) = h (ix2 x y) + ∑ u, p (ix2 x u) * p (ix2 x u) * w (ix2 u y) := by
  unfold total
  pointwise []

/-- The three stages together, an entry at a time. -/
theorem entry (h : FVec Ideal S16384x2048 .f32) (g : FVec Ideal S2048 .f32) (w1 : FVec Ideal S2048x8192 .f32) (w2 : FVec Ideal S8192x2048 .f32) (x : Fin 16384) (y : Fin 2048) :
    total h (positive (norms h g) w1) w2 (ix2 x y) = fed (fun i => h (ix2 x i)) (fun i => g (ix1 i)) (fun k u => w1 (ix2 k u)) (fun u y => w2 (ix2 u y)) y := by
  rw [total_at]
  unfold fed unit squared
  refine congrArg (h (ix2 x y) + ·) (Finset.sum_congr rfl fun u _ => ?_)
  rw [positive_at]
  simp only [norms_at]

end Cert.MlpRefIdeal.Own

end
-- ==== Proof.Mlp.Result.lean ====
/- The feed-forward part of the prompt: its frames, and its result against the plain program. -/
module

public import proofs.«01_k».proof.Defs
public import Idealize.ShloMosaic.Adequacy
public import Idealize.ShloMosaic.Init
public import proofs.«01_k».proof.Proof.Gen.Mlp.Frame
public import proofs.«01_k».proof.Proof.Gen.MlpIdeal.Frame
public import proofs.«01_k».proof.Proof.Mlp.Points
public import proofs.«01_k».proof.Proof.Mlp.Plain

@[expose] public section

set_option maxRecDepth 16384

noncomputable section

namespace Cert.Proof

open Idealize.ShloMosaic Idealize.ShloMosaic.TcCoe Idealize.ShloMosaic.Tactic Idealize.SL.Sem

theorem frame_mlp : Cert.quiescent_Mlp := fun m ρ _ => Cert.Mlp.Gen.frame m ρ

theorem frame_mlpIdeal : Cert.quiescent_MlpIdeal := fun m ρ _ => Cert.MlpIdeal.Gen.frame m ρ

/-- The plain program declares no semaphore, and no operation writes an argument. -/
theorem frame_mlpRef : Cert.quiescent_MlpRefIdeal := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

theorem algebraic_mlp : Cert.algebraic_MlpIdeal_MlpRefIdeal := by
  intro m ρ m' ρ' _ hagree
  refine ⟨Cert.MlpIdeal.Own.fedRows m, ?_, ?_⟩
  · exact (θ_run Cert.MlpIdeal.defs _ _).mono (fun r h c => ⟨(h c).1.trans (Cert.MlpIdeal.Own.result m c), (h c).2⟩) (Cert.MlpIdeal.Value.run_blocks m ρ)
  · refine (θ_run Cert.MlpRefIdeal.defs _ _).mono (fun r h c => ⟨(h c).1.trans ?_, (h c).2⟩) (Cert.MlpRefIdeal.Value.run (F := Ideal) m' ρ')
    rw [(hagree c).1, (hagree c).2.1, (hagree c).2.2.1, (hagree c).2.2.2]
    funext i
    idx_vars i
    exact Cert.MlpRefIdeal.Own.entry _ _ _ _ i0 i1

end Cert.Proof

end
-- ==== Proof.MlpS.Body.lean ====
/- What one point of the samples' feed-forward kernel computes, read on the extended reals. -/
module

public import proofs.«01_k».proof.Proof.Mlp.Rows
public import proofs.«01_k».proof.Proof.Gen.MlpSIdeal.Skeleton
public import Idealize.ShloMosaic.Lib.Pointwise

@[expose] public section

set_option maxRecDepth 16384

noncomputable section

namespace Cert.MlpSIdeal.Own

open Idealize.ShloMosaic Idealize.ShloMosaic.TcCoe Idealize.ShloMosaic.Tactic Idealize.SL.Sem
open Cert.MlpSIdeal.Gen Cert.Feed

theorem norm_at (v : FVec Ideal S512x2048 .f32) (g : FVec Ideal S1x2048 .f32) (x : Fin 512) (k : Fin 2048) :
    k0_pay1 (F := Ideal) v g (ix2 x k) = normed (fun i => v (ix2 x i)) (fun i => g (ix2 0 i)) k := by
  unfold k0_pay1 normed
  pointwise []

theorem part_at (w1 : FVec Ideal S2048x512 .f32) (w2 : FVec Ideal S512x2048 .f32) (xn : FVec Ideal S512x2048 .bf16) (o : FVec Ideal S512x2048 .f32) (x : Fin 512) (y : Fin 2048) :
    k0_pay4 (F := Ideal) w1 w2 xn o (ix2 x y) = o (ix2 x y) + ∑ u : Fin 512, squared (∑ k : Fin 2048, xn (ix2 x k) * w1 (ix2 k u)) * w2 (ix2 u y) := by
  unfold k0_pay4 k0_pay2 k0_pay3 squared
  pointwise []

end Cert.MlpSIdeal.Own

end
-- ==== Proof.MlpS.Points.lean ====
/- What the samples' feed-forward kernel holds after each of its points, and the three arrays it leaves. -/
module

public import proofs.«01_k».proof.Proof.MlpS.Body
public import proofs.«01_k».proof.Proof.Gen.MlpSIdeal.Value
public import Idealize.ShloMosaic.Lib.Pipeline.ValueKit
public import Idealize.ShloMosaic.Lib.WholeRead
public import Idealize.ShloMosaic.Lib.Pipeline.ReadBack

@[expose] public section

set_option maxRecDepth 16384

noncomputable section

namespace Cert.MlpSIdeal.Own

open Idealize.ShloMosaic Idealize.ShloMosaic.TcCoe Idealize.ShloMosaic.Tactic Idealize.SL.Sem
open Cert.MlpSIdeal.Gen Cert.Feed

variable (m : (ℓ : Loc nD τ sig) → Buf (Elt Ideal) ℓ)

/-- The four arguments of the launch. -/
abbrev argH (c : Dev nD) : FVec Ideal S512x2048 .f32 := m ((c : Thread nD τ).loc main_arg0)
abbrev argG (c : Dev nD) : FVec Ideal S2048 .f32 := m ((c : Thread nD τ).loc main_arg1)
abbrev argU (c : Dev nD) : FVec Ideal S2048x8192 .f32 := m ((c : Thread nD τ).loc main_arg2)
abbrev argD (c : Dev nD) : FVec Ideal S8192x2048 .f32 := m ((c : Thread nD τ).loc main_arg3)

/-- A row of the first argument, and the gain, by their column. -/
def row (c : Dev nD) (x : Fin 512) (k : Fin 2048) : EReal := argH m c (ix2 x k)
def gain (c : Dev nD) (k : Fin 2048) : EReal := argG m c (ix1 k)

theorem index_at : ∀ t : Fin cfg0.N, win0_0.index t = ![0, 0] ∧ win0_1.index t = ![0, 0] ∧ win0_2.index t = ![0, t.val] ∧ win0_3.index t = ![t.val, 0]
    ∧ win0_4.index t = ![0, 0] ∧ win0_5.index t = ![0, t.val] ∧ win0_6.index t = ![t.val, 0] :=
  (by decide +kernel : ∀ t : Fin grid0.N, _)

theorem points_lt (t : Fin cfg0.N) : t.val < 16 := lt_of_lt_of_eq t.isLt N_0

/-- The hidden unit that a point's unit `u` is. -/
abbrev unitOf (t : Fin cfg0.N) (u : Fin 512) : Fin 8192 := ⟨512 * t.val + u.val, by have := points_lt t; omega⟩

/-- The gain as the host lays it out, one row. -/
theorem V_gain (c : Dev nD) (k : Fin 2048) : (V m c main_v0 : FVec Ideal S1x2048 .f32) (ix2 0 k) = gain m c k := by
  have e : (V m c main_v0 : FVec Ideal S1x2048 .f32) = shapeCast S1x2048 (argG m c) shapeCasts_S2048_S1x2048 := by
    show StableHlo.after hostOps0 _ _ = _
    after_results
    rfl
  rw [e]
  unfold gain
  pointwise []

theorem row_blk (c : Dev nD) (t : Fin cfg0.N) (x : Fin 512) (k : Fin 2048) : (iblk m c 0 t : FVec Ideal S512x2048 .f32) (ix2 x k) = row m c x k := by
  unfold row argH
  rw [← V_main_arg0 m c]
  blk_point [iblk, index_at t]

theorem gain_blk (c : Dev nD) (t : Fin cfg0.N) (k : Fin 2048) : (iblk m c 1 t : FVec Ideal S1x2048 .f32) (ix2 0 k) = gain m c k := by
  rw [← V_gain]
  blk_point [iblk, index_at t]

theorem up_blk (c : Dev nD) (t : Fin cfg0.N) (k : Fin 2048) (u : Fin 512) : (iblk m c 2 t : FVec Ideal S2048x512 .f32) (ix2 k u) = argU m c (ix2 k (unitOf t u)) := by
  unfold argU
  rw [← V_main_arg2 m c]
  blk_point [iblk, index_at t]

theorem down_blk (c : Dev nD) (t : Fin cfg0.N) (u : Fin 512) (y : Fin 2048) : (iblk m c 3 t : FVec Ideal S512x2048 .f32) (ix2 u y) = argD m c (ix2 (unitOf t u) y) := by
  unfold argD
  rw [← V_main_arg3 m c]
  blk_point [iblk, index_at t]

/-- What the three output blocks and the scratch hold after the first point. -/
theorem outs_first (c : Dev nD) (t : Fin cfg0.N) (h : t.val % 16 = 0) :
    outsAt0 m c t.val t.isLt = (k0_pay4 (iblk m c 2 t) (iblk m c 3 t) (k0_pay1 (iblk m c 0 t) (iblk m c 1 t)) (iblk m c 0 t),
      k0_pay2 (iblk m c 2 t), k0_pay3 (iblk m c 3 t), k0_pay1 (iblk m c 0 t) (iblk m c 1 t)) := by
  rw [outsAt0_A m c t h]
  refine Prod.ext ?_ (Prod.ext ?_ (Prod.ext ?_ ?_))
  · frame_out
  · frame_out
  · frame_out
  · unfold sout0_A_0
    frame_out

/-- And after the others. -/
theorem outs_next (c : Dev nD) (t : Fin cfg0.N) (h : ¬t.val % 16 = 0) :
    outsAt0 m c t.val t.isLt = (k0_pay4 (iblk m c 2 t) (iblk m c 3 t) (outsAt0 m c (t.val - 1) (Nat.lt_of_le_of_lt (Nat.sub_le _ _) t.isLt)).2.2.2 (outsAt0 m c (t.val - 1) (Nat.lt_of_le_of_lt (Nat.sub_le _ _) t.isLt)).1,
      k0_pay2 (iblk m c 2 t), k0_pay3 (iblk m c 3 t), (outsAt0 m c (t.val - 1) (Nat.lt_of_le_of_lt (Nat.sub_le _ _) t.isLt)).2.2.2) := by
  rw [outsAt0_B m c t h]
  refine Prod.ext ?_ (Prod.ext ?_ (Prod.ext ?_ ?_))
  · frame_out
    rw [read_unread_whole]
  · frame_out
  · frame_out
  · rfl

/-- A row's hidden units' products with a column's weights. -/
def parts (c : Dev nD) (x : Fin 512) (y : Fin 2048) (u : Fin 8192) : EReal :=
  unit (row m c x) (gain m c) (fun k => argU m c (ix2 k u)) * argD m c (ix2 u y)

/-- One point's part of the block. -/
theorem slab_at (c : Dev nD) (t : Fin cfg0.N) (xn : FVec Ideal S512x2048 .bf16) (o : FVec Ideal S512x2048 .f32) (x : Fin 512) (y : Fin 2048)
    (hx : ∀ k, xn (ix2 x k) = normed (row m c x) (gain m c) k) :
    k0_pay4 (F := Ideal) (iblk m c 2 t) (iblk m c 3 t) xn o (ix2 x y) = o (ix2 x y) + slab (parts m c x y) t.val := by
  rw [part_at]
  refine congrArg (o (ix2 x y) + ·) (Finset.sum_congr rfl fun u _ => ?_)
  rw [dif_pos (unitOf t u).isLt, down_blk]
  unfold parts unit
  refine congrArg (squared · * _) (Finset.sum_congr rfl fun k _ => ?_)
  rw [hx, up_blk]

theorem normed_blk (c : Dev nD) (t : Fin cfg0.N) (x : Fin 512) (k : Fin 2048) :
    k0_pay1 (F := Ideal) (iblk m c 0 t) (iblk m c 1 t) (ix2 x k) = normed (row m c x) (gain m c) k := by
  rw [norm_at]
  exact congrArg₂ (fun f g => normed f g k) (funext fun i => row_blk m c t x i) (funext fun i => gain_blk m c t i)

/-- After point `n`: the scratch holds the normed rows, the block the rows plus the slabs so far. -/
theorem carried (c : Dev nD) : ∀ (n : ℕ) (hn : n < cfg0.N),
    (∀ (x : Fin 512) (k : Fin 2048), (outsAt0 m c n hn).2.2.2 (ix2 x k) = normed (row m c x) (gain m c) k) ∧
    (∀ (x : Fin 512) (y : Fin 2048), (outsAt0 m c n hn).1 (ix2 x y) = row m c x y + ∑ s ∈ Finset.range (n + 1), slab (parts m c x y) s)
  | 0, hn => by
    have e := outs_first m c ⟨0, hn⟩ rfl
    rw [show outsAt0 m c 0 hn = _ from e]
    refine ⟨normed_blk m c ⟨0, hn⟩, fun x y => ?_⟩
    refine (slab_at m c ⟨0, hn⟩ _ _ x y (normed_blk m c ⟨0, hn⟩ x)).trans ?_
    rw [row_blk, Finset.sum_range_one]
  | n + 1, hn => by
    have h16 : n + 1 < 16 := points_lt ⟨n + 1, hn⟩
    have e := outs_next m c ⟨n + 1, hn⟩ (by show ¬(n + 1) % 16 = 0; omega)
    obtain ⟨i1, i2⟩ := carried c n (Nat.lt_of_succ_lt hn)
    rw [show outsAt0 m c (n + 1) hn = _ from e]
    refine ⟨i1, fun x y => ?_⟩
    refine (slab_at m c ⟨n + 1, hn⟩ _ _ x y (i1 x)).trans ?_
    rw [show (outsAt0 m c ((⟨n + 1, hn⟩ : Fin cfg0.N).val - 1) _).1 (ix2 x y) = _ from i2 x y, add_assoc, Finset.sum_range_succ _ (n + 1)]

/-- The weight blocks handed on, at every point. -/
theorem casts (c : Dev nD) (t : Fin cfg0.N) : (outsAt0 m c t.val t.isLt).2.1 = k0_pay2 (iblk m c 2 t) ∧ (outsAt0 m c t.val t.isLt).2.2.1 = k0_pay3 (iblk m c 3 t) := by
  by_cases h : t.val % 16 = 0
  · rw [outs_first m c t h]
    exact ⟨rfl, rfl⟩
  · rw [outs_next m c t h]
    exact ⟨rfl, rfl⟩

/-- The rows' results, an entry at a time. -/
def fedRows (c : Dev nD) : S512x2048.Idx → EReal := fun i => fed (row m c (i 0)) (gain m c) (fun k u => argU m c (ix2 k u)) (fun u y => argD m c (ix2 u y)) (i 1)

/-- The weights, rounded. -/
def roundedUp (c : Dev nD) : FVec Ideal S2048x8192 .bf16 := truncf .bf16 (argU m c) bitsLt_bf16_f32
def roundedDown (c : Dev nD) : FVec Ideal S8192x2048 .bf16 := truncf .bf16 (argD m c) bitsLt_bf16_f32

/-- The rows the launch leaves. -/
theorem result (c : Dev nD) : (dats m 0 c).arrAt 4 cfg0.N = fedRows m c := by
  refine (dats m 0 c).arrAt_eq_of_covers 4 _ (by decide +kernel) fun t hf y => ?_
  have h15 : t.val = 15 := by
    have := (flush0_4 t).mp hf
    have := points_lt t
    omega
  blk_simp
  rw [after0_4]
  idx_vars y
  refine ((carried m c t.val t.isLt).2 _ _).trans ?_
  rw [h15, sum_slabs]
  have key : ∀ A : S512x2048.Idx → EReal, A (ix2 y0 y1) = A (((View.whole main_v1_0).slice (win0_4.rect t)).emb (ix2 y0 y1)) := by
    intro A
    symm
    blk_point [index_at t]
  exact key (fedRows m c)

/-- The first weights, rounded: the same extended reals. -/
theorem result_up (c : Dev nD) : (dats m 0 c).arrAt 5 cfg0.N = roundedUp m c := by
  refine (dats m 0 c).arrAt_eq_of_covers 5 _ (by decide +kernel) fun t _ y => ?_
  blk_simp
  rw [after0_5, (casts m c t).1]
  idx_vars y
  refine (show k0_pay2 (F := Ideal) (iblk m c 2 t) (ix2 y0 y1) = _ from up_blk m c t y0 y1).trans ?_
  have key : ∀ A : S2048x8192.Idx → EReal, A (ix2 y0 (unitOf t y1)) = A (((View.whole main_v1_1).slice (win0_5.rect t)).emb (ix2 y0 y1)) := by
    intro A
    symm
    blk_point [index_at t]
  exact key (argU m c)

/-- The second weights likewise. -/
theorem result_down (c : Dev nD) : (dats m 0 c).arrAt 6 cfg0.N = roundedDown m c := by
  refine (dats m 0 c).arrAt_eq_of_covers 6 _ (by decide +kernel) fun t _ y => ?_
  blk_simp
  rw [after0_6, (casts m c t).2]
  idx_vars y
  refine (show k0_pay3 (F := Ideal) (iblk m c 3 t) (ix2 y0 y1) = _ from down_blk m c t y0 y1).trans ?_
  have key : ∀ A : S8192x2048.Idx → EReal, A (ix2 (unitOf t y0) y1) = A (((View.whole main_v1_2).slice (win0_6.rect t)).emb (ix2 y0 y1)) := by
    intro A
    symm
    blk_point [index_at t]
  exact key (argD m c)

end Cert.MlpSIdeal.Own

end
-- ==== Proof.MlpS.Plain.lean ====
/- The plain feed-forward part of the samples, stage by stage, read on the extended reals. -/
module

public import proofs.«01_k».proof.Proof.Mlp.Rows
public import proofs.«01_k».proof.Proof.Gen.MlpSRefIdeal.Run
public import Idealize.ShloMosaic.Lib.Pointwise

@[expose] public section

set_option maxRecDepth 16384

noncomputable section

namespace Cert.MlpSRefIdeal.Own

open Idealize.ShloMosaic Idealize.ShloMosaic.TcCoe Idealize.ShloMosaic.Tactic Idealize.SL.Sem
open Cert.MlpSRefIdeal Cert.MlpSRefIdeal.Gen Cert.Feed

/-- The rows, each divided by its root mean square, times the gain. -/
def norms (h : FVec Ideal S512x2048 .f32) (g : FVec Ideal S2048 .f32) : FVec Ideal S512x2048 .f32 :=
  mulf (mulf h (broadcastInDim S512x2048 ![0, 1] bcast_S512x1_S512x2048_0_1 (Host.rsqrt (addf (Host.divf (broadcastInDim S512x1 ![0] bcast_S512_S512x1_0 (Host.reduceAdd (mulf h h) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32))))))
    (broadcastInDim S512x2048 ![0, 1] bcast_S1x2048_S512x2048_0_1 (broadcastInDim S1x2048 ![1] bcast_S2048_S1x2048_1 g))

/-- The positive parts of the products with the first weights. -/
def positive (n : FVec Ideal S512x2048 .f32) (w : FVec Ideal S2048x8192 .f32) : FVec Ideal S512x8192 .f32 :=
  maximumf (Host.dotGeneral dot_S512x2048_S2048x8192_S512x8192_1_0_0_1_n_n none n w) (broadcastInDim S512x8192 ![] bcast_S_S512x8192 (constant S_ .f32 0x00000000#32))

/-- The rows plus the squares' products with the second weights. -/
def total (h : FVec Ideal S512x2048 .f32) (p : FVec Ideal S512x8192 .f32) (w : FVec Ideal S8192x2048 .f32) : FVec Ideal S512x2048 .f32 :=
  addf h (Host.dotGeneral dot_S512x8192_S8192x2048_S512x2048_1_0_0_1_n_n none (mulf p p) w)

theorem norms_at (h : FVec Ideal S512x2048 .f32) (g : FVec Ideal S2048 .f32) (x : Fin 512) (k : Fin 2048) :
    norms h g (ix2 x k) = normed (fun i => h (ix2 x i)) (fun i => g (ix1 i)) k := by
  unfold norms normed
  pointwise []

theorem positive_at (n : FVec Ideal S512x2048 .f32) (w : FVec Ideal S2048x8192 .f32) (x : Fin 512) (u : Fin 8192) :
    positive n w (ix2 x u) = max (∑ k, n (ix2 x k) * w (ix2 k u)) (Ideal.ofBits .f32 0x00000000#32) := by
  unfold positive
  pointwise []

theorem total_at (h : FVec Ideal S512x2048 .f32) (p : FVec Ideal S512x8192 .f32) (w : FVec Ideal S8192x2048 .f32) (x : Fin 512) (y : Fin 2048) :
    total h p w (ix2 x y) = h (ix2 x y) + ∑ u, p (ix2 x u) * p (ix2 x u) * w (ix2 u y) := by
  unfold total
  pointwise []

/-- The three stages together, an entry at a time. -/
theorem entry (h : FVec Ideal S512x2048 .f32) (g : FVec Ideal S2048 .f32) (w1 : FVec Ideal S2048x8192 .f32) (w2 : FVec Ideal S8192x2048 .f32) (x : Fin 512) (y : Fin 2048) :
    total h (positive (norms h g) w1) w2 (ix2 x y) = fed (fun i => h (ix2 x i)) (fun i => g (ix1 i)) (fun k u => w1 (ix2 k u)) (fun u y => w2 (ix2 u y)) y := by
  rw [total_at]
  unfold fed unit squared
  refine congrArg (h (ix2 x y) + ·) (Finset.sum_congr rfl fun u _ => ?_)
  rw [positive_at]
  simp only [norms_at]

end Cert.MlpSRefIdeal.Own

end
-- ==== Proof.MlpS.Result.lean ====
/- The feed-forward part of the samples: its frames, and its three results against the plain program. -/
module

public import proofs.«01_k».proof.Defs
public import Idealize.ShloMosaic.Adequacy
public import Idealize.ShloMosaic.Init
public import proofs.«01_k».proof.Proof.Gen.MlpS.Frame
public import proofs.«01_k».proof.Proof.Gen.MlpSIdeal.Frame
public import proofs.«01_k».proof.Proof.MlpS.Points
public import proofs.«01_k».proof.Proof.MlpS.Plain

@[expose] public section

set_option maxRecDepth 16384

noncomputable section

namespace Cert.Proof

open Idealize.ShloMosaic Idealize.ShloMosaic.TcCoe Idealize.ShloMosaic.Tactic Idealize.SL.Sem

theorem frame_mlpS : Cert.quiescent_MlpS := fun m ρ _ => Cert.MlpS.Gen.frame m ρ

theorem frame_mlpSIdeal : Cert.quiescent_MlpSIdeal := fun m ρ _ => Cert.MlpSIdeal.Gen.frame m ρ

/-- The plain program declares no semaphore, and no operation writes an argument. -/
theorem frame_mlpSRef : Cert.quiescent_MlpSRefIdeal := fun m ρ _ =>
  (θ_run Cert.MlpSRefIdeal.defs _ _).mono (fun r h => ⟨fun c => (h c).2.2.2, Idealize.ShloMosaic.sem_eq_zero_of_no_sems (by decide) r.2⟩)
    (Cert.MlpSRefIdeal.Value.run (F := Ideal) m ρ)

theorem algebraic_mlpS : Cert.algebraic_MlpSIdeal_MlpSRefIdeal := by
  intro m ρ m' ρ' _ hagree
  refine ⟨Cert.MlpSIdeal.Own.fedRows m, Cert.MlpSIdeal.Own.roundedUp m, Cert.MlpSIdeal.Own.roundedDown m, ?_, ?_⟩
  · exact (θ_run Cert.MlpSIdeal.defs _ _).mono (fun r h c => ⟨(h c).1.trans (Cert.MlpSIdeal.Own.result m c), (h c).2.1.trans (Cert.MlpSIdeal.Own.result_up m c), (h c).2.2.1.trans (Cert.MlpSIdeal.Own.result_down m c), (h c).2.2.2⟩) (Cert.MlpSIdeal.Value.run_blocks m ρ)
  · refine (θ_run Cert.MlpSRefIdeal.defs _ _).mono (fun r h c => ⟨(h c).1.trans ?_, (h c).2.1.trans ?_, (h c).2.2.1.trans ?_, (h c).2.2.2⟩) (Cert.MlpSRefIdeal.Value.run (F := Ideal) m' ρ')
    · rw [(hagree c).1, (hagree c).2.1, (hagree c).2.2.1, (hagree c).2.2.2]
      funext i
      idx_vars i
      exact Cert.MlpSRefIdeal.Own.entry _ _ _ _ i0 i1
    · rw [(hagree c).2.2.1]
      rfl
    · rw [(hagree c).2.2.2]
      rfl

end Cert.Proof

end
-- ==== Proof.Out.Blocks.lean ====
/- The output projection: its blocks and its array, read on the extended reals. -/
module

public import proofs.«01_k».proof.Proof.Gen.OutIdeal.Value
public import Idealize.ShloMosaic.Lib.Pipeline.ValueKit
public import Idealize.ShloMosaic.Lib.WholeRead
public import Idealize.ShloMosaic.Lib.Pointwise

@[expose] public section

set_option maxRecDepth 16384

noncomputable section

namespace Cert.OutIdeal.Own

open Idealize.ShloMosaic Idealize.ShloMosaic.TcCoe Idealize.ShloMosaic.Tactic Idealize.SL.Sem
open Cert.OutIdeal.Gen

variable (m : (ℓ : Loc nD τ sig) → Buf (Elt Ideal) ℓ)

/-- The three arguments: the attention's output, the weights, the stream. -/
abbrev argO (c : Dev nD) : FVec Ideal S16384x2048 .bf16 := m ((c : Thread nD τ).loc main_arg0)
abbrev argW (c : Dev nD) : FVec Ideal S2048x2048 .f32 := m ((c : Thread nD τ).loc main_arg1)
abbrev argH (c : Dev nD) : FVec Ideal S16384x2048 .f32 := m ((c : Thread nD τ).loc main_arg2)

/-- The stream plus the product, an entry at a time. -/
def added (o : FVec Ideal S16384x2048 .bf16) (w : FVec Ideal S2048x2048 .f32) (h : FVec Ideal S16384x2048 .f32) (i : S16384x2048.Idx) : EReal :=
  h i + ∑ k : Fin 2048, o (ix2 (i 0) k) * w (ix2 k (i 1))

theorem index_at : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem points_lt (t : Fin cfg0.N) : t.val < 32 := lt_of_lt_of_eq t.isLt N_0

/-- The row of the array that row `x` of a point's block is. -/
abbrev rowOf (t : Fin cfg0.N) (x : Fin 512) : Fin 16384 := ⟨512 * t.val + x.val, by have := points_lt t; omega⟩

/-- The weights as the host rounds them. -/
theorem V_weights (c : Dev nD) : (V m c main_v0 : FVec Ideal S2048x2048 .bf16) = truncf .bf16 (argW m c) bitsLt_bf16_f32 := by
  show StableHlo.after hostOps0 _ _ = _
  after_results

theorem left_blk (c : Dev nD) (t : Fin cfg0.N) (x : Fin 512) (k : Fin 2048) : (iblk m c 0 t : FVec Ideal S512x2048 .bf16) (ix2 x k) = argO m c (ix2 (rowOf t x) k) := by
  unfold argO
  rw [← V_main_arg0 m c]
  blk_point [iblk, index_at t]

theorem weight_blk (c : Dev nD) (t : Fin cfg0.N) (k y : Fin 2048) : (iblk m c 1 t : FVec Ideal S2048x2048 .bf16) (ix2 k y) = argW m c (ix2 k y) := by
  refine Eq.trans ?_ (congrFun (V_weights m c) (ix2 k y))
  blk_point [iblk, index_at t]

theorem stream_blk (c : Dev nD) (t : Fin cfg0.N) (x : Fin 512) (y : Fin 2048) : (iblk m c 2 t : FVec Ideal S512x2048 .f32) (ix2 x y) = argH m c (ix2 (rowOf t x) y) := by
  unfold argH
  rw [← V_main_arg2 m c]
  blk_point [iblk, index_at t]

theorem block_at (v0 : FVec Ideal S512x2048 .f32) (v1 : FVec Ideal S512x2048 .bf16) (v2 : FVec Ideal S2048x2048 .bf16) (x : Fin 512) (y : Fin 2048) :
    k0_pay1 (F := Ideal) v0 v1 v2 (ix2 x y) = v0 (ix2 x y) + ∑ k : Fin 2048, v1 (ix2 x k) * v2 (ix2 k y) := by
  unfold k0_pay1
  pointwise []

/-- The block's contents are the one payload stored. -/
theorem block_eq (x0 : FVec Ideal S512x2048 .bf16) (x1 : FVec Ideal S2048x2048 .bf16) (x2 : FVec Ideal S512x2048 .f32) :
    out0_3 (F := Ideal) x0 x1 x2 = k0_pay1 (F := Ideal) x2 x0 x1 := by
  frame_out

/-- The array the launch leaves. -/
theorem result (c : Dev nD) : (dats m 0 c).arrAt 3 cfg0.N = added (argO m c) (argW m c) (argH m c) := by
  refine (dats m 0 c).arrAt_eq_of_covers 3 _ (by decide +kernel) fun t _ y => ?_
  blk_simp
  rw [after0_3, block_eq]
  idx_vars y
  rw [block_at]
  have key : ∀ A : S16384x2048.Idx → EReal, A (ix2 (rowOf t y0) y1) = A (((View.whole main_v1).slice (win0_3.rect t)).emb (ix2 y0 y1)) := by
    intro A
    symm
    blk_point [index_at t]
  refine Eq.trans ?_ (key (added (argO m c) (argW m c) (argH m c)))
  unfold added
  rw [stream_blk]
  refine congrArg (argH m c (ix2 (rowOf t y0) y1) + ·) (Finset.sum_congr rfl fun k _ => ?_)
  rw [left_blk, weight_blk]
  rfl

end Cert.OutIdeal.Own

end
-- ==== Proof.Out.Plain.lean ====
/- The plain output projection, read on the extended reals. -/
module

public import proofs.«01_k».proof.Proof.Gen.OutRefIdeal.Run
public import Idealize.ShloMosaic.Lib.Pointwise

@[expose] public section

set_option maxRecDepth 16384

noncomputable section

namespace Cert.OutRefIdeal.Own

open Idealize.ShloMosaic Idealize.ShloMosaic.TcCoe Idealize.ShloMosaic.Tactic Idealize.SL.Sem
open Cert.OutRefIdeal Cert.OutRefIdeal.Gen

theorem entry (o : FVec Ideal S16384x2048 .bf16) (w : FVec Ideal S2048x2048 .f32) (h : FVec Ideal S16384x2048 .f32) (x : Fin 16384) (y : Fin 2048) :
    addf h (Host.dotGeneral dot_S16384x2048_S2048x2048_S16384x2048_1_0_0_1_n_n none (extf .f32 o bitsLt_bf16_f32) w) (ix2 x y) = h (ix2 x y) + ∑ k : Fin 2048, o (ix2 x k) * w (ix2 k y) := by
  pointwise []

end Cert.OutRefIdeal.Own

end
-- ==== Proof.Out.Result.lean ====
/- The output projection: its frames, and its result against the plain program. -/
module

public import proofs.«01_k».proof.Defs
public import Idealize.ShloMosaic.Adequacy
public import Idealize.ShloMosaic.Init
public import proofs.«01_k».proof.Proof.Gen.Out.Frame
public import proofs.«01_k».proof.Proof.Gen.OutIdeal.Frame
public import proofs.«01_k».proof.Proof.Out.Blocks
public import proofs.«01_k».proof.Proof.Out.Plain

@[expose] public section

set_option maxRecDepth 16384

noncomputable section

namespace Cert.Proof

open Idealize.ShloMosaic Idealize.ShloMosaic.TcCoe Idealize.ShloMosaic.Tactic Idealize.SL.Sem

theorem frame_out : Cert.quiescent_Out := fun m ρ _ => Cert.Out.Gen.frame m ρ

theorem frame_outIdeal : Cert.quiescent_OutIdeal := fun m ρ _ => Cert.OutIdeal.Gen.frame m ρ

/-- The plain program declares no semaphore, and no operation writes an argument. -/
theorem frame_outRef : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

theorem algebraic_out : Cert.algebraic_OutIdeal_OutRefIdeal := by
  intro m ρ m' ρ' _ hagree
  refine ⟨fun c => Cert.OutIdeal.Own.added (Cert.OutIdeal.Own.argO m c) (Cert.OutIdeal.Own.argW m c) (Cert.OutIdeal.Own.argH m c), ?_, ?_⟩
  · exact (θ_run Cert.OutIdeal.defs _ _).mono (fun r h c => ⟨(h c).1.trans (Cert.OutIdeal.Own.result m c), (h c).2⟩) (Cert.OutIdeal.Value.run_blocks m ρ)
  · refine (θ_run Cert.OutRefIdeal.defs _ _).mono (fun r h c => ⟨(h c).1.trans ?_, (h c).2⟩) (Cert.OutRefIdeal.Value.run (F := Ideal) m' ρ')
    rw [(hagree c).1, (hagree c).2.1, (hagree c).2.2]
    funext i
    idx_vars i
    exact Cert.OutRefIdeal.Own.entry _ _ _ i0 i1

end Cert.Proof

end
-- ==== Proof.Kv.Rows.lean ====
/- A row of the key and value projection: its twelve heads' worth of columns, the keys of the selected and of the window part normed over their head. -/
module

public import proofs.«01_k».proof.Proof.Mlp.Rows
public import Idealize.ShloMosaic.Lib.Pointwise

@[expose] public section

set_option maxRecDepth 16384

noncomputable section

namespace Cert.Project

open Idealize.ShloMosaic Idealize.ShloMosaic.TcCoe Idealize.ShloMosaic.Tactic Idealize.SL.Sem
open Cert.Feed

/-- A head divided by its root mean square, times a gain. -/
def headed (y : Fin 128 → EReal) (g : EReal) (l : Fin 128) : EReal :=
  y l * Ideal.rsqrt (Ideal.div (∑ i, y i * y i) (Ideal.ofBits .f32 0x43000000#32) + Ideal.ofBits .f32 0x358637BD#32) * g

/-- Component `l` of head `p` of the normed row's product with the weights. -/
def proj (x g : Fin 2048 → EReal) (w : Fin 2048 → Fin 1536 → EReal) (p : Fin 12) (l : Fin 128) : EReal :=
  ∑ k, normed x g k * w k ⟨128 * p.val + l.val, by omega⟩

/-- The row's entry: heads 4 and 5 are normed with the one gain, heads 8 and 9 with the other, the rest stay. -/
def kv (x g : Fin 2048 → EReal) (w : Fin 2048 → Fin 1536 → EReal) (k1 k2 : Fin 128 → EReal) (p : Fin 12) (l : Fin 128) : EReal :=
  if p.val / 2 = 2 then headed (proj x g w p) (k1 l) l else if p.val / 2 = 4 then headed (proj x g w p) (k2 l) l else proj x g w p l

end Cert.Project

end
-- ==== Proof.Kv.Chunks.lean ====
/- The key and value projection's block: its 128-wide pieces, some of them normed over the head. -/
module

public import proofs.«01_k».proof.Proof.Kv.Rows
public import proofs.«01_k».proof.Proof.Gen.KvIdeal.Skeleton
public import Idealize.ShloMosaic.Lib.Pointwise
public import Idealize.ShloMosaic.Lib.Pipeline.Value

@[expose] public section

set_option maxRecDepth 16384

noncomputable section

namespace Cert.KvIdeal.Own

open Idealize.ShloMosaic Idealize.ShloMosaic.TcCoe Idealize.ShloMosaic.Tactic Idealize.SL.Sem
open Cert.KvIdeal.Gen Cert.Feed Cert.Project

/-- The piece at column `o`: normed over the head where the flag is positive, else as it is. -/
def piece (y : FVec Ideal S512x1536 .f32) (g f : FVec Ideal S1x1536 .f32) (o : ℕ) (h : S512x1536.Slices ![0, o] S512x128) (h' : S1x1536.Slices ![0, o] S1x128) :
    FVec Ideal S512x128 .f32 :=
  let v : FVec Ideal S512x128 .f32 := extractStridedSlice S512x128 ![0, o] y h
  let ms : FVec Ideal S512x1 .f32 := divf (shapeCast S512x1 (multiReduction .add [1] S512 (mulf v v) 0x00000000#32 reduces_S512x128_S512 (.inl rfl) rfl) shapeCasts_S512_S512x1) (broadcast S512x1 (Scalar.ofBits .f32 0x43000000#32))
  let r : FVec Ideal S512x1 .f32 := rsqrt (addf ms (broadcast S512x1 (Scalar.ofBits .f32 0x358637BD#32)))
  let n : FVec Ideal S512x128 .f32 := mulf (mulf v (broadcastTo S512x128 r broadcasts_S512x1_S512x128)) (broadcastTo S512x128 (extractStridedSlice S1x128 ![0, o] g h') broadcasts_S1x128_S512x128)
  select (broadcastTo S512x128 (shapeCast S1x128 (cmpf .ogt (extractStridedSlice S1x128 ![0, o] f h') (broadcast S1x128 (Scalar.ofBits .f32 0x00000000#32))) shapeCasts_S1x128_S1x128) broadcasts_S1x128_S512x128) n v

theorem piece_at (y : FVec Ideal S512x1536 .f32) (g f : FVec Ideal S1x1536 .f32) (o : ℕ) (h h') (ho : o + 128 ≤ 1536) (x : Fin 512) (l : Fin 128) :
    piece y g f o h h' (ix2 x l) = if 0 < f (ix2 0 ⟨o + l.val, by omega⟩) then headed (fun i => y (ix2 x ⟨o + i.val, by omega⟩)) (g (ix2 0 ⟨o + l.val, by omega⟩)) l
      else y (ix2 x ⟨o + l.val, by omega⟩) := by
  unfold piece headed
  pointwise []

/-- The twelve pieces. -/
def ps (y : FVec Ideal S512x1536 .f32) (g f : FVec Ideal S1x1536 .f32) : Fin 12 → FVec Ideal S512x128 .f32
  | 0 => piece y g f 0 slices_S512x1536_o0_0_S512x128 slices_S1x1536_o0_0_S1x128
  | 1 => piece y g f 128 slices_S512x1536_o0_128_S512x128 slices_S1x1536_o0_128_S1x128
  | 2 => piece y g f 256 slices_S512x1536_o0_256_S512x128 slices_S1x1536_o0_256_S1x128
  | 3 => piece y g f 384 slices_S512x1536_o0_384_S512x128 slices_S1x1536_o0_384_S1x128
  | 4 => piece y g f 512 slices_S512x1536_o0_512_S512x128 slices_S1x1536_o0_512_S1x128
  | 5 => piece y g f 640 slices_S512x1536_o0_640_S512x128 slices_S1x1536_o0_640_S1x128
  | 6 => piece y g f 768 slices_S512x1536_o0_768_S512x128 slices_S1x1536_o0_768_S1x128
  | 7 => piece y g f 896 slices_S512x1536_o0_896_S512x128 slices_S1x1536_o0_896_S1x128
  | 8 => piece y g f 1024 slices_S512x1536_o0_1024_S512x128 slices_S1x1536_o0_1024_S1x128
  | 9 => piece y g f 1152 slices_S512x1536_o0_1152_S512x128 slices_S1x1536_o0_1152_S1x128
  | 10 => piece y g f 1280 slices_S512x1536_o0_1280_S512x128 slices_S1x1536_o0_1280_S1x128
  | 11 => piece y g f 1408 slices_S512x1536_o0_1408_S512x128 slices_S1x1536_o0_1408_S1x128

/-- The pieces side by side. -/
def sides (y : FVec Ideal S512x1536 .f32) (g f : FVec Ideal S1x1536 .f32) : FVec Ideal S512x1536 .f32 :=
  concatenate S512x1536 1 (List.ofFn fun n : Fin 12 => ⟨S512x128, ps y g f n⟩) concatenates_S512x128_S512x128_S512x128_S512x128_S512x128_S512x128_S512x128_S512x128_S512x128_S512x128_S512x128_S512x128_S512x1536_d1

theorem piece_eq (y : FVec Ideal S512x1536 .f32) (g f : FVec Ideal S1x1536 .f32) (p : Fin 12) (x : Fin 512) (l : Fin 128) :
    ps y g f p (ix2 x l) = if 0 < f (ix2 0 ⟨128 * p.val + l.val, by omega⟩) then headed (fun i => y (ix2 x ⟨128 * p.val + i.val, by omega⟩)) (g (ix2 0 ⟨128 * p.val + l.val, by omega⟩)) l
      else y (ix2 x ⟨128 * p.val + l.val, by omega⟩) := by
  fin_cases p <;> exact piece_at y g f _ _ _ (by omega) x l

/-- Column `128 p + l` of the block is piece `p`'s column `l`. -/
theorem sides_at (y : FVec Ideal S512x1536 .f32) (g f : FVec Ideal S1x1536 .f32) (x : Fin 512) (p : Fin 12) (l : Fin 128) :
    sides y g f (ix2 x ⟨128 * p.val + l.val, by omega⟩) = ps y g f p (ix2 x l) := by
  unfold sides
  refine concatenate_ofFn_apply (t := S512x1536) (s₁ := S512x128) 1 (ps y g f) _ rfl 128 rfl _ p ?_ (ix2 x l) ?_ ?_
  · show (128 * p.val + l.val) / 128 = p.val; omega
  · show l.val = (128 * p.val + l.val) % 128; omega
  · intro b hb
    fin_cases b
    · rfl
    · exact absurd rfl hb

/-- The block the kernel puts together is the pieces side by side. -/
theorem block_eq (v3 : Vec Ideal S512x2048 .bf16) (v4 : Vec Ideal S2048x1536 .bf16) (v7 v9 : Vec Ideal S1x1536 .f32) :
    k0_pay32 (F := Ideal) (k0_pay7 v7) (k0_pay8 v9) (k0_pay9 v3 v4 v7 v9) (k0_pay12 (k0_pay7 v7) (k0_pay8 v9) (k0_pay10 v3 v4) (k0_pay11 v3 v4)) (k0_pay13 (k0_pay6 v3 v4) (k0_pay7 v7) (k0_pay8 v9)) (k0_pay17 (k0_pay14 (k0_pay6 v3 v4)) (k0_pay15 (k0_pay6 v3 v4) (k0_pay7 v7)) (k0_pay16 (k0_pay8 v9))) (k0_pay18 (k0_pay6 v3 v4) (k0_pay7 v7) (k0_pay8 v9)) (k0_pay19 (k0_pay6 v3 v4) (k0_pay7 v7) (k0_pay8 v9)) (k0_pay22 (k0_pay7 v7) (k0_pay8 v9) (k0_pay20 (k0_pay6 v3 v4)) (k0_pay21 (k0_pay6 v3 v4))) (k0_pay23 (k0_pay6 v3 v4) (k0_pay7 v7) (k0_pay8 v9)) (k0_pay27 (k0_pay24 (k0_pay6 v3 v4)) (k0_pay25 (k0_pay6 v3 v4) (k0_pay7 v7)) (k0_pay26 (k0_pay8 v9))) (k0_pay28 (k0_pay6 v3 v4) (k0_pay7 v7) (k0_pay8 v9)) (k0_pay29 (k0_pay6 v3 v4) (k0_pay7 v7) (k0_pay8 v9)) (k0_pay30 (k0_pay6 v3 v4)) (k0_pay31 (k0_pay6 v3 v4)) = sides (k0_pay6 v3 v4) (k0_pay7 v7) (k0_pay8 v9) := rfl

theorem norm_at (v : Vec Ideal S512x2048 .f32) (g : Vec Ideal S1x2048 .f32) (x : Fin 512) (k : Fin 2048) :
    k0_pay5 (F := Ideal) v g (ix2 x k) = normed (fun i => v (ix2 x i)) (fun i => g (ix2 0 i)) k := by
  unfold k0_pay5 normed
  pointwise []

theorem product_at (v3 : Vec Ideal S512x2048 .bf16) (v4 : Vec Ideal S2048x1536 .bf16) (x : Fin 512) (j : Fin 1536) :
    k0_pay6 (F := Ideal) v3 v4 (ix2 x j) = ∑ k : Fin 2048, v3 (ix2 x k) * v4 (ix2 k j) := by
  unfold k0_pay6
  pointwise []

theorem gain_row (v : Vec Ideal S1x1536 .f32) : k0_pay7 (F := Ideal) v = v := by
  funext i; idx_vars i
  unfold k0_pay7
  pointwise []

theorem flag_row (v : Vec Ideal S1x1536 .f32) : k0_pay8 (F := Ideal) v = v := by
  funext i; idx_vars i
  unfold k0_pay8
  pointwise []

end Cert.KvIdeal.Own

end
-- ==== Proof.Kv.Host.lean ====
/- What the host prepares for the key and value projection, and what a point's blocks hold of it. -/
module

public import proofs.«01_k».proof.Proof.Kv.Chunks
public import proofs.«01_k».proof.Proof.Gen.KvIdeal.Frame
public import Idealize.ShloMosaic.Lib.Pipeline.ValueKit
public import Idealize.ShloMosaic.Lib.WholeRead

@[expose] public section

set_option maxRecDepth 16384

noncomputable section

namespace Cert.KvIdeal.Own

open Idealize.ShloMosaic Idealize.ShloMosaic.TcCoe Idealize.ShloMosaic.Tactic Idealize.SL.Sem
open Cert.KvIdeal.Gen Cert.Feed Cert.Project

variable (m : (ℓ : Loc nD τ sig) → Buf (Elt Ideal) ℓ)

/-- The four arguments of the launch, as functions of their coordinates. -/
def rows (c : Dev nD) (r : Fin 16384) (k : Fin 2048) : EReal :=
  (m ((c : Thread nD τ).loc main_arg0) : FVec Ideal S8x2048x2048 .f32) (ix3 ⟨r.val / 2048, by omega⟩ ⟨r.val % 2048, by omega⟩ k)
def gamma (c : Dev nD) (k : Fin 2048) : EReal := (m ((c : Thread nD τ).loc main_arg1) : FVec Ideal S2x2048 .f32) (ix2 0 k)
def weight (c : Dev nD) (k : Fin 2048) (j : Fin 1536) : EReal :=
  (m ((c : Thread nD τ).loc main_arg2) : FVec Ideal S1x2048x3632 .f32) (ix3 0 k ⟨2048 + j.val, by omega⟩)
def keyGain (c : Dev nD) (s : Fin 3) (l : Fin 128) : EReal := (m ((c : Thread nD τ).loc main_arg3) : FVec Ideal S1x3x128 .f32) (ix3 0 s l)

theorem index_at : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0, 0] :=
  (by decide +kernel : ∀ t : Fin grid0.N, _)

theorem points_lt (t : Fin cfg0.N) : t.val < 32 := lt_of_lt_of_eq t.isLt N_0

/-- The row of the array that row `x` of a point's block is. -/
abbrev rowOf (t : Fin cfg0.N) (x : Fin 512) : Fin 16384 := ⟨512 * t.val + x.val, by have := points_lt t; omega⟩

/-- The rows laid out in one run. -/
theorem V_rows (c : Dev nD) (r : Fin 16384) (k : Fin 2048) : (V m c main_v18 : FVec Ideal S16384x2048 .f32) (ix2 r k) = rows m c r k := by
  have e : (V m c main_v18 : FVec Ideal S16384x2048 .f32) = shapeCast S16384x2048 (m ((c : Thread nD τ).loc main_arg0)) shapeCasts_S8x2048x2048_S16384x2048 := by
    show StableHlo.after hostOps0 _ _ = _
    after_results
    rfl
  rw [e]
  unfold rows
  refine shapeCast_apply _ _ _ (ix3 ⟨r.val / 2048, by omega⟩ ⟨r.val % 2048, by omega⟩ k) ?_
  rw [Shape.rowMajor_val_two, Shape.rowMajor_val_three]
  show (r.val / 2048 * 2048 + r.val % 2048) * 2048 + k.val = r.val * 2048 + k.val
  omega

theorem V_gamma (c : Dev nD) (k : Fin 2048) : (V m c main_v21 : FVec Ideal S1x2048 .f32) (ix2 0 k) = gamma m c k := by
  have e : (V m c main_v21 : FVec Ideal S1x2048 .f32) = shapeCast S1x2048 (shapeCast S2048 (extractStridedSlice S1x2048 ![0, 0] (m ((c : Thread nD τ).loc main_arg1)) slices_S2x2048_S1x2048_0_0) shapeCasts_S1x2048_S2048) shapeCasts_S2048_S1x2048 := by
    show StableHlo.after hostOps0 _ _ = _
    after_results
    rfl
  rw [e]
  unfold gamma
  pointwise []

theorem V_weight (c : Dev nD) (k : Fin 2048) (j : Fin 1536) : (V m c main_v17 : FVec Ideal S2048x1536 .bf16) (ix2 k j) = weight m c k j := by
  have e : (V m c main_v17 : FVec Ideal S2048x1536 .bf16) = (truncf .bf16 (extractStridedSlice S2048x1536 ![0, 2048] (shapeCast S2048x3632 (m ((c : Thread nD τ).loc main_arg2) : FVec Ideal S1x2048x3632 .f32) shapeCasts_S1x2048x3632_S2048x3632) slices_S2048x3632_S2048x1536_0_2048) bitsLt_bf16_f32 : FVec Ideal S2048x1536 .bf16) := by
    show StableHlo.after hostOps0 _ _ = _
    after_results
    rfl
  rw [e]
  have slice : ∀ B : FVec Ideal S2048x3632 .f32, truncf (F := Ideal) .bf16 (extractStridedSlice S2048x1536 ![0, 2048] B slices_S2048x3632_S2048x1536_0_2048 : FVec Ideal S2048x1536 .f32) bitsLt_bf16_f32 (ix2 k j)
      = B (ix2 k ⟨2048 + j.val, by omega⟩) := by
    intro B
    pointwise []
  refine (slice _).trans ?_
  unfold weight
  refine shapeCast_apply _ _ _ (ix3 0 k ⟨2048 + j.val, by omega⟩) ?_
  rw [Shape.rowMajor_val_two, Shape.rowMajor_val_three]
  show (0 * 2048 + k.val) * 3632 + (2048 + j.val) = k.val * 3632 + (2048 + j.val)
  omega

/-- A gain laid out for two heads. -/
def twice (A : FVec Ideal S1x3x128 .f32) (s : ℕ) (h : S3x128.Slices ![s, 0] S1x128) : FVec Ideal S256 .f32 :=
  shapeCast S256 (broadcastInDim S2x128 ![0, 1] bcast_S1x128_S2x128_0_1 (shapeCast S1x128 (shapeCast S128 (extractStridedSlice S1x128 ![s, 0]
    (shapeCast S3x128 A shapeCasts_S1x3x128_S3x128) h) shapeCasts_S1x128_S128) shapeCasts_S128_S1x128)) shapeCasts_S2x128_S256

def ones : FVec Ideal S256 .f32 := broadcastInDim S256 ![] bcast_S_S256 (constant S_ .f32 0x3F800000#32)
def zeros : FVec Ideal S256 .f32 := broadcastInDim S256 ![] bcast_S_S256 (constant S_ .f32 0x00000000#32)

/-- The gains and the flags, 256 columns at a time. -/
def gains (A : FVec Ideal S1x3x128 .f32) : Fin 6 → FVec Ideal S256 .f32
  | 0 => ones
  | 1 => ones
  | 2 => twice A 1 slices_S3x128_S1x128_1_0
  | 3 => ones
  | 4 => twice A 2 slices_S3x128_S1x128_2_0
  | 5 => ones
def flags : Fin 6 → FVec Ideal S256 .f32
  | 0 => zeros
  | 1 => zeros
  | 2 => ones
  | 3 => zeros
  | 4 => ones
  | 5 => zeros

/-- Six runs of 256 columns as one row. -/
def row6 (f : Fin 6 → FVec Ideal S256 .f32) : FVec Ideal S1x1536 .f32 :=
  shapeCast S1x1536 (concatenate S1536 0 (List.ofFn fun n : Fin 6 => ⟨S256, f n⟩) concatenates_S256_S256_S256_S256_S256_S256_S1536_d0) shapeCasts_S1536_S1x1536

theorem row6_at (f : Fin 6 → FVec Ideal S256 .f32) (p : Fin 12) (l : Fin 128) :
    row6 f (ix2 0 ⟨128 * p.val + l.val, by omega⟩) = f ⟨p.val / 2, by omega⟩ (ix1 ⟨128 * (p.val % 2) + l.val, by omega⟩) := by
  have e : ∀ v : FVec Ideal S1536 .f32, shapeCast S1x1536 v shapeCasts_S1536_S1x1536 (ix2 0 ⟨128 * p.val + l.val, by omega⟩) = v (ix1 ⟨128 * p.val + l.val, by omega⟩) := by
    intro v
    pointwise []
  unfold row6
  rw [e]
  refine concatenate_ofFn_apply (t := S1536) (s₁ := S256) 0 f _ rfl 256 rfl _ ⟨p.val / 2, by omega⟩ ?_ _ ?_ ?_
  · show (128 * p.val + l.val) / 256 = p.val / 2; omega
  · show 128 * (p.val % 2) + l.val = (128 * p.val + l.val) % 256; omega
  · intro b hb
    fin_cases b
    exact absurd rfl hb

theorem V_gain (c : Dev nD) : (V m c main_v22 : FVec Ideal S1x1536 .f32) = row6 (gains (m ((c : Thread nD τ).loc main_arg3))) := by
  show StableHlo.after hostOps0 _ _ = _
  after_results
  rfl

theorem V_flag (c : Dev nD) : (V m c main_v23 : FVec Ideal S1x1536 .f32) = row6 flags := by
  show StableHlo.after hostOps0 _ _ = _
  after_results
  rfl

theorem ones_at (i : Fin 256) : ones (ix1 i) = 1 := by
  unfold ones
  pointwise []

theorem zeros_at (i : Fin 256) : zeros (ix1 i) = 0 := by
  unfold zeros
  pointwise []

theorem twice1_at (A : FVec Ideal S1x3x128 .f32) (g : Fin 2) (l : Fin 128) (h) : twice A 1 h (ix1 ⟨128 * g.val + l.val, by omega⟩) = A (ix3 0 1 l) := by
  unfold twice
  pointwise []

theorem twice2_at (A : FVec Ideal S1x3x128 .f32) (g : Fin 2) (l : Fin 128) (h) : twice A 2 h (ix1 ⟨128 * g.val + l.val, by omega⟩) = A (ix3 0 2 l) := by
  unfold twice
  pointwise []

theorem rows_blk (c : Dev nD) (t : Fin cfg0.N) (x : Fin 512) (k : Fin 2048) : (iblk m c 0 t : FVec Ideal S512x2048 .f32) (ix2 x k) = rows m c (rowOf t x) k := by
  rw [← V_rows]
  blk_point [iblk, index_at t]

theorem gamma_blk (c : Dev nD) (t : Fin cfg0.N) (k : Fin 2048) : (iblk m c 1 t : FVec Ideal S1x2048 .f32) (ix2 0 k) = gamma m c k := by
  rw [← V_gamma]
  blk_point [iblk, index_at t]

theorem weight_blk (c : Dev nD) (t : Fin cfg0.N) (k : Fin 2048) (j : Fin 1536) : (iblk m c 2 t : FVec Ideal S2048x1536 .bf16) (ix2 k j) = weight m c k j := by
  rw [← V_weight]
  blk_point [iblk, index_at t]

theorem gain_blk (c : Dev nD) (t : Fin cfg0.N) (j : Fin 1536) : (iblk m c 3 t : FVec Ideal S1x1536 .f32) (ix2 0 j) = row6 (gains (m ((c : Thread nD τ).loc main_arg3))) (ix2 0 j) := by
  rw [← V_gain]
  blk_point [iblk, index_at t]

theorem flag_blk (c : Dev nD) (t : Fin cfg0.N) (j : Fin 1536) : (iblk m c 4 t : FVec Ideal S1x1536 .f32) (ix2 0 j) = row6 flags (ix2 0 j) := by
  rw [← V_flag m c]
  blk_point [iblk, index_at t]

end Cert.KvIdeal.Own

end
-- ==== Proof.Kv.Points.lean ====
/- What the key and value projection stores at a point, and the arrays it leaves. -/
module

public import proofs.«01_k».proof.Proof.Kv.Host
public import Idealize.ShloMosaic.Lib.Pipeline.ReadBack

@[expose] public section

set_option maxRecDepth 16384

noncomputable section

namespace Cert.KvIdeal.Own

open Idealize.ShloMosaic Idealize.ShloMosaic.TcCoe Idealize.ShloMosaic.Tactic Idealize.SL.Sem
open Cert.KvIdeal.Gen Cert.Feed Cert.Project

variable (m : (ℓ : Loc nD τ sig) → Buf (Elt Ideal) ℓ)

/-- A point's block, its 1536 columns side by side. -/
def block (c : Dev nD) (t : Fin cfg0.N) : FVec Ideal S512x1536 .f32 :=
  sides (k0_pay6 (k0_pay5 (iblk m c 0 t) (iblk m c 1 t)) (iblk m c 2 t)) (k0_pay7 (iblk m c 3 t)) (k0_pay8 (iblk m c 4 t))

/-- A row's entry, from the arguments. -/
def kvAt (c : Dev nD) (r : Fin 16384) (p : Fin 12) (l : Fin 128) : EReal := kv (rows m c r) (gamma m c) (weight m c) (keyGain m c 1) (keyGain m c 2) p l

theorem proj_at (c : Dev nD) (t : Fin cfg0.N) (x : Fin 512) (p : Fin 12) (l : Fin 128) :
    k0_pay6 (F := Ideal) (k0_pay5 (iblk m c 0 t) (iblk m c 1 t)) (iblk m c 2 t) (ix2 x ⟨128 * p.val + l.val, by omega⟩) = proj (rows m c (rowOf t x)) (gamma m c) (weight m c) p l := by
  rw [product_at]
  unfold proj
  refine Finset.sum_congr rfl fun k _ => ?_
  rw [norm_at, weight_blk]
  refine congrArg (· * _) (congrArg₂ (fun f g => normed f g k) (funext fun i => ?_) (funext fun i => ?_))
  · exact rows_blk m c t x i
  · exact gamma_blk m c t i

/-- Where the flag is set the head is normed, with the gain of its part. -/
theorem chosen (A : FVec Ideal S1x3x128 .f32) (y : Fin 128 → EReal) (z : EReal) (q : Fin 6) (g : Fin 2) (l : Fin 128) :
    (if 0 < flags q (ix1 ⟨128 * g.val + l.val, by omega⟩) then headed y (gains A q (ix1 ⟨128 * g.val + l.val, by omega⟩)) l else z)
      = if q.val = 2 then headed y (A (ix3 0 1 l)) l else if q.val = 4 then headed y (A (ix3 0 2 l)) l else z := by
  have no : ∀ w : EReal, (if 0 < zeros (ix1 ⟨128 * g.val + l.val, by omega⟩) then w else z) = z := fun w => if_neg (by rw [zeros_at]; exact lt_irrefl _)
  have yes : ∀ w : EReal, (if 0 < ones (ix1 ⟨128 * g.val + l.val, by omega⟩) then w else z) = w := fun w => if_pos (by rw [ones_at]; exact zero_lt_one)
  fin_cases q
  · exact no _
  · exact no _
  · exact (yes _).trans (congrArg (headed y · l) (twice1_at A g l _))
  · exact no _
  · exact (yes _).trans (congrArg (headed y · l) (twice2_at A g l _))
  · exact no _

/-- Column `128 p + l` of the block's row `x`. -/
theorem block_at (c : Dev nD) (t : Fin cfg0.N) (x : Fin 512) (p : Fin 12) (l : Fin 128) :
    block m c t (ix2 x ⟨128 * p.val + l.val, by omega⟩) = kvAt m c (rowOf t x) p l := by
  unfold block
  rw [sides_at, piece_eq, gain_row, flag_row, gain_blk, flag_blk, row6_at, row6_at]
  simp only [proj_at]
  exact chosen _ _ _ ⟨p.val / 2, by omega⟩ ⟨p.val % 2, by omega⟩ l

theorem outs_5 (c : Dev nD) (t : Fin cfg0.N) : (outsAt0 m c t).1 = extractStridedSlice S512x1024 ![0, 0] (block m c t) slices_S512x1536_o0_0_S512x1024 := by
  unfold outsAt0
  frame_out
  rfl

theorem outs_6 (c : Dev nD) (t : Fin cfg0.N) : (outsAt0 m c t).2.1 = extractStridedSlice S512x512 ![0, 1024] (block m c t) slices_S512x1536_o0_1024_S512x512 := by
  unfold outsAt0
  frame_out
  rfl

/-- The eight pieces of the third output's block, in the order they are stored, last first. -/
def offs (k : Fin 8) : Fin 3 → ℕ := ![0, 7 - k.val, 0]
theorem offs_in (k : Fin 8) : ∀ a, offs k a + ![512, 1, 128] a ≤ S512x8x128.size a := by
  intro a
  fin_cases a
  · show 0 + 512 ≤ 512; omega
  · show 7 - k.val + 1 ≤ 8; omega
  · show 0 + 128 ≤ 128; omega
def col (Y : FVec Ideal S512x1536 .f32) : Fin 8 → FVec Ideal S512x1x128 .f32
  | 0 => k0_pay4 Y
  | 1 => k0_pay3 Y
  | 2 => k0_pay2 Y
  | 3 => k0_pay1 (extractStridedSlice S512x128 ![0, 512] Y slices_S512x1536_o0_512_S512x128)
  | 4 => shapeCast S512x1x128 (extractStridedSlice S512x128 ![0, 384] Y slices_S512x1536_o0_384_S512x128) shapeCasts_S512x128_S512x1x128
  | 5 => shapeCast S512x1x128 (extractStridedSlice S512x128 ![0, 256] Y slices_S512x1536_o0_256_S512x128) shapeCasts_S512x128_S512x1x128
  | 6 => shapeCast S512x1x128 (extractStridedSlice S512x128 ![0, 128] Y slices_S512x1536_o0_128_S512x128) shapeCasts_S512x128_S512x1x128
  | 7 => shapeCast S512x1x128 (extractStridedSlice S512x128 ![0, 0] Y slices_S512x1536_o0_0_S512x128) shapeCasts_S512x128_S512x1x128

theorem col_at (Y : FVec Ideal S512x1536 .f32) (k : Fin 8) (x : Fin 512) (l : Fin 128) :
    col Y k (ix3 x 0 l) = Y (ix2 x ⟨128 * (7 - k.val) + l.val, by omega⟩) := by
  have key : ∀ (o : ℕ) (h : S512x1536.Slices ![0, o] S512x128) (ho : o + 128 ≤ 1536),
      shapeCast S512x1x128 (extractStridedSlice S512x128 ![0, o] Y h) shapeCasts_S512x128_S512x1x128 (ix3 x 0 l) = Y (ix2 x ⟨o + l.val, by omega⟩) := by
    intro o h ho
    pointwise []
  fin_cases k
  · exact key 896 slices_S512x1536_o0_896_S512x128 (by decide)
  · exact key 768 slices_S512x1536_o0_768_S512x128 (by decide)
  · exact key 640 slices_S512x1536_o0_640_S512x128 (by decide)
  · exact key 512 slices_S512x1536_o0_512_S512x128 (by decide)
  · exact key 384 slices_S512x1536_o0_384_S512x128 (by decide)
  · exact key 256 slices_S512x1536_o0_256_S512x128 (by decide)
  · exact key 128 slices_S512x1536_o0_128_S512x128 (by decide)
  · exact key 0 slices_S512x1536_o0_0_S512x128 (by decide)

theorem outs_7 (c : Dev nD) (t : Fin cfg0.N) : (outsAt0 m c t).2.2
    = View.canon (List.ofFn fun k : Fin 8 => (⟨Rect.unit (offs k) ![512, 1, 128] (offs_in k), col (block m c t) k⟩ : View.Piece (Elt Ideal) S512x8x128 .f32)) := by
  unfold outsAt0
  frame_out
  rfl

theorem out7_at (c : Dev nD) (t : Fin cfg0.N) (x : Fin 512) (p : Fin 8) (l : Fin 128) :
    (outsAt0 m c t).2.2 (ix3 x p l) = block m c t (ix2 x ⟨128 * p.val + l.val, by omega⟩) := by
  rw [outs_7]
  refine View.canon_ofFn_unit_eq_of_forall _ _ _ _ _ _ ?_ ?_
  · refine ⟨⟨7 - p.val, by omega⟩, fun a => ?_⟩
    fin_cases a
    · show 0 ≤ x.val ∧ x.val < 0 + 512; omega
    · show 7 - (7 - p.val) ≤ p.val ∧ p.val < 7 - (7 - p.val) + 1; omega
    · show 0 ≤ l.val ∧ l.val < 0 + 128; omega
  · intro k z hz
    have h0 : x.val = 0 + (z 0).val := hz 0
    have h1 : p.val = 7 - k.val + (z 1).val := hz 1
    have h2 : l.val = 0 + (z 2).val := hz 2
    have hz1 : (z 1).val < 1 := (z 1).isLt
    have ez : z = ix3 x 0 l := by
      funext a; fin_cases a <;> apply Fin.ext
      · show (z 0).val = x.val; omega
      · show (z 1).val = 0; omega
      · show (z 2).val = l.val; omega
    rw [ez]
    refine (col_at _ k x l).trans (congrArg (fun j => block m c t (ix2 x j)) (Fin.ext ?_))
    show 128 * (7 - k.val) + l.val = 128 * p.val + l.val
    omega

/-- The three arrays the launch leaves, an entry at a time. -/
def firstRows (c : Dev nD) : S16384x1024.Idx → EReal := fun i => kvAt m c (i 0) ⟨(i 1).val / 128, by have h : (i 1).val < 1024 := (i 1).isLt; omega⟩ ⟨(i 1).val % 128, by omega⟩
def windowRows (c : Dev nD) : S16384x512.Idx → EReal := fun i => kvAt m c (i 0) ⟨8 + (i 1).val / 128, by have h : (i 1).val < 512 := (i 1).isLt; omega⟩ ⟨(i 1).val % 128, by omega⟩
def splitRows (c : Dev nD) : S16384x8x128.Idx → EReal := fun i => kvAt m c (i 0) ⟨(i 1).val, by have h : (i 1).val < 8 := (i 1).isLt; omega⟩ (i 2)

theorem result_5 (c : Dev nD) : (dats m 0 c).arrAt 5 cfg0.N = firstRows m c := by
  refine (dats m 0 c).arrAt_eq_of_covers 5 _ (by decide +kernel) fun t _ y => ?_
  blk_simp
  rw [after0_5, outs_5]
  idx_vars y
  have key : ∀ A : S16384x1024.Idx → EReal, A (ix2 (rowOf t y0) y1) = A (((View.whole main_v24_0).slice (win0_5.rect t)).emb (ix2 y0 y1)) := by
    intro A
    symm
    blk_point [index_at t]
  refine Eq.trans ?_ (key (firstRows m c))
  refine Eq.trans ?_ (block_at m c t y0 ⟨y1.val / 128, by omega⟩ ⟨y1.val % 128, by omega⟩)
  have e : ∀ Y : FVec Ideal S512x1536 .f32, extractStridedSlice S512x1024 ![0, 0] Y slices_S512x1536_o0_0_S512x1024 (ix2 y0 y1) = Y (ix2 y0 ⟨y1.val, by omega⟩) := by
    intro Y
    pointwise []
  refine (e _).trans (congrArg (fun j => block m c t (ix2 y0 j)) (Fin.ext ?_))
  show y1.val = 128 * (y1.val / 128) + y1.val % 128
  omega

theorem result_6 (c : Dev nD) : (dats m 0 c).arrAt 6 cfg0.N = windowRows m c := by
  refine (dats m 0 c).arrAt_eq_of_covers 6 _ (by decide +kernel) fun t _ y => ?_
  blk_simp
  rw [after0_6, outs_6]
  idx_vars y
  have key : ∀ A : S16384x512.Idx → EReal, A (ix2 (rowOf t y0) y1) = A (((View.whole main_v24_1).slice (win0_6.rect t)).emb (ix2 y0 y1)) := by
    intro A
    symm
    blk_point [index_at t]
  refine Eq.trans ?_ (key (windowRows m c))
  refine Eq.trans ?_ (block_at m c t y0 ⟨8 + y1.val / 128, by omega⟩ ⟨y1.val % 128, by omega⟩)
  have e : ∀ Y : FVec Ideal S512x1536 .f32, extractStridedSlice S512x512 ![0, 1024] Y slices_S512x1536_o0_1024_S512x512 (ix2 y0 y1) = Y (ix2 y0 ⟨1024 + y1.val, by omega⟩) := by
    intro Y
    pointwise []
  refine (e _).trans (congrArg (fun j => block m c t (ix2 y0 j)) (Fin.ext ?_))
  show 1024 + y1.val = 128 * (8 + y1.val / 128) + y1.val % 128
  omega

theorem result_7 (c : Dev nD) : (dats m 0 c).arrAt 7 cfg0.N = splitRows m c := by
  refine (dats m 0 c).arrAt_eq_of_covers 7 _ (by decide +kernel) fun t _ y => ?_
  blk_simp
  rw [after0_7]
  idx_vars y
  have key : ∀ A : S16384x8x128.Idx → EReal, A (ix3 (rowOf t y0) y1 y2) = A (((View.whole main_v24_2).slice (win0_7.rect t)).emb (ix3 y0 y1 y2)) := by
    intro A
    symm
    blk_point [index_at t]
  refine Eq.trans ?_ (key (splitRows m c))
  exact (out7_at m c t y0 y1 y2).trans (block_at m c t y0 ⟨y1.val, by omega⟩ y2)

/-- The two results the host lays out of these arrays. -/
def storedRows (c : Dev nD) : S1x8x2048x4x2x128.Idx → EReal := shapeCast S1x8x2048x4x2x128 (splitRows m c : FVec Ideal S16384x8x128 .f32) shapeCasts_S16384x8x128_S1x8x2048x4x2x128
def lastRows (c : Dev nD) : S1x8x512x2x2x128.Idx → EReal := extractStridedSlice S1x8x512x2x2x128 ![0, 0, 1536, 0, 0, 0]
  (shapeCast S1x8x2048x2x2x128 (windowRows m c : FVec Ideal S16384x512 .f32) shapeCasts_S16384x512_S1x8x2048x2x2x128) slices_S1x8x2048x2x2x128_S1x8x512x2x2x128_0_0_1536_0_0_0

theorem tail_25 (c : Dev nD) : Pipeline.afterTail₀ cfgs (dats m) 0 (V0 m) [hostOps1] c main_v25 = storedRows m c := by
  unfold Pipeline.afterTail₀
  show StableHlo.after hostOps1 _ _ = _
  after_results
  have e := (Pipeline.withArrays_arr spec0 (by decide) c (V0 m c) (fun w => (dats m 0 c).arrAt w cfg0.N) 7).trans (result_7 m c)
  exact congrArg (fun A : FVec Ideal S16384x8x128 .f32 => shapeCast S1x8x2048x4x2x128 A shapeCasts_S16384x8x128_S1x8x2048x4x2x128) e

theorem tail_27 (c : Dev nD) : Pipeline.afterTail₀ cfgs (dats m) 0 (V0 m) [hostOps1] c main_v27 = lastRows m c := by
  unfold Pipeline.afterTail₀
  show StableHlo.after hostOps1 _ _ = _
  after_results
  have e := (Pipeline.withArrays_arr spec0 (by decide) c (V0 m c) (fun w => (dats m 0 c).arrAt w cfg0.N) 6).trans (result_6 m c)
  unfold lastRows
  refine congrArg (fun Z : FVec Ideal S1x8x2048x2x2x128 .f32 => extractStridedSlice S1x8x512x2x2x128 ![0, 0, 1536, 0, 0, 0] Z slices_S1x8x2048x2x2x128_S1x8x512x2x2x128_0_0_1536_0_0_0) ?_
  exact congrArg (fun A : FVec Ideal S16384x512 .f32 => shapeCast S1x8x2048x2x2x128 A shapeCasts_S16384x512_S1x8x2048x2x2x128) e

/-- Entry `(b, t, s, g, l)` of the stored rows, and of the window's last rows. -/
theorem stored_at (c : Dev nD) (b : Fin 8) (t : Fin 2048) (s : Fin 4) (g : Fin 2) (l : Fin 128) :
    storedRows m c (ix6 0 b t s g l) = kvAt m c ⟨2048 * b.val + t.val, by omega⟩ ⟨2 * s.val + g.val, by omega⟩ l := by
  have e : ∀ A : FVec Ideal S16384x8x128 .f32, shapeCast S1x8x2048x4x2x128 A shapeCasts_S16384x8x128_S1x8x2048x4x2x128 (ix6 0 b t s g l)
      = A (ix3 ⟨2048 * b.val + t.val, by omega⟩ ⟨2 * s.val + g.val, by omega⟩ l) := by
    intro A
    pointwise []
    exact congrArg A (congrArg₂ (fun a b => ix3 a b l) (Fin.ext (by show b.val * 2048 + t.val = 2048 * b.val + t.val; omega)) (Fin.ext (by show s.val * 2 + g.val = 2 * s.val + g.val; omega)))
  exact e _

theorem last_at (c : Dev nD) (b : Fin 8) (t : Fin 512) (s : Fin 2) (g : Fin 2) (l : Fin 128) :
    lastRows m c (ix6 0 b t s g l) = kvAt m c ⟨2048 * b.val + (1536 + t.val), by omega⟩ ⟨8 + (2 * s.val + g.val), by omega⟩ l := by
  have e : ∀ A : FVec Ideal S16384x512 .f32, extractStridedSlice S1x8x512x2x2x128 ![0, 0, 1536, 0, 0, 0] (shapeCast S1x8x2048x2x2x128 A shapeCasts_S16384x512_S1x8x2048x2x2x128) slices_S1x8x2048x2x2x128_S1x8x512x2x2x128_0_0_1536_0_0_0 (ix6 0 b t s g l)
      = A (ix2 ⟨2048 * b.val + (1536 + t.val), by omega⟩ ⟨128 * (2 * s.val + g.val) + l.val, by omega⟩) := by
    intro A
    pointwise []
    exact congrArg A (congrArg₂ (fun a b => ix2 a b) (Fin.ext (by show b.val * 2048 + (1536 + t.val) = 2048 * b.val + (1536 + t.val); omega)) (Fin.ext (by show s.val * 256 + g.val * 128 + l.val = 128 * (2 * s.val + g.val) + l.val; omega)))
  refine (e _).trans ?_
  unfold windowRows
  refine congrArg₂ (fun p l => kvAt m c _ p l) (Fin.ext ?_) (Fin.ext ?_)
  · show 8 + (128 * (2 * s.val + g.val) + l.val) / 128 = 8 + (2 * s.val + g.val); omega
  · show (128 * (2 * s.val + g.val) + l.val) % 128 = l.val; omega

end Cert.KvIdeal.Own

end
-- ==== Proof.Kv.Plain.lean ====
/- The plain key and value projection, read on the extended reals. -/
module

public import proofs.«01_k».proof.Proof.Kv.Rows
public import proofs.«01_k».proof.Proof.Gen.KvRefIdeal.Run
public import Idealize.ShloMosaic.Lib.Pointwise
public import Idealize.ShloMosaic.Lib.Pipeline.Value

@[expose] public section

set_option maxRecDepth 16384

noncomputable section

namespace Cert.KvRefIdeal.Own

open Idealize.ShloMosaic Idealize.ShloMosaic.TcCoe Idealize.ShloMosaic.Tactic Idealize.SL.Sem
open Cert.KvRefIdeal Cert.KvRefIdeal.Gen Cert.Feed Cert.Project

/-- The normed rows. -/
def xn (A0 : FVec Ideal S8x2048x2048 .f32) (A1 : FVec Ideal S2x2048 .f32) : FVec Ideal S8x2048x2048 .f32 :=
  mulf (mulf A0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf A0 A0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 (shapeCast S2048 (extractStridedSlice S1x2048 ![0, 0] A1 slices_S2x2048_S1x2048_0_0) shapeCasts_S1x2048_S2048)))

/-- The six parts of the product, each of two heads of 128. -/
def six (X : FVec Ideal S8x2048x2048 .f32) (W : FVec Ideal S2048x3632 .f32) : FVec Ideal S8x2048x6x2x128 .f32 :=
  shapeCast S8x2048x6x2x128 (extractStridedSlice S8x2048x1536 ![0, 0, 2048] (Host.dotGeneral dot_S8x2048x2048_S2048x3632_S8x2048x3632_2_0_01_1_n_n none X W) slices_S8x2048x3632_S8x2048x1536_0_0_2048) shapeCasts_S8x2048x1536_S8x2048x6x2x128

def part (y : FVec Ideal S8x2048x6x2x128 .f32) (s : ℕ) (h : S8x2048x6x2x128.Slices ![0, 0, s, 0, 0] S8x2048x1x2x128) : FVec Ideal S8x2048x2x128 .f32 :=
  shapeCast S8x2048x2x128 (extractStridedSlice S8x2048x1x2x128 ![0, 0, s, 0, 0] y h) shapeCasts_S8x2048x1x2x128_S8x2048x2x128

/-- A part normed over its heads. -/
def heads (v : FVec Ideal S8x2048x2x128 .f32) (A3 : FVec Ideal S1x3x128 .f32) (s : ℕ) (h : S1x3x128.Slices ![0, s, 0] S1x1x128) : FVec Ideal S8x2048x2x128 .f32 :=
  mulf (mulf v (broadcastInDim S8x2048x2x128 ![0, 1, 2, 3] bcast_S8x2048x2x1_S8x2048x2x128_0_1_2_3 (Host.rsqrt (addf (Host.divf (broadcastInDim S8x2048x2x1 ![0, 1, 2] bcast_S8x2048x2_S8x2048x2x1_0_1_2 (Host.reduceAdd (mulf v v) (constant S_ .f32 0x00000000#32) reducesTo_S8x2048x2x128_S8x2048x2_d3 h_S_)) (broadcastInDim S8x2048x2x1 ![] bcast_S_S8x2048x2x1 (constant S_ .f32 0x43000000#32))) (broadcastInDim S8x2048x2x1 ![] bcast_S_S8x2048x2x1 (constant S_ .f32 0x358637BD#32))))))
    (broadcastInDim S8x2048x2x128 ![0, 1, 2, 3] bcast_S1x1x1x128_S8x2048x2x128_0_1_2_3 (broadcastInDim S1x1x1x128 ![3] bcast_S128_S1x1x1x128_3 (shapeCast S128 (extractStridedSlice S1x1x128 ![0, s, 0] A3 h) shapeCasts_S1x1x128_S128)))

def lay (v : FVec Ideal S8x2048x2x128 .f32) : FVec Ideal S8x2048x1x2x128 .f32 := broadcastInDim S8x2048x1x2x128 ![0, 1, 3, 4] bcast_S8x2048x2x128_S8x2048x1x2x128_0_1_3_4 v

/-- The four parts stored, and the two of the window. -/
def stored (y : FVec Ideal S8x2048x6x2x128 .f32) (A3 : FVec Ideal S1x3x128 .f32) : Fin 4 → FVec Ideal S8x2048x2x128 .f32
  | 0 => part y 0 slices_S8x2048x6x2x128_S8x2048x1x2x128_0_0_0_0_0
  | 1 => part y 1 slices_S8x2048x6x2x128_S8x2048x1x2x128_0_0_1_0_0
  | 2 => heads (part y 2 slices_S8x2048x6x2x128_S8x2048x1x2x128_0_0_2_0_0) A3 1 slices_S1x3x128_S1x1x128_0_1_0
  | 3 => part y 3 slices_S8x2048x6x2x128_S8x2048x1x2x128_0_0_3_0_0
def windowed (y : FVec Ideal S8x2048x6x2x128 .f32) (A3 : FVec Ideal S1x3x128 .f32) : Fin 2 → FVec Ideal S8x2048x2x128 .f32
  | 0 => heads (part y 4 slices_S8x2048x6x2x128_S8x2048x1x2x128_0_0_4_0_0) A3 2 slices_S1x3x128_S1x1x128_0_2_0
  | 1 => part y 5 slices_S8x2048x6x2x128_S8x2048x1x2x128_0_0_5_0_0

def rowsOf (y : FVec Ideal S8x2048x6x2x128 .f32) (A3 : FVec Ideal S1x3x128 .f32) : FVec Ideal S8x2048x4x2x128 .f32 :=
  concatenate S8x2048x4x2x128 2 (List.ofFn fun n : Fin 4 => ⟨S8x2048x1x2x128, lay (stored y A3 n)⟩) concatenates_S8x2048x1x2x128_S8x2048x1x2x128_S8x2048x1x2x128_S8x2048x1x2x128_S8x2048x4x2x128_d2
def windowOf (y : FVec Ideal S8x2048x6x2x128 .f32) (A3 : FVec Ideal S1x3x128 .f32) : FVec Ideal S8x2048x2x2x128 .f32 :=
  concatenate S8x2048x2x2x128 2 (List.ofFn fun n : Fin 2 => ⟨S8x2048x1x2x128, lay (windowed y A3 n)⟩) concatenates_S8x2048x1x2x128_S8x2048x1x2x128_S8x2048x2x2x128_d2

theorem xn_at (A0 : FVec Ideal S8x2048x2048 .f32) (A1 : FVec Ideal S2x2048 .f32) (b : Fin 8) (t k : Fin 2048) :
    xn A0 A1 (ix3 b t k) = normed (fun i => A0 (ix3 b t i)) (fun i => A1 (ix2 0 i)) k := by
  unfold xn normed
  pointwise []

theorem product_at (X : FVec Ideal S8x2048x2048 .f32) (W : FVec Ideal S2048x3632 .f32) (b : Fin 8) (t : Fin 2048) (j : Fin 3632) :
    Host.dotGeneral (F := Ideal) dot_S8x2048x2048_S2048x3632_S8x2048x3632_2_0_01_1_n_n none X W (ix3 b t j) = ∑ k : Fin 2048, X (ix3 b t k) * W (ix2 k j) := by
  pointwise []

theorem six_at (X : FVec Ideal S8x2048x2048 .f32) (W : FVec Ideal S2048x3632 .f32) (b : Fin 8) (t : Fin 2048) (s : Fin 6) (g : Fin 2) (l : Fin 128) :
    six X W (ix5 b t s g l) = ∑ k : Fin 2048, X (ix3 b t k) * W (ix2 k ⟨2048 + (128 * (2 * s.val + g.val) + l.val), by omega⟩) := by
  refine Eq.trans ?_ (product_at X W b t ⟨2048 + (128 * (2 * s.val + g.val) + l.val), by omega⟩)
  unfold six
  generalize Host.dotGeneral (F := Ideal) dot_S8x2048x2048_S2048x3632_S8x2048x3632_2_0_01_1_n_n none X W = P
  have e : ∀ Z : FVec Ideal S8x2048x1536 .f32, shapeCast S8x2048x6x2x128 Z shapeCasts_S8x2048x1536_S8x2048x6x2x128 (ix5 b t s g l) = Z (ix3 b t ⟨128 * (2 * s.val + g.val) + l.val, by omega⟩) := by
    intro Z
    refine shapeCast_apply _ _ _ _ ?_
    rw [Shape.rowMajor_val_three, Shape.rowMajor_val_five]
    show (b.val * 2048 + t.val) * 1536 + (128 * (2 * s.val + g.val) + l.val) = (((b.val * 2048 + t.val) * 6 + s.val) * 2 + g.val) * 128 + l.val
    omega
  rw [e]
  pointwise []

theorem part_at (y : FVec Ideal S8x2048x6x2x128 .f32) (s : ℕ) (h) (hs : s < 6) (b : Fin 8) (t : Fin 2048) (g : Fin 2) (l : Fin 128) :
    part y s h (ix4 b t g l) = y (ix5 b t ⟨s, hs⟩ g l) := by
  unfold part
  have e : ∀ Z : FVec Ideal S8x2048x1x2x128 .f32, shapeCast S8x2048x2x128 Z shapeCasts_S8x2048x1x2x128_S8x2048x2x128 (ix4 b t g l) = Z (ix5 b t 0 g l) := by
    intro Z
    refine shapeCast_apply _ _ _ _ ?_
    rw [Shape.rowMajor_val_four, Shape.rowMajor_val_five]
    show (((b.val * 2048 + t.val) * 1 + 0) * 2 + g.val) * 128 + l.val = ((b.val * 2048 + t.val) * 2 + g.val) * 128 + l.val
    omega
  rw [e]
  pointwise []

theorem heads_at (v : FVec Ideal S8x2048x2x128 .f32) (A3 : FVec Ideal S1x3x128 .f32) (s : ℕ) (h) (hs : s < 3) (b : Fin 8) (t : Fin 2048) (g : Fin 2) (l : Fin 128) :
    heads v A3 s h (ix4 b t g l) = headed (fun i => v (ix4 b t g i)) (A3 (ix3 0 ⟨s, hs⟩ l)) l := by
  unfold heads headed
  pointwise []

theorem lay_at (v : FVec Ideal S8x2048x2x128 .f32) (b : Fin 8) (t : Fin 2048) (g : Fin 2) (l : Fin 128) : lay v (ix5 b t 0 g l) = v (ix4 b t g l) := by
  unfold lay
  pointwise []

theorem rowsOf_at (y : FVec Ideal S8x2048x6x2x128 .f32) (A3 : FVec Ideal S1x3x128 .f32) (b : Fin 8) (t : Fin 2048) (s : Fin 4) (g : Fin 2) (l : Fin 128) :
    rowsOf y A3 (ix5 b t s g l) = stored y A3 s (ix4 b t g l) := by
  refine Eq.trans ?_ (lay_at (stored y A3 s) b t g l)
  unfold rowsOf
  refine concatenate_ofFn_unit_apply (t := S8x2048x4x2x128) (s₁ := S8x2048x1x2x128) 2 (fun n => lay (stored y A3 n)) _ rfl rfl _ s rfl (ix5 b t 0 g l) ?_
  intro a ha
  fin_cases a
  · rfl
  · rfl
  · exact absurd rfl ha
  · rfl
  · rfl

theorem windowOf_at (y : FVec Ideal S8x2048x6x2x128 .f32) (A3 : FVec Ideal S1x3x128 .f32) (b : Fin 8) (t : Fin 2048) (s : Fin 2) (g : Fin 2) (l : Fin 128) :
    windowOf y A3 (ix5 b t s g l) = windowed y A3 s (ix4 b t g l) := by
  refine Eq.trans ?_ (lay_at (windowed y A3 s) b t g l)
  unfold windowOf
  refine concatenate_ofFn_unit_apply (t := S8x2048x2x2x128) (s₁ := S8x2048x1x2x128) 2 (fun n => lay (windowed y A3 n)) _ rfl rfl _ s rfl (ix5 b t 0 g l) ?_
  intro a ha
  fin_cases a
  · rfl
  · rfl
  · exact absurd rfl ha
  · rfl
  · rfl

/-- The weights' matrix, read. -/
theorem mat_at (A2 : FVec Ideal S1x2048x3632 .f32) (k : Fin 2048) (j : Fin 3632) : shapeCast S2048x3632 A2 shapeCasts_S1x2048x3632_S2048x3632 (ix2 k j) = A2 (ix3 0 k j) := by
  refine shapeCast_apply _ _ _ _ ?_
  rw [Shape.rowMajor_val_two, Shape.rowMajor_val_three]
  show (0 * 2048 + k.val) * 3632 + j.val = k.val * 3632 + j.val
  omega

/-- The six parts, from the arguments. -/
def sixOf (A0 : FVec Ideal S8x2048x2048 .f32) (A1 : FVec Ideal S2x2048 .f32) (A2 : FVec Ideal S1x2048x3632 .f32) : FVec Ideal S8x2048x6x2x128 .f32 :=
  six (xn A0 A1) (shapeCast S2048x3632 A2 shapeCasts_S1x2048x3632_S2048x3632)

variable (A0 : FVec Ideal S8x2048x2048 .f32) (A1 : FVec Ideal S2x2048 .f32) (A2 : FVec Ideal S1x2048x3632 .f32) (A3 : FVec Ideal S1x3x128 .f32)

/-- An entry of head `p` at position `t` of sequence `b`, from the arguments. -/
def kvOf (b : Fin 8) (t : Fin 2048) (p : Fin 12) (l : Fin 128) : EReal :=
  kv (fun k => A0 (ix3 b t k)) (fun k => A1 (ix2 0 k)) (fun k j => A2 (ix3 0 k ⟨2048 + j.val, by omega⟩)) (fun l => A3 (ix3 0 1 l)) (fun l => A3 (ix3 0 2 l)) p l

theorem sixOf_at (b : Fin 8) (t : Fin 2048) (s : Fin 6) (g : Fin 2) (l : Fin 128) :
    sixOf A0 A1 A2 (ix5 b t s g l) = proj (fun k => A0 (ix3 b t k)) (fun k => A1 (ix2 0 k)) (fun k j => A2 (ix3 0 k ⟨2048 + j.val, by omega⟩)) ⟨2 * s.val + g.val, by omega⟩ l := by
  unfold sixOf
  rw [six_at]
  refine Finset.sum_congr rfl fun k _ => ?_
  rw [xn_at, mat_at]

theorem stored_at (b : Fin 8) (t : Fin 2048) (s : Fin 4) (g : Fin 2) (l : Fin 128) :
    stored (sixOf A0 A1 A2) A3 s (ix4 b t g l) = kvOf A0 A1 A2 A3 b t ⟨2 * s.val + g.val, by omega⟩ l := by
  unfold kvOf kv
  fin_cases s
  · rw [if_neg (by show ¬(2 * 0 + g.val) / 2 = 2; omega), if_neg (by show ¬(2 * 0 + g.val) / 2 = 4; omega)]
    exact (part_at _ 0 _ (by decide) b t g l).trans (sixOf_at A0 A1 A2 b t 0 g l)
  · rw [if_neg (by show ¬(2 * 1 + g.val) / 2 = 2; omega), if_neg (by show ¬(2 * 1 + g.val) / 2 = 4; omega)]
    exact (part_at _ 1 _ (by decide) b t g l).trans (sixOf_at A0 A1 A2 b t 1 g l)
  · rw [if_pos (by show (2 * 2 + g.val) / 2 = 2; omega)]
    refine (heads_at _ A3 1 _ (by decide) b t g l).trans (congrArg (headed · _ l) (funext fun i => ?_))
    exact (part_at _ 2 _ (by decide) b t g i).trans (sixOf_at A0 A1 A2 b t 2 g i)
  · rw [if_neg (by show ¬(2 * 3 + g.val) / 2 = 2; omega), if_neg (by show ¬(2 * 3 + g.val) / 2 = 4; omega)]
    exact (part_at _ 3 _ (by decide) b t g l).trans (sixOf_at A0 A1 A2 b t 3 g l)

theorem windowed_at (b : Fin 8) (t : Fin 2048) (s : Fin 2) (g : Fin 2) (l : Fin 128) :
    windowed (sixOf A0 A1 A2) A3 s (ix4 b t g l) = kvOf A0 A1 A2 A3 b t ⟨8 + (2 * s.val + g.val), by omega⟩ l := by
  unfold kvOf kv
  fin_cases s
  · rw [if_neg (by show ¬(8 + (2 * 0 + g.val)) / 2 = 2; omega), if_pos (by show (8 + (2 * 0 + g.val)) / 2 = 4; omega)]
    refine (heads_at _ A3 2 _ (by decide) b t g l).trans (congrArg₂ (fun f p => headed f p l) (funext fun i => ?_) rfl)
    refine (part_at _ 4 _ (by decide) b t g i).trans ((sixOf_at A0 A1 A2 b t 4 g i).trans (congrArg (fun p => proj _ _ _ p i) (Fin.ext ?_)))
    show 2 * 4 + g.val = 8 + (2 * 0 + g.val); omega
  · rw [if_neg (by show ¬(8 + (2 * 1 + g.val)) / 2 = 2; omega), if_neg (by show ¬(8 + (2 * 1 + g.val)) / 2 = 4; omega)]
    refine (part_at _ 5 _ (by decide) b t g l).trans ((sixOf_at A0 A1 A2 b t 5 g l).trans (congrArg (fun p => proj _ _ _ p l) (Fin.ext ?_)))
    show 2 * 5 + g.val = 8 + (2 * 1 + g.val); omega

/-! The four results, an entry at a time. -/

theorem out0_at (b : Fin 8) (t : Fin 2048) (s : Fin 4) (g : Fin 2) (l : Fin 128) :
    broadcastInDim S1x8x2048x4x2x128 ![1, 2, 3, 4, 5] bcast_S8x2048x4x2x128_S1x8x2048x4x2x128_1_2_3_4_5 (rowsOf (sixOf A0 A1 A2) A3) (ix6 0 b t s g l)
      = kvOf A0 A1 A2 A3 b t ⟨2 * s.val + g.val, by omega⟩ l := by
  have e : ∀ Z : FVec Ideal S8x2048x4x2x128 .f32, broadcastInDim S1x8x2048x4x2x128 ![1, 2, 3, 4, 5] bcast_S8x2048x4x2x128_S1x8x2048x4x2x128_1_2_3_4_5 Z (ix6 0 b t s g l) = Z (ix5 b t s g l) := by
    intro Z
    pointwise []
  rw [e, rowsOf_at, stored_at]

theorem out1_at (b : Fin 8) (t : Fin 512) (s : Fin 2) (g : Fin 2) (l : Fin 128) :
    broadcastInDim S1x8x512x2x2x128 ![1, 2, 3, 4, 5] bcast_S8x512x2x2x128_S1x8x512x2x2x128_1_2_3_4_5 (extractStridedSlice S8x512x2x2x128 ![0, 1536, 0, 0, 0] (windowOf (sixOf A0 A1 A2) A3) slices_S8x2048x2x2x128_S8x512x2x2x128_0_1536_0_0_0) (ix6 0 b t s g l)
      = kvOf A0 A1 A2 A3 b ⟨1536 + t.val, by omega⟩ ⟨8 + (2 * s.val + g.val), by omega⟩ l := by
  have e : ∀ Z : FVec Ideal S8x2048x2x2x128 .f32, broadcastInDim S1x8x512x2x2x128 ![1, 2, 3, 4, 5] bcast_S8x512x2x2x128_S1x8x512x2x2x128_1_2_3_4_5 (extractStridedSlice S8x512x2x2x128 ![0, 1536, 0, 0, 0] Z slices_S8x2048x2x2x128_S8x512x2x2x128_0_1536_0_0_0) (ix6 0 b t s g l)
      = Z (ix5 b ⟨1536 + t.val, by omega⟩ s g l) := by
    intro Z
    pointwise []
  rw [e, windowOf_at, windowed_at]

theorem out2_at (r : Fin 16384) (j : Fin 1024) :
    shapeCast S16384x1024 (rowsOf (sixOf A0 A1 A2) A3) shapeCasts_S8x2048x4x2x128_S16384x1024 (ix2 r j)
      = kvOf A0 A1 A2 A3 ⟨r.val / 2048, by omega⟩ ⟨r.val % 2048, by omega⟩ ⟨j.val / 128, by omega⟩ ⟨j.val % 128, by omega⟩ := by
  have e : ∀ Z : FVec Ideal S8x2048x4x2x128 .f32, shapeCast S16384x1024 Z shapeCasts_S8x2048x4x2x128_S16384x1024 (ix2 r j)
      = Z (ix5 ⟨r.val / 2048, by omega⟩ ⟨r.val % 2048, by omega⟩ ⟨j.val / 256, by omega⟩ ⟨j.val / 128 % 2, by omega⟩ ⟨j.val % 128, by omega⟩) := by
    intro Z
    refine shapeCast_apply _ _ _ _ ?_
    rw [Shape.rowMajor_val_two, Shape.rowMajor_val_five]
    show (((r.val / 2048 * 2048 + r.val % 2048) * 4 + j.val / 256) * 2 + j.val / 128 % 2) * 128 + j.val % 128 = r.val * 1024 + j.val
    omega
  rw [e, rowsOf_at, stored_at]
  refine congrArg (fun p => kvOf A0 A1 A2 A3 _ _ p _) (Fin.ext ?_)
  show 2 * (j.val / 256) + j.val / 128 % 2 = j.val / 128
  omega

theorem out3_at (r : Fin 16384) (j : Fin 512) :
    shapeCast S16384x512 (windowOf (sixOf A0 A1 A2) A3) shapeCasts_S8x2048x2x2x128_S16384x512 (ix2 r j)
      = kvOf A0 A1 A2 A3 ⟨r.val / 2048, by omega⟩ ⟨r.val % 2048, by omega⟩ ⟨8 + j.val / 128, by omega⟩ ⟨j.val % 128, by omega⟩ := by
  have e : ∀ Z : FVec Ideal S8x2048x2x2x128 .f32, shapeCast S16384x512 Z shapeCasts_S8x2048x2x2x128_S16384x512 (ix2 r j)
      = Z (ix5 ⟨r.val / 2048, by omega⟩ ⟨r.val % 2048, by omega⟩ ⟨j.val / 256, by omega⟩ ⟨j.val / 128 % 2, by omega⟩ ⟨j.val % 128, by omega⟩) := by
    intro Z
    refine shapeCast_apply _ _ _ _ ?_
    rw [Shape.rowMajor_val_two, Shape.rowMajor_val_five]
    show (((r.val / 2048 * 2048 + r.val % 2048) * 2 + j.val / 256) * 2 + j.val / 128 % 2) * 128 + j.val % 128 = r.val * 512 + j.val
    omega
  rw [e, windowOf_at, windowed_at]
  refine congrArg (fun p => kvOf A0 A1 A2 A3 _ _ p _) (Fin.ext ?_)
  show 8 + (2 * (j.val / 256) + j.val / 128 % 2) = 8 + j.val / 128
  omega

/-! The run's results are these. -/

section
open Cert.KvRefIdeal.Value
variable (m : (ℓ : Loc nD τ sig) → Buf (Elt Ideal) ℓ) (c : Dev nD)

/-- The six parts and the gains of a run's arguments. -/
def sixAt : FVec Ideal S8x2048x6x2x128 .f32 := sixOf (m ((c.tc : Thread nD τ).loc main_arg0)) (m ((c.tc : Thread nD τ).loc main_arg1)) (m ((c.tc : Thread nD τ).loc main_arg2))
def gainAt : FVec Ideal S1x3x128 .f32 := m ((c.tc : Thread nD τ).loc main_arg3)

theorem res_0 : res_main_v69 (F := Ideal) m c = broadcastInDim S1x8x2048x4x2x128 ![1, 2, 3, 4, 5] bcast_S8x2048x4x2x128_S1x8x2048x4x2x128_1_2_3_4_5 (rowsOf (sixAt m c) (gainAt m c)) := by
  unfold res_main_v69
  rfl
theorem res_1 : res_main_v71 (F := Ideal) m c = broadcastInDim S1x8x512x2x2x128 ![1, 2, 3, 4, 5] bcast_S8x512x2x2x128_S1x8x512x2x2x128_1_2_3_4_5 (extractStridedSlice S8x512x2x2x128 ![0, 1536, 0, 0, 0] (windowOf (sixAt m c) (gainAt m c)) slices_S8x2048x2x2x128_S8x512x2x2x128_0_1536_0_0_0) := by
  unfold res_main_v71
  rfl
theorem res_2 : res_main_v72 (F := Ideal) m c = shapeCast S16384x1024 (rowsOf (sixAt m c) (gainAt m c)) shapeCasts_S8x2048x4x2x128_S16384x1024 := by
  unfold res_main_v72
  rfl
theorem res_3 : res_main_v73 (F := Ideal) m c = shapeCast S16384x512 (windowOf (sixAt m c) (gainAt m c)) shapeCasts_S8x2048x2x2x128_S16384x512 := by
  unfold res_main_v73
  rfl
end

end Cert.KvRefIdeal.Own

end
-- ==== Proof.Kv.Result.lean ====
/- The key and value projection: its frames, and its four results against the plain program. -/
module

public import proofs.«01_k».proof.Defs
public import Idealize.ShloMosaic.Adequacy
public import Idealize.ShloMosaic.Init
public import proofs.«01_k».proof.Proof.Gen.Kv.Frame
public import proofs.«01_k».proof.Proof.Gen.KvIdeal.Frame
public import proofs.«01_k».proof.Proof.Kv.Points
public import proofs.«01_k».proof.Proof.Kv.Plain

@[expose] public section

set_option maxRecDepth 16384

noncomputable section

namespace Cert.Proof

open Idealize.ShloMosaic Idealize.ShloMosaic.TcCoe Idealize.ShloMosaic.Tactic Idealize.SL.Sem

theorem frame_kv : Cert.quiescent_Kv := fun m ρ _ => Cert.Kv.Gen.frame m ρ

theorem frame_kvIdeal : Cert.quiescent_KvIdeal := fun m ρ _ => Cert.KvIdeal.Gen.frame m ρ

/-- The plain program declares no semaphore, and no operation writes an argument. -/
theorem frame_kvRef : Cert.quiescent_KvRefIdeal := fun m ρ _ =>
  (θ_run Cert.KvRefIdeal.defs _ _).mono (fun r h => ⟨fun c => (h c).2.2.2.2, Idealize.ShloMosaic.sem_eq_zero_of_no_sems (by decide) r.2⟩)
    (Cert.KvRefIdeal.Value.run (F := Ideal) m ρ)

section
open Cert.KvIdeal Cert.KvIdeal.Gen Cert.KvIdeal.Own

/-- What the kernel's run leaves in its four results and its arguments. -/
theorem run_kv (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = storedRows m c
      ∧ r.2.mem ((c.tc : Thread nD τ).loc main_v27) = lastRows m c
      ∧ r.2.mem ((c.tc : Thread nD τ).loc main_v24_0) = firstRows m c
      ∧ r.2.mem ((c.tc : Thread nD τ).loc main_v24_1) = windowRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, ?_, ?_, ?_, ?_, ?_, ?_⟩) (run_main m ρ)
  · exact ((h c).2 main_v25 (Pipeline.mem_restRefs_of main_v25 (by decide) (by decide))).trans (tail_25 m c)
  · exact ((h c).2 main_v27 (Pipeline.mem_restRefs_of main_v27 (by decide) (by decide))).trans (tail_27 m c)
  · exact ((h c).1 5).trans (result_5 m c)
  · exact ((h c).1 6).trans (result_6 m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

/-- The kernel's entry and the plain program's are the same function of the arguments. -/
theorem kv_agree (m : (ℓ : Loc nD τ sig) → Buf (Elt Ideal) ℓ) (c : Dev nD) (b : Fin 8) (t : Fin 2048) (r : Fin 16384) (hr : r.val = 2048 * b.val + t.val) (p : Fin 12) (l : Fin 128) :
    Cert.KvRefIdeal.Own.kvOf (m ((c.tc : Thread nD τ).loc main_arg0)) (m ((c.tc : Thread nD τ).loc main_arg1)) (m ((c.tc : Thread nD τ).loc main_arg2)) (m ((c.tc : Thread nD τ).loc main_arg3)) b t p l
      = kvAt m c r p l := by
  unfold Cert.KvRefIdeal.Own.kvOf kvAt
  refine congrArg (fun x => Cert.Project.kv x _ _ _ _ p l) (funext fun k => ?_)
  unfold rows
  refine congrArg₂ (fun a d => (m ((c.tc : Thread nD τ).loc main_arg0) : FVec Ideal S8x2048x2048 .f32) (ix3 a d k)) (Fin.ext ?_) (Fin.ext ?_)
  · show b.val = r.val / 2048; omega
  · show t.val = r.val % 2048; omega
end

theorem algebraic_kv : Cert.algebraic_KvIdeal_KvRefIdeal := by
  intro m ρ m' ρ' _ hagree
  refine ⟨Cert.KvIdeal.Own.storedRows m, Cert.KvIdeal.Own.lastRows m, Cert.KvIdeal.Own.firstRows m, Cert.KvIdeal.Own.windowRows m, ?_, ?_⟩
  · exact run_kv m ρ
  · refine (θ_run Cert.KvRefIdeal.defs _ _).mono (fun r h c => ⟨(h c).1.trans ?_, (h c).2.1.trans ?_, (h c).2.2.1.trans ?_, (h c).2.2.2.1.trans ?_, (h c).2.2.2.2⟩) (Cert.KvRefIdeal.Value.run (F := Ideal) m' ρ')
    · rw [Cert.KvRefIdeal.Own.res_0, Cert.KvRefIdeal.Own.sixAt, Cert.KvRefIdeal.Own.gainAt, (hagree c).1, (hagree c).2.1, (hagree c).2.2.1, (hagree c).2.2.2]
      funext i
      idx_vars i
      obtain rfl : i0 = 0 := Subsingleton.elim _ _
      exact (Cert.KvRefIdeal.Own.out0_at _ _ _ _ i1 i2 i3 i4 i5).trans ((kv_agree m c i1 i2 _ rfl _ i5).trans (Cert.KvIdeal.Own.stored_at m c i1 i2 i3 i4 i5).symm)
    · rw [Cert.KvRefIdeal.Own.res_1, Cert.KvRefIdeal.Own.sixAt, Cert.KvRefIdeal.Own.gainAt, (hagree c).1, (hagree c).2.1, (hagree c).2.2.1, (hagree c).2.2.2]
      funext i
      idx_vars i
      obtain rfl : i0 = 0 := Subsingleton.elim _ _
      exact (Cert.KvRefIdeal.Own.out1_at _ _ _ _ i1 i2 i3 i4 i5).trans ((kv_agree m c i1 _ _ rfl _ i5).trans (Cert.KvIdeal.Own.last_at m c i1 i2 i3 i4 i5).symm)
    · rw [Cert.KvRefIdeal.Own.res_2, Cert.KvRefIdeal.Own.sixAt, Cert.KvRefIdeal.Own.gainAt, (hagree c).1, (hagree c).2.1, (hagree c).2.2.1, (hagree c).2.2.2]
      funext i
      idx_vars i
      exact (Cert.KvRefIdeal.Own.out2_at _ _ _ _ i0 i1).trans (kv_agree m c _ _ i0 (by show i0.val = 2048 * (i0.val / 2048) + i0.val % 2048; omega) _ _)
    · rw [Cert.KvRefIdeal.Own.res_3, Cert.KvRefIdeal.Own.sixAt, Cert.KvRefIdeal.Own.gainAt, (hagree c).1, (hagree c).2.1, (hagree c).2.2.1, (hagree c).2.2.2]
      funext i
      idx_vars i
      exact (Cert.KvRefIdeal.Own.out3_at _ _ _ _ i0 i1).trans (kv_agree m c _ _ i0 (by show i0.val = 2048 * (i0.val / 2048) + i0.val % 2048; omega) _ _)

end Cert.Proof

end
-- ==== Proof.KvS.Points.lean ====
/- The key and value projection of the samples: what its one point stores, and its results. -/
module

public import proofs.«01_k».proof.Proof.Kv.Points
public import proofs.«01_k».proof.Proof.Gen.KvSIdeal.Frame
public import Idealize.ShloMosaic.Lib.Pipeline.ValueKit
public import Idealize.ShloMosaic.Lib.WholeRead
public import Idealize.ShloMosaic.Lib.Pipeline.ReadBack

@[expose] public section

set_option maxRecDepth 16384

noncomputable section

namespace Cert.KvSIdeal.Own

open Idealize.ShloMosaic Idealize.ShloMosaic.TcCoe Idealize.ShloMosaic.Tactic Idealize.SL.Sem
open Cert.KvSIdeal Cert.KvSIdeal.Gen Cert.Feed Cert.Project
open Cert.KvIdeal.Own (sides sides_at piece_eq row6 row6_at gains flags chosen)

variable (m : (ℓ : Loc nD τ sig) → Buf (Elt Ideal) ℓ)

/-- The arguments of the launch, as functions of their coordinates. -/
def rows (c : Dev nD) (r : Fin 512) (k : Fin 2048) : EReal :=
  (m ((c : Thread nD τ).loc main_arg0) : FVec Ideal S128x4x2048 .f32) (ix3 ⟨r.val / 4, by omega⟩ ⟨r.val % 4, by omega⟩ k)
def gamma (c : Dev nD) (k : Fin 2048) : EReal := (m ((c : Thread nD τ).loc main_arg2) : FVec Ideal S2x2048 .f32) (ix2 0 k)
def weight (c : Dev nD) (k : Fin 2048) (j : Fin 1536) : EReal :=
  (m ((c : Thread nD τ).loc main_arg3) : FVec Ideal S1x2048x3632 .f32) (ix3 0 k ⟨2048 + j.val, by omega⟩)
def keyGain (c : Dev nD) (s : Fin 3) (l : Fin 128) : EReal := (m ((c : Thread nD τ).loc main_arg4) : FVec Ideal S1x3x128 .f32) (ix3 0 s l)

theorem index_at : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- The rows laid out in one run. -/
theorem V_rows (c : Dev nD) (r : Fin 512) (k : Fin 2048) : (V m c main_v18 : FVec Ideal S512x2048 .f32) (ix2 r k) = rows m c r k := by
  have e : (V m c main_v18 : FVec Ideal S512x2048 .f32) = shapeCast S512x2048 (m ((c : Thread nD τ).loc main_arg0)) shapeCasts_S128x4x2048_S512x2048 := by
    show StableHlo.after hostOps0 _ _ = _
    after_results
    rfl
  rw [e]
  unfold rows
  refine shapeCast_apply _ _ _ (ix3 ⟨r.val / 4, by omega⟩ ⟨r.val % 4, by omega⟩ k) ?_
  rw [Shape.rowMajor_val_two, Shape.rowMajor_val_three]
  show (r.val / 4 * 4 + r.val % 4) * 2048 + k.val = r.val * 2048 + k.val
  omega

theorem V_gamma (c : Dev nD) (k : Fin 2048) : (V m c main_v21 : FVec Ideal S1x2048 .f32) (ix2 0 k) = gamma m c k := by
  have e : (V m c main_v21 : FVec Ideal S1x2048 .f32) = shapeCast S1x2048 (shapeCast S2048 (extractStridedSlice S1x2048 ![0, 0] (m ((c : Thread nD τ).loc main_arg2)) slices_S2x2048_S1x2048_0_0) shapeCasts_S1x2048_S2048) shapeCasts_S2048_S1x2048 := by
    show StableHlo.after hostOps0 _ _ = _
    after_results
    rfl
  rw [e]
  unfold gamma
  pointwise []

theorem V_weight (c : Dev nD) (k : Fin 2048) (j : Fin 1536) : (V m c main_v17 : FVec Ideal S2048x1536 .bf16) (ix2 k j) = weight m c k j := by
  have e : (V m c main_v17 : FVec Ideal S2048x1536 .bf16) = (truncf .bf16 (extractStridedSlice S2048x1536 ![0, 2048] (shapeCast S2048x3632 (m ((c : Thread nD τ).loc main_arg3) : FVec Ideal S1x2048x3632 .f32) shapeCasts_S1x2048x3632_S2048x3632) slices_S2048x3632_S2048x1536_0_2048) bitsLt_bf16_f32 : FVec Ideal S2048x1536 .bf16) := by
    show StableHlo.after hostOps0 _ _ = _
    after_results
    rfl
  rw [e]
  have slice : ∀ B : FVec Ideal S2048x3632 .f32, truncf (F := Ideal) .bf16 (extractStridedSlice S2048x1536 ![0, 2048] B slices_S2048x3632_S2048x1536_0_2048 : FVec Ideal S2048x1536 .f32) bitsLt_bf16_f32 (ix2 k j)
      = B (ix2 k ⟨2048 + j.val, by omega⟩) := by
    intro B
    pointwise []
  refine (slice _).trans ?_
  unfold weight
  refine shapeCast_apply _ _ _ (ix3 0 k ⟨2048 + j.val, by omega⟩) ?_
  rw [Shape.rowMajor_val_two, Shape.rowMajor_val_three]
  show (0 * 2048 + k.val) * 3632 + (2048 + j.val) = k.val * 3632 + (2048 + j.val)
  omega

theorem V_gain (c : Dev nD) : (V m c main_v22 : FVec Ideal S1x1536 .f32) = row6 (gains (m ((c : Thread nD τ).loc main_arg4))) := by
  show StableHlo.after hostOps0 _ _ = _
  after_results
  rfl

theorem V_flag (c : Dev nD) : (V m c main_v23 : FVec Ideal S1x1536 .f32) = row6 flags := by
  show StableHlo.after hostOps0 _ _ = _
  after_results
  rfl

theorem rows_blk (c : Dev nD) (t : Fin cfg0.N) (x : Fin 512) (k : Fin 2048) : (iblk m c 0 t : FVec Ideal S512x2048 .f32) (ix2 x k) = rows m c x k := by
  rw [← V_rows]
  blk_point [iblk, index_at t]

theorem gamma_blk (c : Dev nD) (t : Fin cfg0.N) (k : Fin 2048) : (iblk m c 1 t : FVec Ideal S1x2048 .f32) (ix2 0 k) = gamma m c k := by
  rw [← V_gamma]
  blk_point [iblk, index_at t]

theorem weight_blk (c : Dev nD) (t : Fin cfg0.N) (k : Fin 2048) (j : Fin 1536) : (iblk m c 2 t : FVec Ideal S2048x1536 .bf16) (ix2 k j) = weight m c k j := by
  rw [← V_weight]
  blk_point [iblk, index_at t]

theorem gain_blk (c : Dev nD) (t : Fin cfg0.N) (j : Fin 1536) : (iblk m c 3 t : FVec Ideal S1x1536 .f32) (ix2 0 j) = row6 (gains (m ((c : Thread nD τ).loc main_arg4))) (ix2 0 j) := by
  rw [← V_gain]
  blk_point [iblk, index_at t]

theorem flag_blk (c : Dev nD) (t : Fin cfg0.N) (j : Fin 1536) : (iblk m c 4 t : FVec Ideal S1x1536 .f32) (ix2 0 j) = row6 flags (ix2 0 j) := by
  rw [← V_flag m c]
  blk_point [iblk, index_at t]

/-! The body is the prompt's, whose lemmas are used again. -/

theorem norm_at (v : Vec Ideal S512x2048 .f32) (g : Vec Ideal S1x2048 .f32) (x : Fin 512) (k : Fin 2048) :
    k0_pay4 (F := Ideal) v g (ix2 x k) = normed (fun i => v (ix2 x i)) (fun i => g (ix2 0 i)) k := Cert.KvIdeal.Own.norm_at v g x k

theorem product_at (v3 : Vec Ideal S512x2048 .bf16) (v4 : Vec Ideal S2048x1536 .bf16) (x : Fin 512) (j : Fin 1536) :
    k0_pay5 (F := Ideal) v3 v4 (ix2 x j) = ∑ k : Fin 2048, v3 (ix2 x k) * v4 (ix2 k j) := Cert.KvIdeal.Own.product_at v3 v4 x j

theorem gain_row (v : Vec Ideal S1x1536 .f32) : k0_pay6 (F := Ideal) v = v := Cert.KvIdeal.Own.gain_row v

theorem flag_row (v : Vec Ideal S1x1536 .f32) : k0_pay7 (F := Ideal) v = v := Cert.KvIdeal.Own.flag_row v

/-- A point's block, its 1536 columns side by side. -/
def block (c : Dev nD) (t : Fin cfg0.N) : FVec Ideal S512x1536 .f32 :=
  sides (k0_pay5 (k0_pay4 (iblk m c 0 t) (iblk m c 1 t)) (iblk m c 2 t)) (k0_pay6 (iblk m c 3 t)) (k0_pay7 (iblk m c 4 t))

/-- A row's entry, from the arguments. -/
def kvAt (c : Dev nD) (r : Fin 512) (p : Fin 12) (l : Fin 128) : EReal := kv (rows m c r) (gamma m c) (weight m c) (keyGain m c 1) (keyGain m c 2) p l

theorem proj_at (c : Dev nD) (t : Fin cfg0.N) (x : Fin 512) (p : Fin 12) (l : Fin 128) :
    k0_pay5 (F := Ideal) (k0_pay4 (iblk m c 0 t) (iblk m c 1 t)) (iblk m c 2 t) (ix2 x ⟨128 * p.val + l.val, by omega⟩) = proj (rows m c x) (gamma m c) (weight m c) p l := by
  rw [product_at]
  unfold proj
  refine Finset.sum_congr rfl fun k _ => ?_
  rw [norm_at, weight_blk]
  refine congrArg (· * _) (congrArg₂ (fun f g => normed f g k) (funext fun i => ?_) (funext fun i => ?_))
  · exact rows_blk m c t x i
  · exact gamma_blk m c t i

/-- Column `128 p + l` of the block's row `x`. -/
theorem block_at (c : Dev nD) (t : Fin cfg0.N) (x : Fin 512) (p : Fin 12) (l : Fin 128) :
    block m c t (ix2 x ⟨128 * p.val + l.val, by omega⟩) = kvAt m c x p l := by
  unfold block
  rw [sides_at, piece_eq, gain_row, flag_row, gain_blk, flag_blk, row6_at, row6_at]
  simp only [proj_at]
  exact chosen _ _ _ ⟨p.val / 2, by omega⟩ ⟨p.val % 2, by omega⟩ l

theorem outs_5 (c : Dev nD) (t : Fin cfg0.N) : (outsAt0 m c t).1 = extractStridedSlice S512x1024 ![0, 0] (block m c t) slices_S512x1536_o0_0_S512x1024 := by
  unfold outsAt0
  frame_out
  rfl

theorem outs_6 (c : Dev nD) (t : Fin cfg0.N) : (outsAt0 m c t).2 = extractStridedSlice S512x512 ![0, 1024] (block m c t) slices_S512x1536_o0_1024_S512x512 := by
  unfold outsAt0
  frame_out
  rfl

/-- The two arrays the launch leaves, an entry at a time. -/
def firstRows (c : Dev nD) : S512x1024.Idx → EReal := fun i => kvAt m c (i 0) ⟨(i 1).val / 128, by have h : (i 1).val < 1024 := (i 1).isLt; omega⟩ ⟨(i 1).val % 128, by omega⟩
def windowRows (c : Dev nD) : S512x512.Idx → EReal := fun i => kvAt m c (i 0) ⟨8 + (i 1).val / 128, by have h : (i 1).val < 512 := (i 1).isLt; omega⟩ ⟨(i 1).val % 128, by omega⟩

theorem result_5 (c : Dev nD) : (dats m 0 c).arrAt 5 cfg0.N = firstRows m c := by
  refine (dats m 0 c).arrAt_eq_of_covers 5 _ (by decide +kernel) fun t _ y => ?_
  blk_simp
  rw [after0_5, outs_5]
  idx_vars y
  have key : ∀ A : S512x1024.Idx → EReal, A (ix2 y0 y1) = A (((View.whole main_v24_0).slice (win0_5.rect t)).emb (ix2 y0 y1)) := by
    intro A
    symm
    blk_point [index_at t]
  refine Eq.trans ?_ (key (firstRows m c))
  refine Eq.trans ?_ (block_at m c t y0 ⟨y1.val / 128, by omega⟩ ⟨y1.val % 128, by omega⟩)
  have e : ∀ Y : FVec Ideal S512x1536 .f32, extractStridedSlice S512x1024 ![0, 0] Y slices_S512x1536_o0_0_S512x1024 (ix2 y0 y1) = Y (ix2 y0 ⟨y1.val, by omega⟩) := by
    intro Y
    pointwise []
  refine (e _).trans (congrArg (fun j => block m c t (ix2 y0 j)) (Fin.ext ?_))
  show y1.val = 128 * (y1.val / 128) + y1.val % 128
  omega

theorem result_6 (c : Dev nD) : (dats m 0 c).arrAt 6 cfg0.N = windowRows m c := by
  refine (dats m 0 c).arrAt_eq_of_covers 6 _ (by decide +kernel) fun t _ y => ?_
  blk_simp
  rw [after0_6, outs_6]
  idx_vars y
  have key : ∀ A : S512x512.Idx → EReal, A (ix2 y0 y1) = A (((View.whole main_v24_1).slice (win0_6.rect t)).emb (ix2 y0 y1)) := by
    intro A
    symm
    blk_point [index_at t]
  refine Eq.trans ?_ (key (windowRows m c))
  refine Eq.trans ?_ (block_at m c t y0 ⟨8 + y1.val / 128, by omega⟩ ⟨y1.val % 128, by omega⟩)
  have e : ∀ Y : FVec Ideal S512x1536 .f32, extractStridedSlice S512x512 ![0, 1024] Y slices_S512x1536_o0_1024_S512x512 (ix2 y0 y1) = Y (ix2 y0 ⟨1024 + y1.val, by omega⟩) := by
    intro Y
    pointwise []
  refine (e _).trans (congrArg (fun j => block m c t (ix2 y0 j)) (Fin.ext ?_))
  show 1024 + y1.val = 128 * (8 + y1.val / 128) + y1.val % 128
  omega

/-! The two results the host lays out of these arrays. -/

def storedRows (c : Dev nD) : S1x128x4x4x2x128.Idx → EReal := shapeCast S1x128x4x4x2x128 (firstRows m c : FVec Ideal S512x1024 .f32) shapeCasts_S512x1024_S1x128x4x4x2x128

/-- The window's new rows, by sample and position. -/
def newRows (c : Dev nD) : FVec Ideal S128x4x2x2x128 .f32 := shapeCast S128x4x2x2x128 (windowRows m c : FVec Ideal S512x512 .f32) shapeCasts_S512x512_S128x4x2x2x128

/-- The window moved on: the cached rows and the new ones behind them, the last 512 of each sample. -/
def moved (A : FVec Ideal S128x512x2x2x128 .f32) (B : FVec Ideal S128x4x2x2x128 .f32) : FVec Ideal S1x128x512x2x2x128 .f32 :=
  broadcastInDim S1x128x512x2x2x128 ![1, 2, 3, 4, 5] bcast_S128x512x2x2x128_S1x128x512x2x2x128_1_2_3_4_5
    (extractStridedSlice S128x512x2x2x128 ![0, 4, 0, 0, 0] (concatenate S128x516x2x2x128 1 [⟨S128x512x2x2x128, A⟩, ⟨S128x4x2x2x128, B⟩] concatenates_S128x512x2x2x128_S128x4x2x2x128_S128x516x2x2x128_d1)
      slices_S128x516x2x2x128_S128x512x2x2x128_0_4_0_0_0)
def lastRows (c : Dev nD) : S1x128x512x2x2x128.Idx → EReal :=
  moved (shapeCast S128x512x2x2x128 (m ((c : Thread nD τ).loc main_arg1) : FVec Ideal S1x128x512x2x2x128 .f32) shapeCasts_S1x128x512x2x2x128_S128x512x2x2x128) (newRows m c)

theorem tail_26 (c : Dev nD) : Pipeline.afterTail₀ cfgs (dats m) 0 (V0 m) [hostOps1] c main_v26 = storedRows m c := by
  unfold Pipeline.afterTail₀
  show StableHlo.after hostOps1 _ _ = _
  after_results
  have e := (Pipeline.withArrays_arr spec0 (by decide) c (V0 m c) (fun w => (dats m 0 c).arrAt w cfg0.N) 5).trans (result_5 m c)
  exact congrArg (fun A : FVec Ideal S512x1024 .f32 => shapeCast S1x128x4x4x2x128 A shapeCasts_S512x1024_S1x128x4x4x2x128) e

theorem tail_30 (c : Dev nD) : Pipeline.afterTail₀ cfgs (dats m) 0 (V0 m) [hostOps1] c main_v30 = lastRows m c := by
  unfold Pipeline.afterTail₀
  show StableHlo.after hostOps1 _ _ = _
  after_results
  have e := (Pipeline.withArrays_arr spec0 (by decide) c (V0 m c) (fun w => (dats m 0 c).arrAt w cfg0.N) 6).trans (result_6 m c)
  unfold lastRows
  refine congrArg₂ moved ?_ ?_
  · have e1 := (Pipeline.withArrays_of_ne spec0 c (V0 m c) (fun w => (dats m 0 c).arrAt w cfg0.N) main_arg1 (by exact (by decide : ∀ w, Pipeline.arrRef spec0 w ≠ main_arg1))).trans (V_main_arg1 m c)
    exact congrArg (fun A : FVec Ideal S1x128x512x2x2x128 .f32 => shapeCast S128x512x2x2x128 A shapeCasts_S1x128x512x2x2x128_S128x512x2x2x128) e1
  · exact congrArg (fun A : FVec Ideal S512x512 .f32 => shapeCast S128x4x2x2x128 A shapeCasts_S512x512_S128x4x2x2x128) e

theorem stored_at (c : Dev nD) (b : Fin 128) (t : Fin 4) (s : Fin 4) (g : Fin 2) (l : Fin 128) :
    storedRows m c (ix6 0 b t s g l) = kvAt m c ⟨4 * b.val + t.val, by omega⟩ ⟨2 * s.val + g.val, by omega⟩ l := by
  have e : ∀ A : FVec Ideal S512x1024 .f32, shapeCast S1x128x4x4x2x128 A shapeCasts_S512x1024_S1x128x4x4x2x128 (ix6 0 b t s g l)
      = A (ix2 ⟨4 * b.val + t.val, by omega⟩ ⟨128 * (2 * s.val + g.val) + l.val, by omega⟩) := by
    intro A
    pointwise []
    exact congrArg A (congrArg₂ (fun a b => ix2 a b) (Fin.ext (by show b.val * 4 + t.val = 4 * b.val + t.val; omega)) (Fin.ext (by show s.val * 256 + g.val * 128 + l.val = 128 * (2 * s.val + g.val) + l.val; omega)))
  refine (e _).trans ?_
  unfold firstRows
  refine congrArg₂ (fun p l => kvAt m c _ p l) (Fin.ext ?_) (Fin.ext ?_)
  · show (128 * (2 * s.val + g.val) + l.val) / 128 = 2 * s.val + g.val; omega
  · show (128 * (2 * s.val + g.val) + l.val) % 128 = l.val; omega

theorem new_at (c : Dev nD) (b : Fin 128) (t : Fin 4) (s : Fin 2) (g : Fin 2) (l : Fin 128) :
    newRows m c (ix5 b t s g l) = kvAt m c ⟨4 * b.val + t.val, by omega⟩ ⟨8 + (2 * s.val + g.val), by omega⟩ l := by
  have e : ∀ A : FVec Ideal S512x512 .f32, shapeCast S128x4x2x2x128 A shapeCasts_S512x512_S128x4x2x2x128 (ix5 b t s g l)
      = A (ix2 ⟨4 * b.val + t.val, by omega⟩ ⟨128 * (2 * s.val + g.val) + l.val, by omega⟩) := by
    intro A
    pointwise []
    exact congrArg A (congrArg₂ (fun a b => ix2 a b) (Fin.ext (by show b.val * 4 + t.val = 4 * b.val + t.val; omega)) (Fin.ext (by show s.val * 256 + g.val * 128 + l.val = 128 * (2 * s.val + g.val) + l.val; omega)))
  refine (e _).trans ?_
  unfold windowRows
  refine congrArg₂ (fun p l => kvAt m c _ p l) (Fin.ext ?_) (Fin.ext ?_)
  · show 8 + (128 * (2 * s.val + g.val) + l.val) / 128 = 8 + (2 * s.val + g.val); omega
  · show (128 * (2 * s.val + g.val) + l.val) % 128 = l.val; omega

end Cert.KvSIdeal.Own

end
-- ==== Proof.KvS.Plain.lean ====
/- The plain key and value projection of the samples, read on the extended reals. -/
module

public import proofs.«01_k».proof.Proof.Kv.Rows
public import proofs.«01_k».proof.Proof.Gen.KvSRefIdeal.Run
public import Idealize.ShloMosaic.Lib.Pointwise
public import Idealize.ShloMosaic.Lib.Pipeline.Value

@[expose] public section

set_option maxRecDepth 16384

noncomputable section

namespace Cert.KvSRefIdeal.Own

open Idealize.ShloMosaic Idealize.ShloMosaic.TcCoe Idealize.ShloMosaic.Tactic Idealize.SL.Sem
open Cert.KvSRefIdeal Cert.KvSRefIdeal.Gen Cert.Feed Cert.Project

/-- The normed rows. -/
def xn (A0 : FVec Ideal S128x4x2048 .f32) (A1 : FVec Ideal S2x2048 .f32) : FVec Ideal S128x4x2048 .f32 :=
  mulf (mulf A0 (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf A0 A0) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32))))))
    (broadcastInDim S128x4x2048 ![0, 1, 2] bcast_S1x1x2048_S128x4x2048_0_1_2 (broadcastInDim S1x1x2048 ![2] bcast_S2048_S1x1x2048_2 (shapeCast S2048 (extractStridedSlice S1x2048 ![0, 0] A1 slices_S2x2048_S1x2048_0_0) shapeCasts_S1x2048_S2048)))

/-- The six parts of the product, each of two heads of 128. -/
def six (X : FVec Ideal S128x4x2048 .f32) (W : FVec Ideal S2048x3632 .f32) : FVec Ideal S128x4x6x2x128 .f32 :=
  shapeCast S128x4x6x2x128 (extractStridedSlice S128x4x1536 ![0, 0, 2048] (Host.dotGeneral dot_S128x4x2048_S2048x3632_S128x4x3632_2_0_01_1_n_n none X W) slices_S128x4x3632_S128x4x1536_0_0_2048) shapeCasts_S128x4x1536_S128x4x6x2x128

def part (y : FVec Ideal S128x4x6x2x128 .f32) (s : ℕ) (h : S128x4x6x2x128.Slices ![0, 0, s, 0, 0] S128x4x1x2x128) : FVec Ideal S128x4x2x128 .f32 :=
  shapeCast S128x4x2x128 (extractStridedSlice S128x4x1x2x128 ![0, 0, s, 0, 0] y h) shapeCasts_S128x4x1x2x128_S128x4x2x128

/-- A part normed over its heads. -/
def heads (v : FVec Ideal S128x4x2x128 .f32) (A3 : FVec Ideal S1x3x128 .f32) (s : ℕ) (h : S1x3x128.Slices ![0, s, 0] S1x1x128) : FVec Ideal S128x4x2x128 .f32 :=
  mulf (mulf v (broadcastInDim S128x4x2x128 ![0, 1, 2, 3] bcast_S128x4x2x1_S128x4x2x128_0_1_2_3 (Host.rsqrt (addf (Host.divf (broadcastInDim S128x4x2x1 ![0, 1, 2] bcast_S128x4x2_S128x4x2x1_0_1_2 (Host.reduceAdd (mulf v v) (constant S_ .f32 0x00000000#32) reducesTo_S128x4x2x128_S128x4x2_d3 h_S_)) (broadcastInDim S128x4x2x1 ![] bcast_S_S128x4x2x1 (constant S_ .f32 0x43000000#32))) (broadcastInDim S128x4x2x1 ![] bcast_S_S128x4x2x1 (constant S_ .f32 0x358637BD#32))))))
    (broadcastInDim S128x4x2x128 ![0, 1, 2, 3] bcast_S1x1x1x128_S128x4x2x128_0_1_2_3 (broadcastInDim S1x1x1x128 ![3] bcast_S128_S1x1x1x128_3 (shapeCast S128 (extractStridedSlice S1x1x128 ![0, s, 0] A3 h) shapeCasts_S1x1x128_S128)))

def lay (v : FVec Ideal S128x4x2x128 .f32) : FVec Ideal S128x4x1x2x128 .f32 := broadcastInDim S128x4x1x2x128 ![0, 1, 3, 4] bcast_S128x4x2x128_S128x4x1x2x128_0_1_3_4 v

/-- The four parts stored, and the two of the window. -/
def stored (y : FVec Ideal S128x4x6x2x128 .f32) (A3 : FVec Ideal S1x3x128 .f32) : Fin 4 → FVec Ideal S128x4x2x128 .f32
  | 0 => part y 0 slices_S128x4x6x2x128_S128x4x1x2x128_0_0_0_0_0
  | 1 => part y 1 slices_S128x4x6x2x128_S128x4x1x2x128_0_0_1_0_0
  | 2 => heads (part y 2 slices_S128x4x6x2x128_S128x4x1x2x128_0_0_2_0_0) A3 1 slices_S1x3x128_S1x1x128_0_1_0
  | 3 => part y 3 slices_S128x4x6x2x128_S128x4x1x2x128_0_0_3_0_0
def windowed (y : FVec Ideal S128x4x6x2x128 .f32) (A3 : FVec Ideal S1x3x128 .f32) : Fin 2 → FVec Ideal S128x4x2x128 .f32
  | 0 => heads (part y 4 slices_S128x4x6x2x128_S128x4x1x2x128_0_0_4_0_0) A3 2 slices_S1x3x128_S1x1x128_0_2_0
  | 1 => part y 5 slices_S128x4x6x2x128_S128x4x1x2x128_0_0_5_0_0

def rowsOf (y : FVec Ideal S128x4x6x2x128 .f32) (A3 : FVec Ideal S1x3x128 .f32) : FVec Ideal S128x4x4x2x128 .f32 :=
  concatenate S128x4x4x2x128 2 (List.ofFn fun n : Fin 4 => ⟨S128x4x1x2x128, lay (stored y A3 n)⟩) concatenates_S128x4x1x2x128_S128x4x1x2x128_S128x4x1x2x128_S128x4x1x2x128_S128x4x4x2x128_d2
def windowOf (y : FVec Ideal S128x4x6x2x128 .f32) (A3 : FVec Ideal S1x3x128 .f32) : FVec Ideal S128x4x2x2x128 .f32 :=
  concatenate S128x4x2x2x128 2 (List.ofFn fun n : Fin 2 => ⟨S128x4x1x2x128, lay (windowed y A3 n)⟩) concatenates_S128x4x1x2x128_S128x4x1x2x128_S128x4x2x2x128_d2

theorem xn_at (A0 : FVec Ideal S128x4x2048 .f32) (A1 : FVec Ideal S2x2048 .f32) (b : Fin 128) (t : Fin 4) (k : Fin 2048) :
    xn A0 A1 (ix3 b t k) = normed (fun i => A0 (ix3 b t i)) (fun i => A1 (ix2 0 i)) k := by
  unfold xn normed
  pointwise []

theorem product_at (X : FVec Ideal S128x4x2048 .f32) (W : FVec Ideal S2048x3632 .f32) (b : Fin 128) (t : Fin 4) (j : Fin 3632) :
    Host.dotGeneral (F := Ideal) dot_S128x4x2048_S2048x3632_S128x4x3632_2_0_01_1_n_n none X W (ix3 b t j) = ∑ k : Fin 2048, X (ix3 b t k) * W (ix2 k j) := by
  pointwise []

theorem six_at (X : FVec Ideal S128x4x2048 .f32) (W : FVec Ideal S2048x3632 .f32) (b : Fin 128) (t : Fin 4) (s : Fin 6) (g : Fin 2) (l : Fin 128) :
    six X W (ix5 b t s g l) = ∑ k : Fin 2048, X (ix3 b t k) * W (ix2 k ⟨2048 + (128 * (2 * s.val + g.val) + l.val), by omega⟩) := by
  refine Eq.trans ?_ (product_at X W b t ⟨2048 + (128 * (2 * s.val + g.val) + l.val), by omega⟩)
  unfold six
  generalize Host.dotGeneral (F := Ideal) dot_S128x4x2048_S2048x3632_S128x4x3632_2_0_01_1_n_n none X W = P
  have e : ∀ Z : FVec Ideal S128x4x1536 .f32, shapeCast S128x4x6x2x128 Z shapeCasts_S128x4x1536_S128x4x6x2x128 (ix5 b t s g l) = Z (ix3 b t ⟨128 * (2 * s.val + g.val) + l.val, by omega⟩) := by
    intro Z
    refine shapeCast_apply _ _ _ _ ?_
    rw [Shape.rowMajor_val_three, Shape.rowMajor_val_five]
    show (b.val * 4 + t.val) * 1536 + (128 * (2 * s.val + g.val) + l.val) = (((b.val * 4 + t.val) * 6 + s.val) * 2 + g.val) * 128 + l.val
    omega
  rw [e]
  pointwise []

theorem part_at (y : FVec Ideal S128x4x6x2x128 .f32) (s : ℕ) (h) (hs : s < 6) (b : Fin 128) (t : Fin 4) (g : Fin 2) (l : Fin 128) :
    part y s h (ix4 b t g l) = y (ix5 b t ⟨s, hs⟩ g l) := by
  unfold part
  have e : ∀ Z : FVec Ideal S128x4x1x2x128 .f32, shapeCast S128x4x2x128 Z shapeCasts_S128x4x1x2x128_S128x4x2x128 (ix4 b t g l) = Z (ix5 b t 0 g l) := by
    intro Z
    refine shapeCast_apply _ _ _ _ ?_
    rw [Shape.rowMajor_val_four, Shape.rowMajor_val_five]
    show (((b.val * 4 + t.val) * 1 + 0) * 2 + g.val) * 128 + l.val = ((b.val * 4 + t.val) * 2 + g.val) * 128 + l.val
    omega
  rw [e]
  pointwise []

theorem heads_at (v : FVec Ideal S128x4x2x128 .f32) (A3 : FVec Ideal S1x3x128 .f32) (s : ℕ) (h) (hs : s < 3) (b : Fin 128) (t : Fin 4) (g : Fin 2) (l : Fin 128) :
    heads v A3 s h (ix4 b t g l) = headed (fun i => v (ix4 b t g i)) (A3 (ix3 0 ⟨s, hs⟩ l)) l := by
  unfold heads headed
  pointwise []

theorem lay_at (v : FVec Ideal S128x4x2x128 .f32) (b : Fin 128) (t : Fin 4) (g : Fin 2) (l : Fin 128) : lay v (ix5 b t 0 g l) = v (ix4 b t g l) := by
  unfold lay
  pointwise []

theorem rowsOf_at (y : FVec Ideal S128x4x6x2x128 .f32) (A3 : FVec Ideal S1x3x128 .f32) (b : Fin 128) (t : Fin 4) (s : Fin 4) (g : Fin 2) (l : Fin 128) :
    rowsOf y A3 (ix5 b t s g l) = stored y A3 s (ix4 b t g l) := by
  refine Eq.trans ?_ (lay_at (stored y A3 s) b t g l)
  unfold rowsOf
  refine concatenate_ofFn_unit_apply (t := S128x4x4x2x128) (s₁ := S128x4x1x2x128) 2 (fun n => lay (stored y A3 n)) _ rfl rfl _ s rfl (ix5 b t 0 g l) ?_
  intro a ha
  fin_cases a
  · rfl
  · rfl
  · exact absurd rfl ha
  · rfl
  · rfl

theorem windowOf_at (y : FVec Ideal S128x4x6x2x128 .f32) (A3 : FVec Ideal S1x3x128 .f32) (b : Fin 128) (t : Fin 4) (s : Fin 2) (g : Fin 2) (l : Fin 128) :
    windowOf y A3 (ix5 b t s g l) = windowed y A3 s (ix4 b t g l) := by
  refine Eq.trans ?_ (lay_at (windowed y A3 s) b t g l)
  unfold windowOf
  refine concatenate_ofFn_unit_apply (t := S128x4x2x2x128) (s₁ := S128x4x1x2x128) 2 (fun n => lay (windowed y A3 n)) _ rfl rfl _ s rfl (ix5 b t 0 g l) ?_
  intro a ha
  fin_cases a
  · rfl
  · rfl
  · exact absurd rfl ha
  · rfl
  · rfl

/-- The weights' matrix, read. -/
theorem mat_at (A2 : FVec Ideal S1x2048x3632 .f32) (k : Fin 2048) (j : Fin 3632) : shapeCast S2048x3632 A2 shapeCasts_S1x2048x3632_S2048x3632 (ix2 k j) = A2 (ix3 0 k j) := by
  refine shapeCast_apply _ _ _ _ ?_
  rw [Shape.rowMajor_val_two, Shape.rowMajor_val_three]
  show (0 * 2048 + k.val) * 3632 + j.val = k.val * 3632 + j.val
  omega

/-- The six parts, from the arguments. -/
def sixOf (A0 : FVec Ideal S128x4x2048 .f32) (A1 : FVec Ideal S2x2048 .f32) (A2 : FVec Ideal S1x2048x3632 .f32) : FVec Ideal S128x4x6x2x128 .f32 :=
  six (xn A0 A1) (shapeCast S2048x3632 A2 shapeCasts_S1x2048x3632_S2048x3632)

variable (A0 : FVec Ideal S128x4x2048 .f32) (A1 : FVec Ideal S2x2048 .f32) (A2 : FVec Ideal S1x2048x3632 .f32) (A3 : FVec Ideal S1x3x128 .f32)

/-- An entry of head `p` at position `t` of sequence `b`, from the arguments. -/
def kvOf (b : Fin 128) (t : Fin 4) (p : Fin 12) (l : Fin 128) : EReal :=
  kv (fun k => A0 (ix3 b t k)) (fun k => A1 (ix2 0 k)) (fun k j => A2 (ix3 0 k ⟨2048 + j.val, by omega⟩)) (fun l => A3 (ix3 0 1 l)) (fun l => A3 (ix3 0 2 l)) p l

theorem sixOf_at (b : Fin 128) (t : Fin 4) (s : Fin 6) (g : Fin 2) (l : Fin 128) :
    sixOf A0 A1 A2 (ix5 b t s g l) = proj (fun k => A0 (ix3 b t k)) (fun k => A1 (ix2 0 k)) (fun k j => A2 (ix3 0 k ⟨2048 + j.val, by omega⟩)) ⟨2 * s.val + g.val, by omega⟩ l := by
  unfold sixOf
  rw [six_at]
  refine Finset.sum_congr rfl fun k _ => ?_
  rw [xn_at, mat_at]

theorem stored_at (b : Fin 128) (t : Fin 4) (s : Fin 4) (g : Fin 2) (l : Fin 128) :
    stored (sixOf A0 A1 A2) A3 s (ix4 b t g l) = kvOf A0 A1 A2 A3 b t ⟨2 * s.val + g.val, by omega⟩ l := by
  unfold kvOf kv
  fin_cases s
  · rw [if_neg (by show ¬(2 * 0 + g.val) / 2 = 2; omega), if_neg (by show ¬(2 * 0 + g.val) / 2 = 4; omega)]
    exact (part_at _ 0 _ (by decide) b t g l).trans (sixOf_at A0 A1 A2 b t 0 g l)
  · rw [if_neg (by show ¬(2 * 1 + g.val) / 2 = 2; omega), if_neg (by show ¬(2 * 1 + g.val) / 2 = 4; omega)]
    exact (part_at _ 1 _ (by decide) b t g l).trans (sixOf_at A0 A1 A2 b t 1 g l)
  · rw [if_pos (by show (2 * 2 + g.val) / 2 = 2; omega)]
    refine (heads_at _ A3 1 _ (by decide) b t g l).trans (congrArg (headed · _ l) (funext fun i => ?_))
    exact (part_at _ 2 _ (by decide) b t g i).trans (sixOf_at A0 A1 A2 b t 2 g i)
  · rw [if_neg (by show ¬(2 * 3 + g.val) / 2 = 2; omega), if_neg (by show ¬(2 * 3 + g.val) / 2 = 4; omega)]
    exact (part_at _ 3 _ (by decide) b t g l).trans (sixOf_at A0 A1 A2 b t 3 g l)

theorem windowed_at (b : Fin 128) (t : Fin 4) (s : Fin 2) (g : Fin 2) (l : Fin 128) :
    windowed (sixOf A0 A1 A2) A3 s (ix4 b t g l) = kvOf A0 A1 A2 A3 b t ⟨8 + (2 * s.val + g.val), by omega⟩ l := by
  unfold kvOf kv
  fin_cases s
  · rw [if_neg (by show ¬(8 + (2 * 0 + g.val)) / 2 = 2; omega), if_pos (by show (8 + (2 * 0 + g.val)) / 2 = 4; omega)]
    refine (heads_at _ A3 2 _ (by decide) b t g l).trans (congrArg₂ (fun f p => headed f p l) (funext fun i => ?_) rfl)
    refine (part_at _ 4 _ (by decide) b t g i).trans ((sixOf_at A0 A1 A2 b t 4 g i).trans (congrArg (fun p => proj _ _ _ p i) (Fin.ext ?_)))
    show 2 * 4 + g.val = 8 + (2 * 0 + g.val); omega
  · rw [if_neg (by show ¬(8 + (2 * 1 + g.val)) / 2 = 2; omega), if_neg (by show ¬(8 + (2 * 1 + g.val)) / 2 = 4; omega)]
    refine (part_at _ 5 _ (by decide) b t g l).trans ((sixOf_at A0 A1 A2 b t 5 g l).trans (congrArg (fun p => proj _ _ _ p l) (Fin.ext ?_)))
    show 2 * 5 + g.val = 8 + (2 * 1 + g.val); omega

/-! The stored rows, an entry at a time. -/

theorem out0_at (b : Fin 128) (t : Fin 4) (s : Fin 4) (g : Fin 2) (l : Fin 128) :
    broadcastInDim S1x128x4x4x2x128 ![1, 2, 3, 4, 5] bcast_S128x4x4x2x128_S1x128x4x4x2x128_1_2_3_4_5 (rowsOf (sixOf A0 A1 A2) A3) (ix6 0 b t s g l)
      = kvOf A0 A1 A2 A3 b t ⟨2 * s.val + g.val, by omega⟩ l := by
  have e : ∀ Z : FVec Ideal S128x4x4x2x128 .f32, broadcastInDim S1x128x4x4x2x128 ![1, 2, 3, 4, 5] bcast_S128x4x4x2x128_S1x128x4x4x2x128_1_2_3_4_5 Z (ix6 0 b t s g l) = Z (ix5 b t s g l) := by
    intro Z
    pointwise []
  rw [e, rowsOf_at, stored_at]

/-! The run's results are these. -/

section
open Cert.KvSRefIdeal.Value
variable (m : (ℓ : Loc nD τ sig) → Buf (Elt Ideal) ℓ) (c : Dev nD)

/-- The six parts and the gains of a run's arguments. -/
def sixAt : FVec Ideal S128x4x6x2x128 .f32 := sixOf (m ((c.tc : Thread nD τ).loc main_arg0)) (m ((c.tc : Thread nD τ).loc main_arg2)) (m ((c.tc : Thread nD τ).loc main_arg3))
def gainAt : FVec Ideal S1x3x128 .f32 := m ((c.tc : Thread nD τ).loc main_arg4)

/-- The window moved on: the cached rows and the new ones behind them, the last 512 of each sample. -/
def moved (A : FVec Ideal S128x512x2x2x128 .f32) (B : FVec Ideal S128x4x2x2x128 .f32) : FVec Ideal S1x128x512x2x2x128 .f32 :=
  broadcastInDim S1x128x512x2x2x128 ![1, 2, 3, 4, 5] bcast_S128x512x2x2x128_S1x128x512x2x2x128_1_2_3_4_5
    (extractStridedSlice S128x512x2x2x128 ![0, 4, 0, 0, 0] (concatenate S128x516x2x2x128 1 [⟨S128x512x2x2x128, A⟩, ⟨S128x4x2x2x128, B⟩] concatenates_S128x512x2x2x128_S128x4x2x2x128_S128x516x2x2x128_d1)
      slices_S128x516x2x2x128_S128x512x2x2x128_0_4_0_0_0)

theorem res_0 : res_main_v71 (F := Ideal) m c = broadcastInDim S1x128x4x4x2x128 ![1, 2, 3, 4, 5] bcast_S128x4x4x2x128_S1x128x4x4x2x128_1_2_3_4_5 (rowsOf (sixAt m c) (gainAt m c)) := by
  unfold res_main_v71
  rfl
theorem res_1 : res_main_v73 (F := Ideal) m c
    = moved (shapeCast S128x512x2x2x128 (m ((c.tc : Thread nD τ).loc main_arg1) : FVec Ideal S1x128x512x2x2x128 .f32) shapeCasts_S1x128x512x2x2x128_S128x512x2x2x128) (windowOf (sixAt m c) (gainAt m c)) := by
  unfold res_main_v73
  rfl
end

end Cert.KvSRefIdeal.Own

end
-- ==== Proof.KvS.Result.lean ====
/- The key and value projection of the samples: its frames, and its two results against the plain program. -/
module

public import proofs.«01_k».proof.Defs
public import Idealize.ShloMosaic.Adequacy
public import Idealize.ShloMosaic.Init
public import proofs.«01_k».proof.Proof.Gen.KvS.Frame
public import proofs.«01_k».proof.Proof.Gen.KvSIdeal.Frame
public import proofs.«01_k».proof.Proof.KvS.Points
public import proofs.«01_k».proof.Proof.KvS.Plain

@[expose] public section

set_option maxRecDepth 16384

noncomputable section

namespace Cert.Proof

open Idealize.ShloMosaic Idealize.ShloMosaic.TcCoe Idealize.ShloMosaic.Tactic Idealize.SL.Sem

theorem frame_kvS : Cert.quiescent_KvS := fun m ρ _ => Cert.KvS.Gen.frame m ρ

theorem frame_kvSIdeal : Cert.quiescent_KvSIdeal := fun m ρ _ => Cert.KvSIdeal.Gen.frame m ρ

/-- The plain program declares no semaphore, and no operation writes an argument. -/
theorem frame_kvSRef : Cert.quiescent_KvSRefIdeal := fun m ρ _ =>
  (θ_run Cert.KvSRefIdeal.defs _ _).mono (fun r h => ⟨fun c => (h c).2.2, Idealize.ShloMosaic.sem_eq_zero_of_no_sems (by decide) r.2⟩)
    (Cert.KvSRefIdeal.Value.run (F := Ideal) m ρ)

section
open Cert.KvSIdeal Cert.KvSIdeal.Gen Cert.KvSIdeal.Own

/-- What the kernel's run leaves in its two results and its arguments. -/
theorem run_kvS (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = storedRows m c
      ∧ r.2.mem ((c.tc : Thread nD τ).loc main_v30) = lastRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, ?_, ?_, ?_, ?_, ?_, ?_⟩) (run_main m ρ)
  · exact ((h c).2 main_v26 (Pipeline.mem_restRefs_of main_v26 (by decide) (by decide))).trans (tail_26 m c)
  · exact ((h c).2 main_v30 (Pipeline.mem_restRefs_of main_v30 (by decide) (by decide))).trans (tail_30 m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

/-- The kernel's entry and the plain program's are the same function of the arguments. -/
theorem kvS_agree (m : (ℓ : Loc nD τ sig) → Buf (Elt Ideal) ℓ) (c : Dev nD) (b : Fin 128) (t : Fin 4) (p : Fin 12) (l : Fin 128) :
    Cert.KvSRefIdeal.Own.kvOf (m ((c.tc : Thread nD τ).loc main_arg0)) (m ((c.tc : Thread nD τ).loc main_arg2)) (m ((c.tc : Thread nD τ).loc main_arg3)) (m ((c.tc : Thread nD τ).loc main_arg4)) b t p l
      = kvAt m c ⟨4 * b.val + t.val, by omega⟩ p l := by
  unfold Cert.KvSRefIdeal.Own.kvOf kvAt
  refine congrArg (fun x => Cert.Project.kv x _ _ _ _ p l) (funext fun k => ?_)
  unfold rows
  refine congrArg₂ (fun a d => (m ((c.tc : Thread nD τ).loc main_arg0) : FVec Ideal S128x4x2048 .f32) (ix3 a d k)) (Fin.ext ?_) (Fin.ext ?_)
  · show b.val = (4 * b.val + t.val) / 4; omega
  · show t.val = (4 * b.val + t.val) % 4; omega
end

theorem algebraic_kvS : Cert.algebraic_KvSIdeal_KvSRefIdeal := by
  intro m ρ m' ρ' _ hagree
  refine ⟨Cert.KvSIdeal.Own.storedRows m, Cert.KvSIdeal.Own.lastRows m, ?_, ?_⟩
  · exact run_kvS m ρ
  · refine (θ_run Cert.KvSRefIdeal.defs _ _).mono (fun r h c => ⟨(h c).1.trans ?_, (h c).2.1.trans ?_, (h c).2.2⟩) (Cert.KvSRefIdeal.Value.run (F := Ideal) m' ρ')
    · rw [Cert.KvSRefIdeal.Own.res_0, Cert.KvSRefIdeal.Own.sixAt, Cert.KvSRefIdeal.Own.gainAt, (hagree c).1, (hagree c).2.2.1, (hagree c).2.2.2.1, (hagree c).2.2.2.2]
      funext i
      idx_vars i
      obtain rfl : i0 = 0 := Subsingleton.elim _ _
      exact (Cert.KvSRefIdeal.Own.out0_at _ _ _ _ i1 i2 i3 i4 i5).trans ((kvS_agree m c i1 i2 _ i5).trans (Cert.KvSIdeal.Own.stored_at m c i1 i2 i3 i4 i5).symm)
    · rw [Cert.KvSRefIdeal.Own.res_1, Cert.KvSRefIdeal.Own.sixAt, Cert.KvSRefIdeal.Own.gainAt, (hagree c).1, (hagree c).2.1, (hagree c).2.2.1, (hagree c).2.2.2.1, (hagree c).2.2.2.2]
      refine congrArg (Cert.KvSRefIdeal.Own.moved _) (funext fun i => ?_)
      idx_vars i
      exact (Cert.KvSRefIdeal.Own.windowOf_at _ _ i0 i1 i2 i3 i4).trans ((Cert.KvSRefIdeal.Own.windowed_at _ _ _ _ i0 i1 i2 i3 i4).trans ((kvS_agree m c i0 i1 _ i4).trans (Cert.KvSIdeal.Own.new_at m c i0 i1 i2 i3 i4).symm))

end Cert.Proof

end
-- ==== Proof.Query.Chunks.lean ====
/- The query projection's block: sixteen pieces, each normed over its head, stored turned. -/
module

public import proofs.«01_k».proof.Proof.Kv.Chunks
public import proofs.«01_k».proof.Proof.Gen.QueryIdeal.Skeleton
public import proofs.«01_k».proof.Proof.Gen.QueryIdeal.Frame
public import Idealize.ShloMosaic.Lib.Pointwise
public import Idealize.ShloMosaic.Lib.Pipeline.Value
public import Idealize.ShloMosaic.Lib.Pipeline.ReadBack
public import Idealize.ShloMosaic.Lib.Pipeline.ValueKit
public import Idealize.ShloMosaic.Lib.WholeRead

@[expose] public section

set_option maxRecDepth 16384

noncomputable section

namespace Cert.QueryIdeal.Own

open Idealize.ShloMosaic Idealize.ShloMosaic.TcCoe Idealize.ShloMosaic.Tactic Idealize.SL.Sem
open Cert.QueryIdeal.Gen Cert.Feed Cert.Project

/-- The piece at column `o`: normed over the head where the flag is positive, else as it is. -/
def piece (y : FVec Ideal S512x2048 .f32) (g f : FVec Ideal S1x2048 .f32) (o : ℕ) (h : S512x2048.Slices ![0, o] S512x128) (h' : S1x2048.Slices ![0, o] S1x128) :
    FVec Ideal S512x128 .f32 :=
  let v : FVec Ideal S512x128 .f32 := extractStridedSlice S512x128 ![0, o] y h
  let ms : FVec Ideal S512x1 .f32 := divf (shapeCast S512x1 (multiReduction .add [1] S512 (mulf v v) 0x00000000#32 reduces_S512x128_S512 (.inl rfl) rfl) shapeCasts_S512_S512x1) (broadcast S512x1 (Scalar.ofBits .f32 0x43000000#32))
  let r : FVec Ideal S512x1 .f32 := rsqrt (addf ms (broadcast S512x1 (Scalar.ofBits .f32 0x358637BD#32)))
  let n : FVec Ideal S512x128 .f32 := mulf (mulf v (broadcastTo S512x128 r broadcasts_S512x1_S512x128)) (broadcastTo S512x128 (extractStridedSlice S1x128 ![0, o] g h') broadcasts_S1x128_S512x128)
  select (broadcastTo S512x128 (shapeCast S1x128 (cmpf .ogt (extractStridedSlice S1x128 ![0, o] f h') (broadcast S1x128 (Scalar.ofBits .f32 0x00000000#32))) shapeCasts_S1x128_S1x128) broadcasts_S1x128_S512x128) n v

theorem piece_at (y : FVec Ideal S512x2048 .f32) (g f : FVec Ideal S1x2048 .f32) (o : ℕ) (h h') (ho : o + 128 ≤ 2048) (x : Fin 512) (l : Fin 128) :
    piece y g f o h h' (ix2 x l) = if 0 < f (ix2 0 ⟨o + l.val, by omega⟩) then headed (fun i => y (ix2 x ⟨o + i.val, by omega⟩)) (g (ix2 0 ⟨o + l.val, by omega⟩)) l
      else y (ix2 x ⟨o + l.val, by omega⟩) := by
  unfold piece headed
  pointwise []

/-- The sixteen pieces lie within the block. -/
theorem wide (n : Fin 16) : S512x2048.Slices ![0, 128 * n.val] S512x128 := by
  revert n; decide
theorem wide1 (n : Fin 16) : S1x2048.Slices ![0, 128 * n.val] S1x128 := by
  revert n; decide

/-- The sixteen pieces. -/
def ps (y : FVec Ideal S512x2048 .f32) (g f : FVec Ideal S1x2048 .f32) (n : Fin 16) : FVec Ideal S512x128 .f32 :=
  piece y g f (128 * n.val) (wide n) (wide1 n)

/-- The pieces side by side. -/
def sides (y : FVec Ideal S512x2048 .f32) (g f : FVec Ideal S1x2048 .f32) : FVec Ideal S512x2048 .f32 :=
  concatenate S512x2048 1 (List.ofFn fun n : Fin 16 => ⟨S512x128, ps y g f n⟩) concatenates_S512x128_S512x128_S512x128_S512x128_S512x128_S512x128_S512x128_S512x128_S512x128_S512x128_S512x128_S512x128_S512x128_S512x128_S512x128_S512x128_S512x2048_d1

theorem ps_eq (y : FVec Ideal S512x2048 .f32) (g f : FVec Ideal S1x2048 .f32) (p : Fin 16) (x : Fin 512) (l : Fin 128) :
    ps y g f p (ix2 x l) = if 0 < f (ix2 0 ⟨128 * p.val + l.val, by omega⟩) then headed (fun i => y (ix2 x ⟨128 * p.val + i.val, by omega⟩)) (g (ix2 0 ⟨128 * p.val + l.val, by omega⟩)) l
      else y (ix2 x ⟨128 * p.val + l.val, by omega⟩) := by
  exact piece_at y g f _ _ _ (by omega) x l

/-- Column `128 p + l` of the block is piece `p`'s column `l`. -/
theorem sides_at (y : FVec Ideal S512x2048 .f32) (g f : FVec Ideal S1x2048 .f32) (x : Fin 512) (p : Fin 16) (l : Fin 128) :
    sides y g f (ix2 x ⟨128 * p.val + l.val, by omega⟩) = ps y g f p (ix2 x l) := by
  unfold sides
  refine concatenate_ofFn_apply (t := S512x2048) (s₁ := S512x128) 1 (ps y g f) _ rfl 128 rfl _ p ?_ (ix2 x l) ?_ ?_
  · show (128 * p.val + l.val) / 128 = p.val; omega
  · show l.val = (128 * p.val + l.val) % 128; omega
  · intro b hb
    fin_cases b
    · rfl
    · exact absurd rfl hb

theorem product_at (v3 : Vec Ideal S512x2048 .bf16) (v4 : Vec Ideal S2048x2048 .bf16) (x : Fin 512) (j : Fin 2048) :
    k0_pay2 (F := Ideal) v3 v4 (ix2 x j) = ∑ k : Fin 2048, v3 (ix2 x k) * v4 (ix2 k j) := by
  unfold k0_pay2
  pointwise []

theorem norm_at (v : Vec Ideal S512x2048 .f32) (g : Vec Ideal S1x2048 .f32) (x : Fin 512) (k : Fin 2048) :
    k0_pay1 (F := Ideal) v g (ix2 x k) = normed (fun i => v (ix2 x i)) (fun i => g (ix2 0 i)) k :=
  Cert.KvIdeal.Own.norm_at v g x k

theorem gain_row (v : Vec Ideal S1x2048 .f32) : k0_pay3 (F := Ideal) v = v := by
  funext i; idx_vars i
  unfold k0_pay3
  pointwise []

theorem flag_row (v : Vec Ideal S1x2048 .f32) : k0_pay4 (F := Ideal) v = v := by
  funext i; idx_vars i
  unfold k0_pay4
  pointwise []

variable (m : (ℓ : Loc nD τ sig) → Buf (Elt Ideal) ℓ)

/-- A point's block, its 2048 columns side by side. -/
def block (c : Dev nD) (t : Fin cfg0.N) : FVec Ideal S512x2048 .f32 :=
  sides (k0_pay2 (k0_pay1 (iblk m c 0 t) (iblk m c 1 t)) (iblk m c 2 t)) (k0_pay3 (iblk m c 3 t)) (k0_pay4 (iblk m c 4 t))

/-- What is stored: the block turned. -/
theorem outs_5 (c : Dev nD) (t : Fin cfg0.N) : outsAt0 m c t = (truncf .bf16 (transpose S2048x512 [1, 0] (block m c t) transposes_S512x2048_p1_0_S2048x512 : FVec Ideal S2048x512 .f32) bitsLt_bf16_f32 : FVec Ideal S2048x512 .bf16) := by
  unfold outsAt0
  frame_out
  rfl

theorem outs_at (c : Dev nD) (t : Fin cfg0.N) (j : Fin 2048) (x : Fin 512) : outsAt0 m c t (ix2 j x) = block m c t (ix2 x j) := by
  rw [outs_5]
  pointwise []

end Cert.QueryIdeal.Own

end
-- ==== Proof.Query.Points.lean ====
/- What the query projection leaves: every head of a row's product with the weights, normed with the one gain. -/
module

public import proofs.«01_k».proof.Proof.Query.Chunks
public import Idealize.ShloMosaic.Lib.Pipeline.ReadBack

@[expose] public section

set_option maxRecDepth 16384

noncomputable section

namespace Cert.QueryIdeal.Own

open Idealize.ShloMosaic Idealize.ShloMosaic.TcCoe Idealize.ShloMosaic.Tactic Idealize.SL.Sem
open Cert.QueryIdeal.Gen Cert.Feed Cert.Project

variable (m : (ℓ : Loc nD τ sig) → Buf (Elt Ideal) ℓ)

/-- The four arguments of the launch, as functions of their coordinates. -/
def rows (c : Dev nD) (r : Fin 16384) (k : Fin 2048) : EReal :=
  (m ((c : Thread nD τ).loc main_arg0) : FVec Ideal S8x2048x2048 .f32) (ix3 ⟨r.val / 2048, by omega⟩ ⟨r.val % 2048, by omega⟩ k)
def gamma (c : Dev nD) (k : Fin 2048) : EReal := (m ((c : Thread nD τ).loc main_arg1) : FVec Ideal S2x2048 .f32) (ix2 0 k)
def weight (c : Dev nD) (k : Fin 2048) (j : Fin 2048) : EReal :=
  (m ((c : Thread nD τ).loc main_arg2) : FVec Ideal S1x2048x3632 .f32) (ix3 0 k ⟨j.val, by omega⟩)
def queryGain (c : Dev nD) (l : Fin 128) : EReal := (m ((c : Thread nD τ).loc main_arg3) : FVec Ideal S1x128 .f32) (ix2 0 l)

theorem index_at : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, t.val] :=
  (by decide +kernel : ∀ t : Fin grid0.N, _)

theorem points_lt (t : Fin cfg0.N) : t.val < 32 := lt_of_lt_of_eq t.isLt N_0

/-- The row of the array that row `x` of a point's block is. -/
abbrev rowOf (t : Fin cfg0.N) (x : Fin 512) : Fin 16384 := ⟨512 * t.val + x.val, by have := points_lt t; omega⟩

/-- The rows laid out in one run. -/
theorem V_rows (c : Dev nD) (r : Fin 16384) (k : Fin 2048) : (V m c main_v3 : FVec Ideal S16384x2048 .f32) (ix2 r k) = rows m c r k := by
  have e : (V m c main_v3 : FVec Ideal S16384x2048 .f32) = shapeCast S16384x2048 (m ((c : Thread nD τ).loc main_arg0)) shapeCasts_S8x2048x2048_S16384x2048 := by
    show StableHlo.after hostOps0 _ _ = _
    after_results
    rfl
  rw [e]
  unfold rows
  refine shapeCast_apply _ _ _ (ix3 ⟨r.val / 2048, by omega⟩ ⟨r.val % 2048, by omega⟩ k) ?_
  rw [Shape.rowMajor_val_two, Shape.rowMajor_val_three]
  show (r.val / 2048 * 2048 + r.val % 2048) * 2048 + k.val = r.val * 2048 + k.val
  omega

theorem V_gamma (c : Dev nD) (k : Fin 2048) : (V m c main_v11 : FVec Ideal S1x2048 .f32) (ix2 0 k) = gamma m c k := by
  have e : (V m c main_v11 : FVec Ideal S1x2048 .f32) = shapeCast S1x2048 (shapeCast S2048 (extractStridedSlice S1x2048 ![0, 0] (m ((c : Thread nD τ).loc main_arg1)) slices_S2x2048_S1x2048_0_0) shapeCasts_S1x2048_S2048) shapeCasts_S2048_S1x2048 := by
    show StableHlo.after hostOps0 _ _ = _
    after_results
    rfl
  rw [e]
  unfold gamma
  pointwise []

theorem V_weight (c : Dev nD) (k : Fin 2048) (j : Fin 2048) : (V m c main_v2 : FVec Ideal S2048x2048 .bf16) (ix2 k j) = weight m c k j := by
  have e : (V m c main_v2 : FVec Ideal S2048x2048 .bf16) = (truncf .bf16 (extractStridedSlice S2048x2048 ![0, 0] (shapeCast S2048x3632 (m ((c : Thread nD τ).loc main_arg2) : FVec Ideal S1x2048x3632 .f32) shapeCasts_S1x2048x3632_S2048x3632) slices_S2048x3632_S2048x2048_0_0) bitsLt_bf16_f32 : FVec Ideal S2048x2048 .bf16) := by
    show StableHlo.after hostOps0 _ _ = _
    after_results
    rfl
  rw [e]
  have slice : ∀ B : FVec Ideal S2048x3632 .f32, truncf (F := Ideal) .bf16 (extractStridedSlice S2048x2048 ![0, 0] B slices_S2048x3632_S2048x2048_0_0 : FVec Ideal S2048x2048 .f32) bitsLt_bf16_f32 (ix2 k j)
      = B (ix2 k ⟨j.val, by omega⟩) := by
    intro B
    pointwise []
  refine (slice _).trans ?_
  unfold weight
  refine shapeCast_apply _ _ _ (ix3 0 k ⟨j.val, by omega⟩) ?_
  rw [Shape.rowMajor_val_two, Shape.rowMajor_val_three]
  show (0 * 2048 + k.val) * 3632 + j.val = k.val * 3632 + j.val
  omega

theorem V_gain (c : Dev nD) (p : Fin 16) (l : Fin 128) : (V m c main_v12 : FVec Ideal S1x2048 .f32) (ix2 0 ⟨128 * p.val + l.val, by omega⟩) = queryGain m c l := by
  have e : (V m c main_v12 : FVec Ideal S1x2048 .f32) = shapeCast S1x2048 (shapeCast S2048 (broadcastInDim S16x128 ![0, 1] bcast_S1x128_S16x128_0_1 (shapeCast S1x128 (shapeCast S128 (m ((c : Thread nD τ).loc main_arg3) : FVec Ideal S1x128 .f32) shapeCasts_S1x128_S128) shapeCasts_S128_S1x128)) shapeCasts_S16x128_S2048) shapeCasts_S2048_S1x2048 := by
    show StableHlo.after hostOps0 _ _ = _
    after_results
    rfl
  rw [e]
  unfold queryGain
  pointwise []

theorem V_flag (c : Dev nD) (j : Fin 2048) : (V m c main_v13 : FVec Ideal S1x2048 .f32) (ix2 0 j) = (1 : EReal) := by
  have e : (V m c main_v13 : FVec Ideal S1x2048 .f32) = shapeCast S1x2048 (broadcastInDim S2048 ![] bcast_S_S2048 (constant (F := Ideal) S_ .f32 0x3F800000#32)) shapeCasts_S2048_S1x2048 := by
    show StableHlo.after hostOps0 _ _ = _
    after_results
    rfl
  rw [e]
  pointwise []

theorem rows_blk (c : Dev nD) (t : Fin cfg0.N) (x : Fin 512) (k : Fin 2048) : (iblk m c 0 t : FVec Ideal S512x2048 .f32) (ix2 x k) = rows m c (rowOf t x) k := by
  rw [← V_rows]
  blk_point [iblk, index_at t]

theorem gamma_blk (c : Dev nD) (t : Fin cfg0.N) (k : Fin 2048) : (iblk m c 1 t : FVec Ideal S1x2048 .f32) (ix2 0 k) = gamma m c k := by
  rw [← V_gamma]
  blk_point [iblk, index_at t]

theorem weight_blk (c : Dev nD) (t : Fin cfg0.N) (k : Fin 2048) (j : Fin 2048) : (iblk m c 2 t : FVec Ideal S2048x2048 .bf16) (ix2 k j) = weight m c k j := by
  rw [← V_weight]
  blk_point [iblk, index_at t]

theorem gain_blk (c : Dev nD) (t : Fin cfg0.N) (p : Fin 16) (l : Fin 128) : (iblk m c 3 t : FVec Ideal S1x2048 .f32) (ix2 0 ⟨128 * p.val + l.val, by omega⟩) = queryGain m c l := by
  rw [← V_gain m c p l]
  blk_point [iblk, index_at t]

theorem flag_blk (c : Dev nD) (t : Fin cfg0.N) (j : Fin 2048) : (iblk m c 4 t : FVec Ideal S1x2048 .f32) (ix2 0 j) = (1 : EReal) := by
  rw [← V_flag m c j]
  blk_point [iblk, index_at t]

/-- A head of a row, from the row, the norm's weights, the matrix and the head's gain. -/
def head (x g : Fin 2048 → EReal) (w : Fin 2048 → Fin 2048 → EReal) (q : Fin 128 → EReal) (p : Fin 16) (l : Fin 128) : EReal :=
  headed (fun i => ∑ k, normed x g k * w k ⟨128 * p.val + i.val, by omega⟩) (q l) l

/-- A row's entry, from the arguments. -/
def queryAt (c : Dev nD) (r : Fin 16384) (p : Fin 16) (l : Fin 128) : EReal := head (rows m c r) (gamma m c) (weight m c) (queryGain m c) p l

theorem proj_at (c : Dev nD) (t : Fin cfg0.N) (x : Fin 512) (j : Fin 2048) :
    k0_pay2 (F := Ideal) (k0_pay1 (iblk m c 0 t) (iblk m c 1 t)) (iblk m c 2 t) (ix2 x j) = ∑ k, normed (rows m c (rowOf t x)) (gamma m c) k * weight m c k j := by
  rw [product_at]
  refine Finset.sum_congr rfl fun k _ => ?_
  rw [norm_at, weight_blk]
  refine congrArg (· * _) (congrArg₂ (fun f g => normed f g k) (funext fun i => ?_) (funext fun i => ?_))
  · exact rows_blk m c t x i
  · exact gamma_blk m c t i

/-- Column `128 p + l` of the block's row `x`. -/
theorem block_at (c : Dev nD) (t : Fin cfg0.N) (x : Fin 512) (p : Fin 16) (l : Fin 128) :
    block m c t (ix2 x ⟨128 * p.val + l.val, by omega⟩) = queryAt m c (rowOf t x) p l := by
  unfold block
  rw [sides_at, ps_eq, gain_row, flag_row, gain_blk, flag_blk, if_pos (zero_lt_one (α := EReal))]
  simp only [proj_at]
  rfl

/-- The array the launch leaves: one column a row. -/
def turned (c : Dev nD) : S2048x16384.Idx → EReal := fun i => queryAt m c (i 1) ⟨(i 0).val / 128, by have h : (i 0).val < 2048 := (i 0).isLt; omega⟩ ⟨(i 0).val % 128, by omega⟩

theorem result_5 (c : Dev nD) : (dats m 0 c).arrAt 5 cfg0.N = turned m c := by
  refine (dats m 0 c).arrAt_eq_of_covers 5 _ (by decide +kernel) fun t _ y => ?_
  blk_simp
  rw [after0_5]
  idx_vars y
  have key : ∀ A : S2048x16384.Idx → EReal, A (ix2 y0 (rowOf t y1)) = A (((View.whole main_v14).slice (win0_5.rect t)).emb (ix2 y0 y1)) := by
    intro A
    symm
    blk_point [index_at t]
  refine Eq.trans ?_ (key (turned m c))
  refine Eq.trans ?_ (block_at m c t y1 ⟨y0.val / 128, by omega⟩ ⟨y0.val % 128, by omega⟩)
  refine (outs_at m c t y0 y1).trans (congrArg (fun j => block m c t (ix2 y1 j)) (Fin.ext ?_))
  show y0.val = 128 * (y0.val / 128) + y0.val % 128
  omega

end Cert.QueryIdeal.Own

end
-- ==== Proof.Query.Plain.lean ====
/- The plain query projection, an entry at a time. -/
module

public import proofs.«01_k».proof.Proof.Kv.Plain
public import proofs.«01_k».proof.Proof.Query.Points
public import proofs.«01_k».proof.Proof.Gen.QueryRefIdeal.Run
public import Idealize.ShloMosaic.Lib.Pointwise
public import Idealize.ShloMosaic.Lib.Pipeline.Value

@[expose] public section

set_option maxRecDepth 16384

noncomputable section

namespace Cert.QueryRefIdeal.Own

open Idealize.ShloMosaic Idealize.ShloMosaic.TcCoe Idealize.ShloMosaic.Tactic Idealize.SL.Sem
open Cert.QueryRefIdeal Cert.QueryRefIdeal.Gen Cert.Feed Cert.Project

/-- The product's first 2048 columns, as sixteen heads of 128. -/
def sixteen (X : FVec Ideal S8x2048x2048 .f32) (W : FVec Ideal S2048x3632 .f32) : FVec Ideal S8x2048x16x128 .f32 :=
  shapeCast S8x2048x16x128 (extractStridedSlice S8x2048x2048 ![0, 0, 0] (Host.dotGeneral dot_S8x2048x2048_S2048x3632_S8x2048x3632_2_0_01_1_n_n none X W) slices_S8x2048x3632_S8x2048x2048_0_0_0) shapeCasts_S8x2048x2048_S8x2048x16x128

/-- The heads normed, with the one gain. -/
def heads (v : FVec Ideal S8x2048x16x128 .f32) (A3 : FVec Ideal S1x128 .f32) : FVec Ideal S8x2048x16x128 .f32 :=
  mulf (mulf v (broadcastInDim S8x2048x16x128 ![0, 1, 2, 3] bcast_S8x2048x16x1_S8x2048x16x128_0_1_2_3 (Host.rsqrt (addf (Host.divf (broadcastInDim S8x2048x16x1 ![0, 1, 2] bcast_S8x2048x16_S8x2048x16x1_0_1_2 (Host.reduceAdd (mulf v v) (constant S_ .f32 0x00000000#32) reducesTo_S8x2048x16x128_S8x2048x16_d3 h_S_)) (broadcastInDim S8x2048x16x1 ![] bcast_S_S8x2048x16x1 (constant S_ .f32 0x43000000#32))) (broadcastInDim S8x2048x16x1 ![] bcast_S_S8x2048x16x1 (constant S_ .f32 0x358637BD#32))))))
    (broadcastInDim S8x2048x16x128 ![0, 1, 2, 3] bcast_S1x1x1x128_S8x2048x16x128_0_1_2_3 (broadcastInDim S1x1x1x128 ![3] bcast_S128_S1x1x1x128_3 (shapeCast S128 A3 shapeCasts_S1x128_S128)))

/-- The rows of heads, turned. -/
def turned (v : FVec Ideal S8x2048x16x128 .f32) : FVec Ideal S2048x16384 .bf16 :=
  truncf .bf16 (transpose S2048x16384 [1, 0] (shapeCast S16384x2048 v shapeCasts_S8x2048x16x128_S16384x2048) transposes_S16384x2048_S2048x16384_1_0 : FVec Ideal S2048x16384 .f32) bitsLt_bf16_f32

theorem sixteen_at (X : FVec Ideal S8x2048x2048 .f32) (W : FVec Ideal S2048x3632 .f32) (b : Fin 8) (t : Fin 2048) (p : Fin 16) (l : Fin 128) :
    sixteen X W (ix4 b t p l) = ∑ k : Fin 2048, X (ix3 b t k) * W (ix2 k ⟨128 * p.val + l.val, by omega⟩) := by
  have pr : Host.dotGeneral (F := Ideal) dot_S8x2048x2048_S2048x3632_S8x2048x3632_2_0_01_1_n_n none X W (ix3 b t ⟨128 * p.val + l.val, by omega⟩) = ∑ k : Fin 2048, X (ix3 b t k) * W (ix2 k ⟨128 * p.val + l.val, by omega⟩) :=
    Cert.KvRefIdeal.Own.product_at X W b t ⟨128 * p.val + l.val, by omega⟩
  refine Eq.trans ?_ pr
  unfold sixteen
  generalize Host.dotGeneral (F := Ideal) dot_S8x2048x2048_S2048x3632_S8x2048x3632_2_0_01_1_n_n none X W = P
  have e : ∀ Z : FVec Ideal S8x2048x2048 .f32, shapeCast S8x2048x16x128 Z shapeCasts_S8x2048x2048_S8x2048x16x128 (ix4 b t p l) = Z (ix3 b t ⟨128 * p.val + l.val, by omega⟩) := by
    intro Z
    refine shapeCast_apply _ _ _ _ ?_
    rw [Shape.rowMajor_val_three, Shape.rowMajor_val_four]
    show (b.val * 2048 + t.val) * 2048 + (128 * p.val + l.val) = ((b.val * 2048 + t.val) * 16 + p.val) * 128 + l.val
    omega
  rw [e]
  pointwise []

theorem heads_at (v : FVec Ideal S8x2048x16x128 .f32) (A3 : FVec Ideal S1x128 .f32) (b : Fin 8) (t : Fin 2048) (p : Fin 16) (l : Fin 128) :
    heads v A3 (ix4 b t p l) = headed (fun i => v (ix4 b t p i)) (A3 (ix2 0 l)) l := by
  unfold heads headed
  pointwise []

theorem turned_at (v : FVec Ideal S8x2048x16x128 .f32) (j : Fin 2048) (r : Fin 16384) :
    turned v (ix2 j r) = v (ix4 ⟨r.val / 2048, by omega⟩ ⟨r.val % 2048, by omega⟩ ⟨j.val / 128, by omega⟩ ⟨j.val % 128, by omega⟩) := by
  have e : ∀ Z : FVec Ideal S16384x2048 .f32, truncf (F := Ideal) .bf16 (transpose S2048x16384 [1, 0] Z transposes_S16384x2048_S2048x16384_1_0 : FVec Ideal S2048x16384 .f32) bitsLt_bf16_f32 (ix2 j r) = Z (ix2 r j) := by
    intro Z
    pointwise []
  refine (e _).trans ?_
  refine shapeCast_apply _ _ _ _ ?_
  rw [Shape.rowMajor_val_two, Shape.rowMajor_val_four]
  show ((r.val / 2048 * 2048 + r.val % 2048) * 16 + j.val / 128) * 128 + j.val % 128 = r.val * 2048 + j.val
  omega

/-- The result, from the arguments. -/
def resOf (A0 : FVec Ideal S8x2048x2048 .f32) (A1 : FVec Ideal S2x2048 .f32) (A2 : FVec Ideal S1x2048x3632 .f32) (A3 : FVec Ideal S1x128 .f32) : FVec Ideal S2048x16384 .bf16 :=
  turned (heads (sixteen (Cert.KvRefIdeal.Own.xn A0 A1) (shapeCast S2048x3632 A2 shapeCasts_S1x2048x3632_S2048x3632)) A3)

theorem resOf_at (A0 : FVec Ideal S8x2048x2048 .f32) (A1 : FVec Ideal S2x2048 .f32) (A2 : FVec Ideal S1x2048x3632 .f32) (A3 : FVec Ideal S1x128 .f32) (j : Fin 2048) (r : Fin 16384) :
    resOf A0 A1 A2 A3 (ix2 j r) = Cert.QueryIdeal.Own.head (fun k => A0 (ix3 ⟨r.val / 2048, by omega⟩ ⟨r.val % 2048, by omega⟩ k)) (fun k => A1 (ix2 0 k)) (fun k i => A2 (ix3 0 k ⟨i.val, by omega⟩)) (fun l => A3 (ix2 0 l))
      ⟨j.val / 128, by omega⟩ ⟨j.val % 128, by omega⟩ := by
  unfold resOf Cert.QueryIdeal.Own.head
  rw [turned_at, heads_at]
  refine congrArg (headed · _ _) (funext fun i => ?_)
  rw [sixteen_at]
  refine Finset.sum_congr rfl fun k _ => ?_
  exact congrArg₂ (· * ·) (Cert.KvRefIdeal.Own.xn_at A0 A1 _ _ k) (Cert.KvRefIdeal.Own.mat_at A2 k _)

open Cert.QueryRefIdeal.Value in
theorem res_0 (m : (ℓ : Loc nD τ sig) → Buf (Elt Ideal) ℓ) (c : Dev nD) : res_main_v35 (F := Ideal) m c
    = resOf (m ((c.tc : Thread nD τ).loc main_arg0)) (m ((c.tc : Thread nD τ).loc main_arg1)) (m ((c.tc : Thread nD τ).loc main_arg2)) (m ((c.tc : Thread nD τ).loc main_arg3)) := by
  unfold res_main_v35
  rfl

end Cert.QueryRefIdeal.Own

end
-- ==== Proof.Query.Result.lean ====
/- The query projection: its frames, and its result against the plain program. -/
module

public import proofs.«01_k».proof.Defs
public import Idealize.ShloMosaic.Adequacy
public import Idealize.ShloMosaic.Init
public import proofs.«01_k».proof.Proof.Gen.Query.Frame
public import proofs.«01_k».proof.Proof.Gen.QueryIdeal.Value
public import proofs.«01_k».proof.Proof.Query.Points
public import proofs.«01_k».proof.Proof.Query.Plain

@[expose] public section

set_option maxRecDepth 16384

noncomputable section

namespace Cert.Proof

open Idealize.ShloMosaic Idealize.ShloMosaic.TcCoe Idealize.ShloMosaic.Tactic Idealize.SL.Sem

theorem frame_query : Cert.quiescent_Query := fun m ρ _ => Cert.Query.Gen.frame m ρ

theorem frame_queryIdeal : Cert.quiescent_QueryIdeal := fun m ρ _ => Cert.QueryIdeal.Gen.frame m ρ

/-- The plain program declares no semaphore, and no operation writes an argument. -/
theorem frame_queryRef : Cert.quiescent_QueryRefIdeal := fun m ρ _ =>
  (θ_run Cert.QueryRefIdeal.defs _ _).mono (fun r h => ⟨fun c => (h c).2, Idealize.ShloMosaic.sem_eq_zero_of_no_sems (by decide) r.2⟩)
    (Cert.QueryRefIdeal.Value.run (F := Ideal) m ρ)

theorem algebraic_query : Cert.algebraic_QueryIdeal_QueryRefIdeal := by
  intro m ρ m' ρ' _ hagree
  refine ⟨Cert.QueryIdeal.Own.turned m, ?_, ?_⟩
  · exact (θ_run Cert.QueryIdeal.defs _ _).mono (fun r h c => ⟨(h c).1.trans (Cert.QueryIdeal.Own.result_5 m c), (h c).2⟩) (Cert.QueryIdeal.Value.run_blocks m ρ)
  · refine (θ_run Cert.QueryRefIdeal.defs _ _).mono (fun r h c => ⟨(h c).1.trans ?_, (h c).2⟩) (Cert.QueryRefIdeal.Value.run (F := Ideal) m' ρ')
    rw [Cert.QueryRefIdeal.Own.res_0, (hagree c).1, (hagree c).2.1, (hagree c).2.2.1, (hagree c).2.2.2]
    funext i
    idx_vars i
    exact Cert.QueryRefIdeal.Own.resOf_at _ _ _ _ i0 i1

end Cert.Proof

end
-- ==== Proof.Half.Rows.lean ====
/- Heads of 64: their norm, and why what is normed is real. -/
module

public import proofs.«01_k».proof.Proof.Mlp.Rows

@[expose] public section

set_option maxRecDepth 16384

noncomputable section

namespace Cert.Half

open Idealize.ShloMosaic Idealize.ShloMosaic.TcCoe Idealize.ShloMosaic.Tactic Idealize.SL.Sem
open Cert.Feed

/-- A head of 64 divided by its root mean square, times a gain. -/
def headed (y : Fin 64 → EReal) (g : EReal) (l : Fin 64) : EReal :=
  y l * Ideal.rsqrt (Ideal.div (∑ i, y i * y i) (Ideal.ofBits .f32 0x42800000#32) + Ideal.ofBits .f32 0x358637BD#32) * g

theorem width_at : (Ideal.ofBits .f32 0x45000000#32 : EReal) = ((2048 : ℝ) : EReal) := by
  simp [Ideal.ofBits, Ideal.ieee, -EReal.coe_mul]; norm_num

theorem small_at : (Ideal.ofBits .f32 0x358637BD#32 : EReal) = ((8796093 / 8796093022208 : ℝ) : EReal) := by
  simp [Ideal.ofBits, Ideal.ieee, -EReal.coe_mul]; norm_num

theorem head_at : (Ideal.ofBits .f32 0x42800000#32 : EReal) = ((64 : ℝ) : EReal) := by
  simp [Ideal.ofBits, Ideal.ieee, -EReal.coe_mul]; norm_num

theorem part_at : (Ideal.ofBits .f32 0x3C800000#32 : EReal) = ((1 / 64 : ℝ) : EReal) := by
  simp [Ideal.ofBits, Ideal.ieee, -EReal.coe_mul]; norm_num

/-- Dividing by the head's width is multiplying by its reciprocal. -/
theorem over_head (z : EReal) : z * Ideal.ofBits .f32 0x3C800000#32 = Ideal.div z (Ideal.ofBits .f32 0x42800000#32) := by
  have h : ((64 : ℝ) : EReal) ≠ 0 := by exact_mod_cast (by norm_num : (64 : ℝ) ≠ 0)
  rw [part_at, head_at, Ideal.div, if_neg h, ← EReal.coe_inv]
  norm_num

theorem sum_real {ι : Type} (s : Finset ι) (f : ι → EReal) (h : ∀ i, ∃ r : ℝ, f i = (r : EReal)) : ∃ r : ℝ, ∑ i ∈ s, f i = (r : EReal) := by
  classical
  choose r hr using h
  refine ⟨∑ i ∈ s, r i, ?_⟩
  induction s using Finset.induction_on with
  | empty => simp
  | insert a s ha ih => rw [Finset.sum_insert ha, Finset.sum_insert ha, ih, hr, EReal.coe_add]

theorem mul_real {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

theorem square_nonneg (x : EReal) : 0 ≤ x * x := by
  rcases le_total 0 x with h | h
  · exact mul_nonneg h h
  · rw [← neg_mul_neg]
    exact mul_nonneg (EReal.neg_nonneg.2 h) (EReal.neg_nonneg.2 h)

/-- A normed row is real whatever the row is, where the gain is: a row with an infinite entry becomes zero. -/
theorem normed_real (x g : Fin 2048 → EReal) (hg : ∀ k, ∃ r : ℝ, g k = (r : EReal)) (k : Fin 2048) : ∃ r : ℝ, normed x g k = (r : EReal) := by
  have hw : ((2048 : ℝ) : EReal) ≠ 0 := by exact_mod_cast (by norm_num : (2048 : ℝ) ≠ 0)
  unfold normed
  rw [width_at, small_at, Ideal.div, if_neg hw, ← EReal.coe_inv]
  by_cases hx : ∀ i, ∃ r : ℝ, x i = (r : EReal)
  · refine mul_real (mul_real (hx k) ?_) (hg k)
    have hs : ∃ s : ℝ, 0 ≤ s ∧ ∑ i, x i * x i = (s : EReal) := by
      obtain ⟨s, hs⟩ := sum_real Finset.univ (fun i => x i * x i) fun i => mul_real (hx i) (hx i)
      refine ⟨s, ?_, hs⟩
      have : (0 : EReal) ≤ (s : EReal) := hs ▸ Finset.sum_nonneg fun i _ => square_nonneg (x i)
      exact_mod_cast this
    obtain ⟨s, h0, e⟩ := hs
    rw [e, ← EReal.coe_mul, ← EReal.coe_add]
    have hp : 0 < s * (2048 : ℝ)⁻¹ + 8796093 / 8796093022208 := by positivity
    refine ⟨(Real.sqrt (s * (2048 : ℝ)⁻¹ + 8796093 / 8796093022208))⁻¹, ?_⟩
    show (if s * (2048 : ℝ)⁻¹ + 8796093 / 8796093022208 < 0 then (⊥ : EReal) else if s * (2048 : ℝ)⁻¹ + 8796093 / 8796093022208 = 0 then ⊤ else _) = _
    rw [if_neg hp.not_gt, if_neg hp.ne']
  · push Not at hx
    obtain ⟨i, hi⟩ := hx
    have hsq : x i * x i = ⊤ := by
      induction hxi : x i using EReal.rec with
      | bot => exact EReal.bot_mul_bot
      | top => exact EReal.top_mul_top
      | coe r => exact absurd hxi (hi r)
    have hsum : ∑ i, x i * x i = ⊤ :=
      top_le_iff.1 (hsq ▸ Finset.single_le_sum (f := fun i => x i * x i) (fun j _ => square_nonneg (x j)) (Finset.mem_univ i))
    have hpos : (0 : ℝ) < (2048 : ℝ)⁻¹ := by norm_num
    rw [hsum, EReal.top_mul_coe_of_pos hpos, EReal.top_add_coe]
    refine ⟨0, ?_⟩
    show x k * 0 * g k = _
    simp

/-- The product of a normed row with real weights is real. -/
theorem product_real (x g : Fin 2048 → EReal) (w : Fin 2048 → EReal) (hg : ∀ k, ∃ r : ℝ, g k = (r : EReal)) (hw : ∀ k, ∃ r : ℝ, w k = (r : EReal)) :
    ∃ r : ℝ, ∑ k, normed x g k * w k = (r : EReal) :=
  sum_real _ _ fun k => mul_real (normed_real x g hg k) (hw k)

/-- A sum over 128 entries of those in one half. -/
theorem half_sum (f : Fin 128 → EReal) (l : Fin 128) :
    ∑ k : Fin 128, f k * (if k.val / 64 = l.val / 64 then (1 : EReal) else 0) = ∑ i : Fin 64, f ⟨64 * (l.val / 64) + i.val, by omega⟩ := by
  rw [← (finProdFinEquiv (m := 2) (n := 64)).sum_comp, Fintype.sum_prod_type, Fin.sum_univ_two]
  have e : ∀ (a : Fin 2) (i : Fin 64), (finProdFinEquiv (a, i) : Fin 128) = ⟨64 * a.val + i.val, by omega⟩ :=
    fun a i => Fin.ext (by show i.val + 64 * a.val = 64 * a.val + i.val; omega)
  simp only [e]
  have on : ∀ a : Fin 2, l.val / 64 = a.val → ∑ i : Fin 64, f ⟨64 * a.val + i.val, by omega⟩ * (if (64 * a.val + i.val) / 64 = l.val / 64 then (1 : EReal) else 0) = ∑ i : Fin 64, f ⟨64 * (l.val / 64) + i.val, by omega⟩ := by
    intro a h
    refine Finset.sum_congr rfl fun i _ => ?_
    rw [if_pos (by omega), mul_one]
    exact congrArg f (Fin.ext (by show 64 * a.val + i.val = 64 * (l.val / 64) + i.val; omega))
  have off : ∀ a : Fin 2, l.val / 64 ≠ a.val → ∑ i : Fin 64, f ⟨64 * a.val + i.val, by omega⟩ * (if (64 * a.val + i.val) / 64 = l.val / 64 then (1 : EReal) else 0) = 0 := by
    intro a h
    refine Finset.sum_eq_zero fun i _ => ?_
    rw [if_neg (by omega), mul_zero]
  rcases (by omega : l.val / 64 = 0 ∨ l.val / 64 = 1) with h | h
  · rw [on 0 h, off 1 (by rw [h]; decide), add_zero]
  · rw [off 0 (by rw [h]; decide), on 1 h, zero_add]

end Cert.Half

end
-- ==== Proof.Half.Chunk.lean ====
/- A piece of 128 columns that holds two heads of 64: the kernel sums the squares of each half by products with a matrix of ones and zeros. -/
module

public import proofs.«01_k».proof.Proof.Half.Rows
public import proofs.«01_k».proof.Proof.Gen.SharedIdeal.Skeleton
public import Idealize.ShloMosaic.Lib.WordCmp
public import Idealize.ShloMosaic.Lib.Pointwise
public import Idealize.ShloMosaic.Lib.Pipeline.Value

@[expose] public section

set_option maxRecDepth 16384

noncomputable section

namespace Cert.Half

open Idealize.ShloMosaic Idealize.ShloMosaic.TcCoe Idealize.ShloMosaic.Tactic Idealize.SL.Sem
open Cert.SharedIdeal Cert.SharedIdeal.Gen Cert.Feed

/-- Which columns of a piece of 128 lie in the same half: ones and zeros. -/
def same : FVec Ideal S128x128 .bf16 :=
  truncf .bf16 (sitofp .f32 (extui 32 (cmpi .eq (shrui (iota .tc S128x128 32 [0] iota_S128x128_d0_w32) (broadcast S128x128 6#32))
    (shrui (iota .tc S128x128 32 [1] iota_S128x128_d1_w32) (broadcast S128x128 6#32))) natLt_1_32) : FVec Ideal S128x128 .f32) bitsLt_bf16_f32

/-- The piece's squares, summed over each half by products with a matrix, from three parts of each square. -/
def sums (v : FVec Ideal S512x128 .f32) (M : FVec Ideal S128x128 .bf16) : FVec Ideal S512x128 .f32 :=
  let a : FVec Ideal S512x128 .f32 := mulf v v
  let hi : FVec Ideal S512x128 .bf16 := truncf .bf16 a bitsLt_bf16_f32
  let r : FVec Ideal S512x128 .f32 := subf a (extf .f32 hi bitsLt_bf16_f32)
  let mid : FVec Ideal S512x128 .bf16 := truncf .bf16 r bitsLt_bf16_f32
  let lo : FVec Ideal S512x128 .bf16 := truncf .bf16 (subf r (extf .f32 mid bitsLt_bf16_f32)) bitsLt_bf16_f32
  addf (addf (matmul dot_S512x128_S128x128_S512x128_1_0_0_1_n_n none hi M (constant S512x128 .f32 0x00000000#32))
    (matmul dot_S512x128_S128x128_S512x128_1_0_0_1_n_n none mid M (constant S512x128 .f32 0x00000000#32)))
    (matmul dot_S512x128_S128x128_S512x128_1_0_0_1_n_n none lo M (constant S512x128 .f32 0x00000000#32))

/-- A piece: normed over each half where the flag is positive, else as it is. -/
def piece (v : FVec Ideal S512x128 .f32) (g f : FVec Ideal S1x128 .f32) : FVec Ideal S512x128 .f32 :=
  let r : FVec Ideal S512x128 .f32 := rsqrt (addf (mulf (sums v same) (broadcast S512x128 (Scalar.ofBits .f32 0x3C800000#32))) (broadcast S512x128 (Scalar.ofBits .f32 0x358637BD#32)))
  let n : FVec Ideal S512x128 .f32 := mulf (mulf v r) (broadcastTo S512x128 g broadcasts_S1x128_S512x128)
  select (broadcastTo S512x128 (shapeCast S1x128 (cmpf .ogt f (broadcast S1x128 (Scalar.ofBits .f32 0x00000000#32))) shapeCasts_S1x128_S1x128) broadcasts_S1x128_S512x128) n v

theorem half_word (i : Fin 128) : IntOp.shrui .vector (BitVec.ofNat 32 i.val) 6#32 = BitVec.ofNat 32 (i.val / 64) := by
  revert i; decide

theorem half_bit (i j : Fin 128) : IntOp.cmpi .eq (BitVec.ofNat 32 (i.val / 64)) (BitVec.ofNat 32 (j.val / 64)) = if i.val / 64 = j.val / 64 then 1#1 else 0#1 := by
  have h : ∀ a b : Fin 2, IntOp.cmpi .eq (BitVec.ofNat 32 a.val) (BitVec.ofNat 32 b.val) = if a.val = b.val then 1#1 else 0#1 := by decide
  exact h ⟨i.val / 64, by omega⟩ ⟨j.val / 64, by omega⟩

theorem same_at (i j : Fin 128) : same (ix2 i j) = if i.val / 64 = j.val / 64 then (1 : EReal) else 0 := by
  have e : same (ix2 i j) = (((IntOp.cmpi .eq (IntOp.shrui .vector (BitVec.ofNat 32 i.val) 6#32) (IntOp.shrui .vector (BitVec.ofNat 32 j.val) 6#32)).setWidth 32).toInt : ℝ) := by
    have c0 : iota .tc S128x128 32 [0] iota_S128x128_d0_w32 (ix2 i j) = BitVec.ofNat 32 i.val := by
      show BitVec.ofNat 32 (0 * 128 + i.val) = _
      exact congrArg (BitVec.ofNat 32) (by omega)
    have c1 : iota .tc S128x128 32 [1] iota_S128x128_d1_w32 (ix2 i j) = BitVec.ofNat 32 j.val := by
      show BitVec.ofNat 32 (0 * 128 + j.val) = _
      exact congrArg (BitVec.ofNat 32) (by omega)
    rw [← c0, ← c1]
    rfl
  rw [e, half_word, half_word, half_bit]
  split_ifs
  · norm_num
  · norm_num

theorem sums_split (v : FVec Ideal S512x128 .f32) (M : FVec Ideal S128x128 .bf16) (x : Fin 512) (l : Fin 128) :
    sums v M (ix2 x l) = (∑ k, v (ix2 x k) * v (ix2 x k) * M (ix2 k l)) + (∑ k, (v (ix2 x k) * v (ix2 x k) - v (ix2 x k) * v (ix2 x k)) * M (ix2 k l))
      + ∑ k, (v (ix2 x k) * v (ix2 x k) - v (ix2 x k) * v (ix2 x k) - (v (ix2 x k) * v (ix2 x k) - v (ix2 x k) * v (ix2 x k))) * M (ix2 k l) := by
  unfold sums
  pointwise []

/-- For real entries the second and third part of a square are zero, and the products are the halves' sums. -/
theorem sums_at (v : FVec Ideal S512x128 .f32) (x : Fin 512) (hv : ∀ k : Fin 128, ∃ r : ℝ, v (ix2 x k) = (r : EReal)) (l : Fin 128) :
    sums v same (ix2 x l) = ∑ i : Fin 64, v (ix2 x ⟨64 * (l.val / 64) + i.val, by omega⟩) * v (ix2 x ⟨64 * (l.val / 64) + i.val, by omega⟩) := by
  have z : ∀ k : Fin 128, v (ix2 x k) * v (ix2 x k) - v (ix2 x k) * v (ix2 x k) = 0 := by
    intro k
    obtain ⟨r, hr⟩ := mul_real (hv k) (hv k)
    rw [hr, ← EReal.coe_sub, sub_self, EReal.coe_zero]
  rw [sums_split]
  simp only [z, same_at, sub_zero, zero_mul, Finset.sum_const_zero, add_zero]
  exact half_sum (fun k => v (ix2 x k) * v (ix2 x k)) l

theorem piece_split (v : FVec Ideal S512x128 .f32) (g f : FVec Ideal S1x128 .f32) (x : Fin 512) (l : Fin 128) :
    piece v g f (ix2 x l) = if 0 < f (ix2 0 l) then v (ix2 x l) * Ideal.rsqrt (sums v same (ix2 x l) * Ideal.ofBits .f32 0x3C800000#32 + Ideal.ofBits .f32 0x358637BD#32) * g (ix2 0 l) else v (ix2 x l) := by
  unfold piece
  generalize sums v same = S
  pointwise []

theorem piece_at (v : FVec Ideal S512x128 .f32) (g f : FVec Ideal S1x128 .f32) (x : Fin 512) (hv : ∀ k : Fin 128, ∃ r : ℝ, v (ix2 x k) = (r : EReal)) (l : Fin 128) :
    piece v g f (ix2 x l) = if 0 < f (ix2 0 l) then headed (fun i => v (ix2 x ⟨64 * (l.val / 64) + i.val, by omega⟩)) (g (ix2 0 l)) ⟨l.val % 64, by omega⟩ else v (ix2 x l) := by
  rw [piece_split, sums_at v x hv, over_head]
  unfold headed
  have e : (⟨64 * (l.val / 64) + l.val % 64, by omega⟩ : Fin 128) = l := Fin.ext (by show 64 * (l.val / 64) + l.val % 64 = l.val; omega)
  simp only [e]

end Cert.Half

end
-- ==== Proof.Half.Four.lean ====
/- The shared key and value projection's block: eight heads of 64, the first four normed. -/
module

public import proofs.«01_k».proof.Proof.Half.Chunk

@[expose] public section

set_option maxRecDepth 16384

noncomputable section

namespace Cert.Half

open Idealize.ShloMosaic Idealize.ShloMosaic.TcCoe Idealize.ShloMosaic.Tactic Idealize.SL.Sem
open Cert.SharedIdeal Cert.SharedIdeal.Gen Cert.Feed

/-- A row's entry: heads 0 to 3, the keys, are normed with the one gain; the values stay. -/
def entry (x g : Fin 2048 → EReal) (w : Fin 2048 → Fin 512 → EReal) (q : Fin 64 → EReal) (h : Fin 8) (l : Fin 64) : EReal :=
  if h.val < 4 then headed (fun i => ∑ k, normed x g k * w k ⟨64 * h.val + i.val, by omega⟩) (q l) l else ∑ k, normed x g k * w k ⟨64 * h.val + l.val, by omega⟩

/-- The four pieces lie within the block. -/
theorem wide (n : Fin 4) : S512x512.Slices ![0, 128 * n.val] S512x128 := by
  revert n; decide
theorem wide1 (n : Fin 4) : S1x512.Slices ![0, 128 * n.val] S1x128 := by
  revert n; decide

/-- The four pieces. -/
def ps (y : FVec Ideal S512x512 .f32) (g f : FVec Ideal S1x512 .f32) (n : Fin 4) : FVec Ideal S512x128 .f32 :=
  piece (extractStridedSlice S512x128 ![0, 128 * n.val] y (wide n)) (extractStridedSlice S1x128 ![0, 128 * n.val] g (wide1 n)) (extractStridedSlice S1x128 ![0, 128 * n.val] f (wide1 n))

/-- The pieces side by side. -/
def sides (y : FVec Ideal S512x512 .f32) (g f : FVec Ideal S1x512 .f32) : FVec Ideal S512x512 .f32 :=
  concatenate S512x512 1 (List.ofFn fun n : Fin 4 => ⟨S512x128, ps y g f n⟩) concatenates_S512x128_S512x128_S512x128_S512x128_S512x512_d1

theorem slice_at (y : FVec Ideal S512x512 .f32) (n : Fin 4) (x : Fin 512) (k : Fin 128) :
    extractStridedSlice S512x128 ![0, 128 * n.val] y (wide n) (ix2 x k) = y (ix2 x ⟨128 * n.val + k.val, by omega⟩) := by
  pointwise []

theorem slice1_at (y : FVec Ideal S1x512 .f32) (n : Fin 4) (k : Fin 128) :
    extractStridedSlice S1x128 ![0, 128 * n.val] y (wide1 n) (ix2 0 k) = y (ix2 0 ⟨128 * n.val + k.val, by omega⟩) := by
  pointwise []

/-- Column `64 h + l` of the block. -/
theorem sides_at (y : FVec Ideal S512x512 .f32) (g f : FVec Ideal S1x512 .f32) (x : Fin 512) (hv : ∀ j : Fin 512, ∃ r : ℝ, y (ix2 x j) = (r : EReal)) (h : Fin 8) (l : Fin 64) :
    sides y g f (ix2 x ⟨64 * h.val + l.val, by omega⟩)
      = if 0 < f (ix2 0 ⟨64 * h.val + l.val, by omega⟩) then headed (fun i => y (ix2 x ⟨64 * h.val + i.val, by omega⟩)) (g (ix2 0 ⟨64 * h.val + l.val, by omega⟩)) l else y (ix2 x ⟨64 * h.val + l.val, by omega⟩) := by
  have e : sides y g f (ix2 x ⟨64 * h.val + l.val, by omega⟩) = ps y g f ⟨h.val / 2, by omega⟩ (ix2 x ⟨64 * (h.val % 2) + l.val, by omega⟩) := by
    unfold sides
    refine concatenate_ofFn_apply (t := S512x512) (s₁ := S512x128) 1 (ps y g f) _ rfl 128 rfl _ ⟨h.val / 2, by omega⟩ ?_ (ix2 x ⟨64 * (h.val % 2) + l.val, by omega⟩) ?_ ?_
    · show (64 * h.val + l.val) / 128 = h.val / 2; omega
    · show 64 * (h.val % 2) + l.val = (64 * h.val + l.val) % 128; omega
    · intro b hb
      fin_cases b
      · rfl
      · exact absurd rfl hb
  rw [e]
  generalize hn : (⟨h.val / 2, by omega⟩ : Fin 4) = n
  have q : h.val / 2 = n.val := congrArg Fin.val hn
  unfold ps
  rw [piece_at _ _ _ _ (fun k => by rw [slice_at]; exact hv _)]
  simp only [slice_at, slice1_at]
  have c0 : ∀ i : Fin 64, (⟨128 * n.val + (64 * ((64 * (h.val % 2) + l.val) / 64) + i.val), by omega⟩ : Fin 512) = ⟨64 * h.val + i.val, by omega⟩ := fun i => Fin.ext (by show 128 * n.val + (64 * ((64 * (h.val % 2) + l.val) / 64) + i.val) = 64 * h.val + i.val; omega)
  have c1 : (⟨128 * n.val + (64 * (h.val % 2) + l.val), by omega⟩ : Fin 512) = ⟨64 * h.val + l.val, by omega⟩ := Fin.ext (by show 128 * n.val + (64 * (h.val % 2) + l.val) = 64 * h.val + l.val; omega)
  have c2 : (⟨(64 * (h.val % 2) + l.val) % 64, by omega⟩ : Fin 64) = l := Fin.ext (by show (64 * (h.val % 2) + l.val) % 64 = l.val; omega)
  simp only [c0, c1, c2]

/-- The gain written four times, and runs of ones and of zeros. -/
def four (A : FVec Ideal S64 .f32) : FVec Ideal S256 .f32 := shapeCast S256 (broadcastInDim S4x64 ![0, 1] bcast_S1x64_S4x64_0_1 (shapeCast S1x64 A shapeCasts_S64_S1x64)) shapeCasts_S4x64_S256
def ones : FVec Ideal S256 .f32 := broadcastInDim S256 ![] bcast_S_S256 (constant S_ .f32 0x3F800000#32)
def zeros : FVec Ideal S256 .f32 := broadcastInDim S256 ![] bcast_S_S256 (constant S_ .f32 0x00000000#32)

/-- Two runs of 256 columns as one row. -/
def row (a b : FVec Ideal S256 .f32) : FVec Ideal S1x512 .f32 := shapeCast S1x512 (concatenate S512 0 [⟨S256, a⟩, ⟨S256, b⟩] concatenates_S256_S256_S512_d0) shapeCasts_S512_S1x512

theorem four_at (A : FVec Ideal S64 .f32) (h : Fin 4) (l : Fin 64) : four A (ix1 ⟨64 * h.val + l.val, by omega⟩) = A (ix1 l) := by
  unfold four
  pointwise []

theorem ones_at (i : Fin 256) : ones (ix1 i) = 1 := by
  unfold ones
  pointwise []

theorem zeros_at (i : Fin 256) : zeros (ix1 i) = 0 := by
  unfold zeros
  pointwise []

/-- The two runs, chosen by their number. -/
def runs (a b : FVec Ideal S256 .f32) : Fin 2 → FVec Ideal S256 .f32
  | 0 => a
  | 1 => b

theorem row_at (a b : FVec Ideal S256 .f32) (h : Fin 8) (l : Fin 64) :
    row a b (ix2 0 ⟨64 * h.val + l.val, by omega⟩) = if h.val < 4 then a (ix1 ⟨64 * (h.val % 4) + l.val, by omega⟩) else b (ix1 ⟨64 * (h.val % 4) + l.val, by omega⟩) := by
  have e : ∀ v : FVec Ideal S512 .f32, shapeCast S1x512 v shapeCasts_S512_S1x512 (ix2 0 ⟨64 * h.val + l.val, by omega⟩) = v (ix1 ⟨64 * h.val + l.val, by omega⟩) := by
    intro v
    pointwise []
  have at_run : concatenate S512 0 (List.ofFn fun n : Fin 2 => ⟨S256, runs a b n⟩) concatenates_S256_S256_S512_d0 (ix1 ⟨64 * h.val + l.val, by omega⟩) = runs a b ⟨h.val / 4, by omega⟩ (ix1 ⟨64 * (h.val % 4) + l.val, by omega⟩) := by
    refine concatenate_ofFn_apply (t := S512) (s₁ := S256) 0 (runs a b) _ rfl 256 rfl _ ⟨h.val / 4, by omega⟩ ?_ _ ?_ ?_
    · show (64 * h.val + l.val) / 256 = h.val / 4; omega
    · show 64 * (h.val % 4) + l.val = (64 * h.val + l.val) % 256; omega
    · intro b hb
      fin_cases b
      exact absurd rfl hb
  refine (e _).trans (at_run.trans ?_)
  rcases (by omega : h.val / 4 = 0 ∨ h.val / 4 = 1) with q | q
  · rw [if_pos (by omega)]
    exact congrArg (fun n => runs a b n (ix1 ⟨64 * (h.val % 4) + l.val, by omega⟩)) (Fin.ext q : (⟨h.val / 4, by omega⟩ : Fin 2) = 0)
  · rw [if_neg (by omega)]
    exact congrArg (fun n => runs a b n (ix1 ⟨64 * (h.val % 4) + l.val, by omega⟩)) (Fin.ext q : (⟨h.val / 4, by omega⟩ : Fin 2) = 1)

/-- The block, where gains and flags are those of the shared keys and values. -/
theorem block_at (y : FVec Ideal S512x512 .f32) (A : FVec Ideal S64 .f32) (g f : FVec Ideal S1x512 .f32) (hg : ∀ j, g (ix2 0 j) = row (four A) ones (ix2 0 j)) (hf : ∀ j, f (ix2 0 j) = row ones zeros (ix2 0 j))
    (x : Fin 512) (hv : ∀ j : Fin 512, ∃ r : ℝ, y (ix2 x j) = (r : EReal)) (h : Fin 8) (l : Fin 64) :
    sides y g f (ix2 x ⟨64 * h.val + l.val, by omega⟩) = if h.val < 4 then headed (fun i => y (ix2 x ⟨64 * h.val + i.val, by omega⟩)) (A (ix1 l)) l else y (ix2 x ⟨64 * h.val + l.val, by omega⟩) := by
  rw [sides_at y g f x hv, hg, hf, row_at, row_at]
  by_cases q : h.val < 4
  · rw [if_pos q, if_pos q, if_pos q, ones_at, if_pos (zero_lt_one (α := EReal))]
    exact congrArg (headed _ · l) (four_at A ⟨h.val % 4, by omega⟩ l)
  · rw [if_neg q, if_neg q, zeros_at, if_neg (lt_irrefl _), if_neg q]

theorem product_at (v3 : Vec Ideal S512x2048 .bf16) (v4 : Vec Ideal S2048x512 .bf16) (x : Fin 512) (j : Fin 512) :
    k0_pay3 (F := Ideal) v3 v4 (ix2 x j) = ∑ k : Fin 2048, v3 (ix2 x k) * v4 (ix2 k j) := by
  unfold k0_pay3
  pointwise []

theorem norm_at (v : Vec Ideal S512x2048 .f32) (g : Vec Ideal S1x2048 .f32) (x : Fin 512) (k : Fin 2048) :
    k0_pay2 (F := Ideal) v g (ix2 x k) = normed (fun i => v (ix2 x i)) (fun i => g (ix2 0 i)) k := by
  unfold k0_pay2 normed
  pointwise []

theorem gain_row (v : Vec Ideal S1x512 .f32) : k0_pay4 (F := Ideal) v = v := by
  funext i; idx_vars i
  unfold k0_pay4
  pointwise []

theorem flag_row (v : Vec Ideal S1x512 .f32) : k0_pay5 (F := Ideal) v = v := by
  funext i; idx_vars i
  unfold k0_pay5
  pointwise []

/-- What one point computes, from its blocks. -/
def block (v : Vec Ideal S512x2048 .f32) (n : Vec Ideal S1x2048 .f32) (w : Vec Ideal S2048x512 .bf16) (g f : Vec Ideal S1x512 .f32) : FVec Ideal S512x512 .f32 :=
  sides (k0_pay3 (k0_pay2 v n) w) (k0_pay4 g) (k0_pay5 f)

theorem entry_at (v : Vec Ideal S512x2048 .f32) (n : Vec Ideal S1x2048 .f32) (w : Vec Ideal S2048x512 .bf16) (A : FVec Ideal S64 .f32) (g f : Vec Ideal S1x512 .f32)
    (hg : ∀ j, g (ix2 0 j) = row (four A) ones (ix2 0 j)) (hf : ∀ j, f (ix2 0 j) = row ones zeros (ix2 0 j))
    (hn : ∀ k, ∃ r : ℝ, n (ix2 0 k) = (r : EReal)) (hw : ∀ k j, ∃ r : ℝ, w (ix2 k j) = (r : EReal)) (x : Fin 512) (h : Fin 8) (l : Fin 64) :
    block v n w g f (ix2 x ⟨64 * h.val + l.val, by omega⟩) = entry (fun k => v (ix2 x k)) (fun k => n (ix2 0 k)) (fun k j => w (ix2 k j)) (fun l => A (ix1 l)) h l := by
  have py : ∀ j, k0_pay3 (F := Ideal) (k0_pay2 v n) w (ix2 x j) = ∑ k, normed (fun i => v (ix2 x i)) (fun i => n (ix2 0 i)) k * w (ix2 k j) := by
    intro j
    rw [product_at]
    exact Finset.sum_congr rfl fun k _ => by rw [norm_at]
  unfold block
  rw [gain_row, flag_row, block_at _ A g f hg hf x fun j => by rw [py]; exact product_real _ _ _ hn (hw · j)]
  simp only [py]
  rfl

end Cert.Half

end
-- ==== Proof.Shared.Points.lean ====
/- What the shared key and value projection leaves of the prompts. -/
module

public import proofs.«01_k».proof.Proof.Half.Four
public import proofs.«01_k».proof.Proof.Gen.SharedIdeal.Frame
public import Idealize.ShloMosaic.Lib.Pipeline.ReadBack
public import Idealize.ShloMosaic.Lib.Pipeline.ValueKit
public import Idealize.ShloMosaic.Lib.WholeRead

@[expose] public section

set_option maxRecDepth 16384

noncomputable section

namespace Cert.SharedIdeal.Own

open Idealize.ShloMosaic Idealize.ShloMosaic.TcCoe Idealize.ShloMosaic.Tactic Idealize.SL.Sem
open Cert.SharedIdeal Cert.SharedIdeal.Gen Cert.Half

variable (m : (ℓ : Loc nD τ sig) → Buf (Elt Ideal) ℓ)

/-- The four arguments the projection reads, as functions of their coordinates. -/
def rows (c : Dev nD) (r : Fin 16384) (k : Fin 2048) : EReal := (m ((c : Thread nD τ).loc main_arg0) : FVec Ideal S8x2048x2048 .f32) (ix3 ⟨r.val / 2048, by omega⟩ ⟨r.val % 2048, by omega⟩ k)
def gamma (c : Dev nD) (k : Fin 2048) : EReal := (m ((c : Thread nD τ).loc main_arg1) : FVec Ideal S2048 .f32) (ix1 k)
def weight (c : Dev nD) (k : Fin 2048) (j : Fin 512) : EReal := (m ((c : Thread nD τ).loc main_arg2) : FVec Ideal S2048x512 .f32) (ix2 k j)
def gain (c : Dev nD) : FVec Ideal S64 .f32 := m ((c : Thread nD τ).loc main_arg3)

theorem index_at : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] :=
  (by decide +kernel : ∀ t : Fin grid0.N, _)

theorem points_lt (t : Fin cfg0.N) : t.val < 32 := lt_of_lt_of_eq t.isLt N_0

/-- The row of the array that row `x` of a point's block is. -/
abbrev rowOf (t : Fin cfg0.N) (x : Fin 512) : Fin 16384 := ⟨512 * t.val + x.val, by have := points_lt t; omega⟩

/-- The rows laid out in one run. -/
theorem V_rows (c : Dev nD) (r : Fin 16384) (k : Fin 2048) : (V m c main_v0 : FVec Ideal S16384x2048 .f32) (ix2 r k) = rows m c r k := by
  have e : (V m c main_v0 : FVec Ideal S16384x2048 .f32) = shapeCast S16384x2048 (m ((c : Thread nD τ).loc main_arg0)) shapeCasts_S8x2048x2048_S16384x2048 := by
    show StableHlo.after hostOps0 _ _ = _
    after_results
    rfl
  rw [e]
  unfold rows
  refine shapeCast_apply _ _ _ (ix3 ⟨r.val / 2048, by omega⟩ ⟨r.val % 2048, by omega⟩ k) ?_
  rw [Shape.rowMajor_val_two, Shape.rowMajor_val_three]
  show (r.val / 2048 * 2048 + r.val % 2048) * 2048 + k.val = r.val * 2048 + k.val
  omega

theorem V_gamma (c : Dev nD) (k : Fin 2048) : (V m c main_v10 : FVec Ideal S1x2048 .f32) (ix2 0 k) = gamma m c k := by
  have e : (V m c main_v10 : FVec Ideal S1x2048 .f32) = shapeCast S1x2048 (m ((c : Thread nD τ).loc main_arg1)) shapeCasts_S2048_S1x2048 := by
    show StableHlo.after hostOps0 _ _ = _
    after_results
    rfl
  rw [e]
  unfold gamma
  pointwise []

theorem V_weight (c : Dev nD) (k : Fin 2048) (j : Fin 512) : (V m c main_v1 : FVec Ideal S2048x512 .bf16) (ix2 k j) = weight m c k j := by
  have e : (V m c main_v1 : FVec Ideal S2048x512 .bf16) = (truncf .bf16 (m ((c : Thread nD τ).loc main_arg2) : FVec Ideal S2048x512 .f32) bitsLt_bf16_f32 : FVec Ideal S2048x512 .bf16) := by
    show StableHlo.after hostOps0 _ _ = _
    after_results
  rw [e]
  unfold weight
  pointwise []

theorem V_gain (c : Dev nD) : (V m c main_v11 : FVec Ideal S1x512 .f32) = row (four (gain m c)) ones := by
  show StableHlo.after hostOps0 _ _ = _
  after_results
  rfl

theorem V_flag (c : Dev nD) : (V m c main_v12 : FVec Ideal S1x512 .f32) = row ones zeros := by
  show StableHlo.after hostOps0 _ _ = _
  after_results
  rfl

theorem rows_blk (c : Dev nD) (t : Fin cfg0.N) (x : Fin 512) (k : Fin 2048) : (iblk m c 0 t : FVec Ideal S512x2048 .f32) (ix2 x k) = rows m c (rowOf t x) k := by
  rw [← V_rows]
  blk_point [iblk, index_at t]

theorem gamma_blk (c : Dev nD) (t : Fin cfg0.N) (k : Fin 2048) : (iblk m c 1 t : FVec Ideal S1x2048 .f32) (ix2 0 k) = gamma m c k := by
  rw [← V_gamma]
  blk_point [iblk, index_at t]

theorem weight_blk (c : Dev nD) (t : Fin cfg0.N) (k : Fin 2048) (j : Fin 512) : (iblk m c 2 t : FVec Ideal S2048x512 .bf16) (ix2 k j) = weight m c k j := by
  rw [← V_weight]
  blk_point [iblk, index_at t]

theorem gain_blk (c : Dev nD) (t : Fin cfg0.N) (j : Fin 512) : (iblk m c 3 t : FVec Ideal S1x512 .f32) (ix2 0 j) = row (four (gain m c)) ones (ix2 0 j) := by
  rw [← V_gain]
  blk_point [iblk, index_at t]

theorem flag_blk (c : Dev nD) (t : Fin cfg0.N) (j : Fin 512) : (iblk m c 4 t : FVec Ideal S1x512 .f32) (ix2 0 j) = row ones zeros (ix2 0 j) := by
  rw [← V_flag m c]
  blk_point [iblk, index_at t]

/-- A row's entry, from the arguments. -/
def sharedAt (c : Dev nD) (r : Fin 16384) (h : Fin 8) (l : Fin 64) : EReal := entry (rows m c r) (gamma m c) (weight m c) (fun l => gain m c (ix1 l)) h l

/-- The block a point leaves. -/
theorem outs_5 (c : Dev nD) (t : Fin cfg0.N) : outsAt0 m c t = block (iblk m c 0 t) (iblk m c 1 t) (iblk m c 2 t) (iblk m c 3 t) (iblk m c 4 t) := by
  unfold outsAt0
  frame_out
  rfl

/-- The arguments that must be real. -/
def Real (c : Dev nD) : Prop := (∀ k, ∃ r : ℝ, gamma m c k = (r : EReal)) ∧ ∀ k j, ∃ r : ℝ, weight m c k j = (r : EReal)

theorem outs_at (c : Dev nD) (hr : Real m c) (t : Fin cfg0.N) (x : Fin 512) (h : Fin 8) (l : Fin 64) : outsAt0 m c t (ix2 x ⟨64 * h.val + l.val, by omega⟩) = sharedAt m c (rowOf t x) h l := by
  rw [outs_5, entry_at _ _ _ (gain m c) _ _ (gain_blk m c t) (flag_blk m c t) (fun k => by rw [gamma_blk]; exact hr.1 k) (fun k j => by rw [weight_blk]; exact hr.2 k j)]
  unfold sharedAt
  simp only [rows_blk, gamma_blk, weight_blk]

/-- The array the launch leaves. -/
def projected (c : Dev nD) : S16384x512.Idx → EReal := fun i => sharedAt m c (i 0) ⟨(i 1).val / 64, by have h : (i 1).val < 512 := (i 1).isLt; omega⟩ ⟨(i 1).val % 64, by omega⟩

theorem result_5 (c : Dev nD) (hr : Real m c) : (dats m 0 c).arrAt 5 cfg0.N = projected m c := by
  refine (dats m 0 c).arrAt_eq_of_covers 5 _ (by decide +kernel) fun t _ y => ?_
  blk_simp
  rw [after0_5]
  idx_vars y
  have key : ∀ A : S16384x512.Idx → EReal, A (ix2 (rowOf t y0) y1) = A (((View.whole main_v13).slice (win0_5.rect t)).emb (ix2 y0 y1)) := by
    intro A
    symm
    blk_point [index_at t]
  refine Eq.trans ?_ (key (projected m c))
  refine Eq.trans ?_ (outs_at m c hr t y0 ⟨y1.val / 64, by omega⟩ ⟨y1.val % 64, by omega⟩)
  refine congrArg (fun j => outsAt0 m c t (ix2 y0 j)) (Fin.ext ?_)
  show y1.val = 64 * (y1.val / 64) + y1.val % 64
  omega

/-- The array as keys and values, four heads each. -/
def kvRows (c : Dev nD) : FVec Ideal S8x2048x2x4x64 .f32 := shapeCast S8x2048x2x4x64 (projected m c : FVec Ideal S16384x512 .f32) shapeCasts_S16384x512_S8x2048x2x4x64

theorem kvRows_at (c : Dev nD) (b : Fin 8) (t : Fin 2048) (s : Fin 2) (g : Fin 4) (l : Fin 64) :
    kvRows m c (ix5 b t s g l) = sharedAt m c ⟨2048 * b.val + t.val, by omega⟩ ⟨4 * s.val + g.val, by omega⟩ l := by
  have e : ∀ A : FVec Ideal S16384x512 .f32, shapeCast S8x2048x2x4x64 A shapeCasts_S16384x512_S8x2048x2x4x64 (ix5 b t s g l)
      = A (ix2 ⟨2048 * b.val + t.val, by omega⟩ ⟨64 * (4 * s.val + g.val) + l.val, by omega⟩) := by
    intro A
    refine shapeCast_apply _ _ _ _ ?_
    rw [Shape.rowMajor_val_two, Shape.rowMajor_val_five]
    show (2048 * b.val + t.val) * 512 + (64 * (4 * s.val + g.val) + l.val) = (((b.val * 2048 + t.val) * 2 + s.val) * 4 + g.val) * 64 + l.val
    omega
  refine (e _).trans ?_
  unfold projected
  refine congrArg₂ (fun p l => sharedAt m c _ p l) (Fin.ext ?_) (Fin.ext ?_)
  · show (64 * (4 * s.val + g.val) + l.val) / 64 = 4 * s.val + g.val; omega
  · show (64 * (4 * s.val + g.val) + l.val) % 64 = l.val; omega

/-- Its entries, read back in one run a row. -/
theorem flat_at (c : Dev nD) (Y : FVec Ideal S8x2048x2x4x64 .f32) (hY : Y = kvRows m c) (hc : S8x2048x2x4x64.ShapeCasts S16384x512) : shapeCast S16384x512 Y hc = projected m c := by
  subst hY
  funext i
  idx_vars i
  refine (shapeCast_apply _ _ _ (ix5 ⟨i0.val / 2048, by omega⟩ ⟨i0.val % 2048, by omega⟩ ⟨i1.val / 256, by omega⟩ ⟨i1.val / 64 % 4, by omega⟩ ⟨i1.val % 64, by omega⟩) ?_).trans ((kvRows_at m c _ _ _ _ _).trans ?_)
  · rw [Shape.rowMajor_val_two, Shape.rowMajor_val_five]
    show (((i0.val / 2048 * 2048 + i0.val % 2048) * 2 + i1.val / 256) * 4 + i1.val / 64 % 4) * 64 + i1.val % 64 = i0.val * 512 + i1.val
    omega
  · show sharedAt m c _ _ _ = sharedAt m c i0 ⟨i1.val / 64, by omega⟩ ⟨i1.val % 64, by omega⟩
    refine congrArg₂ (fun r h => sharedAt m c r h _) (Fin.ext ?_) (Fin.ext ?_)
    · show 2048 * (i0.val / 2048) + i0.val % 2048 = i0.val; omega
    · show 4 * (i1.val / 256) + i1.val / 64 % 4 = i1.val / 64; omega

/-- The last 128 positions. -/
def lastRows (c : Dev nD) : FVec Ideal S8x128x2x4x64 .f32 := extractStridedSlice S8x128x2x4x64 ![0, 1920, 0, 0, 0] (kvRows m c) slices_S8x2048x2x4x64_S8x128x2x4x64_0_1920_0_0_0

theorem tail_15 (c : Dev nD) (hr : Real m c) : Pipeline.afterTail₀ cfgs (dats m) 0 (V0 m) [hostOps1] c main_v15 = lastRows m c := by
  unfold Pipeline.afterTail₀
  show StableHlo.after hostOps1 _ _ = _
  after_results
  have e := (Pipeline.withArrays_arr spec0 (by decide) c (V0 m c) (fun w => (dats m 0 c).arrAt w cfg0.N) 5).trans (result_5 m c hr)
  unfold lastRows
  refine congrArg (fun Z : FVec Ideal S8x2048x2x4x64 .f32 => extractStridedSlice S8x128x2x4x64 ![0, 1920, 0, 0, 0] Z slices_S8x2048x2x4x64_S8x128x2x4x64_0_1920_0_0_0) ?_
  exact congrArg (fun A : FVec Ideal S16384x512 .f32 => shapeCast S8x2048x2x4x64 A shapeCasts_S16384x512_S8x2048x2x4x64) e

end Cert.SharedIdeal.Own

end
-- ==== Proof.Shared.Plain.lean ====
/- The plain shared key and value projection of the prompts, an entry at a time. -/
module

public import proofs.«01_k».proof.Proof.Half.Four
public import proofs.«01_k».proof.Proof.Gen.SharedRefIdeal.Run
public import Idealize.ShloMosaic.Lib.Pointwise
public import Idealize.ShloMosaic.Lib.Pipeline.Value

@[expose] public section

set_option maxRecDepth 16384

noncomputable section

namespace Cert.SharedRefIdeal.Own

open Idealize.ShloMosaic Idealize.ShloMosaic.TcCoe Idealize.ShloMosaic.Tactic Idealize.SL.Sem
open Cert.SharedRefIdeal Cert.SharedRefIdeal.Gen Cert.Half Cert.Feed

/-- The normed rows. -/
def xn (A0 : FVec Ideal S8x2048x2048 .f32) (A1 : FVec Ideal S2048 .f32) : FVec Ideal S8x2048x2048 .f32 :=
  mulf (mulf A0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf A0 A0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 A1))

/-- The product, as keys and values of four heads. -/
def two (X : FVec Ideal S8x2048x2048 .f32) (W : FVec Ideal S2048x512 .f32) : FVec Ideal S8x2048x2x4x64 .f32 :=
  shapeCast S8x2048x2x4x64 (Host.dotGeneral dot_S8x2048x2048_S2048x512_S8x2048x512_2_0_01_1_n_n none X W) shapeCasts_S8x2048x512_S8x2048x2x4x64

/-- One of the two. -/
def part (y : FVec Ideal S8x2048x2x4x64 .f32) (s : ℕ) (h : S8x2048x2x4x64.Slices ![0, 0, s, 0, 0] S8x2048x1x4x64) : FVec Ideal S8x2048x4x64 .f32 :=
  shapeCast S8x2048x4x64 (extractStridedSlice S8x2048x1x4x64 ![0, 0, s, 0, 0] y h) shapeCasts_S8x2048x1x4x64_S8x2048x4x64

/-- Its heads normed. -/
def heads (v : FVec Ideal S8x2048x4x64 .f32) (A3 : FVec Ideal S64 .f32) : FVec Ideal S8x2048x4x64 .f32 :=
  mulf (mulf v (broadcastInDim S8x2048x4x64 ![0, 1, 2, 3] bcast_S8x2048x4x1_S8x2048x4x64_0_1_2_3 (Host.rsqrt (addf (Host.divf (broadcastInDim S8x2048x4x1 ![0, 1, 2] bcast_S8x2048x4_S8x2048x4x1_0_1_2 (Host.reduceAdd (mulf v v) (constant S_ .f32 0x00000000#32) reducesTo_S8x2048x4x64_S8x2048x4_d3 h_S_)) (broadcastInDim S8x2048x4x1 ![] bcast_S_S8x2048x4x1 (constant S_ .f32 0x42800000#32))) (broadcastInDim S8x2048x4x1 ![] bcast_S_S8x2048x4x1 (constant S_ .f32 0x358637BD#32))))))
    (broadcastInDim S8x2048x4x64 ![0, 1, 2, 3] bcast_S1x1x1x64_S8x2048x4x64_0_1_2_3 (broadcastInDim S1x1x1x64 ![3] bcast_S64_S1x1x1x64_3 A3))

def lay (v : FVec Ideal S8x2048x4x64 .f32) : FVec Ideal S8x2048x1x4x64 .f32 := broadcastInDim S8x2048x1x4x64 ![0, 1, 3, 4] bcast_S8x2048x4x64_S8x2048x1x4x64_0_1_3_4 v

/-- The two parts that are put together: normed keys, and values. -/
def parts (y : FVec Ideal S8x2048x2x4x64 .f32) (A3 : FVec Ideal S64 .f32) : Fin 2 → FVec Ideal S8x2048x4x64 .f32
  | 0 => heads (part y 0 slices_S8x2048x2x4x64_S8x2048x1x4x64_0_0_0_0_0) A3
  | 1 => part y 1 slices_S8x2048x2x4x64_S8x2048x1x4x64_0_0_1_0_0

def kvOf (y : FVec Ideal S8x2048x2x4x64 .f32) (A3 : FVec Ideal S64 .f32) : FVec Ideal S8x2048x2x4x64 .f32 :=
  concatenate S8x2048x2x4x64 2 (List.ofFn fun n : Fin 2 => ⟨S8x2048x1x4x64, lay (parts y A3 n)⟩) concatenates_S8x2048x1x4x64_S8x2048x1x4x64_S8x2048x2x4x64_d2

theorem xn_at (A0 : FVec Ideal S8x2048x2048 .f32) (A1 : FVec Ideal S2048 .f32) (b : Fin 8) (t : Fin 2048) (k : Fin 2048) :
    xn A0 A1 (ix3 b t k) = normed (fun i => A0 (ix3 b t i)) (fun i => A1 (ix1 i)) k := by
  unfold xn normed
  pointwise []

theorem product_at (X : FVec Ideal S8x2048x2048 .f32) (W : FVec Ideal S2048x512 .f32) (b : Fin 8) (t : Fin 2048) (j : Fin 512) :
    Host.dotGeneral (F := Ideal) dot_S8x2048x2048_S2048x512_S8x2048x512_2_0_01_1_n_n none X W (ix3 b t j) = ∑ k : Fin 2048, X (ix3 b t k) * W (ix2 k j) := by
  pointwise []

theorem two_at (X : FVec Ideal S8x2048x2048 .f32) (W : FVec Ideal S2048x512 .f32) (b : Fin 8) (t : Fin 2048) (s : Fin 2) (g : Fin 4) (l : Fin 64) :
    two X W (ix5 b t s g l) = ∑ k : Fin 2048, X (ix3 b t k) * W (ix2 k ⟨64 * (4 * s.val + g.val) + l.val, by omega⟩) := by
  refine Eq.trans ?_ (product_at X W b t ⟨64 * (4 * s.val + g.val) + l.val, by omega⟩)
  unfold two
  generalize Host.dotGeneral (F := Ideal) dot_S8x2048x2048_S2048x512_S8x2048x512_2_0_01_1_n_n none X W = Z
  refine shapeCast_apply _ _ _ _ ?_
  rw [Shape.rowMajor_val_three, Shape.rowMajor_val_five]
  show (b.val * 2048 + t.val) * 512 + (64 * (4 * s.val + g.val) + l.val) = (((b.val * 2048 + t.val) * 2 + s.val) * 4 + g.val) * 64 + l.val
  omega

theorem part_at (y : FVec Ideal S8x2048x2x4x64 .f32) (s : ℕ) (h) (hs : s < 2) (b : Fin 8) (t : Fin 2048) (g : Fin 4) (l : Fin 64) :
    part y s h (ix4 b t g l) = y (ix5 b t ⟨s, hs⟩ g l) := by
  unfold part
  refine (shapeCast_apply _ _ _ (ix5 b t 0 g l) ?_).trans ?_
  · rw [Shape.rowMajor_val_five, Shape.rowMajor_val_four]
    show (((b.val * 2048 + t.val) * 1 + 0) * 4 + g.val) * 64 + l.val = ((b.val * 2048 + t.val) * 4 + g.val) * 64 + l.val
    omega
  · pointwise []

theorem heads_at (v : FVec Ideal S8x2048x4x64 .f32) (A3 : FVec Ideal S64 .f32) (b : Fin 8) (t : Fin 2048) (g : Fin 4) (l : Fin 64) :
    heads v A3 (ix4 b t g l) = headed (fun i => v (ix4 b t g i)) (A3 (ix1 l)) l := by
  unfold heads headed
  pointwise []

theorem lay_at (v : FVec Ideal S8x2048x4x64 .f32) (b : Fin 8) (t : Fin 2048) (g : Fin 4) (l : Fin 64) : lay v (ix5 b t 0 g l) = v (ix4 b t g l) := by
  unfold lay
  pointwise []

theorem kvOf_at (y : FVec Ideal S8x2048x2x4x64 .f32) (A3 : FVec Ideal S64 .f32) (b : Fin 8) (t : Fin 2048) (s : Fin 2) (g : Fin 4) (l : Fin 64) :
    kvOf y A3 (ix5 b t s g l) = parts y A3 s (ix4 b t g l) := by
  unfold kvOf
  refine (concatenate_ofFn_unit_apply (t := S8x2048x2x4x64) (s₁ := S8x2048x1x4x64) 2 (fun n => lay (parts y A3 n)) _ rfl rfl _ s rfl (ix5 b t 0 g l) ?_).trans (lay_at _ b t g l)
  intro a ha
  fin_cases a
  · rfl
  · rfl
  · exact absurd rfl ha
  · rfl
  · rfl

/-- The plain program's keys and values, an entry at a time. -/
theorem whole_at (A0 : FVec Ideal S8x2048x2048 .f32) (A1 : FVec Ideal S2048 .f32) (A2 : FVec Ideal S2048x512 .f32) (A3 : FVec Ideal S64 .f32) (b : Fin 8) (t : Fin 2048) (s : Fin 2) (g : Fin 4) (l : Fin 64) :
    kvOf (two (xn A0 A1) A2) A3 (ix5 b t s g l) = entry (fun k => A0 (ix3 b t k)) (fun k => A1 (ix1 k)) (fun k j => A2 (ix2 k j)) (fun l => A3 (ix1 l)) ⟨4 * s.val + g.val, by omega⟩ l := by
  have e : ∀ (s : Fin 2) (l : Fin 64), two (xn A0 A1) A2 (ix5 b t s g l) = ∑ k, normed (fun i => A0 (ix3 b t i)) (fun i => A1 (ix1 i)) k * A2 (ix2 k ⟨64 * (4 * s.val + g.val) + l.val, by omega⟩) := by
    intro s l
    rw [two_at]
    exact Finset.sum_congr rfl fun k _ => by rw [xn_at]
  rw [kvOf_at]
  unfold entry
  fin_cases s
  · refine Eq.trans ?_ (if_pos (by show 4 * 0 + g.val < 4; omega)).symm
    refine (heads_at _ _ b t g l).trans (congrArg (headed · _ l) (funext fun i => ?_))
    exact (part_at _ 0 _ (by omega) b t g i).trans (e 0 i)
  · refine Eq.trans ?_ (if_neg (by show ¬ 4 * 1 + g.val < 4; omega)).symm
    exact (part_at _ 1 _ (by omega) b t g l).trans (e 1 l)

open Cert.SharedRefIdeal.Value in
theorem res_0 (m : (ℓ : Loc nD τ sig) → Buf (Elt Ideal) ℓ) (c : Dev nD) : res_main_v35 (F := Ideal) m c = shapeCast S16384x512 (kvOf (two (xn (m ((c.tc : Thread nD τ).loc main_arg0)) (m ((c.tc : Thread nD τ).loc main_arg1))) (m ((c.tc : Thread nD τ).loc main_arg2))) (m ((c.tc : Thread nD τ).loc main_arg3))) shapeCasts_S8x2048x2x4x64_S16384x512 := by
  unfold res_main_v35
  rfl

open Cert.SharedRefIdeal.Value in
theorem res_1 (m : (ℓ : Loc nD τ sig) → Buf (Elt Ideal) ℓ) (c : Dev nD) : res_main_v36 (F := Ideal) m c = extractStridedSlice S8x128x2x4x64 ![0, 1920, 0, 0, 0] (kvOf (two (xn (m ((c.tc : Thread nD τ).loc main_arg0)) (m ((c.tc : Thread nD τ).loc main_arg1))) (m ((c.tc : Thread nD τ).loc main_arg2))) (m ((c.tc : Thread nD τ).loc main_arg3))) slices_S8x2048x2x4x64_S8x128x2x4x64_0_1920_0_0_0 := by
  unfold res_main_v36
  rfl

end Cert.SharedRefIdeal.Own

end
-- ==== Proof.Swa.Heads.lean ====
/- The attention kernel's block, head by head, in the operations the kernel uses. -/
module

public import proofs.«01_k».proof.Proof.Gen.SwaIdeal.Frame

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable {F : FTy → Type} [FloatOps F] [Named F]

local notation "𝕄" => MT nD τ sig Unit (Elt F) ℕ (UR sig nD τ) ℕ

/-- The slope of head `h`, times `1 / ln 2`, by its name. -/
def slopeOf (h : Fin 32) : F .f32 := match h.val with
  | 0 => Named.named κ "slope0" 0x3F9B48BB#32
  | 1 => Named.named κ "slope1" 0x3F8293EE#32
  | 2 => Named.named κ "slope2" 0x3F5B9ADA#32
  | 3 => Named.named κ "slope3" 0x3F38AA3B#32
  | 4 => Named.named κ "slope4" 0x3F1B48BB#32
  | 5 => Named.named κ "slope5" 0x3F0293EE#32
  | 6 => Named.named κ "slope6" 0x3EDB9ADA#32
  | 7 => Named.named κ "slope7" 0x3EB8AA3B#32
  | 8 => Named.named κ "slope8" 0x3E9B48BB#32
  | 9 => Named.named κ "slope9" 0x3E8293EE#32
  | 10 => Named.named κ "slope10" 0x3E5B9ADA#32
  | 11 => Named.named κ "slope11" 0x3E38AA3B#32
  | 12 => Named.named κ "slope12" 0x3E1B48BB#32
  | 13 => Named.named κ "slope13" 0x3E0293EE#32
  | 14 => Named.named κ "slope14" 0x3DDB9ADA#32
  | 15 => Named.named κ "slope15" 0x3DB8AA3B#32
  | 16 => Named.named κ "slope16" 0x3D9B48BB#32
  | 17 => Named.named κ "slope17" 0x3D8293EE#32
  | 18 => Named.named κ "slope18" 0x3D5B9ADA#32
  | 19 => Named.named κ "slope19" 0x3D38AA3B#32
  | 20 => Named.named κ "slope20" 0x3D1B48BB#32
  | 21 => Named.named κ "slope21" 0x3D0293EE#32
  | 22 => Named.named κ "slope22" 0x3CDB9ADA#32
  | 23 => Named.named κ "slope23" 0x3CB8AA3B#32
  | 24 => Named.named κ "slope24" 0x3C9B48BB#32
  | 25 => Named.named κ "slope25" 0x3C8293EE#32
  | 26 => Named.named κ "slope26" 0x3C5B9ADA#32
  | 27 => Named.named κ "slope27" 0x3C38AA3B#32
  | 28 => Named.named κ "slope28" 0x3C1B48BB#32
  | 29 => Named.named κ "slope29" 0x3C0293EE#32
  | 30 => Named.named κ "slope30" 0x3BDB9ADA#32
  | _ => Named.named κ "slope31" 0x3BB8AA3B#32

theorem slicesQ : ∀ h : Fin 32, S2048x256.Slices ![64 * h.val, 0] S64x256 := by decide
theorem slicesS : ∀ r : Fin 8, S384x2048.Slices ![0, 256 * r.val] S384x256 := by decide
theorem slicesO : ∀ r : Fin 8, S64x2048.Slices ![0, 256 * r.val] S64x256 := by decide
theorem slicesK : ∀ g : Fin 4, S384x256.Slices ![0, 128 * (g.val / 2)] S384x128 := by decide
theorem slicesV : ∀ g : Fin 4, S256x384.Slices ![64 * g.val, 0] S64x384 := by decide

/-- Head `r` of key head `g`. -/
def head (g : Fin 4) (r : Fin 8) : Fin 32 := ⟨8 * g.val + r.val, by omega⟩

/-- A head's queries with a block of zeros below them (an even key head) or above (an odd one). -/
def qPad (q : FVec F S2048x256 .bf16) (g : Fin 4) (r : Fin 8) : FVec F S128x256 .bf16 :=
  if g.val % 2 = 0 then
    concatenate S128x256 0 [⟨S64x256, extractStridedSlice S64x256 ![64 * (head g r).val, 0] q (slicesQ (head g r))⟩, ⟨S64x256, broadcast S64x256 (Scalar.ofBits .bf16 0x0000#16)⟩] concatenates_S64x256_S64x256_S128x256_d0
  else
    concatenate S128x256 0 [⟨S64x256, broadcast S64x256 (Scalar.ofBits .bf16 0x0000#16)⟩, ⟨S64x256, extractStridedSlice S64x256 ![64 * (head g r).val, 0] q (slicesQ (head g r))⟩] concatenates_S64x256_S64x256_S128x256_d0

/-- The products of the key window with the queries of key head `g`'s eight heads, side by side. -/
def sMat (kw : FVec F S384x256 .bf16) (q : FVec F S2048x256 .bf16) (g : Fin 4) : FVec F S384x2048 .f32 :=
  matmul dot_S384x128_S128x2048_S384x2048_1_0_0_1_n_n none (extractStridedSlice S384x128 ![0, 128 * (g.val / 2)] kw (slicesK g))
    (concatenate S128x2048 1 [⟨S128x256, qPad q g 0⟩, ⟨S128x256, qPad q g 1⟩, ⟨S128x256, qPad q g 2⟩, ⟨S128x256, qPad q g 3⟩, ⟨S128x256, qPad q g 4⟩, ⟨S128x256, qPad q g 5⟩, ⟨S128x256, qPad q g 6⟩, ⟨S128x256, qPad q g 7⟩] concatenates_S128x256_S128x256_S128x256_S128x256_S128x256_S128x256_S128x256_S128x256_S128x2048_d1)
    (constant S384x2048 .f32 0x00000000#32)

/-- A head's scores in base two: the scaled products less the slope times the distance. -/
def hScore (s : FVec F S384x256 .f32) (sl : F .f32) (dist : FVec F S384x256 .f32) : FVec F S384x256 .f32 :=
  subf (mulf s (broadcast S384x256 (Named.named κ "slope11" 0x3E38AA3B#32))) (mulf (broadcast S384x256 sl) dist)

/-- A head's sink in base two. -/
def hSink (x : F .f32) : F .f32 := Scalar.mulf x (Named.named κ "log2e" 0x3FB8AA3B#32)

/-- A query's largest score, its sink's included. -/
def hMax (sc : FVec F S384x256 .f32) (k2 : F .f32) : FVec F S1x256 .f32 :=
  maximumf (shapeCast S1x256 (multiReduction .maximumf [0] S256 sc 0xFF800000#32 reduces_S384x256_S256 (.inl rfl) rfl) shapeCasts_S256_S1x256) (broadcast S1x256 k2)

/-- The unnormalised weights. -/
def hExp (sc : FVec F S384x256 .f32) (mx : FVec F S1x256 .f32) : FVec F S384x256 .f32 :=
  exp2 (subf sc (broadcastTo S384x256 mx broadcasts_S1x256_S384x256))

/-- The normaliser, the sink's weight included. -/
def hSum (e : FVec F S384x256 .f32) (mx : FVec F S1x256 .f32) (k2 : F .f32) : FVec F S1x256 .f32 :=
  addf (shapeCast S1x256 (multiReduction .add [0] S256 e 0x00000000#32 reduces_S384x256_S256 (.inl rfl) rfl) shapeCasts_S256_S1x256) (exp2 (subf (broadcast S1x256 k2) mx))

/-- The scores of head `(g, r)`. -/
def scoreOf (kw : FVec F S384x256 .bf16) (q : FVec F S2048x256 .bf16) (dist : FVec F S384x256 .f32) (g : Fin 4) (r : Fin 8) : FVec F S384x256 .f32 :=
  hScore (extractStridedSlice S384x256 ![0, 256 * r.val] (sMat kw q g) (slicesS r)) (slopeOf (head g r)) dist

/-- The weights of head `(g, r)`, rounded for the product with the values. -/
def wOf (kw : FVec F S384x256 .bf16) (q : FVec F S2048x256 .bf16) (dist : FVec F S384x256 .f32) (sk : Fin 32 → F .f32) (g : Fin 4) (r : Fin 8) : FVec F S384x256 .bf16 :=
  truncf .bf16 (hExp (scoreOf kw q dist g r) (hMax (scoreOf kw q dist g r) (hSink (sk (head g r))))) bitsLt_bf16_f32

/-- The normaliser of head `(g, r)`. -/
def lOf (kw : FVec F S384x256 .bf16) (q : FVec F S2048x256 .bf16) (dist : FVec F S384x256 .f32) (sk : Fin 32 → F .f32) (g : Fin 4) (r : Fin 8) : FVec F S1x256 .f32 :=
  hSum (hExp (scoreOf kw q dist g r) (hMax (scoreOf kw q dist g r) (hSink (sk (head g r))))) (hMax (scoreOf kw q dist g r) (hSink (sk (head g r)))) (hSink (sk (head g r)))

/-- The outputs of key head `g`'s eight heads, transposed, side by side. -/
def oMat (vw : FVec F S256x384 .bf16) (w : Fin 8 → FVec F S384x256 .bf16) (l : Fin 8 → FVec F S1x256 .f32) (g : Fin 4) : FVec F S64x2048 .f32 :=
  mulf
    (matmul dot_S64x384_S384x2048_S64x2048_1_0_0_1_n_n none (extractStridedSlice S64x384 ![64 * g.val, 0] vw (slicesV g))
      (concatenate S384x2048 1 [⟨S384x256, w 0⟩, ⟨S384x256, w 1⟩, ⟨S384x256, w 2⟩, ⟨S384x256, w 3⟩, ⟨S384x256, w 4⟩, ⟨S384x256, w 5⟩, ⟨S384x256, w 6⟩, ⟨S384x256, w 7⟩] concatenates_S384x256_S384x256_S384x256_S384x256_S384x256_S384x256_S384x256_S384x256_S384x2048_d1)
      (constant S64x2048 .f32 0x00000000#32))
    (broadcastTo S64x2048
      (divf (broadcast S1x2048 (Scalar.ofBits .f32 0x3F800000#32))
        (concatenate S1x2048 1 [⟨S1x256, l 0⟩, ⟨S1x256, l 1⟩, ⟨S1x256, l 2⟩, ⟨S1x256, l 3⟩, ⟨S1x256, l 4⟩, ⟨S1x256, l 5⟩, ⟨S1x256, l 6⟩, ⟨S1x256, l 7⟩] concatenates_S1x256_S1x256_S1x256_S1x256_S1x256_S1x256_S1x256_S1x256_S1x2048_d1))
      broadcasts_S1x2048_S64x2048)

/-- Two neighbouring heads' outputs, as they are stored. -/
def pairOf (o : FVec F S64x2048 .f32) (r0 r1 : Fin 8) : FVec F S256x128 .bf16 :=
  truncf .bf16
    (transpose S256x128 [1, 0]
      (concatenate S128x256 0 [⟨S64x256, extractStridedSlice S64x256 ![0, 256 * r0.val] o (slicesO r0)⟩, ⟨S64x256, extractStridedSlice S64x256 ![0, 256 * r1.val] o (slicesO r1)⟩] concatenates_S64x256_S64x256_S128x256_d0)
      transposes_S128x256_p1_0_S256x128) bitsLt_bf16_f32

/-- The tile of key head `g`'s heads `r0` and `r1`. -/
def tileOf (kw : FVec F S384x256 .bf16) (vw : FVec F S256x384 .bf16) (q : FVec F S2048x256 .bf16) (dist : FVec F S384x256 .f32)
    (sk : Fin 32 → F .f32) (g : Fin 4) (r0 r1 : Fin 8) : FVec F S256x128 .bf16 :=
  pairOf (oMat vw (wOf kw q dist sk g) (lOf kw q dist sk g) g) r0 r1

end Cert.SwaIdeal.Own

end
-- ==== Proof.Swa.Consts.lean ====
/- The values of the named constants and of the literals that the attention and its reference use. -/
module

public import proofs.«01_k».proof.Proof.Swa.Heads
public import Idealize.ShloMosaic.Lib.Pointwise
public import proofs.«01_k».proof.Proof.Gen.SwaRefIdeal.Run

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

/-- Head `h`'s slope. -/
def slopeR (h : Fin 32) : ℝ := match h.val with
  | 0 => 14107901 / 16777216
  | 1 => 11863283 / 16777216
  | 2 => 623487 / 1048576
  | 3 => 1 / 2
  | 4 => 14107901 / 33554432
  | 5 => 11863283 / 33554432
  | 6 => 623487 / 2097152
  | 7 => 1 / 4
  | 8 => 14107901 / 67108864
  | 9 => 11863283 / 67108864
  | 10 => 623487 / 4194304
  | 11 => 1 / 8
  | 12 => 14107901 / 134217728
  | 13 => 11863283 / 134217728
  | 14 => 623487 / 8388608
  | 15 => 1 / 16
  | 16 => 14107901 / 268435456
  | 17 => 11863283 / 268435456
  | 18 => 623487 / 16777216
  | 19 => 1 / 32
  | 20 => 14107901 / 536870912
  | 21 => 11863283 / 536870912
  | 22 => 623487 / 33554432
  | 23 => 1 / 64
  | 24 => 14107901 / 1073741824
  | 25 => 11863283 / 1073741824
  | 26 => 623487 / 67108864
  | 27 => 1 / 128
  | 28 => 14107901 / 2147483648
  | 29 => 11863283 / 2147483648
  | 30 => 623487 / 134217728
  | _ => 1 / 256

theorem slopeR_pos (h : Fin 32) : 0 < slopeR h := by
  fin_cases h <;> (simp only [slopeR]; norm_num)

/-- What the kernel calls a head's slope is the slope over `ln 2`. -/
theorem slopeOf_at (h : Fin 32) : slopeOf (F := Ideal) h = ((slopeR h * (Real.log 2)⁻¹ : ℝ) : EReal) := by
  fin_cases h <;> exact IdealRules.named_const.ideal_named_scalar _ _ _ _ rfl

/-- The kernel's scale is an eighth over `ln 2`. -/
theorem scale_at : (Named.named (F := Ideal) κ "slope11" (φ := .f32) 0x3E38AA3B#32 : EReal) = ((1 / 8 * (Real.log 2)⁻¹ : ℝ) : EReal) :=
  IdealRules.named_const.ideal_named_scalar _ _ _ _ rfl

theorem log2e_at : (Named.named (F := Ideal) κ "log2e" (φ := .f32) 0x3FB8AA3B#32 : EReal) = (((Real.log 2)⁻¹ : ℝ) : EReal) :=
  IdealRules.named_const.ideal_named_scalar _ _ _ _ rfl

theorem far_at : (Named.named (F := Ideal) κ "far" (φ := .f32) 0x76453719#32 : EReal) = ⊤ :=
  IdealRules.named_const.ideal_named_scalar _ _ _ _ rfl

/-- The reference's table holds the slopes. -/
theorem table_at (h : Fin 32) : (Ideal.ofBits .f32 (Cert.SwaRefIdeal.lit0 h) : EReal) = ((slopeR h : ℝ) : EReal) := by
  fin_cases h <;> (simp [Cert.SwaRefIdeal.lit0, slopeR, Ideal.ofBits, Ideal.ieee, -EReal.coe_mul]; try norm_num)

theorem eighth_at : (Ideal.ofBits .f32 0x3E000000#32 : EReal) = ((1 / 8 : ℝ) : EReal) := by
  simp [Ideal.ofBits, Ideal.ieee, -EReal.coe_mul]; norm_num

theorem one_at : (Ideal.ofBits .f32 0x3F800000#32 : EReal) = 1 := by
  simp [Ideal.ofBits, Ideal.ieee, -EReal.coe_mul]; norm_num

theorem bottom_at : (Ideal.ofBits .f32 0xFF800000#32 : EReal) = ⊥ := by
  simp [Ideal.ofBits, Ideal.ieee, -EReal.coe_mul]

theorem infinity_at : (Ideal.ofBits .f32 0x7F800000#32 : EReal) = ⊤ := by
  simp [Ideal.ofBits, Ideal.ieee, -EReal.coe_mul]

end Cert.SwaIdeal.Own

end
-- ==== Proof.Swa.Finite.lean ====
/- What the precondition says of the arrays: queries, keys and sinks are real numbers. -/
module

public import proofs.«01_k».proof.Proof.Swa.Consts
public import proofs.«01_k».proof.Proof.Gen.Pre_finite
public import Idealize.ShloMosaic.Lib.ReduceAll

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

/-- A value whose magnitude is below infinity is a real. -/
theorem real_of_abs (x : EReal) (h : Ideal.cmp .olt (max x (-x)) (Ideal.ofBits .f32 0x7F800000#32) = 1#1) : ∃ r : ℝ, x = (r : EReal) := by
  rw [infinity_at] at h
  have hlt : max x (-x) < ⊤ := by
    by_contra hn
    simp [Ideal.cmp, hn] at h
  have h1 : x ≠ ⊤ := (lt_of_le_of_lt (le_max_left _ _) hlt).ne
  have h2 : x ≠ ⊥ := by
    rintro rfl
    simp at hlt
  exact ⟨x.toReal, (EReal.coe_toReal h1 h2).symm⟩

theorem one_index : Subsingleton Cert.Pre_finite.S_.Idx := ⟨fun a b => funext fun i => i.elim0⟩

theorem finite_args [Cert.Pre_finite.Facts] (A0 : FVec Ideal S2048x16384 .bf16) (A1 : FVec Ideal S16384x512 .f32) (A2 : FVec Ideal S32 .f32)
    (h : Cert.Pre_finite.fn (F := Ideal) A0 A1 A2 = fun _ => 1#1) :
    (∀ i j, ∃ x : ℝ, A0 (ix2 i j) = (x : EReal)) ∧ (∀ (i : Fin 16384) (j : Fin 256), ∃ x : ℝ, A1 (ix2 i ⟨j.val, by omega⟩) = (x : EReal)) ∧ (∀ n, ∃ x : ℝ, A2 (ix1 n) = (x : EReal)) := by
  have h0 := congrFun h ix0
  haveI := one_index
  unfold Cert.Pre_finite.fn at h0
  obtain ⟨h12, h3⟩ := IntOp.andi_eq_one.1 h0
  obtain ⟨h1, h2⟩ := IntOp.andi_eq_one.1 h12
  refine ⟨fun i j => ?_, fun i j => ?_, fun n => ?_⟩
  · exact real_of_abs _ (Host.reduce_andi_all _ _ _ _ _ h1 (ix2 i j))
  · have e := Host.reduce_andi_all _ _ _ _ _ h2 (ix2 i j)
    refine real_of_abs _ (Eq.trans ?_ e)
    pointwise []
    rfl
  · exact real_of_abs _ (Host.reduce_andi_all _ _ _ _ _ h3 (ix1 n))

end Cert.SwaIdeal.Own

end
-- ==== Proof.Half.Finite.lean ====
/- What the preconditions on the heads of 64 say: the norm's weights and the projection's are real numbers. -/
module

public import proofs.«01_k».proof.Proof.Swa.Finite
public import proofs.«01_k».proof.Proof.Gen.Pre_finite_shared
public import proofs.«01_k».proof.Proof.Gen.Pre_finite_shared_sample
public import proofs.«01_k».proof.Proof.Gen.Pre_finite_query
public import Idealize.ShloMosaic.Lib.ReduceAll

@[expose] public section

set_option maxRecDepth 16384

noncomputable section

namespace Cert.Half

open Idealize.ShloMosaic Idealize.ShloMosaic.TcCoe Idealize.ShloMosaic.Tactic Idealize.SL.Sem
open Cert.SwaIdeal.Own (real_of_abs one_index)

theorem finite_shared [Cert.Pre_finite_shared.Facts] (A0 : FVec Ideal Cert.Pre_finite_shared.S8x2048x2048 .f32) (A1 : FVec Ideal Cert.Pre_finite_shared.S2048 .f32) (A2 : FVec Ideal Cert.Pre_finite_shared.S2048x512 .f32) (A3 : FVec Ideal Cert.Pre_finite_shared.S64 .f32)
    (h : Cert.Pre_finite_shared.fn (F := Ideal) A0 A1 A2 A3 = fun _ => 1#1) :
    (∀ k, ∃ x : ℝ, A1 (ix1 k) = (x : EReal)) ∧ ∀ k j, ∃ x : ℝ, A2 (ix2 k j) = (x : EReal) := by
  have h0 := congrFun h ix0
  haveI : Subsingleton Cert.Pre_finite_shared.S_.Idx := one_index
  unfold Cert.Pre_finite_shared.fn at h0
  obtain ⟨h1, h2⟩ := IntOp.andi_eq_one.1 h0
  exact ⟨fun k => real_of_abs _ (Host.reduce_andi_all _ _ _ _ _ h1 (ix1 k)), fun k j => real_of_abs _ (Host.reduce_andi_all _ _ _ _ _ h2 (ix2 k j))⟩

theorem finite_shared_sample [Cert.Pre_finite_shared_sample.Facts] (A0 : FVec Ideal Cert.Pre_finite_shared_sample.S128x4x2048 .f32) (A1 : FVec Ideal Cert.Pre_finite_shared_sample.S128x128x2x4x64 .f32) (A2 : FVec Ideal Cert.Pre_finite_shared_sample.S2048 .f32) (A3 : FVec Ideal Cert.Pre_finite_shared_sample.S2048x512 .f32) (A4 : FVec Ideal Cert.Pre_finite_shared_sample.S64 .f32)
    (h : Cert.Pre_finite_shared_sample.fn (F := Ideal) A0 A1 A2 A3 A4 = fun _ => 1#1) :
    (∀ k, ∃ x : ℝ, A2 (ix1 k) = (x : EReal)) ∧ ∀ k j, ∃ x : ℝ, A3 (ix2 k j) = (x : EReal) := by
  have h0 := congrFun h ix0
  haveI : Subsingleton Cert.Pre_finite_shared_sample.S_.Idx := one_index
  unfold Cert.Pre_finite_shared_sample.fn at h0
  obtain ⟨h1, h2⟩ := IntOp.andi_eq_one.1 h0
  exact ⟨fun k => real_of_abs _ (Host.reduce_andi_all _ _ _ _ _ h1 (ix1 k)), fun k j => real_of_abs _ (Host.reduce_andi_all _ _ _ _ _ h2 (ix2 k j))⟩

theorem finite_query [Cert.Pre_finite_query.Facts] (A0 : FVec Ideal Cert.Pre_finite_query.S8x2048x2048 .f32) (A1 : FVec Ideal Cert.Pre_finite_query.S2x2048 .f32) (A2 : FVec Ideal Cert.Pre_finite_query.S1x2048x2048 .f32) (A3 : FVec Ideal Cert.Pre_finite_query.S1x64 .f32)
    (h : Cert.Pre_finite_query.fn (F := Ideal) A0 A1 A2 A3 = fun _ => 1#1) :
    (∀ k, ∃ x : ℝ, A1 (ix2 1 k) = (x : EReal)) ∧ ∀ k j, ∃ x : ℝ, A2 (ix3 0 k j) = (x : EReal) := by
  have h0 := congrFun h ix0
  haveI : Subsingleton Cert.Pre_finite_query.S_.Idx := one_index
  unfold Cert.Pre_finite_query.fn at h0
  obtain ⟨h1, h2⟩ := IntOp.andi_eq_one.1 h0
  refine ⟨fun k => ?_, fun k j => ?_⟩
  · obtain ⟨x, hx⟩ := real_of_abs _ (Host.reduce_andi_all _ _ _ _ _ h1 (ix1 k))
    refine ⟨x, Eq.trans ?_ hx⟩
    pointwise []
  · obtain ⟨x, hx⟩ := real_of_abs _ (Host.reduce_andi_all _ _ _ _ _ h2 (ix2 k j))
    refine ⟨x, Eq.trans ?_ hx⟩
    symm
    refine shapeCast_apply _ _ _ (ix3 0 k j) ?_
    rw [Shape.rowMajor_val_two, Shape.rowMajor_val_three]
    show (0 * 2048 + k.val) * 2048 + j.val = k.val * 2048 + j.val
    omega

end Cert.Half

end
-- ==== Proof.Shared.Result.lean ====
/- The shared key and value projection of the prompts: its frames, and its two results against the plain program. -/
module

public import proofs.«01_k».proof.Defs
public import Idealize.ShloMosaic.Adequacy
public import Idealize.ShloMosaic.Init
public import proofs.«01_k».proof.Proof.Gen.Shared.Frame
public import proofs.«01_k».proof.Proof.Gen.SharedIdeal.Frame
public import proofs.«01_k».proof.Proof.Shared.Points
public import proofs.«01_k».proof.Proof.Shared.Plain
public import proofs.«01_k».proof.Proof.Half.Finite

@[expose] public section

set_option maxRecDepth 16384

noncomputable section

namespace Cert.Proof

open Idealize.ShloMosaic Idealize.ShloMosaic.TcCoe Idealize.ShloMosaic.Tactic Idealize.SL.Sem

theorem frame_shared : Cert.quiescent_Shared := fun m ρ _ => Cert.Shared.Gen.frame m ρ

theorem frame_sharedIdeal : Cert.quiescent_SharedIdeal := fun m ρ _ => Cert.SharedIdeal.Gen.frame m ρ

/-- The plain program declares no semaphore, and no operation writes an argument. -/
theorem frame_sharedRef : Cert.quiescent_SharedRefIdeal := fun m ρ _ =>
  (θ_run Cert.SharedRefIdeal.defs _ _).mono (fun r h => ⟨fun c => (h c).2.2, Idealize.ShloMosaic.sem_eq_zero_of_no_sems (by decide) r.2⟩)
    (Cert.SharedRefIdeal.Value.run (F := Ideal) m ρ)

section
open Cert.SharedIdeal Cert.SharedIdeal.Gen Cert.SharedIdeal.Own

/-- What the kernel's run leaves in its two results and its arguments. -/
theorem run_shared (m : (ℓ : Loc nD τ sig) → Buf (Elt Ideal) ℓ) (ρ : Dev nD → PrngReg) (hr : ∀ c, Real m c) :
    θ_run defs (onTc (τ := τ) (main (F := Ideal))) ⟨m, fun _ => 0, ρ⟩ fun r => ∀ c : Dev nD,
      r.2.mem ((c.tc : Thread nD τ).loc main_v13) = projected m c
      ∧ r.2.mem ((c.tc : Thread nD τ).loc main_v15) = lastRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, ?_, ?_, ?_, ?_⟩) (run_main m ρ)
  · exact ((h c).1 5).trans (result_5 m c (hr c))
  · exact ((h c).2 main_v15 (Pipeline.mem_restRefs_of main_v15 (by decide) (by decide))).trans (tail_15 m c (hr c))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

/-- The kernel's keys and values and the plain program's are the same function of the arguments. -/
theorem shared_agree (m : (ℓ : Loc nD τ sig) → Buf (Elt Ideal) ℓ) (c : Dev nD) :
    Cert.SharedRefIdeal.Own.kvOf (Cert.SharedRefIdeal.Own.two (Cert.SharedRefIdeal.Own.xn (m ((c.tc : Thread nD τ).loc main_arg0)) (m ((c.tc : Thread nD τ).loc main_arg1))) (m ((c.tc : Thread nD τ).loc main_arg2))) (m ((c.tc : Thread nD τ).loc main_arg3)) = kvRows m c := by
  funext i
  idx_vars i
  refine (Cert.SharedRefIdeal.Own.whole_at _ _ _ _ i0 i1 i2 i3 i4).trans (Eq.trans ?_ (kvRows_at m c i0 i1 i2 i3 i4).symm)
  unfold sharedAt
  refine congrArg (fun x => Cert.Half.entry x _ _ _ _ i4) (funext fun k => ?_)
  unfold rows
  refine congrArg₂ (fun a d => (m ((c.tc : Thread nD τ).loc main_arg0) : FVec Ideal S8x2048x2048 .f32) (ix3 a d k)) (Fin.ext ?_) (Fin.ext ?_)
  · show i0.val = (2048 * i0.val + i1.val) / 2048; omega
  · show i1.val = (2048 * i0.val + i1.val) % 2048; omega
end

theorem algebraic_shared : Cert.algebraic_SharedIdeal_SharedRefIdeal_pre_finite_shared := by
  intro m ρ m' ρ' hpre hagree
  refine ⟨Cert.SharedIdeal.Own.projected m, Cert.SharedIdeal.Own.lastRows m, ?_, ?_⟩
  · exact run_shared m ρ fun c => Cert.Half.finite_shared _ _ _ _ (hpre c)
  · refine (θ_run Cert.SharedRefIdeal.defs _ _).mono (fun r h c => ⟨(h c).1.trans ?_, (h c).2.1.trans ?_, (h c).2.2⟩) (Cert.SharedRefIdeal.Value.run (F := Ideal) m' ρ')
    · rw [Cert.SharedRefIdeal.Own.res_0, (hagree c).1, (hagree c).2.1, (hagree c).2.2.1, (hagree c).2.2.2]
      exact Cert.SharedIdeal.Own.flat_at m c _ (shared_agree m c) _
    · rw [Cert.SharedRefIdeal.Own.res_1, (hagree c).1, (hagree c).2.1, (hagree c).2.2.1, (hagree c).2.2.2]
      refine congrArg (fun Y => extractStridedSlice Cert.SharedRefIdeal.S8x128x2x4x64 ![0, 1920, 0, 0, 0] Y Cert.SharedRefIdeal.Gen.slices_S8x2048x2x4x64_S8x128x2x4x64_0_1920_0_0_0) (shared_agree m c)

end Cert.Proof

end
-- ==== Proof.SharedS.Points.lean ====
/- What the shared key and value projection leaves of the samples. -/
module

public import proofs.«01_k».proof.Proof.Half.Four
public import proofs.«01_k».proof.Proof.Gen.SharedSIdeal.Frame
public import Idealize.ShloMosaic.Lib.Pipeline.ReadBack
public import Idealize.ShloMosaic.Lib.Pipeline.ValueKit
public import Idealize.ShloMosaic.Lib.WholeRead

@[expose] public section

set_option maxRecDepth 16384

noncomputable section

namespace Cert.SharedSIdeal.Own

open Idealize.ShloMosaic Idealize.ShloMosaic.TcCoe Idealize.ShloMosaic.Tactic Idealize.SL.Sem
open Cert.SharedSIdeal Cert.SharedSIdeal.Gen Cert.Half

variable (m : (ℓ : Loc nD τ sig) → Buf (Elt Ideal) ℓ)

/-- The four arguments the projection reads, as functions of their coordinates. -/
def rows (c : Dev nD) (r : Fin 512) (k : Fin 2048) : EReal := (m ((c : Thread nD τ).loc main_arg0) : FVec Ideal S128x4x2048 .f32) (ix3 ⟨r.val / 4, by omega⟩ ⟨r.val % 4, by omega⟩ k)
def gamma (c : Dev nD) (k : Fin 2048) : EReal := (m ((c : Thread nD τ).loc main_arg2) : FVec Ideal S2048 .f32) (ix1 k)
def weight (c : Dev nD) (k : Fin 2048) (j : Fin 512) : EReal := (m ((c : Thread nD τ).loc main_arg3) : FVec Ideal S2048x512 .f32) (ix2 k j)
def gain (c : Dev nD) : FVec Ideal S64 .f32 := m ((c : Thread nD τ).loc main_arg4)

theorem index_at : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The rows laid out in one run. -/
theorem V_rows (c : Dev nD) (r : Fin 512) (k : Fin 2048) : (V m c main_v0 : FVec Ideal S512x2048 .f32) (ix2 r k) = rows m c r k := by
  have e : (V m c main_v0 : FVec Ideal S512x2048 .f32) = shapeCast S512x2048 (m ((c : Thread nD τ).loc main_arg0)) shapeCasts_S128x4x2048_S512x2048 := by
    show StableHlo.after hostOps0 _ _ = _
    after_results
    rfl
  rw [e]
  unfold rows
  refine shapeCast_apply _ _ _ (ix3 ⟨r.val / 4, by omega⟩ ⟨r.val % 4, by omega⟩ k) ?_
  rw [Shape.rowMajor_val_two, Shape.rowMajor_val_three]
  show (r.val / 4 * 4 + r.val % 4) * 2048 + k.val = r.val * 2048 + k.val
  omega

theorem V_gamma (c : Dev nD) (k : Fin 2048) : (V m c main_v10 : FVec Ideal S1x2048 .f32) (ix2 0 k) = gamma m c k := by
  have e : (V m c main_v10 : FVec Ideal S1x2048 .f32) = shapeCast S1x2048 (m ((c : Thread nD τ).loc main_arg2)) shapeCasts_S2048_S1x2048 := by
    show StableHlo.after hostOps0 _ _ = _
    after_results
    rfl
  rw [e]
  unfold gamma
  pointwise []

theorem V_weight (c : Dev nD) (k : Fin 2048) (j : Fin 512) : (V m c main_v1 : FVec Ideal S2048x512 .bf16) (ix2 k j) = weight m c k j := by
  have e : (V m c main_v1 : FVec Ideal S2048x512 .bf16) = (truncf .bf16 (m ((c : Thread nD τ).loc main_arg3) : FVec Ideal S2048x512 .f32) bitsLt_bf16_f32 : FVec Ideal S2048x512 .bf16) := by
    show StableHlo.after hostOps0 _ _ = _
    after_results
  rw [e]
  unfold weight
  pointwise []

theorem V_gain (c : Dev nD) : (V m c main_v11 : FVec Ideal S1x512 .f32) = row (four (gain m c)) ones := by
  show StableHlo.after hostOps0 _ _ = _
  after_results
  rfl

theorem V_flag (c : Dev nD) : (V m c main_v12 : FVec Ideal S1x512 .f32) = row ones zeros := by
  show StableHlo.after hostOps0 _ _ = _
  after_results
  rfl

theorem rows_blk (c : Dev nD) (t : Fin cfg0.N) (x : Fin 512) (k : Fin 2048) : (iblk m c 0 t : FVec Ideal S512x2048 .f32) (ix2 x k) = rows m c (x) k := by
  rw [← V_rows]
  blk_point [iblk, index_at t]

theorem gamma_blk (c : Dev nD) (t : Fin cfg0.N) (k : Fin 2048) : (iblk m c 1 t : FVec Ideal S1x2048 .f32) (ix2 0 k) = gamma m c k := by
  rw [← V_gamma]
  blk_point [iblk, index_at t]

theorem weight_blk (c : Dev nD) (t : Fin cfg0.N) (k : Fin 2048) (j : Fin 512) : (iblk m c 2 t : FVec Ideal S2048x512 .bf16) (ix2 k j) = weight m c k j := by
  rw [← V_weight]
  blk_point [iblk, index_at t]

theorem gain_blk (c : Dev nD) (t : Fin cfg0.N) (j : Fin 512) : (iblk m c 3 t : FVec Ideal S1x512 .f32) (ix2 0 j) = row (four (gain m c)) ones (ix2 0 j) := by
  rw [← V_gain]
  blk_point [iblk, index_at t]

theorem flag_blk (c : Dev nD) (t : Fin cfg0.N) (j : Fin 512) : (iblk m c 4 t : FVec Ideal S1x512 .f32) (ix2 0 j) = row ones zeros (ix2 0 j) := by
  rw [← V_flag m c]
  blk_point [iblk, index_at t]

/-- A row's entry, from the arguments. -/
def sharedAt (c : Dev nD) (r : Fin 512) (h : Fin 8) (l : Fin 64) : EReal := entry (rows m c r) (gamma m c) (weight m c) (fun l => gain m c (ix1 l)) h l

/-- The block a point leaves. -/
theorem outs_5 (c : Dev nD) (t : Fin cfg0.N) : outsAt0 m c t = block (iblk m c 0 t) (iblk m c 1 t) (iblk m c 2 t) (iblk m c 3 t) (iblk m c 4 t) := by
  unfold outsAt0
  frame_out
  rfl

/-- The arguments that must be real. -/
def Real (c : Dev nD) : Prop := (∀ k, ∃ r : ℝ, gamma m c k = (r : EReal)) ∧ ∀ k j, ∃ r : ℝ, weight m c k j = (r : EReal)

theorem outs_at (c : Dev nD) (hr : Real m c) (t : Fin cfg0.N) (x : Fin 512) (h : Fin 8) (l : Fin 64) : outsAt0 m c t (ix2 x ⟨64 * h.val + l.val, by omega⟩) = sharedAt m c (x) h l := by
  rw [outs_5, entry_at _ _ _ (gain m c) _ _ (gain_blk m c t) (flag_blk m c t) (fun k => by rw [gamma_blk]; exact hr.1 k) (fun k j => by rw [weight_blk]; exact hr.2 k j)]
  unfold sharedAt
  simp only [rows_blk, gamma_blk, weight_blk]

/-- The array the launch leaves. -/
def projected (c : Dev nD) : S512x512.Idx → EReal := fun i => sharedAt m c (i 0) ⟨(i 1).val / 64, by have h : (i 1).val < 512 := (i 1).isLt; omega⟩ ⟨(i 1).val % 64, by omega⟩

theorem result_5 (c : Dev nD) (hr : Real m c) : (dats m 0 c).arrAt 5 cfg0.N = projected m c := by
  refine (dats m 0 c).arrAt_eq_of_covers 5 _ (by decide +kernel) fun t _ y => ?_
  blk_simp
  rw [after0_5]
  idx_vars y
  have key : ∀ A : S512x512.Idx → EReal, A (ix2 (y0) y1) = A (((View.whole main_v13).slice (win0_5.rect t)).emb (ix2 y0 y1)) := by
    intro A
    symm
    blk_point [index_at t]
  refine Eq.trans ?_ (key (projected m c))
  refine Eq.trans ?_ (outs_at m c hr t y0 ⟨y1.val / 64, by omega⟩ ⟨y1.val % 64, by omega⟩)
  refine congrArg (fun j => outsAt0 m c t (ix2 y0 j)) (Fin.ext ?_)
  show y1.val = 64 * (y1.val / 64) + y1.val % 64
  omega

/-- The array as keys and values, four heads each. -/
def kvRows (c : Dev nD) : FVec Ideal S128x4x2x4x64 .f32 := shapeCast S128x4x2x4x64 (projected m c : FVec Ideal S512x512 .f32) shapeCasts_S512x512_S128x4x2x4x64

theorem kvRows_at (c : Dev nD) (b : Fin 128) (t : Fin 4) (s : Fin 2) (g : Fin 4) (l : Fin 64) :
    kvRows m c (ix5 b t s g l) = sharedAt m c ⟨4 * b.val + t.val, by omega⟩ ⟨4 * s.val + g.val, by omega⟩ l := by
  have e : ∀ A : FVec Ideal S512x512 .f32, shapeCast S128x4x2x4x64 A shapeCasts_S512x512_S128x4x2x4x64 (ix5 b t s g l)
      = A (ix2 ⟨4 * b.val + t.val, by omega⟩ ⟨64 * (4 * s.val + g.val) + l.val, by omega⟩) := by
    intro A
    refine shapeCast_apply _ _ _ _ ?_
    rw [Shape.rowMajor_val_two, Shape.rowMajor_val_five]
    show (4 * b.val + t.val) * 512 + (64 * (4 * s.val + g.val) + l.val) = (((b.val * 4 + t.val) * 2 + s.val) * 4 + g.val) * 64 + l.val
    omega
  refine (e _).trans ?_
  unfold projected
  refine congrArg₂ (fun p l => sharedAt m c _ p l) (Fin.ext ?_) (Fin.ext ?_)
  · show (64 * (4 * s.val + g.val) + l.val) / 64 = 4 * s.val + g.val; omega
  · show (64 * (4 * s.val + g.val) + l.val) % 64 = l.val; omega

/-- Its entries, read back in one run a row. -/
theorem flat_at (c : Dev nD) (Y : FVec Ideal S128x4x2x4x64 .f32) (hY : Y = kvRows m c) (hc : S128x4x2x4x64.ShapeCasts S512x512) : shapeCast S512x512 Y hc = projected m c := by
  subst hY
  funext i
  idx_vars i
  refine (shapeCast_apply _ _ _ (ix5 ⟨i0.val / 4, by omega⟩ ⟨i0.val % 4, by omega⟩ ⟨i1.val / 256, by omega⟩ ⟨i1.val / 64 % 4, by omega⟩ ⟨i1.val % 64, by omega⟩) ?_).trans ((kvRows_at m c _ _ _ _ _).trans ?_)
  · rw [Shape.rowMajor_val_two, Shape.rowMajor_val_five]
    show (((i0.val / 4 * 4 + i0.val % 4) * 2 + i1.val / 256) * 4 + i1.val / 64 % 4) * 64 + i1.val % 64 = i0.val * 512 + i1.val
    omega
  · show sharedAt m c _ _ _ = sharedAt m c i0 ⟨i1.val / 64, by omega⟩ ⟨i1.val % 64, by omega⟩
    refine congrArg₂ (fun r h => sharedAt m c r h _) (Fin.ext ?_) (Fin.ext ?_)
    · show 4 * (i0.val / 4) + i0.val % 4 = i0.val; omega
    · show 4 * (i1.val / 256) + i1.val / 64 % 4 = i1.val / 64; omega

/-- The cache moved on by the new rows: its last 128 of the 132 positions. -/
def moved (a : FVec Ideal S128x128x2x4x64 .f32) (b : FVec Ideal S128x4x2x4x64 .f32) : FVec Ideal S128x128x2x4x64 .f32 :=
  extractStridedSlice S128x128x2x4x64 ![0, 4, 0, 0, 0] (concatenate S128x132x2x4x64 1 [⟨S128x128x2x4x64, a⟩, ⟨S128x4x2x4x64, b⟩] concatenates_S128x128x2x4x64_S128x4x2x4x64_S128x132x2x4x64_d1) slices_S128x132x2x4x64_S128x128x2x4x64_0_4_0_0_0

def lastRows (c : Dev nD) : FVec Ideal S128x128x2x4x64 .f32 := moved (m ((c : Thread nD τ).loc main_arg1)) (kvRows m c)

theorem tail_16 (c : Dev nD) (hr : Real m c) : Pipeline.afterTail₀ cfgs (dats m) 0 (V0 m) [hostOps1] c main_v16 = lastRows m c := by
  unfold Pipeline.afterTail₀
  show StableHlo.after hostOps1 _ _ = _
  after_results
  have e := (Pipeline.withArrays_arr spec0 (by decide) c (V0 m c) (fun w => (dats m 0 c).arrAt w cfg0.N) 5).trans (result_5 m c hr)
  unfold lastRows
  refine congrArg₂ moved ?_ ?_
  · exact (Pipeline.withArrays_of_ne spec0 c (V0 m c) (fun w => (dats m 0 c).arrAt w cfg0.N) main_arg1 (by exact (by decide : ∀ w, Pipeline.arrRef spec0 w ≠ main_arg1))).trans (V_main_arg1 m c)
  · exact congrArg (fun A : FVec Ideal S512x512 .f32 => shapeCast S128x4x2x4x64 A shapeCasts_S512x512_S128x4x2x4x64) e

end Cert.SharedSIdeal.Own

end
-- ==== Proof.SharedS.Plain.lean ====
/- The plain shared key and value projection of the samples, an entry at a time. -/
module

public import proofs.«01_k».proof.Proof.Half.Four
public import proofs.«01_k».proof.Proof.Gen.SharedSRefIdeal.Run
public import Idealize.ShloMosaic.Lib.Pointwise
public import Idealize.ShloMosaic.Lib.Pipeline.Value

@[expose] public section

set_option maxRecDepth 16384

noncomputable section

namespace Cert.SharedSRefIdeal.Own

open Idealize.ShloMosaic Idealize.ShloMosaic.TcCoe Idealize.ShloMosaic.Tactic Idealize.SL.Sem
open Cert.SharedSRefIdeal Cert.SharedSRefIdeal.Gen Cert.Half Cert.Feed

/-- The normed rows. -/
def xn (A0 : FVec Ideal S128x4x2048 .f32) (A1 : FVec Ideal S2048 .f32) : FVec Ideal S128x4x2048 .f32 :=
  mulf (mulf A0 (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf A0 A0) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32))))))
    (broadcastInDim S128x4x2048 ![0, 1, 2] bcast_S1x1x2048_S128x4x2048_0_1_2 (broadcastInDim S1x1x2048 ![2] bcast_S2048_S1x1x2048_2 A1))

/-- The product, as keys and values of four heads. -/
def two (X : FVec Ideal S128x4x2048 .f32) (W : FVec Ideal S2048x512 .f32) : FVec Ideal S128x4x2x4x64 .f32 :=
  shapeCast S128x4x2x4x64 (Host.dotGeneral dot_S128x4x2048_S2048x512_S128x4x512_2_0_01_1_n_n none X W) shapeCasts_S128x4x512_S128x4x2x4x64

/-- One of the two. -/
def part (y : FVec Ideal S128x4x2x4x64 .f32) (s : ℕ) (h : S128x4x2x4x64.Slices ![0, 0, s, 0, 0] S128x4x1x4x64) : FVec Ideal S128x4x4x64 .f32 :=
  shapeCast S128x4x4x64 (extractStridedSlice S128x4x1x4x64 ![0, 0, s, 0, 0] y h) shapeCasts_S128x4x1x4x64_S128x4x4x64

/-- Its heads normed. -/
def heads (v : FVec Ideal S128x4x4x64 .f32) (A3 : FVec Ideal S64 .f32) : FVec Ideal S128x4x4x64 .f32 :=
  mulf (mulf v (broadcastInDim S128x4x4x64 ![0, 1, 2, 3] bcast_S128x4x4x1_S128x4x4x64_0_1_2_3 (Host.rsqrt (addf (Host.divf (broadcastInDim S128x4x4x1 ![0, 1, 2] bcast_S128x4x4_S128x4x4x1_0_1_2 (Host.reduceAdd (mulf v v) (constant S_ .f32 0x00000000#32) reducesTo_S128x4x4x64_S128x4x4_d3 h_S_)) (broadcastInDim S128x4x4x1 ![] bcast_S_S128x4x4x1 (constant S_ .f32 0x42800000#32))) (broadcastInDim S128x4x4x1 ![] bcast_S_S128x4x4x1 (constant S_ .f32 0x358637BD#32))))))
    (broadcastInDim S128x4x4x64 ![0, 1, 2, 3] bcast_S1x1x1x64_S128x4x4x64_0_1_2_3 (broadcastInDim S1x1x1x64 ![3] bcast_S64_S1x1x1x64_3 A3))

def lay (v : FVec Ideal S128x4x4x64 .f32) : FVec Ideal S128x4x1x4x64 .f32 := broadcastInDim S128x4x1x4x64 ![0, 1, 3, 4] bcast_S128x4x4x64_S128x4x1x4x64_0_1_3_4 v

/-- The two parts that are put together: normed keys, and values. -/
def parts (y : FVec Ideal S128x4x2x4x64 .f32) (A3 : FVec Ideal S64 .f32) : Fin 2 → FVec Ideal S128x4x4x64 .f32
  | 0 => heads (part y 0 slices_S128x4x2x4x64_S128x4x1x4x64_0_0_0_0_0) A3
  | 1 => part y 1 slices_S128x4x2x4x64_S128x4x1x4x64_0_0_1_0_0

def kvOf (y : FVec Ideal S128x4x2x4x64 .f32) (A3 : FVec Ideal S64 .f32) : FVec Ideal S128x4x2x4x64 .f32 :=
  concatenate S128x4x2x4x64 2 (List.ofFn fun n : Fin 2 => ⟨S128x4x1x4x64, lay (parts y A3 n)⟩) concatenates_S128x4x1x4x64_S128x4x1x4x64_S128x4x2x4x64_d2

theorem xn_at (A0 : FVec Ideal S128x4x2048 .f32) (A1 : FVec Ideal S2048 .f32) (b : Fin 128) (t : Fin 4) (k : Fin 2048) :
    xn A0 A1 (ix3 b t k) = normed (fun i => A0 (ix3 b t i)) (fun i => A1 (ix1 i)) k := by
  unfold xn normed
  pointwise []

theorem product_at (X : FVec Ideal S128x4x2048 .f32) (W : FVec Ideal S2048x512 .f32) (b : Fin 128) (t : Fin 4) (j : Fin 512) :
    Host.dotGeneral (F := Ideal) dot_S128x4x2048_S2048x512_S128x4x512_2_0_01_1_n_n none X W (ix3 b t j) = ∑ k : Fin 2048, X (ix3 b t k) * W (ix2 k j) := by
  pointwise []

theorem two_at (X : FVec Ideal S128x4x2048 .f32) (W : FVec Ideal S2048x512 .f32) (b : Fin 128) (t : Fin 4) (s : Fin 2) (g : Fin 4) (l : Fin 64) :
    two X W (ix5 b t s g l) = ∑ k : Fin 2048, X (ix3 b t k) * W (ix2 k ⟨64 * (4 * s.val + g.val) + l.val, by omega⟩) := by
  refine Eq.trans ?_ (product_at X W b t ⟨64 * (4 * s.val + g.val) + l.val, by omega⟩)
  unfold two
  generalize Host.dotGeneral (F := Ideal) dot_S128x4x2048_S2048x512_S128x4x512_2_0_01_1_n_n none X W = Z
  refine shapeCast_apply _ _ _ _ ?_
  rw [Shape.rowMajor_val_three, Shape.rowMajor_val_five]
  show (b.val * 4 + t.val) * 512 + (64 * (4 * s.val + g.val) + l.val) = (((b.val * 4 + t.val) * 2 + s.val) * 4 + g.val) * 64 + l.val
  omega

theorem part_at (y : FVec Ideal S128x4x2x4x64 .f32) (s : ℕ) (h) (hs : s < 2) (b : Fin 128) (t : Fin 4) (g : Fin 4) (l : Fin 64) :
    part y s h (ix4 b t g l) = y (ix5 b t ⟨s, hs⟩ g l) := by
  unfold part
  refine (shapeCast_apply _ _ _ (ix5 b t 0 g l) ?_).trans ?_
  · rw [Shape.rowMajor_val_five, Shape.rowMajor_val_four]
    show (((b.val * 4 + t.val) * 1 + 0) * 4 + g.val) * 64 + l.val = ((b.val * 4 + t.val) * 4 + g.val) * 64 + l.val
    omega
  · pointwise []

theorem heads_at (v : FVec Ideal S128x4x4x64 .f32) (A3 : FVec Ideal S64 .f32) (b : Fin 128) (t : Fin 4) (g : Fin 4) (l : Fin 64) :
    heads v A3 (ix4 b t g l) = headed (fun i => v (ix4 b t g i)) (A3 (ix1 l)) l := by
  unfold heads headed
  pointwise []

theorem lay_at (v : FVec Ideal S128x4x4x64 .f32) (b : Fin 128) (t : Fin 4) (g : Fin 4) (l : Fin 64) : lay v (ix5 b t 0 g l) = v (ix4 b t g l) := by
  unfold lay
  pointwise []

theorem kvOf_at (y : FVec Ideal S128x4x2x4x64 .f32) (A3 : FVec Ideal S64 .f32) (b : Fin 128) (t : Fin 4) (s : Fin 2) (g : Fin 4) (l : Fin 64) :
    kvOf y A3 (ix5 b t s g l) = parts y A3 s (ix4 b t g l) := by
  unfold kvOf
  refine (concatenate_ofFn_unit_apply (t := S128x4x2x4x64) (s₁ := S128x4x1x4x64) 2 (fun n => lay (parts y A3 n)) _ rfl rfl _ s rfl (ix5 b t 0 g l) ?_).trans (lay_at _ b t g l)
  intro a ha
  fin_cases a
  · rfl
  · rfl
  · exact absurd rfl ha
  · rfl
  · rfl

/-- The plain program's keys and values, an entry at a time. -/
theorem whole_at (A0 : FVec Ideal S128x4x2048 .f32) (A1 : FVec Ideal S2048 .f32) (A2 : FVec Ideal S2048x512 .f32) (A3 : FVec Ideal S64 .f32) (b : Fin 128) (t : Fin 4) (s : Fin 2) (g : Fin 4) (l : Fin 64) :
    kvOf (two (xn A0 A1) A2) A3 (ix5 b t s g l) = entry (fun k => A0 (ix3 b t k)) (fun k => A1 (ix1 k)) (fun k j => A2 (ix2 k j)) (fun l => A3 (ix1 l)) ⟨4 * s.val + g.val, by omega⟩ l := by
  have e : ∀ (s : Fin 2) (l : Fin 64), two (xn A0 A1) A2 (ix5 b t s g l) = ∑ k, normed (fun i => A0 (ix3 b t i)) (fun i => A1 (ix1 i)) k * A2 (ix2 k ⟨64 * (4 * s.val + g.val) + l.val, by omega⟩) := by
    intro s l
    rw [two_at]
    exact Finset.sum_congr rfl fun k _ => by rw [xn_at]
  rw [kvOf_at]
  unfold entry
  fin_cases s
  · refine Eq.trans ?_ (if_pos (by show 4 * 0 + g.val < 4; omega)).symm
    refine (heads_at _ _ b t g l).trans (congrArg (headed · _ l) (funext fun i => ?_))
    exact (part_at _ 0 _ (by omega) b t g i).trans (e 0 i)
  · refine Eq.trans ?_ (if_neg (by show ¬ 4 * 1 + g.val < 4; omega)).symm
    exact (part_at _ 1 _ (by omega) b t g l).trans (e 1 l)

/-- The cache moved on by the new rows: its last 128 of the 132 positions. -/
def moved (a : FVec Ideal S128x128x2x4x64 .f32) (b : FVec Ideal S128x4x2x4x64 .f32) : FVec Ideal S128x128x2x4x64 .f32 :=
  extractStridedSlice S128x128x2x4x64 ![0, 4, 0, 0, 0] (concatenate S128x132x2x4x64 1 [⟨S128x128x2x4x64, a⟩, ⟨S128x4x2x4x64, b⟩] concatenates_S128x128x2x4x64_S128x4x2x4x64_S128x132x2x4x64_d1) slices_S128x132x2x4x64_S128x128x2x4x64_0_4_0_0_0

open Cert.SharedSRefIdeal.Value in
theorem res_0 (m : (ℓ : Loc nD τ sig) → Buf (Elt Ideal) ℓ) (c : Dev nD) : res_main_v35 (F := Ideal) m c = shapeCast S512x512 (kvOf (two (xn (m ((c.tc : Thread nD τ).loc main_arg0)) (m ((c.tc : Thread nD τ).loc main_arg2))) (m ((c.tc : Thread nD τ).loc main_arg3))) (m ((c.tc : Thread nD τ).loc main_arg4))) shapeCasts_S128x4x2x4x64_S512x512 := by
  unfold res_main_v35
  rfl

open Cert.SharedSRefIdeal.Value in
theorem res_1 (m : (ℓ : Loc nD τ sig) → Buf (Elt Ideal) ℓ) (c : Dev nD) : res_main_v37 (F := Ideal) m c = moved (m ((c.tc : Thread nD τ).loc main_arg1)) (kvOf (two (xn (m ((c.tc : Thread nD τ).loc main_arg0)) (m ((c.tc : Thread nD τ).loc main_arg2))) (m ((c.tc : Thread nD τ).loc main_arg3))) (m ((c.tc : Thread nD τ).loc main_arg4))) := by
  unfold res_main_v37
  rfl

end Cert.SharedSRefIdeal.Own

end
-- ==== Proof.SharedS.Result.lean ====
/- The shared key and value projection of the samples: its frames, and its two results against the plain program. -/
module

public import proofs.«01_k».proof.Defs
public import Idealize.ShloMosaic.Adequacy
public import Idealize.ShloMosaic.Init
public import proofs.«01_k».proof.Proof.Gen.SharedS.Frame
public import proofs.«01_k».proof.Proof.Gen.SharedSIdeal.Frame
public import proofs.«01_k».proof.Proof.SharedS.Points
public import proofs.«01_k».proof.Proof.SharedS.Plain
public import proofs.«01_k».proof.Proof.Half.Finite

@[expose] public section

set_option maxRecDepth 16384

noncomputable section

namespace Cert.Proof

open Idealize.ShloMosaic Idealize.ShloMosaic.TcCoe Idealize.ShloMosaic.Tactic Idealize.SL.Sem

theorem frame_sharedS : Cert.quiescent_SharedS := fun m ρ _ => Cert.SharedS.Gen.frame m ρ

theorem frame_sharedSIdeal : Cert.quiescent_SharedSIdeal := fun m ρ _ => Cert.SharedSIdeal.Gen.frame m ρ

/-- The plain program declares no semaphore, and no operation writes an argument. -/
theorem frame_sharedSRef : Cert.quiescent_SharedSRefIdeal := fun m ρ _ =>
  (θ_run Cert.SharedSRefIdeal.defs _ _).mono (fun r h => ⟨fun c => (h c).2.2, Idealize.ShloMosaic.sem_eq_zero_of_no_sems (by decide) r.2⟩)
    (Cert.SharedSRefIdeal.Value.run (F := Ideal) m ρ)

section
open Cert.SharedSIdeal Cert.SharedSIdeal.Gen Cert.SharedSIdeal.Own

/-- What the kernel's run leaves in its two results and its arguments. -/
theorem run_sharedS (m : (ℓ : Loc nD τ sig) → Buf (Elt Ideal) ℓ) (ρ : Dev nD → PrngReg) (hr : ∀ c, Real m c) :
    θ_run defs (onTc (τ := τ) (main (F := Ideal))) ⟨m, fun _ => 0, ρ⟩ fun r => ∀ c : Dev nD,
      r.2.mem ((c.tc : Thread nD τ).loc main_v13) = projected m c
      ∧ r.2.mem ((c.tc : Thread nD τ).loc main_v16) = lastRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, ?_, ?_, ?_, ?_, ?_, ?_⟩) (run_main m ρ)
  · exact ((h c).1 5).trans (result_5 m c (hr c))
  · exact ((h c).2 main_v16 (Pipeline.mem_restRefs_of main_v16 (by decide) (by decide))).trans (tail_16 m c (hr c))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

/-- The kernel's keys and values and the plain program's are the same function of the arguments. -/
theorem sharedS_agree (m : (ℓ : Loc nD τ sig) → Buf (Elt Ideal) ℓ) (c : Dev nD) :
    Cert.SharedSRefIdeal.Own.kvOf (Cert.SharedSRefIdeal.Own.two (Cert.SharedSRefIdeal.Own.xn (m ((c.tc : Thread nD τ).loc main_arg0)) (m ((c.tc : Thread nD τ).loc main_arg2))) (m ((c.tc : Thread nD τ).loc main_arg3))) (m ((c.tc : Thread nD τ).loc main_arg4)) = kvRows m c := by
  funext i
  idx_vars i
  refine (Cert.SharedSRefIdeal.Own.whole_at _ _ _ _ i0 i1 i2 i3 i4).trans (Eq.trans ?_ (kvRows_at m c i0 i1 i2 i3 i4).symm)
  unfold sharedAt
  refine congrArg (fun x => Cert.Half.entry x _ _ _ _ i4) (funext fun k => ?_)
  unfold rows
  refine congrArg₂ (fun a d => (m ((c.tc : Thread nD τ).loc main_arg0) : FVec Ideal S128x4x2048 .f32) (ix3 a d k)) (Fin.ext ?_) (Fin.ext ?_)
  · show i0.val = (4 * i0.val + i1.val) / 4; omega
  · show i1.val = (4 * i0.val + i1.val) % 4; omega
end

theorem algebraic_sharedS : Cert.algebraic_SharedSIdeal_SharedSRefIdeal_pre_finite_shared_sample := by
  intro m ρ m' ρ' hpre hagree
  refine ⟨Cert.SharedSIdeal.Own.projected m, Cert.SharedSIdeal.Own.lastRows m, ?_, ?_⟩
  · exact run_sharedS m ρ fun c => Cert.Half.finite_shared_sample _ _ _ _ _ (hpre c)
  · refine (θ_run Cert.SharedSRefIdeal.defs _ _).mono (fun r h c => ⟨(h c).1.trans ?_, (h c).2.1.trans ?_, (h c).2.2⟩) (Cert.SharedSRefIdeal.Value.run (F := Ideal) m' ρ')
    · rw [Cert.SharedSRefIdeal.Own.res_0, (hagree c).1, (hagree c).2.2.1, (hagree c).2.2.2.1, (hagree c).2.2.2.2]
      exact Cert.SharedSIdeal.Own.flat_at m c _ (sharedS_agree m c) _
    · rw [Cert.SharedSRefIdeal.Own.res_1, (hagree c).1, (hagree c).2.1, (hagree c).2.2.1, (hagree c).2.2.2.1, (hagree c).2.2.2.2]
      refine congrArg (Cert.SharedSRefIdeal.Own.moved _) (sharedS_agree m c)

end Cert.Proof

end
-- ==== Proof.QueryB.Chunks.lean ====
/- The second layer's query projection: sixteen pieces of two heads, stored turned. -/
module

public import proofs.«01_k».proof.Proof.Half.Chunk
public import proofs.«01_k».proof.Proof.Gen.QueryBIdeal.Skeleton
public import proofs.«01_k».proof.Proof.Gen.QueryBIdeal.Frame
public import Idealize.ShloMosaic.Lib.Pointwise
public import Idealize.ShloMosaic.Lib.Pipeline.Value
public import Idealize.ShloMosaic.Lib.Pipeline.ReadBack
public import Idealize.ShloMosaic.Lib.Pipeline.ValueKit
public import Idealize.ShloMosaic.Lib.WholeRead

@[expose] public section

set_option maxRecDepth 16384

noncomputable section

namespace Cert.QueryBIdeal.Own

open Idealize.ShloMosaic Idealize.ShloMosaic.TcCoe Idealize.ShloMosaic.Tactic Idealize.SL.Sem
open Cert.QueryBIdeal Cert.QueryBIdeal.Gen Cert.Half Cert.Feed

/-- The sixteen pieces lie within the block. -/
theorem wide (n : Fin 16) : S512x2048.Slices ![0, 128 * n.val] S512x128 := by
  revert n; decide
theorem wide1 (n : Fin 16) : S1x2048.Slices ![0, 128 * n.val] S1x128 := by
  revert n; decide

/-- The sixteen pieces. -/
def ps (y : FVec Ideal S512x2048 .f32) (g f : FVec Ideal S1x2048 .f32) (n : Fin 16) : FVec Ideal S512x128 .f32 :=
  piece (extractStridedSlice S512x128 ![0, 128 * n.val] y (wide n)) (extractStridedSlice S1x128 ![0, 128 * n.val] g (wide1 n)) (extractStridedSlice S1x128 ![0, 128 * n.val] f (wide1 n))

/-- The pieces side by side. -/
def sides (y : FVec Ideal S512x2048 .f32) (g f : FVec Ideal S1x2048 .f32) : FVec Ideal S512x2048 .f32 :=
  concatenate S512x2048 1 (List.ofFn fun n : Fin 16 => ⟨S512x128, ps y g f n⟩) concatenates_S512x128_S512x128_S512x128_S512x128_S512x128_S512x128_S512x128_S512x128_S512x128_S512x128_S512x128_S512x128_S512x128_S512x128_S512x128_S512x128_S512x2048_d1

theorem slice_at (y : FVec Ideal S512x2048 .f32) (n : Fin 16) (x : Fin 512) (k : Fin 128) :
    extractStridedSlice S512x128 ![0, 128 * n.val] y (wide n) (ix2 x k) = y (ix2 x ⟨128 * n.val + k.val, by omega⟩) := by
  pointwise []

theorem slice1_at (y : FVec Ideal S1x2048 .f32) (n : Fin 16) (k : Fin 128) :
    extractStridedSlice S1x128 ![0, 128 * n.val] y (wide1 n) (ix2 0 k) = y (ix2 0 ⟨128 * n.val + k.val, by omega⟩) := by
  pointwise []

/-- Column `64 h + l` of the block, where every flag is one. -/
theorem sides_at (y : FVec Ideal S512x2048 .f32) (g f : FVec Ideal S1x2048 .f32) (hf : ∀ j, f (ix2 0 j) = (1 : EReal)) (x : Fin 512) (hv : ∀ j : Fin 2048, ∃ r : ℝ, y (ix2 x j) = (r : EReal)) (h : Fin 32) (l : Fin 64) :
    sides y g f (ix2 x ⟨64 * h.val + l.val, by omega⟩) = headed (fun i => y (ix2 x ⟨64 * h.val + i.val, by omega⟩)) (g (ix2 0 ⟨64 * h.val + l.val, by omega⟩)) l := by
  have e : sides y g f (ix2 x ⟨64 * h.val + l.val, by omega⟩) = ps y g f ⟨h.val / 2, by omega⟩ (ix2 x ⟨64 * (h.val % 2) + l.val, by omega⟩) := by
    unfold sides
    refine concatenate_ofFn_apply (t := S512x2048) (s₁ := S512x128) 1 (ps y g f) _ rfl 128 rfl _ ⟨h.val / 2, by omega⟩ ?_ (ix2 x ⟨64 * (h.val % 2) + l.val, by omega⟩) ?_ ?_
    · show (64 * h.val + l.val) / 128 = h.val / 2; omega
    · show 64 * (h.val % 2) + l.val = (64 * h.val + l.val) % 128; omega
    · intro b hb
      fin_cases b
      · rfl
      · exact absurd rfl hb
  rw [e]
  generalize hn : (⟨h.val / 2, by omega⟩ : Fin 16) = n
  have q : h.val / 2 = n.val := congrArg Fin.val hn
  unfold ps
  rw [piece_at _ _ _ _ (fun k => by rw [slice_at]; exact hv _)]
  simp only [slice_at, slice1_at, hf]
  rw [if_pos (zero_lt_one (α := EReal))]
  have c0 : ∀ i : Fin 64, (⟨128 * n.val + (64 * ((64 * (h.val % 2) + l.val) / 64) + i.val), by omega⟩ : Fin 2048) = ⟨64 * h.val + i.val, by omega⟩ := fun i => Fin.ext (by show 128 * n.val + (64 * ((64 * (h.val % 2) + l.val) / 64) + i.val) = 64 * h.val + i.val; omega)
  have c1 : (⟨128 * n.val + (64 * (h.val % 2) + l.val), by omega⟩ : Fin 2048) = ⟨64 * h.val + l.val, by omega⟩ := Fin.ext (by show 128 * n.val + (64 * (h.val % 2) + l.val) = 64 * h.val + l.val; omega)
  have c2 : (⟨(64 * (h.val % 2) + l.val) % 64, by omega⟩ : Fin 64) = l := Fin.ext (by show (64 * (h.val % 2) + l.val) % 64 = l.val; omega)
  simp only [c0, c1, c2]

theorem product_at (v3 : Vec Ideal S512x2048 .bf16) (v4 : Vec Ideal S2048x2048 .bf16) (x : Fin 512) (j : Fin 2048) :
    k0_pay2 (F := Ideal) v3 v4 (ix2 x j) = ∑ k : Fin 2048, v3 (ix2 x k) * v4 (ix2 k j) := by
  unfold k0_pay2
  pointwise []

theorem norm_at (v : Vec Ideal S512x2048 .f32) (g : Vec Ideal S1x2048 .f32) (x : Fin 512) (k : Fin 2048) :
    k0_pay1 (F := Ideal) v g (ix2 x k) = normed (fun i => v (ix2 x i)) (fun i => g (ix2 0 i)) k := by
  unfold k0_pay1 normed
  pointwise []

theorem gain_row (v : Vec Ideal S1x2048 .f32) : k0_pay3 (F := Ideal) v = v := by
  funext i; idx_vars i
  unfold k0_pay3
  pointwise []

theorem flag_row (v : Vec Ideal S1x2048 .f32) : k0_pay4 (F := Ideal) v = v := by
  funext i; idx_vars i
  unfold k0_pay4
  pointwise []

variable (m : (ℓ : Loc nD τ sig) → Buf (Elt Ideal) ℓ)

/-- A point's block, its 2048 columns side by side. -/
def block (c : Dev nD) (t : Fin cfg0.N) : FVec Ideal S512x2048 .f32 :=
  sides (k0_pay2 (k0_pay1 (iblk m c 0 t) (iblk m c 1 t)) (iblk m c 2 t)) (k0_pay3 (iblk m c 3 t)) (k0_pay4 (iblk m c 4 t))

/-- What is stored: the block turned. -/
theorem outs_5 (c : Dev nD) (t : Fin cfg0.N) : outsAt0 m c t = (truncf .bf16 (transpose S2048x512 [1, 0] (block m c t) transposes_S512x2048_p1_0_S2048x512 : FVec Ideal S2048x512 .f32) bitsLt_bf16_f32 : FVec Ideal S2048x512 .bf16) := by
  unfold outsAt0
  frame_out
  rfl

theorem outs_at (c : Dev nD) (t : Fin cfg0.N) (j : Fin 2048) (x : Fin 512) : outsAt0 m c t (ix2 j x) = block m c t (ix2 x j) := by
  rw [outs_5]
  pointwise []

end Cert.QueryBIdeal.Own

end
-- ==== Proof.QueryB.Points.lean ====
/- What the second layer's query projection leaves: every head of a row's product with the weights, normed with the one gain. -/
module

public import proofs.«01_k».proof.Proof.QueryB.Chunks
public import Idealize.ShloMosaic.Lib.Pipeline.ReadBack

@[expose] public section

set_option maxRecDepth 16384

noncomputable section

namespace Cert.QueryBIdeal.Own

open Idealize.ShloMosaic Idealize.ShloMosaic.TcCoe Idealize.ShloMosaic.Tactic Idealize.SL.Sem
open Cert.QueryBIdeal Cert.QueryBIdeal.Gen Cert.Half Cert.Feed

variable (m : (ℓ : Loc nD τ sig) → Buf (Elt Ideal) ℓ)

/-- The four arguments of the launch, as functions of their coordinates. -/
def rows (c : Dev nD) (r : Fin 16384) (k : Fin 2048) : EReal :=
  (m ((c : Thread nD τ).loc main_arg0) : FVec Ideal S8x2048x2048 .f32) (ix3 ⟨r.val / 2048, by omega⟩ ⟨r.val % 2048, by omega⟩ k)
def gamma (c : Dev nD) (k : Fin 2048) : EReal := (m ((c : Thread nD τ).loc main_arg1) : FVec Ideal S2x2048 .f32) (ix2 1 k)
def weight (c : Dev nD) (k : Fin 2048) (j : Fin 2048) : EReal := (m ((c : Thread nD τ).loc main_arg2) : FVec Ideal S1x2048x2048 .f32) (ix3 0 k j)
def gain (c : Dev nD) (l : Fin 64) : EReal := (m ((c : Thread nD τ).loc main_arg3) : FVec Ideal S1x64 .f32) (ix2 0 l)

theorem index_at : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, t.val] :=
  (by decide +kernel : ∀ t : Fin grid0.N, _)

theorem points_lt (t : Fin cfg0.N) : t.val < 32 := lt_of_lt_of_eq t.isLt N_0

/-- The row of the array that row `x` of a point's block is. -/
abbrev rowOf (t : Fin cfg0.N) (x : Fin 512) : Fin 16384 := ⟨512 * t.val + x.val, by have := points_lt t; omega⟩

/-- The rows laid out in one run. -/
theorem V_rows (c : Dev nD) (r : Fin 16384) (k : Fin 2048) : (V m c main_v0 : FVec Ideal S16384x2048 .f32) (ix2 r k) = rows m c r k := by
  have e : (V m c main_v0 : FVec Ideal S16384x2048 .f32) = shapeCast S16384x2048 (m ((c : Thread nD τ).loc main_arg0)) shapeCasts_S8x2048x2048_S16384x2048 := by
    show StableHlo.after hostOps0 _ _ = _
    after_results
    rfl
  rw [e]
  unfold rows
  refine shapeCast_apply _ _ _ (ix3 ⟨r.val / 2048, by omega⟩ ⟨r.val % 2048, by omega⟩ k) ?_
  rw [Shape.rowMajor_val_two, Shape.rowMajor_val_three]
  show (r.val / 2048 * 2048 + r.val % 2048) * 2048 + k.val = r.val * 2048 + k.val
  omega

theorem V_gamma (c : Dev nD) (k : Fin 2048) : (V m c main_v10 : FVec Ideal S1x2048 .f32) (ix2 0 k) = gamma m c k := by
  have e : (V m c main_v10 : FVec Ideal S1x2048 .f32) = shapeCast S1x2048 (shapeCast S2048 (extractStridedSlice S1x2048 ![1, 0] (m ((c : Thread nD τ).loc main_arg1)) slices_S2x2048_S1x2048_1_0) shapeCasts_S1x2048_S2048) shapeCasts_S2048_S1x2048 := by
    show StableHlo.after hostOps0 _ _ = _
    after_results
    rfl
  rw [e]
  unfold gamma
  pointwise []

theorem V_weight (c : Dev nD) (k : Fin 2048) (j : Fin 2048) : (V m c main_v4 : FVec Ideal S2048x2048 .bf16) (ix2 k j) = weight m c k j := by
  have e : (V m c main_v4 : FVec Ideal S2048x2048 .bf16) = (truncf .bf16 (shapeCast S2048x2048 (m ((c : Thread nD τ).loc main_arg2) : FVec Ideal S1x2048x2048 .f32) shapeCasts_S1x2048x2048_S2048x2048 : FVec Ideal S2048x2048 .f32) bitsLt_bf16_f32 : FVec Ideal S2048x2048 .bf16) := by
    show StableHlo.after hostOps0 _ _ = _
    after_results
    rfl
  rw [e]
  have cast : ∀ B : FVec Ideal S2048x2048 .f32, truncf (F := Ideal) .bf16 B bitsLt_bf16_f32 (ix2 k j) = B (ix2 k j) := by
    intro B
    pointwise []
  refine (cast _).trans ?_
  unfold weight
  refine shapeCast_apply _ _ _ (ix3 0 k j) ?_
  rw [Shape.rowMajor_val_two, Shape.rowMajor_val_three]
  show (0 * 2048 + k.val) * 2048 + j.val = k.val * 2048 + j.val
  omega

theorem V_gain (c : Dev nD) (p : Fin 32) (l : Fin 64) : (V m c main_v11 : FVec Ideal S1x2048 .f32) (ix2 0 ⟨64 * p.val + l.val, by omega⟩) = gain m c l := by
  have e : (V m c main_v11 : FVec Ideal S1x2048 .f32) = shapeCast S1x2048 (shapeCast S2048 (broadcastInDim S32x64 ![0, 1] bcast_S1x64_S32x64_0_1 (shapeCast S1x64 (shapeCast S64 (m ((c : Thread nD τ).loc main_arg3) : FVec Ideal S1x64 .f32) shapeCasts_S1x64_S64) shapeCasts_S64_S1x64)) shapeCasts_S32x64_S2048) shapeCasts_S2048_S1x2048 := by
    show StableHlo.after hostOps0 _ _ = _
    after_results
    rfl
  rw [e]
  unfold gain
  pointwise []

theorem V_flag (c : Dev nD) (j : Fin 2048) : (V m c main_v12 : FVec Ideal S1x2048 .f32) (ix2 0 j) = (1 : EReal) := by
  have e : (V m c main_v12 : FVec Ideal S1x2048 .f32) = shapeCast S1x2048 (broadcastInDim S2048 ![] bcast_S_S2048 (constant (F := Ideal) S_ .f32 0x3F800000#32)) shapeCasts_S2048_S1x2048 := by
    show StableHlo.after hostOps0 _ _ = _
    after_results
    rfl
  rw [e]
  pointwise []

theorem rows_blk (c : Dev nD) (t : Fin cfg0.N) (x : Fin 512) (k : Fin 2048) : (iblk m c 0 t : FVec Ideal S512x2048 .f32) (ix2 x k) = rows m c (rowOf t x) k := by
  rw [← V_rows]
  blk_point [iblk, index_at t]

theorem gamma_blk (c : Dev nD) (t : Fin cfg0.N) (k : Fin 2048) : (iblk m c 1 t : FVec Ideal S1x2048 .f32) (ix2 0 k) = gamma m c k := by
  rw [← V_gamma]
  blk_point [iblk, index_at t]

theorem weight_blk (c : Dev nD) (t : Fin cfg0.N) (k : Fin 2048) (j : Fin 2048) : (iblk m c 2 t : FVec Ideal S2048x2048 .bf16) (ix2 k j) = weight m c k j := by
  rw [← V_weight]
  blk_point [iblk, index_at t]

theorem gain_blk (c : Dev nD) (t : Fin cfg0.N) (p : Fin 32) (l : Fin 64) : (iblk m c 3 t : FVec Ideal S1x2048 .f32) (ix2 0 ⟨64 * p.val + l.val, by omega⟩) = gain m c l := by
  rw [← V_gain m c p l]
  blk_point [iblk, index_at t]

theorem flag_blk (c : Dev nD) (t : Fin cfg0.N) (j : Fin 2048) : (iblk m c 4 t : FVec Ideal S1x2048 .f32) (ix2 0 j) = (1 : EReal) := by
  rw [← V_flag m c j]
  blk_point [iblk, index_at t]

/-- A head of a row, from the row, the norm's weights, the matrix and the head's gain. -/
def head (x g : Fin 2048 → EReal) (w : Fin 2048 → Fin 2048 → EReal) (q : Fin 64 → EReal) (p : Fin 32) (l : Fin 64) : EReal :=
  headed (fun i => ∑ k, normed x g k * w k ⟨64 * p.val + i.val, by omega⟩) (q l) l

/-- A row's entry, from the arguments. -/
def queryAt (c : Dev nD) (r : Fin 16384) (p : Fin 32) (l : Fin 64) : EReal := head (rows m c r) (gamma m c) (weight m c) (gain m c) p l

/-- The arguments that must be real. -/
def Real (c : Dev nD) : Prop := (∀ k, ∃ r : ℝ, gamma m c k = (r : EReal)) ∧ ∀ k j, ∃ r : ℝ, weight m c k j = (r : EReal)

theorem proj_at (c : Dev nD) (t : Fin cfg0.N) (x : Fin 512) (j : Fin 2048) :
    k0_pay2 (F := Ideal) (k0_pay1 (iblk m c 0 t) (iblk m c 1 t)) (iblk m c 2 t) (ix2 x j) = ∑ k, normed (rows m c (rowOf t x)) (gamma m c) k * weight m c k j := by
  rw [product_at]
  refine Finset.sum_congr rfl fun k _ => ?_
  rw [norm_at, weight_blk]
  refine congrArg (· * _) (congrArg₂ (fun f g => normed f g k) (funext fun i => ?_) (funext fun i => ?_))
  · exact rows_blk m c t x i
  · exact gamma_blk m c t i

/-- Column `64 p + l` of the block's row `x`. -/
theorem block_at (c : Dev nD) (hr : Real m c) (t : Fin cfg0.N) (x : Fin 512) (p : Fin 32) (l : Fin 64) :
    block m c t (ix2 x ⟨64 * p.val + l.val, by omega⟩) = queryAt m c (rowOf t x) p l := by
  unfold block
  rw [gain_row, flag_row, sides_at _ _ _ (flag_blk m c t) x (fun j => by rw [proj_at]; exact product_real _ _ _ hr.1 (hr.2 · j)), gain_blk]
  simp only [proj_at]
  rfl

/-- The array the launch leaves: one column a row. -/
def turned (c : Dev nD) : S2048x16384.Idx → EReal := fun i => queryAt m c (i 1) ⟨(i 0).val / 64, by have h : (i 0).val < 2048 := (i 0).isLt; omega⟩ ⟨(i 0).val % 64, by omega⟩

theorem result_5 (c : Dev nD) (hr : Real m c) : (dats m 0 c).arrAt 5 cfg0.N = turned m c := by
  refine (dats m 0 c).arrAt_eq_of_covers 5 _ (by decide +kernel) fun t _ y => ?_
  blk_simp
  rw [after0_5]
  idx_vars y
  have key : ∀ A : S2048x16384.Idx → EReal, A (ix2 y0 (rowOf t y1)) = A (((View.whole main_v13).slice (win0_5.rect t)).emb (ix2 y0 y1)) := by
    intro A
    symm
    blk_point [index_at t]
  refine Eq.trans ?_ (key (turned m c))
  refine Eq.trans ?_ (block_at m c hr t y1 ⟨y0.val / 64, by omega⟩ ⟨y0.val % 64, by omega⟩)
  refine (outs_at m c t y0 y1).trans (congrArg (fun j => block m c t (ix2 y1 j)) (Fin.ext ?_))
  show y0.val = 64 * (y0.val / 64) + y0.val % 64
  omega

end Cert.QueryBIdeal.Own

end
-- ==== Proof.QueryB.Plain.lean ====
/- The second layer's plain query projection, an entry at a time. -/
module

public import proofs.«01_k».proof.Proof.QueryB.Points
public import proofs.«01_k».proof.Proof.Gen.QueryBRefIdeal.Run
public import Idealize.ShloMosaic.Lib.Pointwise
public import Idealize.ShloMosaic.Lib.Pipeline.Value

@[expose] public section

set_option maxRecDepth 16384

noncomputable section

namespace Cert.QueryBRefIdeal.Own

open Idealize.ShloMosaic Idealize.ShloMosaic.TcCoe Idealize.ShloMosaic.Tactic Idealize.SL.Sem
open Cert.QueryBRefIdeal Cert.QueryBRefIdeal.Gen Cert.Half Cert.Feed

/-- The normed rows, by the second of the two norms. -/
def xn (A0 : FVec Ideal S8x2048x2048 .f32) (A1 : FVec Ideal S2x2048 .f32) : FVec Ideal S8x2048x2048 .f32 :=
  mulf (mulf A0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf A0 A0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 (shapeCast S2048 (extractStridedSlice S1x2048 ![1, 0] A1 slices_S2x2048_S1x2048_1_0) shapeCasts_S1x2048_S2048)))

/-- The product, as heads of 64. -/
def split (X : FVec Ideal S8x2048x2048 .f32) (W : FVec Ideal S2048x2048 .f32) : FVec Ideal S8x2048x32x64 .f32 :=
  shapeCast S8x2048x32x64 (Host.dotGeneral dot_S8x2048x2048_S2048x2048_S8x2048x2048_2_0_01_1_n_n none X W) shapeCasts_S8x2048x2048_S8x2048x32x64

/-- The heads normed, with the one gain. -/
def heads (v : FVec Ideal S8x2048x32x64 .f32) (A3 : FVec Ideal S1x64 .f32) : FVec Ideal S8x2048x32x64 .f32 :=
  mulf (mulf v (broadcastInDim S8x2048x32x64 ![0, 1, 2, 3] bcast_S8x2048x32x1_S8x2048x32x64_0_1_2_3 (Host.rsqrt (addf (Host.divf (broadcastInDim S8x2048x32x1 ![0, 1, 2] bcast_S8x2048x32_S8x2048x32x1_0_1_2 (Host.reduceAdd (mulf v v) (constant S_ .f32 0x00000000#32) reducesTo_S8x2048x32x64_S8x2048x32_d3 h_S_)) (broadcastInDim S8x2048x32x1 ![] bcast_S_S8x2048x32x1 (constant S_ .f32 0x42800000#32))) (broadcastInDim S8x2048x32x1 ![] bcast_S_S8x2048x32x1 (constant S_ .f32 0x358637BD#32))))))
    (broadcastInDim S8x2048x32x64 ![0, 1, 2, 3] bcast_S1x1x1x64_S8x2048x32x64_0_1_2_3 (broadcastInDim S1x1x1x64 ![3] bcast_S64_S1x1x1x64_3 (shapeCast S64 A3 shapeCasts_S1x64_S64)))

/-- The rows of heads, turned. -/
def turned (v : FVec Ideal S8x2048x32x64 .f32) : FVec Ideal S2048x16384 .bf16 :=
  truncf .bf16 (transpose S2048x16384 [1, 0] (shapeCast S16384x2048 v shapeCasts_S8x2048x32x64_S16384x2048) transposes_S16384x2048_S2048x16384_1_0 : FVec Ideal S2048x16384 .f32) bitsLt_bf16_f32

theorem xn_at (A0 : FVec Ideal S8x2048x2048 .f32) (A1 : FVec Ideal S2x2048 .f32) (b : Fin 8) (t : Fin 2048) (k : Fin 2048) :
    xn A0 A1 (ix3 b t k) = normed (fun i => A0 (ix3 b t i)) (fun i => A1 (ix2 1 i)) k := by
  unfold xn normed
  pointwise []

theorem product_at (X : FVec Ideal S8x2048x2048 .f32) (W : FVec Ideal S2048x2048 .f32) (b : Fin 8) (t : Fin 2048) (j : Fin 2048) :
    Host.dotGeneral (F := Ideal) dot_S8x2048x2048_S2048x2048_S8x2048x2048_2_0_01_1_n_n none X W (ix3 b t j) = ∑ k : Fin 2048, X (ix3 b t k) * W (ix2 k j) := by
  pointwise []

theorem split_at (X : FVec Ideal S8x2048x2048 .f32) (W : FVec Ideal S2048x2048 .f32) (b : Fin 8) (t : Fin 2048) (p : Fin 32) (l : Fin 64) :
    split X W (ix4 b t p l) = ∑ k : Fin 2048, X (ix3 b t k) * W (ix2 k ⟨64 * p.val + l.val, by omega⟩) := by
  refine Eq.trans ?_ (product_at X W b t ⟨64 * p.val + l.val, by omega⟩)
  unfold split
  generalize Host.dotGeneral (F := Ideal) dot_S8x2048x2048_S2048x2048_S8x2048x2048_2_0_01_1_n_n none X W = Z
  refine shapeCast_apply _ _ _ _ ?_
  rw [Shape.rowMajor_val_three, Shape.rowMajor_val_four]
  show (b.val * 2048 + t.val) * 2048 + (64 * p.val + l.val) = ((b.val * 2048 + t.val) * 32 + p.val) * 64 + l.val
  omega

theorem heads_at (v : FVec Ideal S8x2048x32x64 .f32) (A3 : FVec Ideal S1x64 .f32) (b : Fin 8) (t : Fin 2048) (p : Fin 32) (l : Fin 64) :
    heads v A3 (ix4 b t p l) = headed (fun i => v (ix4 b t p i)) (A3 (ix2 0 l)) l := by
  unfold heads headed
  pointwise []

theorem turned_at (v : FVec Ideal S8x2048x32x64 .f32) (j : Fin 2048) (r : Fin 16384) :
    turned v (ix2 j r) = v (ix4 ⟨r.val / 2048, by omega⟩ ⟨r.val % 2048, by omega⟩ ⟨j.val / 64, by omega⟩ ⟨j.val % 64, by omega⟩) := by
  have e : ∀ Z : FVec Ideal S16384x2048 .f32, truncf (F := Ideal) .bf16 (transpose S2048x16384 [1, 0] Z transposes_S16384x2048_S2048x16384_1_0 : FVec Ideal S2048x16384 .f32) bitsLt_bf16_f32 (ix2 j r) = Z (ix2 r j) := by
    intro Z
    pointwise []
  refine (e _).trans ?_
  refine shapeCast_apply _ _ _ _ ?_
  rw [Shape.rowMajor_val_two, Shape.rowMajor_val_four]
  show ((r.val / 2048 * 2048 + r.val % 2048) * 32 + j.val / 64) * 64 + j.val % 64 = r.val * 2048 + j.val
  omega

theorem mat_at (A2 : FVec Ideal S1x2048x2048 .f32) (k j : Fin 2048) : shapeCast S2048x2048 A2 shapeCasts_S1x2048x2048_S2048x2048 (ix2 k j) = A2 (ix3 0 k j) := by
  refine shapeCast_apply _ _ _ _ ?_
  rw [Shape.rowMajor_val_two, Shape.rowMajor_val_three]
  show (0 * 2048 + k.val) * 2048 + j.val = k.val * 2048 + j.val
  omega

/-- The result, from the arguments. -/
def resOf (A0 : FVec Ideal S8x2048x2048 .f32) (A1 : FVec Ideal S2x2048 .f32) (A2 : FVec Ideal S1x2048x2048 .f32) (A3 : FVec Ideal S1x64 .f32) : FVec Ideal S2048x16384 .bf16 :=
  turned (heads (split (xn A0 A1) (shapeCast S2048x2048 A2 shapeCasts_S1x2048x2048_S2048x2048)) A3)

theorem resOf_at (A0 : FVec Ideal S8x2048x2048 .f32) (A1 : FVec Ideal S2x2048 .f32) (A2 : FVec Ideal S1x2048x2048 .f32) (A3 : FVec Ideal S1x64 .f32) (j : Fin 2048) (r : Fin 16384) :
    resOf A0 A1 A2 A3 (ix2 j r) = Cert.QueryBIdeal.Own.head (fun k => A0 (ix3 ⟨r.val / 2048, by omega⟩ ⟨r.val % 2048, by omega⟩ k)) (fun k => A1 (ix2 1 k)) (fun k i => A2 (ix3 0 k i)) (fun l => A3 (ix2 0 l))
      ⟨j.val / 64, by omega⟩ ⟨j.val % 64, by omega⟩ := by
  unfold resOf Cert.QueryBIdeal.Own.head
  rw [turned_at, heads_at]
  refine congrArg (headed · _ _) (funext fun i => ?_)
  rw [split_at]
  refine Finset.sum_congr rfl fun k _ => ?_
  exact congrArg₂ (· * ·) (xn_at A0 A1 _ _ k) (mat_at A2 k _)

open Cert.QueryBRefIdeal.Value in
theorem res_0 (m : (ℓ : Loc nD τ sig) → Buf (Elt Ideal) ℓ) (c : Dev nD) : res_main_v34 (F := Ideal) m c
    = resOf (m ((c.tc : Thread nD τ).loc main_arg0)) (m ((c.tc : Thread nD τ).loc main_arg1)) (m ((c.tc : Thread nD τ).loc main_arg2)) (m ((c.tc : Thread nD τ).loc main_arg3)) := by
  unfold res_main_v34
  rfl

end Cert.QueryBRefIdeal.Own

end
-- ==== Proof.QueryB.Result.lean ====
/- The second layer's query projection: its frames, and its result against the plain program. -/
module

public import proofs.«01_k».proof.Defs
public import Idealize.ShloMosaic.Adequacy
public import Idealize.ShloMosaic.Init
public import proofs.«01_k».proof.Proof.Gen.QueryB.Frame
public import proofs.«01_k».proof.Proof.Gen.QueryBIdeal.Value
public import proofs.«01_k».proof.Proof.QueryB.Points
public import proofs.«01_k».proof.Proof.QueryB.Plain
public import proofs.«01_k».proof.Proof.Half.Finite

@[expose] public section

set_option maxRecDepth 16384

noncomputable section

namespace Cert.Proof

open Idealize.ShloMosaic Idealize.ShloMosaic.TcCoe Idealize.ShloMosaic.Tactic Idealize.SL.Sem

theorem frame_queryB : Cert.quiescent_QueryB := fun m ρ _ => Cert.QueryB.Gen.frame m ρ

theorem frame_queryBIdeal : Cert.quiescent_QueryBIdeal := fun m ρ _ => Cert.QueryBIdeal.Gen.frame m ρ

/-- The plain program declares no semaphore, and no operation writes an argument. -/
theorem frame_queryBRef : Cert.quiescent_QueryBRefIdeal := fun m ρ _ =>
  (θ_run Cert.QueryBRefIdeal.defs _ _).mono (fun r h => ⟨fun c => (h c).2, Idealize.ShloMosaic.sem_eq_zero_of_no_sems (by decide) r.2⟩)
    (Cert.QueryBRefIdeal.Value.run (F := Ideal) m ρ)

theorem algebraic_queryB : Cert.algebraic_QueryBIdeal_QueryBRefIdeal_pre_finite_query := by
  intro m ρ m' ρ' hpre hagree
  refine ⟨Cert.QueryBIdeal.Own.turned m, ?_, ?_⟩
  · exact (θ_run Cert.QueryBIdeal.defs _ _).mono (fun r h c => ⟨(h c).1.trans (Cert.QueryBIdeal.Own.result_5 m c (Cert.Half.finite_query _ _ _ _ (hpre c))), (h c).2⟩) (Cert.QueryBIdeal.Value.run_blocks m ρ)
  · refine (θ_run Cert.QueryBRefIdeal.defs _ _).mono (fun r h c => ⟨(h c).1.trans ?_, (h c).2⟩) (Cert.QueryBRefIdeal.Value.run (F := Ideal) m' ρ')
    rw [Cert.QueryBRefIdeal.Own.res_0, (hagree c).1, (hagree c).2.1, (hagree c).2.2.1, (hagree c).2.2.2]
    funext i
    idx_vars i
    exact Cert.QueryBRefIdeal.Own.resOf_at _ _ _ _ i0 i1

end Cert.Proof

end
-- ==== Proof.Swa.Points.lean ====
/- The attention kernel: which of its points fill the scratch, and the memrefs its body works on. -/
module

public import proofs.«01_k».proof.Proof.Gen.SwaIdeal.Frame
public import proofs.«01_k».proof.Proof.Gen.SwaIdeal.Launch
public import proofs.«01_k».proof.Proof.Gen.SwaIdeal.Skeleton

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable {F : FTy → Type} [FloatOps F] [Named F]

local notation "𝕄" => MT nD τ sig Unit (Elt F) ℕ (UR sig nD τ) ℕ

/-- The condition under which a point copies its batch into the scratch. -/
abbrev cond0_0 (i : grid0.Coords) : Prop := (Scalar.cmpi .ne (Scalar.extui (Scalar.cmpi .eq (BitVec.ofNat 32 (i 1).val) 0#32)) 0#32) = 1#1
/-- It holds at every eighth point: the first of a batch. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- A buffer of the result window, through which stored pieces are read back. -/
abbrev VO0_3 : View sig .tc .vmem S256x2048 .bf16 := (Memref.whole cc0_stg3_0 : Memref sig .tc .vmem S256x2048 .bf16).view
/-- The memrefs a point is given for the sinks, the queries, the keys with values, and the result; each is a whole buffer. -/
abbrev ms0_0 (t : Fin cfg0.N) : Memref sig .tc .smem S32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)
/-- The two scratch buffers, keys first. -/
abbrev scM0_0 : Memref sig .tc .vmem S2048x256 .bf16 := Memref.whole cc0_scratch0
abbrev scM0_1 : Memref sig .tc .vmem S16x256x128 .bf16 := Memref.whole cc0_scratch1
/-- The keys' scratch as a view. -/
abbrev VS0_0 : View sig .tc .vmem S2048x256 .bf16 := scM0_0.view
/-- The values' scratch as a view. -/
abbrev VS0_1 : View sig .tc .vmem S16x256x128 .bf16 := scM0_1.view

/-- What the region gives a point beside its windows: both scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.SwaIdeal.Own

end
-- ==== Proof.Swa.Offsets.lean ====
/- Where the attention kernel reads its scratch: at query block `i` the window of keys begins with slab `2 i - 1` (slab 0 for the first block). -/
module

public import proofs.«01_k».proof.Proof.Swa.Points

@[expose] public section

set_option maxRecDepth 16384

noncomputable section

namespace Cert.SwaIdeal.Own

open Idealize.ShloMosaic Idealize.ShloMosaic.TcCoe Idealize.ShloMosaic.Tactic

/-- The keys' window begins at row `128 * (2 i - 1)`. -/
theorem off1_eq (i : grid0.Coords) : k0_off1 i = ![128 * (2 * (i 1).val - 1), 0] := by
  have h : ∀ n : Fin 8, ∀ j : grid0.Coords, (j 1).val = n.val → k0_off1 j = ![128 * (2 * n.val - 1), 0] := by
    intro n j hj
    simp only [k0_off1, hj]
    clear hj; revert n; decide +kernel
  exact h ⟨(i 1).val, (i 1).isLt⟩ i rfl

/-- The values' window is the slabs `2 i - 1`, `2 i`, `2 i + 1`. -/
theorem off2_eq (i : grid0.Coords) (r : Fin 3) : k0_off2 i (BitVec.ofNat 32 r.val) = ![2 * (i 1).val - 1 + r.val, 0, 0] := by
  have h : ∀ n : Fin 8, ∀ j : grid0.Coords, (j 1).val = n.val → k0_off2 j (BitVec.ofNat 32 r.val) = ![2 * n.val - 1 + r.val, 0, 0] := by
    intro n j hj
    simp only [k0_off2, hj]
    clear hj; revert n r; decide +kernel
  exact h ⟨(i 1).val, (i 1).isLt⟩ i rfl

/-- The first query block of a sequence is the one that fills the scratch. -/
theorem coord_of_cond {i : grid0.Coords} (h : cond0_0 i) : (i 1).val = 0 := by
  have h' : ∀ n : Fin 8, ∀ j : grid0.Coords, (j 1).val = n.val → cond0_0 j → n.val = 0 := by
    intro n j hj
    simp only [cond0_0, hj]
    clear hj; revert n; decide +kernel
  exact h' ⟨(i 1).val, (i 1).isLt⟩ i rfl h

/-- At a point filling the scratch the keys' window begins at row 0, -/
theorem off1_A {i : grid0.Coords} (h : cond0_0 i) : k0_off1 i = ![0, 0] := by
  rw [off1_eq, coord_of_cond h]

/-- and the values' window is the slabs 0, 1, 2. -/
theorem off2_A {i : grid0.Coords} (h : cond0_0 i) (r : Fin 3) : k0_off2 i (BitVec.ofNat 32 r.val) = ![r.val, 0, 0] := by
  rw [off2_eq, coord_of_cond h]; simp

/-! The closed forms of the window's offsets at a point filling the scratch. -/

instance closed1 (i : grid0.Coords) [h : Fact (cond0_0 i)] : ClosedOff (k0_off1 i) := ⟨![0, 0], off1_A h.out⟩
instance closed2_0 (i : grid0.Coords) [h : Fact (cond0_0 i)] : ClosedOff (k0_off2 i 0#32) := ⟨![0, 0, 0], off2_A h.out 0⟩
instance closed2_1 (i : grid0.Coords) [h : Fact (cond0_0 i)] : ClosedOff (k0_off2 i 1#32) := ⟨![1, 0, 0], off2_A h.out 1⟩
instance closed2_2 (i : grid0.Coords) [h : Fact (cond0_0 i)] : ClosedOff (k0_off2 i 2#32) := ⟨![2, 0, 0], off2_A h.out 2⟩

end Cert.SwaIdeal.Own

end
-- ==== Proof.Swa.RunA.lean ====
/- The body at the first point of a batch: what it stores, and that it runs. -/
module

public import proofs.«01_k».proof.Proof.Swa.Offsets

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable {F : FTy → Type} [FloatOps F] [Named F]

local notation "𝕄" => MT nD τ sig Unit (Elt F) ℕ (UR sig nD τ) ℕ

set_option maxHeartbeats 1024000 in
/-- At a point that fills the scratch: the pieces stored into the result block and into the two scratch buffers, with the proof that the body, given whole buffers, runs and leaves exactly these pieces. -/
noncomputable def kernelRun0_A (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i)
    (x0 : Vec F S32 .f32) (x1 : Vec F S2048x256 .bf16) (x2 : Vec F S2048x512 .f32) :
    Σ' (L3 : List (View.Piece (Elt F) S256x2048 .bf16)), Σ' (LS0 : List (View.Piece (Elt F) S2048x256 .bf16)), { LS1 : List (View.Piece (Elt F) S16x256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__swa_prompt_body i arg2 harg2 arg3 harg3 arg4 harg4 arg5 harg5 arg6 harg6 arg7 harg7) K } := by
  refine ⟨?_, ?_, ?_, fun E K => ?run⟩
  case run =>
    simp only [cc0__swa_prompt_body_eq_skeleton]; unfold cc0__swa_prompt_body_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    haveI : Fact (cond0_0 i) := ⟨hc0⟩
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.SwaIdeal.Own

end
-- ==== Proof.Swa.RunB.lean ====
/- The body at any other point of a batch: what it stores, and that it runs. -/
module

public import proofs.«01_k».proof.Proof.Swa.RunA

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable {F : FTy → Type} [FloatOps F] [Named F]

local notation "𝕄" => MT nD τ sig Unit (Elt F) ℕ (UR sig nD τ) ℕ

set_option maxHeartbeats 1000000 in
/-- At a point that finds the scratch filled: the pieces stored into the result block, with the proof that the body, given whole buffers, runs, leaves exactly these pieces and keeps the scratch. -/
noncomputable def kernelRun0_B (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : ¬cond0_0 i)
    (x0 : Vec F S32 .f32) (x1 : Vec F S2048x256 .bf16) (x2 : Vec F S2048x512 .f32) (xs0 : Vec F S2048x256 .bf16) (xs1 : Vec F S16x256x128 .bf16) :
    Σ' (L3 : List (View.Piece (Elt F) S256x2048 .bf16)), Σ' (LS0 : List (View.Piece (Elt F) S2048x256 .bf16)), { LS1 : List (View.Piece (Elt F) S16x256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ owns (c : Thread nD τ) arg7 fullShare xs1) -∗ K ⟨⟩))
          ⊢ wp frame (wpE (defs₀ (F := F)) Variants.none c none) E (cc0__swa_prompt_body i arg2 harg2 arg3 harg3 arg4 harg4 arg5 harg5 arg6 harg6 arg7 harg7) K } := by
  refine ⟨?_, [], [], fun E K => ?run⟩
  case run =>
    simp only [cc0__swa_prompt_body_eq_skeleton]; unfold cc0__swa_prompt_body_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

end Cert.SwaIdeal.Own

end
-- ==== Proof.Swa.Frame.lean ====
/- The attention kernel: what each point leaves in the result block and in the scratch, and the run of the whole program. -/
module

public import proofs.«01_k».proof.Proof.Swa.RunB
public import Idealize.ShloMosaic.Lib.Claim

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The first point's sixteen tiles fill the result block. -/
theorem cover0_A_3 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i)
    (x0 : Vec F S32 .f32) (x1 : Vec F S2048x256 .bf16) (x2 : Vec F S2048x512 .f32) (y : S256x2048.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S256x128.size (by sl_kernel_rfl) y

/-- The result block the first point of a batch leaves. -/
def out0_A_3 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i)
    (x0 : Vec F S32 .f32) (x1 : Vec F S2048x256 .bf16) (x2 : Vec F S2048x512 .f32) : Vec F S256x2048 .bf16 :=
  VO0_3.read (Elt F) (VO0_3.writes (Elt F) VO0_3.junk (kernelRun0_A c i arg2 harg2 arg3 harg3 arg4 harg4 arg5 harg5 arg6 harg6 arg7 harg7 hc0 x0 x1 x2).1)

/-- The first point stores all of the keys' scratch. -/
theorem scover0_A_0 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i)
    (x0 : Vec F S32 .f32) (x1 : Vec F S2048x256 .bf16) (x2 : Vec F S2048x512 .f32) (y : S2048x256.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S2048x256.size (by sl_kernel_rfl) y

/-- The keys' scratch the first point of a batch leaves. -/
def sout0_A_0 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i)
    (x0 : Vec F S32 .f32) (x1 : Vec F S2048x256 .bf16) (x2 : Vec F S2048x512 .f32) : Vec F S2048x256 .bf16 :=
  VS0_0.read (Elt F) (VS0_0.writes (Elt F) VS0_0.junk (kernelRun0_A c i arg2 harg2 arg3 harg3 arg4 harg4 arg5 harg5 arg6 harg6 arg7 harg7 hc0 x0 x1 x2).2.1)

/-- The first point's sixteen slabs fill the values' scratch. -/
theorem scover0_A_1 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i)
    (x0 : Vec F S32 .f32) (x1 : Vec F S2048x256 .bf16) (x2 : Vec F S2048x512 .f32) (y : S16x256x128.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x256x128.size (by sl_kernel_rfl) y

/-- The values' scratch the first point of a batch leaves. -/
def sout0_A_1 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i)
    (x0 : Vec F S32 .f32) (x1 : Vec F S2048x256 .bf16) (x2 : Vec F S2048x512 .f32) : Vec F S16x256x128 .bf16 :=
  VS0_1.read (Elt F) (VS0_1.writes (Elt F) VS0_1.junk (kernelRun0_A c i arg2 harg2 arg3 harg3 arg4 harg4 arg5 harg5 arg6 harg6 arg7 harg7 hc0 x0 x1 x2).2.2.1)

/-- Any other point's sixteen tiles fill the result block. -/
theorem cover0_B_3 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : ¬cond0_0 i)
    (x0 : Vec F S32 .f32) (x1 : Vec F S2048x256 .bf16) (x2 : Vec F S2048x512 .f32) (xs0 : Vec F S2048x256 .bf16) (xs1 : Vec F S16x256x128 .bf16) (y : S256x2048.Idx) :
    ∃ pc ∈ (kernelRun0_B c i arg2 harg2 arg3 harg3 arg4 harg4 arg5 harg5 arg6 harg6 arg7 harg7 hc0 x0 x1 x2 xs0 xs1).1, y ∈ pc.1.set :=
  View.cover_of_tiledL (kernelRun0_B c i arg2 harg2 arg3 harg3 arg4 harg4 arg5 harg5 arg6 harg6 arg7 harg7 hc0 x0 x1 x2 xs0 xs1).1 S256x128.size (by sl_kernel_rfl) y

/-- The result block any other point leaves. -/
def out0_B_3 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : ¬cond0_0 i)
    (x0 : Vec F S32 .f32) (x1 : Vec F S2048x256 .bf16) (x2 : Vec F S2048x512 .f32) (xs0 : Vec F S2048x256 .bf16) (xs1 : Vec F S16x256x128 .bf16) : Vec F S256x2048 .bf16 :=
  VO0_3.read (Elt F) (VO0_3.writes (Elt F) VO0_3.junk (kernelRun0_B c i arg2 harg2 arg3 harg3 arg4 harg4 arg5 harg5 arg6 harg6 arg7 harg7 hc0 x0 x1 x2 xs0 xs1).1)

/-- Any other point keeps the keys' scratch. -/
def sout0_B_0 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : ¬cond0_0 i)
    (x0 : Vec F S32 .f32) (x1 : Vec F S2048x256 .bf16) (x2 : Vec F S2048x512 .f32) (xs0 : Vec F S2048x256 .bf16) (xs1 : Vec F S16x256x128 .bf16) : Vec F S2048x256 .bf16 := xs0

/-- Any other point keeps the values' scratch. -/
def sout0_B_1 (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : ¬cond0_0 i)
    (x0 : Vec F S32 .f32) (x1 : Vec F S2048x256 .bf16) (x2 : Vec F S2048x512 .f32) (xs0 : Vec F S2048x256 .bf16) (xs1 : Vec F S16x256x128 .bf16) : Vec F S16x256x128 .bf16 := xs1

/-- What point after point leaves: the result block, the keys' scratch, the values' scratch. A point that is not the first of its batch works on the scratch of the point before. -/
def outsAt0 (c : Dev nD) : (n : ℕ) → n < cfg0.N → Vec F S256x2048 .bf16 × Vec F S2048x256 .bf16 × Vec F S16x256x128 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- The first point of a batch. -/
theorem outsAt0_A (c : Dev nD) (t : Fin cfg0.N) (h0 : t.val % 8 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- Any other point, over what the point before left. -/
theorem outsAt0_B (c : Dev nD) (t : Fin cfg0.N) (h0 : ¬t.val % 8 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What holds between points: before the first, the scratch at some contents; afterwards, at what the last point left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After a point, the scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first, the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-- The pipeline's proof data: inputs hold their blocks, the result its point's block, the scratch what it carries. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The data's arrays are those found at entry. -/
theorem A_eq (c : Dev nD) (w : Fin cfg0.W) : (dats m 0 c).A w = V m c (Pipeline.arrRef spec0 w) := by
  dsimp only [dats]

/-- What holds before a point, at its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input window holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What a point is given. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What a point gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- Every point runs: by its place in the batch, one of the two runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc m c t, PhiS_zero m c _ _ hz, PhiA0_eq]
      rw [outsAt0_A m c t h0]
      unfold out0_A_3 sout0_A_0 sout0_A_1; (try dsimp only)
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _)
    · rw [PhiS_castSucc m c t, PhiS_pos m c _ _ hz]
      rw [outsAt0_A m c t h0]
      unfold out0_A_3 sout0_A_0 sout0_A_1; (try dsimp only)
      iintro ⟨⟨⟨HS0, HS1⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_3 sout0_B_0 sout0_B_1; (try dsimp only)
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _)

/-- The body called at a point. -/
theorem defs₀_row (t : Fin cfg0.N) :
    defs₀ (F := F) .tc cfg0.body (cfg0.bodyArgs t (cfg0.slots t)) = bodyAt0 t := by
  unfold defs₀; rw [Defs.onTc_tc]

/-- The pipeline's demand on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point, forgetting what the scratch holds. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The whole program runs, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.SwaIdeal.Own

end
-- ==== Proof.Swa.Bits.lean ====
/- The attention kernel at bit patterns: the same program as the one with named constants, so the same run. -/
module

public import proofs.«01_k».proof.Defs
public import proofs.«01_k».proof.Proof.Swa.Frame
public import proofs.«01_k».proof.Proof.Gen.Swa

@[expose] public section

set_option maxRecDepth 16384

noncomputable section

namespace Cert.Swa.Own

open Idealize.ShloMosaic Idealize.SL.Sem

/-- Named constants at bit patterns are the patterns. -/
local instance namedBits : Named Bits := ⟨fun _ _ {φ} b => FloatOps.ofBits φ b⟩

theorem same_defs : Cert.Swa.defs (F := Bits) = Cert.SwaIdeal.defs (F := Bits) := by sl_kernel_rfl

theorem same_main : Cert.Swa.main (F := Bits) = Cert.SwaIdeal.main (F := Bits) := by sl_kernel_rfl

theorem frame_swa : Cert.quiescent_Swa := by
  intro m g _
  have h := Cert.SwaIdeal.Own.frame (F := Bits) m g
  rw [← same_main, ← same_defs] at h
  exact h

end Cert.Swa.Own

end
-- ==== Proof.Swa.Blocks.lean ====
/- The attention kernel: the pieces its runs leave are the block's tiles, head by head. -/
module

public import proofs.«01_k».proof.Proof.Swa.Heads
public import proofs.«01_k».proof.Proof.Swa.Frame
import all proofs.«01_k».proof.Proof.Swa.RunA
import all proofs.«01_k».proof.Proof.Swa.RunB

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable {F : FTy → Type} [FloatOps F] [Named F]

local notation "𝕄" => MT nD τ sig Unit (Elt F) ℕ (UR sig nD τ) ℕ

theorem inbSink : ∀ (h : Fin 32) a, ![h.val] a + S1.size a ≤ S32.size a := by decide
theorem inbTile : ∀ (k : Fin 16) a, ![0, 128 * (15 - k.val)] a + S256x128.size a ≤ S256x2048.size a := by decide
theorem inbSlab : ∀ (k : Fin 16) a, ![15 - k.val, 0, 0] a + S1x256x128.size a ≤ S16x256x128.size a := by decide
theorem inbVal : ∀ (k : Fin 16) a, ![128 * (15 - k.val), 256] a + S128x256.size a ≤ S2048x512.size a := by decide

/-- The sinks a point reads, one by one. -/
def sinksOf (arg2 : Memref sig .tc .smem S32 .f32) (harg2 : arg2.IsWhole) (x0 : Vec F S32 .f32) (h : Fin 32) : F .f32 :=
  View.readAt (Elt F) arg2.view (Rect.unit (s := S32) ![h.val] S1.size (inbSink h)).toLoadRect (harg2.unread x0) (Shape.Idx.first (show 0 < S1.numel from by decide))

/-- The query block a point reads. -/
def queriesOf (arg3 : Memref sig .tc .vmem S2048x256 .bf16) (harg3 : arg3.IsWhole) (x1 : Vec F S2048x256 .bf16) : FVec F S2048x256 .bf16 :=
  View.readAt (Elt F) arg3.view (Rect.unit ![0, 0] S2048x256.size inb_S2048x256_S2048x256_0_0).toLoadRect (harg3.unread x1)

/-- The tiles of the result block, last stored first. -/
def tilesOf (kw : FVec F S384x256 .bf16) (vw : FVec F S256x384 .bf16) (q : FVec F S2048x256 .bf16) (dist : FVec F S384x256 .f32)
    (sk : Fin 32 → F .f32) : List (View.Piece (Elt F) S256x2048 .bf16) :=
  List.ofFn fun k : Fin 16 => ⟨Rect.unit ![0, 128 * (15 - k.val)] S256x128.size (inbTile k),
    tileOf kw vw q dist sk ⟨(15 - k.val) / 4, by omega⟩ ⟨2 * ((15 - k.val) % 4), by omega⟩ ⟨2 * ((15 - k.val) % 4) + 1, by omega⟩⟩

/-- The block's tiles at a point, over the contents of the two scratch buffers as they are loaded. -/
def blockOf (i : grid0.Coords) (arg2 : Memref sig .tc .smem S32 .f32) (harg2 : arg2.IsWhole) (arg3 : Memref sig .tc .vmem S2048x256 .bf16) (harg3 : arg3.IsWhole)
    (x0 : Vec F S32 .f32) (x1 : Vec F S2048x256 .bf16) (K : FVec F S384x256 .bf16) (V : Fin 3 → FVec F S1x256x128 .bf16) : List (View.Piece (Elt F) S256x2048 .bf16) :=
  tilesOf K (k0_pay24 (k0_pay22 (V 0)) (k0_pay23 (V 1)) (V 2)) (queriesOf arg3 harg3 x1) (k0_pay21 i) (sinksOf arg2 harg2 x0)

/-- At a point that does not fill the scratch, the block's tiles. -/
theorem piecesB (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : ¬cond0_0 i) (x0 : Vec F S32 .f32) (x1 : Vec F S2048x256 .bf16) (x2 : Vec F S2048x512 .f32) (xs0 : Vec F S2048x256 .bf16) (xs1 : Vec F S16x256x128 .bf16) :
    (kernelRun0_B c i arg2 harg2 arg3 harg3 arg4 harg4 arg5 harg5 arg6 harg6 arg7 harg7 hc0 x0 x1 x2 xs0 xs1).1
      = blockOf i arg2 harg2 arg3 harg3 x0 x1
          (View.readAt (Elt F) arg6.view (Rect.unit (s := S2048x256) (k0_off1 i) S384x256.size (k0_off1_inb i)).toLoadRect (harg6.unread xs0))
          (fun r => View.readAt (Elt F) arg7.view (Rect.unit (s := S16x256x128) (k0_off2 i (BitVec.ofNat 32 r.val)) S1x256x128.size (k0_off2_inb i r)).toLoadRect (harg7.unread xs1)) := by
  sl_kernel_rfl

/-- The keys a filling point stores, rounded. -/
def keysOf (arg4 : Memref sig .tc .vmem S2048x512 .f32) (harg4 : arg4.IsWhole) (x2 : Vec F S2048x512 .f32) : List (View.Piece (Elt F) S2048x256 .bf16) :=
  [⟨Rect.unit ![0, 0] S2048x256.size inb_S2048x256_S2048x256_0_0, shapeCast S2048x256 (truncf .bf16 (View.readAt (Elt F) arg4.view (Rect.unit (s := S2048x512) ![0, 0] S2048x256.size inb_S2048x512_S2048x256_0_0).toLoadRect (harg4.unread x2)) bitsLt_bf16_f32) shapeCasts_S2048x256_S2048x256⟩]

/-- The slabs of transposed values a filling point stores, last stored first. -/
def slabsOf (arg4 : Memref sig .tc .vmem S2048x512 .f32) (harg4 : arg4.IsWhole) (x2 : Vec F S2048x512 .f32) : List (View.Piece (Elt F) S16x256x128 .bf16) :=
  List.ofFn fun k : Fin 16 => ⟨Rect.unit ![15 - k.val, 0, 0] S1x256x128.size (inbSlab k),
    shapeCast S1x256x128 (truncf .bf16 (transpose S256x128 [1, 0] (View.readAt (Elt F) arg4.view (Rect.unit (s := S2048x512) ![128 * (15 - k.val), 256] S128x256.size (inbVal k)).toLoadRect (harg4.unread x2)) transposes_S128x256_p1_0_S256x128) bitsLt_bf16_f32) shapeCasts_S256x128_S1x256x128⟩

theorem keysA (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i) (x0 : Vec F S32 .f32) (x1 : Vec F S2048x256 .bf16) (x2 : Vec F S2048x512 .f32) :
    (kernelRun0_A c i arg2 harg2 arg3 harg3 arg4 harg4 arg5 harg5 arg6 harg6 arg7 harg7 hc0 x0 x1 x2).2.1 = keysOf arg4 harg4 x2 := by
  sl_kernel_rfl

theorem slabsA (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i) (x0 : Vec F S32 .f32) (x1 : Vec F S2048x256 .bf16) (x2 : Vec F S2048x512 .f32) :
    (kernelRun0_A c i arg2 harg2 arg3 harg3 arg4 harg4 arg5 harg5 arg6 harg6 arg7 harg7 hc0 x0 x1 x2).2.2.1 = slabsOf arg4 harg4 x2 := by
  sl_kernel_rfl

/-- At a point that fills the scratch, the block's tiles, over what it has just stored. -/
theorem piecesA (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i) (x0 : Vec F S32 .f32) (x1 : Vec F S2048x256 .bf16) (x2 : Vec F S2048x512 .f32) :
    (kernelRun0_A c i arg2 harg2 arg3 harg3 arg4 harg4 arg5 harg5 arg6 harg6 arg7 harg7 hc0 x0 x1 x2).1
      = blockOf i arg2 harg2 arg3 harg3 x0 x1
          (arg6.view.readCov (keysOf arg4 harg4 x2) (Rect.unit (s := S2048x256) (k0_off1 i) S384x256.size (k0_off1_inb i)).toLoadRect)
          (fun r => arg7.view.readCov (slabsOf arg4 harg4 x2) (Rect.unit (s := S16x256x128) (k0_off2 i (BitVec.ofNat 32 r.val)) S1x256x128.size (k0_off2_inb i r)).toLoadRect) := by
  sl_kernel_rfl

end Cert.SwaIdeal.Own

end
-- ==== Proof.Swa.Carried.lean ====
/- What the two scratch buffers hold: the keys and the transposed values of the batch at hand. -/
module

public import proofs.«01_k».proof.Proof.Swa.Blocks
public import proofs.«01_k».proof.Proof.Swa.Frame
public import Idealize.ShloMosaic.Lib.Pointwise
public import Idealize.ShloMosaic.Lib.WholeRead
public import Idealize.ShloMosaic.Lib.Pipeline.ValueKit

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

variable (m : (ℓ : Loc nD τ sig) → Buf (Elt Ideal) ℓ)

/-- The keys' scratch, filled from a batch's rows of keys and values. -/
def keysR (X : FVec Ideal S2048x512 .f32) : FVec Ideal S2048x256 .bf16 := fun i => X (ix2 ⟨(i 0).val, (i 0).isLt⟩ ⟨(i 1).val, lt_trans (i 1).isLt (by decide)⟩)

/-- The values' scratch, filled from a batch's rows of keys and values. -/
def valsR (X : FVec Ideal S2048x512 .f32) : FVec Ideal S16x256x128 .bf16 := fun i =>
  X (ix2 ⟨128 * (i 0).val + (i 2).val, by have h0 : (i 0).val < 16 := (i 0).isLt; have h2 : (i 2).val < 128 := (i 2).isLt; omega⟩
    ⟨256 + (i 1).val, by have h1 : (i 1).val < 256 := (i 1).isLt; omega⟩)

theorem canon_keys (arg4 : Memref sig .tc .vmem S2048x512 .f32) (harg4 : arg4.IsWhole) (x2 : Vec Ideal S2048x512 .f32) :
    View.canon (keysOf (F := Ideal) arg4 harg4 x2) = keysR x2 := by
  unfold keysOf
  refine (View.canon_cons_unit_lit _ _ _ (by decide)).trans ?_
  funext i
  idx_vars i
  pointwise []
  refine (harg4.readAt_unread x2 _ _).trans ?_
  refine congrArg x2 ?_
  funext k; fin_cases k <;> (apply Fin.ext; simp [LoadRect.idx]; try omega)

theorem canon_vals (arg4 : Memref sig .tc .vmem S2048x512 .f32) (harg4 : arg4.IsWhole) (X : Vec Ideal S2048x512 .f32) :
    View.canon (slabsOf (F := Ideal) arg4 harg4 X) = valsR X := by
  funext y
  unfold slabsOf
  refine View.canon_ofFn_unit_eq_of_forall _ _ _ _ y _ ?_ ?_
  · have h0 : (y 0).val < 16 := (y 0).isLt
    have h1 : (y 1).val < 256 := (y 1).isLt
    have h2 : (y 2).val < 128 := (y 2).isLt
    refine ⟨⟨15 - (y 0).val, by omega⟩, fun a => ?_⟩
    fin_cases a
    · show 15 - (15 - (y 0).val) ≤ (y 0).val ∧ (y 0).val < 15 - (15 - (y 0).val) + 1; omega
    · show 0 ≤ (y 1).val ∧ (y 1).val < 0 + 256; omega
    · show 0 ≤ (y 2).val ∧ (y 2).val < 0 + 128; omega
  · intro k x hx
    have h0 : (y 0).val = (15 - k.val) + (x 0).val := hx 0
    have h1 : (y 1).val = 0 + (x 1).val := hx 1
    have h2 : (y 2).val = 0 + (x 2).val := hx 2
    have hx0 : (x 0).val < 1 := (x 0).isLt
    idx_vars x
    pointwise []
    refine (harg4.readAt_unread X _ _).trans ?_
    refine congrArg X ?_
    funext a; fin_cases a <;> apply Fin.ext
    · show 128 * (15 - k.val) + 1 * x2.val = 128 * (y 0).val + (y 2).val; omega
    · show 256 + 1 * x1.val = 256 + (y 1).val; omega

/-- The keys and values of batch `b`. -/
def kvOf (c : Dev nD) (b : Fin 8) : FVec Ideal S2048x512 .f32 := fun i =>
  (m ((c : Thread nD τ).loc main_arg1) : FVec Ideal S16384x512 .f32) (ix2 ⟨2048 * b.val + (i 0).val, by have h0 : (i 0).val < 2048 := (i 0).isLt; omega⟩ ⟨(i 1).val, (i 1).isLt⟩)

theorem idx2 : ∀ t : Fin cfg0.N, win0_0.index t = ![0] ∧ win0_1.index t = ![0, t.val] ∧ win0_2.index t = ![t.val / 8, 0] ∧ win0_3.index t = ![t.val, 0] :=
  (by decide +kernel : ∀ t : Fin grid0.N, _)

theorem iblk_kv (c : Dev nD) (t : Fin cfg0.N) : (iblk m c 2 t : FVec Ideal S2048x512 .f32) = kvOf m c ⟨t.val / 8, by have := t.isLt; have h : cfg0.N = 64 := N_0; omega⟩ := by
  funext i
  idx_vars i
  unfold kvOf
  blk_point [iblk, V, idx2 t]

/-- The keys of the window of a point's queries. -/
def keysWin (i : grid0.Coords) (X : FVec Ideal S2048x512 .f32) : FVec Ideal S384x256 .bf16 :=
  fun j => keysR X ((Rect.unit (s := S2048x256) (k0_off1 i) S384x256.size (k0_off1_inb i)).toLoadRect.idx j)

/-- The slabs of transposed values of the window of a point's queries. -/
def valsWin (i : grid0.Coords) (X : FVec Ideal S2048x512 .f32) (r : Fin 3) : FVec Ideal S1x256x128 .bf16 :=
  fun j => valsR X ((Rect.unit (s := S16x256x128) (k0_off2 i (BitVec.ofNat 32 r.val)) S1x256x128.size (k0_off2_inb i r)).toLoadRect.idx j)

theorem keys_A (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i) (x0 : Vec Ideal S32 .f32) (x1 : Vec Ideal S2048x256 .bf16) (x2 : Vec Ideal S2048x512 .f32) :
    sout0_A_0 (F := Ideal) c i arg2 harg2 arg3 harg3 arg4 harg4 arg5 harg5 arg6 harg6 arg7 harg7 hc0 x0 x1 x2 = keysR x2 := by
  unfold sout0_A_0
  rw [View.read_writes_junk_eq_canon, keysA, canon_keys]

theorem vals_A (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i) (x0 : Vec Ideal S32 .f32) (x1 : Vec Ideal S2048x256 .bf16) (x2 : Vec Ideal S2048x512 .f32) :
    sout0_A_1 (F := Ideal) c i arg2 harg2 arg3 harg3 arg4 harg4 arg5 harg5 arg6 harg6 arg7 harg7 hc0 x0 x1 x2 = valsR x2 := by
  unfold sout0_A_1
  rw [View.read_writes_junk_eq_canon, slabsA, canon_vals]

theorem block_A (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : cond0_0 i) (x0 : Vec Ideal S32 .f32) (x1 : Vec Ideal S2048x256 .bf16) (x2 : Vec Ideal S2048x512 .f32) :
    out0_A_3 (F := Ideal) c i arg2 harg2 arg3 harg3 arg4 harg4 arg5 harg5 arg6 harg6 arg7 harg7 hc0 x0 x1 x2 = View.canon (blockOf (F := Ideal) i arg2 harg2 arg3 harg3 x0 x1 (keysWin i x2) (valsWin i x2)) := by
  unfold out0_A_3
  rw [View.read_writes_junk_eq_canon, piecesA]
  refine congrArg View.canon (congrArg₂ (blockOf (F := Ideal) i arg2 harg2 arg3 harg3 x0 x1) ?_ ?_)
  · rw [View.readCov_eq_canon', canon_keys]; rfl
  · funext r
    rw [View.readCov_eq_canon', canon_vals]; rfl

theorem block_B (c : Dev nD) (i : grid0.Coords) (arg2 : Memref sig .tc .smem S32 .f32) (harg2 : arg2.IsWhole) (arg3 : Memref sig .tc .vmem S2048x256 .bf16) (harg3 : arg3.IsWhole) (arg4 : Memref sig .tc .vmem S2048x512 .f32) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S16x256x128 .bf16) (harg7 : arg7.IsWhole) (hc0 : ¬cond0_0 i) (x0 : Vec Ideal S32 .f32) (x1 : Vec Ideal S2048x256 .bf16) (x2 : Vec Ideal S2048x512 .f32) (xs0 : Vec Ideal S2048x256 .bf16) (xs1 : Vec Ideal S16x256x128 .bf16)
    (X : FVec Ideal S2048x512 .f32) (h0 : xs0 = keysR X) (h1 : xs1 = valsR X) :
    out0_B_3 (F := Ideal) c i arg2 harg2 arg3 harg3 arg4 harg4 arg5 harg5 arg6 harg6 arg7 harg7 hc0 x0 x1 x2 xs0 xs1 = View.canon (blockOf (F := Ideal) i arg2 harg2 arg3 harg3 x0 x1 (keysWin i X) (valsWin i X)) := by
  unfold out0_B_3
  rw [View.read_writes_junk_eq_canon, piecesB]
  refine congrArg View.canon (congrArg₂ (blockOf (F := Ideal) i arg2 harg2 arg3 harg3 x0 x1) ?_ ?_)
  · funext j
    refine (harg6.readAt_unread xs0 _ j).trans ?_
    rw [h0]; rfl
  · funext r j
    refine (harg7.readAt_unread xs1 _ j).trans ?_
    rw [h1]; rfl

theorem carried_A (c : Dev nD) (t : Fin cfg0.N) (h0 : t.val % 8 = 0) :
    (outsAt0 m c t.val t.isLt).2.1 = keysR (iblk m c 2 t) ∧ (outsAt0 m c t.val t.isLt).2.2 = valsR (iblk m c 2 t) := by
  rw [outsAt0_A m c t h0]
  dsimp only
  rw [keys_A, vals_A]
  exact ⟨rfl, rfl⟩

theorem carried_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

theorem batch_lt (n : ℕ) (hn : n < cfg0.N) : n / 8 < 8 := by have h : cfg0.N = 64 := N_0; omega

/-- After each point the two scratch buffers hold the keys and the values of its batch. -/
theorem carried (c : Dev nD) : ∀ (n : ℕ) (hn : n < cfg0.N),
    (outsAt0 m c n hn).2.1 = keysR (kvOf m c ⟨n / 8, batch_lt n hn⟩) ∧ (outsAt0 m c n hn).2.2 = valsR (kvOf m c ⟨n / 8, batch_lt n hn⟩) := by
  intro n
  induction n with
  | zero =>
    intro hn
    have e := carried_A m c ⟨0, hn⟩ (Nat.zero_mod _)
    rw [iblk_kv m c ⟨0, hn⟩] at e
    exact e
  | succ n ih =>
    intro hn
    by_cases h0 : (n + 1) % 8 = 0
    · have e := carried_A m c ⟨n + 1, hn⟩ h0
      rw [iblk_kv m c ⟨n + 1, hn⟩] at e
      exact e
    · have e := carried_B m c ⟨n + 1, hn⟩ h0
      have h := ih (Nat.lt_of_succ_lt hn)
      have hb : (⟨(n + 1) / 8, batch_lt (n + 1) hn⟩ : Fin 8) = ⟨n / 8, batch_lt n (Nat.lt_of_succ_lt hn)⟩ := Fin.ext (by simp only []; omega)
      rw [hb]
      exact ⟨(congrArg Prod.fst e).trans h.1, (congrArg Prod.snd e).trans h.2⟩

/-- What a point leaves in the result's block: its tiles, over its batch's keys and values. -/
theorem outBlock (c : Dev nD) (t : Fin cfg0.N) :
    (outsAt0 m c t.val t.isLt).1
      = View.canon (blockOf (F := Ideal) (grid0.coords t) (ms0_0 t) (hs0_0 t) (ms0_1 t) (hs0_1 t) (iblk m c 0 t) (iblk m c 1 t)
          (keysWin (grid0.coords t) (kvOf m c ⟨t.val / 8, batch_lt t.val t.isLt⟩))
          (valsWin (grid0.coords t) (kvOf m c ⟨t.val / 8, batch_lt t.val t.isLt⟩))) := by
  by_cases h0 : t.val % 8 = 0
  · rw [outsAt0_A m c t h0]
    dsimp only
    rw [block_A, iblk_kv m c t]
  · rw [outsAt0_B m c t h0]
    dsimp only
    have h := carried m c (t.val - 1) (Nat.lt_of_le_of_lt (Nat.sub_le _ _) t.isLt)
    have hb : (⟨(t.val - 1) / 8, batch_lt _ (Nat.lt_of_le_of_lt (Nat.sub_le _ _) t.isLt)⟩ : Fin 8) = ⟨t.val / 8, batch_lt t.val t.isLt⟩ := Fin.ext (by simp only []; omega)
    rw [hb] at h
    exact block_B _ _ _ _ _ _ _ _ _ _ _ _ _ _ _ _ _ _ _ _ _ h.1 h.2

end Cert.SwaIdeal.Own

end
-- ==== Proof.Swa.HeadsAt.lean ====
/- The attention kernel's score products read on the extended reals. -/
module

public import proofs.«01_k».proof.Proof.Swa.Heads
public import Idealize.ShloMosaic.Lib.Pointwise

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

/-- The padded queries, read. -/
theorem qPad_at (q : FVec Ideal S2048x256 .bf16) (g : Fin 4) (r : Fin 8) (j : Fin 128) (x : Fin 256) :
    qPad (F := Ideal) q g r (ix2 j x)
      = if j.val / 64 = g.val % 2 then q (ix2 ⟨64 * (head g r).val + j.val % 64, by have := (head g r).isLt; omega⟩ x) else 0 := by
  have hz : (Scalar.ofBits (F := Ideal) .bf16 0x0000#16 : EReal) = 0 := by pointwise []
  unfold qPad
  by_cases hg : g.val % 2 = 0
  · rw [if_pos hg]
    pointwise []
    by_cases hj : j.val < 64
    · rw [dif_pos hj, if_pos (by omega)]; congr 2; apply Fin.ext; simp only []; omega
    · rw [dif_neg hj, if_neg (by omega)]
  · rw [if_neg hg]
    pointwise []
    by_cases hj : j.val < 64
    · rw [dif_pos hj, if_neg (by omega)]
    · refine (dif_neg hj).trans (Eq.trans ?_ (if_pos (by omega)).symm); exact congrArg (fun y => q (ix2 y x)) (Fin.ext (by simp only []; omega))

set_option maxHeartbeats 1600000 in
/-- Of eight pieces side by side, column `256 r + x` is piece `r`'s column `x`. -/
theorem cat128_at (f : Fin 8 → FVec Ideal S128x256 .bf16) (j : Fin 128) (r : Fin 8) (x : Fin 256) :
    (concatenate S128x2048 1 [⟨S128x256, f 0⟩, ⟨S128x256, f 1⟩, ⟨S128x256, f 2⟩, ⟨S128x256, f 3⟩, ⟨S128x256, f 4⟩, ⟨S128x256, f 5⟩, ⟨S128x256, f 6⟩, ⟨S128x256, f 7⟩] concatenates_S128x256_S128x256_S128x256_S128x256_S128x256_S128x256_S128x256_S128x256_S128x2048_d1 : FVec Ideal S128x2048 .bf16)
        (ix2 j ⟨256 * r.val + x.val, by omega⟩) = f r (ix2 j x) := by
  fin_cases r
  all_goals pointwise []
  all_goals
    repeat first
      | rfl
      | rw [dif_neg (by omega)]
      | rw [dif_pos (by omega)]
      | exact congrArg (fun y => f _ (ix2 _ y)) (Fin.ext (by simp only []; omega))

set_option maxHeartbeats 1600000 in
/-- Of eight pieces side by side, column `256 r + x` is piece `r`'s column `x`. -/
theorem cat384_at (f : Fin 8 → FVec Ideal S384x256 .bf16) (j : Fin 384) (r : Fin 8) (x : Fin 256) :
    (concatenate S384x2048 1 [⟨S384x256, f 0⟩, ⟨S384x256, f 1⟩, ⟨S384x256, f 2⟩, ⟨S384x256, f 3⟩, ⟨S384x256, f 4⟩, ⟨S384x256, f 5⟩, ⟨S384x256, f 6⟩, ⟨S384x256, f 7⟩] concatenates_S384x256_S384x256_S384x256_S384x256_S384x256_S384x256_S384x256_S384x256_S384x2048_d1 : FVec Ideal S384x2048 .bf16)
        (ix2 j ⟨256 * r.val + x.val, by omega⟩) = f r (ix2 j x) := by
  fin_cases r
  all_goals pointwise []
  all_goals
    repeat first
      | rfl
      | rw [dif_neg (by omega)]
      | rw [dif_pos (by omega)]
      | exact congrArg (fun y => f _ (ix2 _ y)) (Fin.ext (by simp only []; omega))

set_option maxHeartbeats 1600000 in
/-- Of eight pieces side by side, column `256 r + x` is piece `r`'s column `x`. -/
theorem cat1_at (f : Fin 8 → FVec Ideal S1x256 .f32) (r : Fin 8) (x : Fin 256) :
    (concatenate S1x2048 1 [⟨S1x256, f 0⟩, ⟨S1x256, f 1⟩, ⟨S1x256, f 2⟩, ⟨S1x256, f 3⟩, ⟨S1x256, f 4⟩, ⟨S1x256, f 5⟩, ⟨S1x256, f 6⟩, ⟨S1x256, f 7⟩] concatenates_S1x256_S1x256_S1x256_S1x256_S1x256_S1x256_S1x256_S1x256_S1x2048_d1 : FVec Ideal S1x2048 .f32)
        (ix2 0 ⟨256 * r.val + x.val, by omega⟩) = f r (ix2 0 x) := by
  fin_cases r
  all_goals pointwise []
  all_goals
    repeat first
      | rfl
      | rw [dif_neg (by omega)]
      | rw [dif_pos (by omega)]
      | exact congrArg (fun y => f _ (ix2 _ y)) (Fin.ext (by simp only []; omega))

/-- The product of the key window with the padded queries, at head `(g, r)`, is that of the head's own 64 rows. -/
theorem sMat_at (K : FVec Ideal S384x256 .bf16) (q : FVec Ideal S2048x256 .bf16) (g : Fin 4) (r : Fin 8) (k : Fin 384) (x : Fin 256) :
    sMat (F := Ideal) K q g (ix2 k ⟨256 * r.val + x.val, by omega⟩)
      = ∑ d : Fin 64, K (ix2 k ⟨64 * g.val + d.val, by omega⟩) * q (ix2 ⟨64 * (head g r).val + d.val, by have := (head g r).isLt; omega⟩ x) := by
  have key : sMat (F := Ideal) K q g (ix2 k ⟨256 * r.val + x.val, by omega⟩)
      = ∑ j : Fin 128, K (ix2 k ⟨128 * (g.val / 2) + j.val, by omega⟩) * qPad (F := Ideal) q g r (ix2 j x) := by
    refine Eq.trans ?_ (Finset.sum_congr rfl fun j _ => by rw [← cat128_at (qPad q g) j r x])
    unfold sMat
    generalize concatenate S128x2048 1 _ _ = B
    pointwise []
  rw [key, Fin.sum_univ_two_halves 64 64 rfl]
  simp only [qPad_at]
  rcases Nat.mod_two_eq_zero_or_one g.val with hg | hg
  · have h2 : ∀ d : Fin 64, ((64 + d.val) / 64 = g.val % 2) = False := fun d => eq_false (by omega)
    have h1 : ∀ d : Fin 64, (d.val / 64 = g.val % 2) = True := fun d => eq_true (by omega)
    simp only [h1, h2, if_true, if_false, mul_zero, Finset.sum_const_zero, add_zero]
    refine Finset.sum_congr rfl fun d _ => ?_
    exact congrArg₂ (fun a b => K (ix2 k a) * q (ix2 b x)) (Fin.ext (by simp only []; omega)) (Fin.ext (by simp only []; omega))
  · have h1 : ∀ d : Fin 64, (d.val / 64 = g.val % 2) = False := fun d => eq_false (by omega)
    have h2 : ∀ d : Fin 64, ((64 + d.val) / 64 = g.val % 2) = True := fun d => eq_true (by omega)
    simp only [h1, h2, if_true, if_false, mul_zero, Finset.sum_const_zero, zero_add]
    refine Finset.sum_congr rfl fun d _ => ?_
    exact congrArg₂ (fun a b => K (ix2 k a) * q (ix2 b x)) (Fin.ext (by simp only []; omega)) (Fin.ext (by simp only []; omega))

end Cert.SwaIdeal.Own

end
-- ==== Proof.Swa.WeightsAt.lean ====
/- The attention kernel's weights and outputs read on the extended reals. -/
module

public import proofs.«01_k».proof.Proof.Swa.HeadsAt
public import proofs.«01_k».proof.Proof.Swa.Consts

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen

/-- A head's scores, read. -/
theorem scoreOf_at (K : FVec Ideal S384x256 .bf16) (q : FVec Ideal S2048x256 .bf16) (dist : FVec Ideal S384x256 .f32) (g : Fin 4) (r : Fin 8) (k : Fin 384) (x : Fin 256) :
    scoreOf (F := Ideal) K q dist g r (ix2 k x)
      = sMat (F := Ideal) K q g (ix2 k ⟨256 * r.val + x.val, by omega⟩) * (Named.named (F := Ideal) κ "slope11" 0x3E38AA3B#32 : EReal)
        - slopeOf (F := Ideal) (head g r) * dist (ix2 k x) := by
  unfold scoreOf
  generalize sMat K q g = S
  pointwise [hScore]

/-- A query's largest score, read. -/
theorem hMax_at (sc : FVec Ideal S384x256 .f32) (k2 : EReal) (x : Fin 256) :
    hMax (F := Ideal) sc k2 (ix2 0 x) = max (Finset.univ.fold max ⊥ fun k : Fin 384 => sc (ix2 k x)) k2 := by
  pointwise [hMax]
  rw [bottom_at]

/-- The unnormalised weights, read. -/
theorem hExp_at (sc : FVec Ideal S384x256 .f32) (mx : FVec Ideal S1x256 .f32) (k : Fin 384) (x : Fin 256) :
    hExp (F := Ideal) sc mx (ix2 k x) = Ideal.exp2 (sc (ix2 k x) - mx (ix2 0 x)) := by
  pointwise [hExp]
  rfl

/-- The normaliser, read. -/
theorem hSum_at (e : FVec Ideal S384x256 .f32) (mx : FVec Ideal S1x256 .f32) (k2 : EReal) (x : Fin 256) :
    hSum (F := Ideal) e mx k2 (ix2 0 x) = (∑ k : Fin 384, e (ix2 k x)) + Ideal.exp2 (k2 - mx (ix2 0 x)) := by
  pointwise [hSum]
  rfl

/-- The outputs of a key head's eight heads, read. -/
theorem oMat_at (vw : FVec Ideal S256x384 .bf16) (w : Fin 8 → FVec Ideal S384x256 .bf16) (l : Fin 8 → FVec Ideal S1x256 .f32) (g : Fin 4)
    (d : Fin 64) (r : Fin 8) (x : Fin 256) :
    oMat (F := Ideal) vw w l g (ix2 d ⟨256 * r.val + x.val, by omega⟩)
      = (∑ k : Fin 384, vw (ix2 ⟨64 * g.val + d.val, by omega⟩ k) * w r (ix2 k x)) * Ideal.div 1 (l r (ix2 0 x)) := by
  have h1 := fun k => cat384_at w k r x
  have h2 := cat1_at l r x
  unfold oMat
  revert h1 h2
  generalize concatenate S384x2048 1 _ _ = B
  generalize concatenate S1x2048 1 _ _ = C
  intro h1 h2
  simp only [← h1, ← h2]
  pointwise []

/-- The first head of a stored pair. -/
theorem pairOf_at0 (o : FVec Ideal S64x2048 .f32) (r0 r1 : Fin 8) (x : Fin 256) (d : Fin 64) :
    pairOf (F := Ideal) o r0 r1 (ix2 x ⟨d.val, by omega⟩) = o (ix2 d ⟨256 * r0.val + x.val, by omega⟩) := by
  pointwise [pairOf]

/-- The second head of a stored pair. -/
theorem pairOf_at1 (o : FVec Ideal S64x2048 .f32) (r0 r1 : Fin 8) (x : Fin 256) (d : Fin 64) :
    pairOf (F := Ideal) o r0 r1 (ix2 x ⟨64 + d.val, by omega⟩) = o (ix2 d ⟨256 * r1.val + x.val, by omega⟩) := by
  pointwise [pairOf]

end Cert.SwaIdeal.Own

end
-- ==== Proof.Swa.Softmax.lean ====
/- A softmax with a sink over a window of positions, on the extended reals: the shift and the base do not matter. -/
module

public import Idealize.ShloMosaic.Lib.Pointwise

@[expose] public section

set_option maxRecDepth 16384

noncomputable section

namespace Cert.Attention

open Idealize.ShloMosaic

/-- A sum of extended reals times a nonnegative real. -/
theorem sum_mul_real {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals, as extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greatest of a real and of finitely many scores, none of them `⊤`, is a real. -/
theorem max_real {ι : Type*} (S : Finset ι) (s : ι → EReal) (hs : ∀ k ∈ S, s k ≠ ⊤) (n : ℝ) : ∃ μ : ℝ, max (S.fold max ⊥ s) (n : EReal) = (μ : EReal) := by
  have h1 : max (S.fold max ⊥ s) (n : EReal) ≠ ⊤ := by
    refine ne_of_lt (max_lt ?_ (EReal.coe_lt_top n))
    exact (Finset.fold_max_lt _).mpr ⟨bot_lt_top, fun x hx => lt_top_iff_ne_top.mpr (hs x hx)⟩
  have h2 : max (S.fold max ⊥ s) (n : EReal) ≠ ⊥ := ne_of_gt (lt_of_lt_of_le (EReal.bot_lt_coe n) (le_max_right _ _))
  exact ⟨_, (EReal.coe_toReal h1 h2).symm⟩

theorem two_rpow (x M : ℝ) : Real.rpow 2 (x * (Real.log 2)⁻¹ - M) = Real.exp x * Real.rpow 2 (-M) := by
  have hl : Real.log 2 ≠ 0 := (Real.log_pos (by norm_num)).ne'
  show (2 : ℝ) ^ (x * (Real.log 2)⁻¹ - M) = Real.exp x * (2 : ℝ) ^ (-M)
  rw [sub_eq_add_neg, Real.rpow_add (by norm_num), Real.rpow_def_of_pos (by norm_num) (x * (Real.log 2)⁻¹)]
  congr 2
  field_simp

/-- The unnormalised weight of a position: nothing outside the window. -/
def weight (v : Prop) [Decidable v] (a : ℝ) : ℝ := if v then Real.exp a else 0

theorem weight_nonneg (v : Prop) [Decidable v] (a : ℝ) : 0 ≤ weight v a := by unfold weight; split_ifs; exacts [(Real.exp_pos a).le, le_rfl]

theorem exp2_score (v : Prop) [Decidable v] (a M : ℝ) :
    Ideal.exp2 ((if v then ((a * (Real.log 2)⁻¹ : ℝ) : EReal) else ⊥) - (M : EReal)) = ((weight v a * Real.rpow 2 (-M) : ℝ) : EReal) := by
  unfold weight
  split_ifs
  · rw [← EReal.coe_sub, Ideal.exp2_coe, two_rpow]
  · rw [EReal.bot_sub, Ideal.exp2_bot]; simp

theorem exp_score (v : Prop) [Decidable v] (a M : ℝ) :
    Ideal.exp ((if v then (a : EReal) else ⊥) - (M : EReal)) = ((weight v a * Real.exp (-M) : ℝ) : EReal) := by
  unfold weight
  split_ifs
  · rw [← EReal.coe_sub, Ideal.exp_coe, sub_eq_add_neg, Real.exp_add]
  · rw [EReal.bot_sub, Ideal.exp_bot]; simp

/-- A softmax with a sink, over a window that holds every position not masked: weights in base two, normalised after the
    product with the values, are the plain softmax's over all the positions. -/
theorem window_softmax {A B : ℕ} (w : Fin A → Fin B) (hw : Function.Injective w) (valid : Fin B → Prop) [DecidablePred valid]
    (hv : ∀ p, valid p → ∃ k, w k = p) (a : Fin B → ℝ) (n : ℝ) (V : Fin B → EReal) (M M2 : ℝ) :
    (∑ k, V (w k) * Ideal.exp2 ((if valid (w k) then ((a (w k) * (Real.log 2)⁻¹ : ℝ) : EReal) else ⊥) - (M2 : EReal)))
        * Ideal.div 1 ((∑ k, Ideal.exp2 ((if valid (w k) then ((a (w k) * (Real.log 2)⁻¹ : ℝ) : EReal) else ⊥) - (M2 : EReal)))
            + Ideal.exp2 (((n * (Real.log 2)⁻¹ : ℝ) : EReal) - (M2 : EReal)))
      = ∑ p, V p * Ideal.div (Ideal.exp ((if valid p then (a p : EReal) else ⊥) - (M : EReal)))
          ((∑ p, Ideal.exp ((if valid p then (a p : EReal) else ⊥) - (M : EReal))) + Ideal.exp ((n : EReal) - (M : EReal))) := by
  have hsum : ∀ f : Fin B → EReal, (∀ p, ¬valid p → f p = 0) → ∑ k, f (w k) = ∑ p, f p := by
    intro f hf
    rw [← Finset.sum_image (s := Finset.univ) (g := w) (f := f) (fun x _ y _ h => hw h)]
    refine Finset.sum_subset (Finset.subset_univ _) fun p _ hp => hf p fun hvp => hp ?_
    obtain ⟨k, rfl⟩ := hv p hvp
    exact Finset.mem_image_of_mem w (Finset.mem_univ k)
  have hn2 := exp2_score True n M2
  have hn := exp_score True n M
  rw [if_pos trivial] at hn2 hn
  simp only [exp2_score, exp_score, hn2, hn, sum_coe, ← EReal.coe_add]
  set c2 := Real.rpow 2 (-M2) with hc2
  set c1 := Real.exp (-M) with hc1
  have hc2p : 0 < c2 := Real.rpow_pos_of_pos (by norm_num) _
  have hc1p : 0 < c1 := Real.exp_pos _
  set N := weight True n with hN
  have hNp : 0 < N := by rw [hN, weight, if_pos trivial]; exact Real.exp_pos n
  have hZ : (∑ k, weight (valid (w k)) (a (w k))) = ∑ p, weight (valid p) (a p) := by
    have h := hsum (fun p => ((weight (valid p) (a p) : ℝ) : EReal)) (fun p hp => by simp [weight, hp])
    rw [sum_coe, sum_coe] at h
    exact_mod_cast h
  set Z := ∑ p, weight (valid p) (a p) with hZd
  have hZn : 0 ≤ Z := Finset.sum_nonneg fun p _ => weight_nonneg _ _
  have e2 : (∑ k, weight (valid (w k)) (a (w k)) * c2) + N * c2 = (Z + N) * c2 := by rw [← Finset.sum_mul, hZ]; ring
  have e1 : (∑ p, weight (valid p) (a p) * c1) + N * c1 = (Z + N) * c1 := by rw [← Finset.sum_mul]; ring
  have hZN : 0 < Z + N := by linarith
  rw [e2, e1, Ideal.div_coe (mul_pos hZN hc2p).ne', one_mul, sum_mul_real _ _ _ (by positivity)]
  have key : ∀ (p : Fin B) (c : ℝ), 0 < c → ((weight (valid p) (a p) * c : ℝ) : EReal) * ((1 / ((Z + N) * c) : ℝ) : EReal) = ((weight (valid p) (a p) / (Z + N) : ℝ) : EReal) := by
    intro p c hc
    rw [← EReal.coe_mul]
    congr 1
    field_simp
  have l : ∀ k, V (w k) * ((weight (valid (w k)) (a (w k)) * c2 : ℝ) : EReal) * ((1 / ((Z + N) * c2) : ℝ) : EReal)
      = V (w k) * ((weight (valid (w k)) (a (w k)) / (Z + N) : ℝ) : EReal) := fun k => by rw [mul_assoc, key _ _ hc2p]
  rw [Finset.sum_congr rfl fun k _ => l k]
  refine (hsum (fun p => V p * ((weight (valid p) (a p) / (Z + N) : ℝ) : EReal)) fun p hp => by simp [weight, hp]).trans ?_
  refine Finset.sum_congr rfl fun p _ => ?_
  rw [Ideal.div_coe (mul_pos hZN hc1p).ne', key _ _ hc1p]

/-- The mask of a distance: at least nothing and less than the window. -/
theorem mask_at {α : Type} (D : BitVec 32) (u v : α) :
    Scalar.select (IntOp.andi (IntOp.cmpi .sge D 0#32) (IntOp.cmpi .slt D 128#32)) u v = if 0 ≤ D.toInt ∧ D.toInt < 128 then u else v := by
  unfold Scalar.select
  congr 1
  simp only [IntOp.andi, IntOp.cmpi, BitVec.sle, BitVec.slt, eq_iff_iff]
  rw [show (0#32 : BitVec 32).toInt = 0 from rfl, show (128#32 : BitVec 32).toInt = 128 from rfl]
  by_cases h1 : 0 ≤ D.toInt <;> by_cases h2 : D.toInt < 128 <;> simp [h1, h2]

theorem toInt_small (x y : ℕ) (hx : x < 100000) (hy : y < 100000) :
    (IntOp.subi (BitVec.ofNat 32 x) (BitVec.ofNat 32 y)).toInt = (x : ℤ) - (y : ℤ) := by
  unfold IntOp.subi
  rw [BitVec.toInt_eq_toNat_bmod, BitVec.toNat_sub, BitVec.toNat_ofNat, BitVec.toNat_ofNat]
  unfold Int.bmod
  dsimp only
  split_ifs <;> omega

end Cert.Attention

end
-- ==== Proof.Swa.BlockAt.lean ====
/- What a point of the attention kernel stores, entry by entry. -/
module

public import proofs.«01_k».proof.Proof.Swa.Carried
public import proofs.«01_k».proof.Proof.Swa.WeightsAt
public import proofs.«01_k».proof.Proof.Swa.Offsets
public import proofs.«01_k».proof.Proof.Swa.Softmax

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen Cert.Attention

/-- The tiles laid side by side: column `64 (8 g + r) + d` of query `x` is head `(g, r)`'s component `d`. -/
theorem tiles_at (kw : FVec Ideal S384x256 .bf16) (vw : FVec Ideal S256x384 .bf16) (q : FVec Ideal S2048x256 .bf16) (dist : FVec Ideal S384x256 .f32)
    (sk : Fin 32 → EReal) (x : Fin 256) (g : Fin 4) (r : Fin 8) (d : Fin 64) :
    View.canon (tilesOf (F := Ideal) kw vw q dist sk) (ix2 x ⟨64 * (8 * g.val + r.val) + d.val, by omega⟩)
      = oMat (F := Ideal) vw (wOf kw q dist sk g) (lOf kw q dist sk g) g (ix2 d ⟨256 * r.val + x.val, by omega⟩) := by
  unfold tilesOf
  refine View.canon_ofFn_unit_eq_of_forall _ _ _ _ _ _ ?_ ?_
  · refine ⟨⟨15 - (4 * g.val + r.val / 2), by omega⟩, fun a => ?_⟩
    fin_cases a
    · show 0 ≤ x.val ∧ x.val < 0 + 256; omega
    · show 128 * (15 - (15 - (4 * g.val + r.val / 2))) ≤ 64 * (8 * g.val + r.val) + d.val ∧ 64 * (8 * g.val + r.val) + d.val < 128 * (15 - (15 - (4 * g.val + r.val / 2))) + 128; omega
  · intro k z hz
    have h0 : x.val = 0 + (z 0).val := hz 0
    have h1 : 64 * (8 * g.val + r.val) + d.val = 128 * (15 - k.val) + (z 1).val := hz 1
    have hz1 : (z 1).val < 128 := (z 1).isLt
    have hk : 15 - k.val = 4 * g.val + r.val / 2 := by omega
    have hg : (⟨(15 - k.val) / 4, by omega⟩ : Fin 4) = g := Fin.ext (by simp only []; omega)
    rw [hg]
    unfold tileOf
    by_cases hr : r.val % 2 = 0
    · have e0 : (⟨2 * ((15 - k.val) % 4), by omega⟩ : Fin 8) = r := Fin.ext (by simp only []; omega)
      have ez : z = ix2 x ⟨d.val, by omega⟩ := by
        funext a; fin_cases a <;> apply Fin.ext
        · show (z 0).val = x.val; omega
        · show (z 1).val = d.val; omega
      rw [e0, ez]
      exact pairOf_at0 _ r _ x d
    · have e0 : (⟨2 * ((15 - k.val) % 4) + 1, by omega⟩ : Fin 8) = r := Fin.ext (by simp only []; omega)
      have ez : z = ix2 x ⟨64 + d.val, by omega⟩ := by
        funext a; fin_cases a <;> apply Fin.ext
        · show (z 0).val = x.val; omega
        · show (z 1).val = 64 + d.val; omega
      rw [e0, ez]
      exact pairOf_at1 _ _ r x d

/-- The first position of the key window of query block `i`. -/
def startOf (i : Fin 8) : ℕ := 128 * (2 * i.val - 1)

theorem keysWin_at (i : grid0.Coords) (X : FVec Ideal S2048x512 .f32) (k : Fin 384) (j : Fin 256) :
    keysWin i X (ix2 k j) = X (ix2 ⟨startOf (i 1) + k.val, by have h : (i 1).val < 8 := (i 1).isLt; unfold startOf; omega⟩ ⟨j.val, by omega⟩) := by
  unfold keysWin keysR
  refine congrArg X ?_
  funext a; fin_cases a <;> apply Fin.ext
  · show k0_off1 i 0 + 1 * k.val = startOf (i 1) + k.val
    rw [off1_eq]; show 128 * (2 * (i 1).val - 1) + 1 * k.val = _; unfold startOf; omega
  · show k0_off1 i 1 + 1 * j.val = j.val
    rw [off1_eq]; show 0 + 1 * j.val = _; omega

theorem valsWin_at (i : grid0.Coords) (X : FVec Ideal S2048x512 .f32) (r : Fin 3) (a : Fin 256) (k : Fin 128) :
    valsWin i X r (ix3 0 a k) = X (ix2 ⟨startOf (i 1) + (128 * r.val + k.val), by have h : (i 1).val < 8 := (i 1).isLt; unfold startOf; omega⟩ ⟨256 + a.val, by omega⟩) := by
  unfold valsWin valsR
  refine congrArg X ?_
  funext b; fin_cases b <;> apply Fin.ext
  · show 128 * (k0_off2 i (BitVec.ofNat 32 r.val) 0 + 1 * 0) + (k0_off2 i (BitVec.ofNat 32 r.val) 2 + 1 * k.val) = _
    rw [off2_eq]; show 128 * ((2 * (i 1).val - 1 + r.val) + 1 * 0) + (0 + 1 * k.val) = startOf (i 1) + (128 * r.val + k.val); unfold startOf; omega
  · show 256 + (k0_off2 i (BitVec.ofNat 32 r.val) 1 + 1 * a.val) = 256 + a.val
    rw [off2_eq]; show 256 + (0 + 1 * a.val) = _; omega

theorem vw_at (i : grid0.Coords) (X : FVec Ideal S2048x512 .f32) (a : Fin 256) (k : Fin 384) :
    k0_pay24 (F := Ideal) (k0_pay22 (valsWin i X 0)) (k0_pay23 (valsWin i X 1)) (valsWin i X 2) (ix2 a k)
      = X (ix2 ⟨startOf (i 1) + k.val, by have h : (i 1).val < 8 := (i 1).isLt; unfold startOf; omega⟩ ⟨256 + a.val, by omega⟩) := by
  pointwise [k0_pay24, k0_pay22, k0_pay23]
  simp only [valsWin_at]
  by_cases h1 : k.val < 128
  · rw [dif_pos h1]
    exact congrArg (fun y => X (ix2 y _)) (Fin.ext (by show startOf (i 1) + (128 * 0 + k.val) = _; simp only []; omega))
  · rw [dif_neg h1]
    by_cases h2 : k.val - 128 < 128
    · rw [dif_pos h2]
      exact congrArg (fun y => X (ix2 y _)) (Fin.ext (by show startOf (i 1) + (128 * 1 + (k.val - 128)) = startOf (i 1) + k.val; omega))
    · rw [dif_neg h2]
      exact congrArg (fun y => X (ix2 y _)) (Fin.ext (by show startOf (i 1) + (128 * 2 + (k.val - 128 - 128)) = startOf (i 1) + k.val; omega))

theorem start_word : ∀ i : Fin 8, Scalar.muli (Scalar.maxsi (Scalar.subi (Scalar.muli (BitVec.ofNat 32 i.val) 2#32) 1#32) 0#32) 128#32 = BitVec.ofNat 32 (startOf i) := by
  decide

theorem query_word : ∀ i : Fin 8, Scalar.muli (BitVec.ofNat 32 i.val) 256#32 = BitVec.ofNat 32 (256 * i.val) := by
  decide

/-- The distances of a point's queries from its window's keys, `⊤` where a key is masked. -/
theorem dist_at (i : grid0.Coords) (k : Fin 384) (x : Fin 256) :
    k0_pay21 (F := Ideal) i (ix2 k x)
      = if startOf (i 1) + k.val ≤ 256 * (i 1).val + x.val ∧ 256 * (i 1).val + x.val < startOf (i 1) + k.val + 128
        then (((((256 * (i 1).val + x.val : ℕ) : ℤ) - ((startOf (i 1) + k.val : ℕ) : ℤ) : ℤ) : ℝ) : EReal) else ⊤ := by
  have hi : (i 1).val < 8 := (i 1).isLt
  have hs : startOf (i 1) < 2048 := by unfold startOf; omega
  pointwise [k0_pay21]
  rw [mask_at, far_at]
  rw [show Scalar.muli (Scalar.maxsi (Scalar.subi (Scalar.muli (BitVec.ofNat 32 (i 1).val) 2#32) 1#32) 0#32) 128#32 = BitVec.ofNat 32 (startOf (i 1)) from start_word (i 1),
    show Scalar.muli (BitVec.ofNat 32 (i 1).val) 256#32 = BitVec.ofNat 32 (256 * (i 1).val) from query_word (i 1)]
  unfold IntOp.addi
  rw [← BitVec.ofNat_add, ← BitVec.ofNat_add, toInt_small _ _ (by omega) (by omega)]
  have e : (0 ≤ ((256 * (i 1).val + x.val : ℕ) : ℤ) - ((startOf (i 1) + k.val : ℕ) : ℤ) ∧ ((256 * (i 1).val + x.val : ℕ) : ℤ) - ((startOf (i 1) + k.val : ℕ) : ℤ) < 128)
      ↔ (startOf (i 1) + k.val ≤ 256 * (i 1).val + x.val ∧ 256 * (i 1).val + x.val < startOf (i 1) + k.val + 128) := by omega
  refine (if_congr e ?_ rfl)
  show (((IntOp.subi _ _).toInt : ℝ) : EReal) = _
  rw [toInt_small _ _ (by omega) (by omega)]

theorem queries_at (arg3 : Memref sig .tc .vmem S2048x256 .bf16) (harg3 : arg3.IsWhole) (x1 : Vec Ideal S2048x256 .bf16) : queriesOf (F := Ideal) arg3 harg3 x1 = x1 := by
  funext j
  unfold queriesOf
  refine (harg3.readAt_unread x1 _ _).trans (congrArg x1 ?_)
  funext a; fin_cases a <;> apply Fin.ext
  · show 0 + 1 * (j 0).val = (j 0).val; omega
  · show 0 + 1 * (j 1).val = (j 1).val; omega

theorem sinks_at (arg2 : Memref sig .tc .smem S32 .f32) (harg2 : arg2.IsWhole) (x0 : Vec Ideal S32 .f32) (h : Fin 32) : sinksOf (F := Ideal) arg2 harg2 x0 h = x0 (ix1 h) := by
  unfold sinksOf
  refine (harg2.readAt_unread x0 _ _).trans (congrArg x0 ?_)
  funext a; fin_cases a; apply Fin.ext
  show h.val + 1 * 0 = h.val; omega

end Cert.SwaIdeal.Own

end
-- ==== Proof.Swa.Plain.lean ====
/- The plain attention, stage by stage, read on the extended reals. -/
module

public import proofs.«01_k».proof.Proof.Gen.SwaRefIdeal.Run
public import proofs.«01_k».proof.Proof.Swa.Softmax

@[expose] public section

set_option maxRecDepth 16384

noncomputable section

namespace Cert.SwaRefIdeal.Own

open Idealize.ShloMosaic Idealize.ShloMosaic.TcCoe Idealize.ShloMosaic.Tactic Idealize.ShloMosaic.StableHlo
open Cert.SwaRefIdeal Cert.SwaRefIdeal.Gen Cert.Attention

/-- Queries by batch, position, key head, head of the group, component. -/
def query (A0 : FVec Ideal S2048x16384 .bf16) : FVec Ideal S8x2048x4x8x64 .f32 :=
  shapeCast _ (transpose S16384x2048 [1, 0] (extf .f32 A0 bitsLt_bf16_f32) transposes_S2048x16384_S16384x2048_1_0) shapeCasts_S16384x2048_S8x2048x4x8x64

/-- Keys by batch, position, key head, component. -/
def key (A1 : FVec Ideal S16384x512 .f32) : FVec Ideal S8x2048x4x64 .f32 :=
  shapeCast _ (extractStridedSlice S8x2048x1x4x64 ![0, 0, 0, 0, 0] (shapeCast _ A1 shapeCasts_S16384x512_S8x2048x2x4x64) slices_S8x2048x2x4x64_S8x2048x1x4x64_0_0_0_0_0) shapeCasts_S8x2048x1x4x64_S8x2048x4x64

/-- Values by batch, position, key head, component. -/
def val (A1 : FVec Ideal S16384x512 .f32) : FVec Ideal S8x2048x4x64 .f32 :=
  shapeCast _ (extractStridedSlice S8x2048x1x4x64 ![0, 0, 1, 0, 0] (shapeCast _ A1 shapeCasts_S16384x512_S8x2048x2x4x64) slices_S8x2048x2x4x64_S8x2048x1x4x64_0_0_1_0_0) shapeCasts_S8x2048x1x4x64_S8x2048x4x64

/-- Distance of a query (row) from a key (column). -/
def dist : IVec S2048x2048 32 :=
  subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))

/-- The table of slopes by key head and head of the group. -/
def slopes : FVec Ideal S4x8 .f32 := shapeCast _ ((fun i => FloatOps.ofBits .f32 (lit0 (S32.rowMajor i))) : FVec Ideal S32 .f32) shapeCasts_S32_S4x8

/-- Scores with the distance's share taken away, before the mask. -/
def raw (A0 : FVec Ideal S2048x16384 .bf16) (A1 : FVec Ideal S16384x512 .f32) : FVec Ideal S8x4x8x2048x2048 .f32 :=
  subf (mulf (transpose S8x4x8x2048x2048 [0, 1, 4, 3, 2] (Host.dotGeneral dot_S8x2048x4x64_S8x2048x4x8x64_S8x4x2048x2048x8_3_4_1_13_02_02 none (key A1) (query A0)) transposes_S8x4x2048x2048x8_S8x4x8x2048x2048_0_1_4_3_2) (broadcastInDim S8x4x8x2048x2048 ![] bcast_S_S8x4x8x2048x2048 (constant S_ .f32 0x3E000000#32)))
    (broadcastInDim S8x4x8x2048x2048 ![0, 1, 2, 3, 4] bcast_S1x4x8x2048x2048_S8x4x8x2048x2048_0_1_2_3_4 (broadcastInDim S1x4x8x2048x2048 ![1, 2, 3, 4] bcast_S4x8x2048x2048_S1x4x8x2048x2048_1_2_3_4 (mulf (broadcastInDim S4x8x2048x2048 ![0, 1, 2, 3] bcast_S4x8x1x1_S4x8x2048x2048_0_1_2_3 (broadcastInDim S4x8x1x1 ![0, 1] bcast_S4x8_S4x8x1x1_0_1 slopes)) (broadcastInDim S4x8x2048x2048 ![0, 1, 2, 3] bcast_S1x1x2048x2048_S4x8x2048x2048_0_1_2_3 (broadcastInDim S1x1x2048x2048 ![2, 3] bcast_S2048x2048_S1x1x2048x2048_2_3 (sitofp .f32 dist))))))

/-- Scores, masked. -/
def score (raw : FVec Ideal S8x4x8x2048x2048 .f32) : FVec Ideal S8x4x8x2048x2048 .f32 :=
  select (broadcastInDim S8x4x8x2048x2048 ![3, 4] bcast_S2048x2048_S8x4x8x2048x2048_3_4 (andi (cmpi .sge dist (broadcastInDim S2048x2048 ![] bcast_S_S2048x2048 (constantI S_ 32 0#32))) (cmpi .slt dist (broadcastInDim S2048x2048 ![] bcast_S_S2048x2048 (constantI S_ 32 128#32)))))
    raw (broadcastInDim S8x4x8x2048x2048 ![] bcast_S_S8x4x8x2048x2048 (id (constant S_ .f32 0xFF800000#32)))

/-- Sinks by key head and head of the group. -/
def sink (A2 : FVec Ideal S32 .f32) : FVec Ideal S8x4x8x2048x1 .f32 :=
  broadcastInDim S8x4x8x2048x1 ![0, 1, 2, 3, 4] bcast_S1x4x8x1x1_S8x4x8x2048x1_0_1_2_3_4 (broadcastInDim S1x4x8x1x1 ![1, 2] bcast_S4x8_S1x4x8x1x1_1_2 (shapeCast _ A2 shapeCasts_S32_S4x8))

/-- The largest score. -/
def largest (s : FVec Ideal S8x4x8x2048x2048 .f32) : FVec Ideal S8x4x8x2048 .f32 :=
  Host.reduce FloatOps.maximumf s (constant S_ .f32 0xFF800000#32) reducesTo_S8x4x8x2048x2048_S8x4x8x2048_d4 h_S_

/-- The larger of the largest score and the sink. -/
def top (R : FVec Ideal S8x4x8x2048 .f32) (n : FVec Ideal S8x4x8x2048x1 .f32) : FVec Ideal S8x4x8x2048x1 .f32 :=
  maximumf (broadcastInDim S8x4x8x2048x1 ![0, 1, 2, 3] bcast_S8x4x8x2048_S8x4x8x2048x1_0_1_2_3 R) n

/-- Exponentials of the scores. -/
def expo (s : FVec Ideal S8x4x8x2048x2048 .f32) (M : FVec Ideal S8x4x8x2048x1 .f32) : FVec Ideal S8x4x8x2048x2048 .f32 :=
  Host.exp (subf s (broadcastInDim S8x4x8x2048x2048 ![0, 1, 2, 3, 4] bcast_S8x4x8x2048x1_S8x4x8x2048x2048_0_1_2_3_4 M))

/-- The normaliser. -/
def total (e : FVec Ideal S8x4x8x2048x2048 .f32) (n M : FVec Ideal S8x4x8x2048x1 .f32) : FVec Ideal S8x4x8x2048x1 .f32 :=
  addf (broadcastInDim S8x4x8x2048x1 ![0, 1, 2, 3] bcast_S8x4x8x2048_S8x4x8x2048x1_0_1_2_3 (Host.reduceAdd e (constant S_ .f32 0x00000000#32) reducesTo_S8x4x8x2048x2048_S8x4x8x2048_d4 h_S_)) (Host.exp (subf n M))

/-- The attention's weights. -/
def prob (e : FVec Ideal S8x4x8x2048x2048 .f32) (l : FVec Ideal S8x4x8x2048x1 .f32) : FVec Ideal S8x4x8x2048x2048 .f32 :=
  Host.divf e (broadcastInDim S8x4x8x2048x2048 ![0, 1, 2, 3, 4] bcast_S8x4x8x2048x1_S8x4x8x2048x2048_0_1_2_3_4 l)

/-- The outputs laid out as the result. -/
def laid (v : FVec Ideal S8x2048x4x64 .f32) (p : FVec Ideal S8x4x8x2048x2048 .f32) : FVec Ideal S16384x2048 .bf16 :=
  truncf .bf16 (shapeCast _ (transpose S8x2048x4x8x64 [0, 4, 1, 3, 2] (Host.dotGeneral dot_S8x2048x4x64_S8x4x8x2048x2048_S8x4x64x8x2048_1_4_3_23_02_01 none v p) transposes_S8x4x64x8x2048_S8x2048x4x8x64_0_4_1_3_2) shapeCasts_S8x2048x4x8x64_S16384x2048) bitsLt_bf16_f32

/-- The attention of arrays. -/
def attend (A0 : FVec Ideal S2048x16384 .bf16) (A1 : FVec Ideal S16384x512 .f32) (A2 : FVec Ideal S32 .f32) : FVec Ideal S16384x2048 .bf16 :=
  laid (val A1) (prob (expo (score (raw A0 A1)) (top (largest (score (raw A0 A1))) (sink A2)))
    (total (expo (score (raw A0 A1)) (top (largest (score (raw A0 A1))) (sink A2))) (sink A2) (top (largest (score (raw A0 A1))) (sink A2))))

theorem out_eq (m : (ℓ : Loc nD τ sig) → Buf (Elt Ideal) ℓ) (c : Dev nD) :
    Value.res_out0 (F := Ideal) m c = attend (m ((c.tc : Thread nD τ).loc main_arg0)) (m ((c.tc : Thread nD τ).loc main_arg1)) (m ((c.tc : Thread nD τ).loc main_arg2)) := rfl

theorem query_at (A0 : FVec Ideal S2048x16384 .bf16) (b : Fin 8) (q : Fin 2048) (g : Fin 4) (r : Fin 8) (d : Fin 64) :
    query A0 (ix5 b q g r d) = A0 (ix2 ⟨64 * (8 * g.val + r.val) + d.val, by omega⟩ ⟨2048 * b.val + q.val, by omega⟩) := by
  pointwise [query]
  exact congrArg A0 (congrArg₂ ix2 (Fin.ext (by simp only []; omega)) (Fin.ext (by simp only []; omega)))

theorem key_at (A1 : FVec Ideal S16384x512 .f32) (b : Fin 8) (k : Fin 2048) (g : Fin 4) (d : Fin 64) :
    key A1 (ix4 b k g d) = A1 (ix2 ⟨2048 * b.val + k.val, by omega⟩ ⟨64 * g.val + d.val, by omega⟩) := by
  pointwise [key]
  exact congrArg A1 (congrArg₂ ix2 (Fin.ext (by simp only []; omega)) (Fin.ext (by simp only []; omega)))

theorem val_at (A1 : FVec Ideal S16384x512 .f32) (b : Fin 8) (k : Fin 2048) (g : Fin 4) (d : Fin 64) :
    val A1 (ix4 b k g d) = A1 (ix2 ⟨2048 * b.val + k.val, by omega⟩ ⟨256 + (64 * g.val + d.val), by omega⟩) := by
  pointwise [val]
  exact congrArg A1 (congrArg₂ ix2 (Fin.ext (by simp only []; omega)) (Fin.ext (by simp only []; omega)))

theorem dist_at (q k : Fin 2048) : dist (ix2 q k) = IntOp.subi (BitVec.ofNat 32 q.val) (BitVec.ofNat 32 k.val) := by
  pointwise [dist]

theorem row_at : ∀ h : Fin 32, S32.rowMajor (ix1 h) = h := fun h => Fin.ext (Shape.rowMajor_val_one _)

theorem slopes_at (g : Fin 4) (r : Fin 8) : slopes (ix2 g r) = Ideal.ofBits .f32 (lit0 ⟨8 * g.val + r.val, by omega⟩) := by
  pointwise [slopes]
  refine congrArg (fun i => Ideal.ofBits .f32 (lit0 i)) ((row_at _).trans (Fin.ext ?_))
  simp only []
  omega

/-- A position is masked unless it is at most a query's own and less than 128 before it. -/
def seen (q k : Fin 2048) : Prop := k.val ≤ q.val ∧ q.val < k.val + 128

instance (q k : Fin 2048) : Decidable (seen q k) := inferInstanceAs (Decidable (_ ∧ _))

theorem raw_at (A0 : FVec Ideal S2048x16384 .bf16) (A1 : FVec Ideal S16384x512 .f32) (b : Fin 8) (g : Fin 4) (r : Fin 8) (q k : Fin 2048) :
    raw A0 A1 (ix5 b g r q k) = (∑ d : Fin 64, key A1 (ix4 b k g d) * query A0 (ix5 b q g r d)) * Ideal.ofBits .f32 0x3E000000#32
      - slopes (ix2 g r) * ((((q.val : ℤ) - (k.val : ℤ) : ℤ) : ℝ) : EReal) := by
  have hd : FloatOps.sitofp (F := Ideal) .f32 (dist (ix2 q k)) = ((((q.val : ℤ) - (k.val : ℤ) : ℤ) : ℝ) : EReal) := by
    rw [dist_at]
    show (((IntOp.subi _ _).toInt : ℝ) : EReal) = _
    rw [toInt_small _ _ (by omega) (by omega)]
  rw [← hd]
  unfold raw
  generalize key A1 = K
  generalize query A0 = Q
  generalize slopes = S
  generalize dist = D
  pointwise []

theorem score_at (R : FVec Ideal S8x4x8x2048x2048 .f32) (b : Fin 8) (g : Fin 4) (r : Fin 8) (q k : Fin 2048) :
    score R (ix5 b g r q k) = if seen q k then R (ix5 b g r q k) else Ideal.ofBits .f32 0xFF800000#32 := by
  have hd := dist_at q k
  unfold score
  revert hd
  generalize dist = D
  intro hd
  pointwise []
  rw [hd, mask_at, toInt_small _ _ (by omega) (by omega)]
  refine if_congr ?_ rfl rfl
  unfold seen
  omega

theorem sink_at (A2 : FVec Ideal S32 .f32) (b : Fin 8) (g : Fin 4) (r : Fin 8) (q : Fin 2048) :
    sink A2 (ix5 b g r q 0) = A2 (ix1 ⟨8 * g.val + r.val, by omega⟩) := by
  pointwise [sink]
  exact congrArg A2 (congrArg ix1 (Fin.ext (by simp only []; omega)))

theorem top_at (R : FVec Ideal S8x4x8x2048 .f32) (n : FVec Ideal S8x4x8x2048x1 .f32) (b : Fin 8) (g : Fin 4) (r : Fin 8) (q : Fin 2048) :
    top R n (ix5 b g r q 0) = max (R (ix4 b g r q)) (n (ix5 b g r q 0)) := by
  pointwise [top]

/-- A largest element or a real, no element being `⊤`, is a real. -/
theorem reduce_real {s t u : Shape} {axes : List (Fin s.rank)} (x : FVec Ideal s .f32) (init : FVec Ideal u .f32) (h : s.ReducesTo axes t) (hu : 0 < u.numel)
    (hx : ∀ i, x i ≠ ⊤) (hi : ∀ i, init i = ⊥) (j : t.Idx) (ν : ℝ) : ∃ μ : ℝ, max (Host.reduce FloatOps.maximumf x init h hu j) (ν : EReal) = (μ : EReal) := by
  rw [Host.reduce_eq_fold, hi]
  exact max_real _ _ (fun i _ => hx i) ν

theorem largest_real (s : FVec Ideal S8x4x8x2048x2048 .f32) (hs : ∀ i, s i ≠ ⊤) (hbot : Ideal.ofBits .f32 0xFF800000#32 = ⊥) (j : S8x4x8x2048.Idx) (ν : ℝ) :
    ∃ μ : ℝ, max (largest s j) (ν : EReal) = (μ : EReal) :=
  reduce_real s _ _ _ hs (fun _ => hbot) j ν

theorem expo_at (s : FVec Ideal S8x4x8x2048x2048 .f32) (M : FVec Ideal S8x4x8x2048x1 .f32) (b : Fin 8) (g : Fin 4) (r : Fin 8) (q k : Fin 2048) :
    expo s M (ix5 b g r q k) = Ideal.exp (s (ix5 b g r q k) - M (ix5 b g r q 0)) := by
  pointwise [expo]

theorem total_at (e : FVec Ideal S8x4x8x2048x2048 .f32) (n M : FVec Ideal S8x4x8x2048x1 .f32) (b : Fin 8) (g : Fin 4) (r : Fin 8) (q : Fin 2048) :
    total e n M (ix5 b g r q 0) = (∑ k : Fin 2048, e (ix5 b g r q k)) + Ideal.exp (n (ix5 b g r q 0) - M (ix5 b g r q 0)) := by
  pointwise [total]

theorem prob_at (e : FVec Ideal S8x4x8x2048x2048 .f32) (l : FVec Ideal S8x4x8x2048x1 .f32) (b : Fin 8) (g : Fin 4) (r : Fin 8) (q k : Fin 2048) :
    prob e l (ix5 b g r q k) = Ideal.div (e (ix5 b g r q k)) (l (ix5 b g r q 0)) := by
  pointwise [prob]

theorem laid_at (v : FVec Ideal S8x2048x4x64 .f32) (p : FVec Ideal S8x4x8x2048x2048 .f32) (b : Fin 8) (g : Fin 4) (r : Fin 8) (q : Fin 2048) (d : Fin 64) :
    laid v p (ix2 ⟨2048 * b.val + q.val, by omega⟩ ⟨64 * (8 * g.val + r.val) + d.val, by omega⟩)
      = ∑ k : Fin 2048, v (ix4 b k g d) * p (ix5 b g r q k) := by
  pointwise [laid]

end Cert.SwaRefIdeal.Own

end
-- ==== Proof.Swa.Entry.lean ====
/- Every entry of the attention kernel's result against the plain attention. -/
module

public import proofs.«01_k».proof.Proof.Swa.BlockAt
public import proofs.«01_k».proof.Proof.Swa.Plain

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal.Gen Cert.Attention
open Cert.SwaRefIdeal.Own (seen attend)

theorem sink2_at (n : EReal) : hSink (F := Ideal) n = n * (((Real.log 2)⁻¹ : ℝ) : EReal) := by
  unfold hSink
  rw [← log2e_at]
  rfl

/-- The real score of a position: the product of query and key over eight, less the slope times the distance. -/
def realScore (qr : Fin 2048 → Fin 16384 → ℝ) (kr : Fin 16384 → Fin 256 → ℝ) (b : Fin 8) (g : Fin 4) (r : Fin 8) (q k : Fin 2048) : ℝ :=
  (∑ d : Fin 64, kr ⟨2048 * b.val + k.val, by omega⟩ ⟨64 * g.val + d.val, by omega⟩ * qr ⟨64 * (8 * g.val + r.val) + d.val, by omega⟩ ⟨2048 * b.val + q.val, by omega⟩) * (1 / 8)
    - slopeR ⟨8 * g.val + r.val, by omega⟩ * (((q.val : ℤ) - (k.val : ℤ) : ℤ) : ℝ)

/-- A query's result by plain attention, over real scores. -/
def plain (V : Fin 2048 → EReal) (q : Fin 2048) (a : Fin 2048 → ℝ) (n : ℝ) (M : ℝ) : EReal :=
  ∑ p, V p * Ideal.div (Ideal.exp ((if seen q p then (a p : EReal) else ⊥) - (M : EReal)))
          ((∑ p, Ideal.exp ((if seen q p then (a p : EReal) else ⊥) - (M : EReal))) + Ideal.exp ((n : EReal) - (M : EReal)))

/-- The plain attention's entries, over finite queries, keys and sinks. -/
theorem plain_at (A0 : FVec Ideal S2048x16384 .bf16) (A1 : FVec Ideal S16384x512 .f32) (A2 : FVec Ideal S32 .f32)
    (qr : Fin 2048 → Fin 16384 → ℝ) (kr : Fin 16384 → Fin 256 → ℝ) (nr : Fin 32 → ℝ)
    (hq : ∀ i j, A0 (ix2 i j) = (qr i j : EReal)) (hk : ∀ (i : Fin 16384) (j : Fin 256), A1 (ix2 i ⟨j.val, by omega⟩) = (kr i j : EReal)) (hn : ∀ h, A2 (ix1 h) = (nr h : EReal))
    (b : Fin 8) (g : Fin 4) (r : Fin 8) (q : Fin 2048) (d : Fin 64) :
    ∃ M : ℝ, attend A0 A1 A2 (ix2 ⟨2048 * b.val + q.val, by omega⟩ ⟨64 * (8 * g.val + r.val) + d.val, by omega⟩)
      = plain (fun p => A1 (ix2 ⟨2048 * b.val + p.val, by omega⟩ ⟨256 + (64 * g.val + d.val), by omega⟩)) q (realScore qr kr b g r q) (nr ⟨8 * g.val + r.val, by omega⟩) M := by
  have hraw : ∀ (b : Fin 8) (g : Fin 4) (r : Fin 8) (q k : Fin 2048), Cert.SwaRefIdeal.Own.raw A0 A1 (ix5 b g r q k) = (realScore qr kr b g r q k : EReal) := by
    intro b g r q k
    rw [Cert.SwaRefIdeal.Own.raw_at, Cert.SwaRefIdeal.Own.slopes_at, table_at, eighth_at]
    simp only [Cert.SwaRefIdeal.Own.query_at, Cert.SwaRefIdeal.Own.key_at, hq]
    have hk' : ∀ d : Fin 64, A1 (ix2 ⟨2048 * b.val + k.val, by omega⟩ ⟨64 * g.val + d.val, by omega⟩) = (kr ⟨2048 * b.val + k.val, by omega⟩ ⟨64 * g.val + d.val, by omega⟩ : EReal) := fun d => hk _ ⟨64 * g.val + d.val, by omega⟩
    simp only [hk', ← EReal.coe_mul, sum_coe, ← EReal.coe_sub]
    rfl
  have hscore : ∀ (b : Fin 8) (g : Fin 4) (r : Fin 8) (q k : Fin 2048), Cert.SwaRefIdeal.Own.score (Cert.SwaRefIdeal.Own.raw A0 A1) (ix5 b g r q k)
      = if seen q k then (realScore qr kr b g r q k : EReal) else ⊥ := by
    intro b g r q k
    rw [Cert.SwaRefIdeal.Own.score_at, hraw, bottom_at]
  have htop : ∀ i, Cert.SwaRefIdeal.Own.score (Cert.SwaRefIdeal.Own.raw A0 A1) i ≠ ⊤ := by
    intro i
    idx_vars i
    rw [hscore]
    split_ifs
    exacts [EReal.coe_ne_top _, bot_ne_top]
  have hsink : ∀ (b : Fin 8) (g : Fin 4) (r : Fin 8) (q : Fin 2048), Cert.SwaRefIdeal.Own.sink A2 (ix5 b g r q 0) = (nr ⟨8 * g.val + r.val, by omega⟩ : EReal) := by
    intro b g r q
    rw [Cert.SwaRefIdeal.Own.sink_at, hn]
  obtain ⟨M, hM⟩ := Cert.SwaRefIdeal.Own.largest_real _ htop bottom_at (ix4 b g r q) (nr ⟨8 * g.val + r.val, by omega⟩)
  refine ⟨M, ?_⟩
  unfold attend
  rw [Cert.SwaRefIdeal.Own.laid_at]
  simp only [Cert.SwaRefIdeal.Own.prob_at, Cert.SwaRefIdeal.Own.expo_at, Cert.SwaRefIdeal.Own.total_at, Cert.SwaRefIdeal.Own.top_at, hsink, hM, hscore, Cert.SwaRefIdeal.Own.val_at]
  rfl

/-- The kernel's entries, over finite queries, keys and sinks. -/
theorem tile_at (i : grid0.Coords) (X : FVec Ideal S2048x512 .f32) (Q : FVec Ideal S2048x256 .bf16) (sk : Fin 32 → EReal) (b : Fin 8)
    (A1 : FVec Ideal S16384x512 .f32) (hX : ∀ (k : Fin 2048) (c : Fin 512), X (ix2 k c) = A1 (ix2 ⟨2048 * b.val + k.val, by omega⟩ c))
    (qr : Fin 2048 → Fin 16384 → ℝ) (kr : Fin 16384 → Fin 256 → ℝ) (nr : Fin 32 → ℝ)
    (q : Fin 256 → Fin 2048) (hqv : ∀ x, (q x).val = 256 * (i 1).val + x.val)
    (hq : ∀ (n : Fin 2048) (x : Fin 256), Q (ix2 n x) = (qr n ⟨2048 * b.val + (q x).val, by have := (q x).isLt; omega⟩ : EReal))
    (hk : ∀ (i : Fin 16384) (j : Fin 256), A1 (ix2 i ⟨j.val, by omega⟩) = (kr i j : EReal)) (hn : ∀ h, sk h = (nr h : EReal))
    (g : Fin 4) (r : Fin 8) (x : Fin 256) (d : Fin 64) (M : ℝ) :
    View.canon (tilesOf (F := Ideal) (keysWin i X) (k0_pay24 (k0_pay22 (valsWin i X 0)) (k0_pay23 (valsWin i X 1)) (valsWin i X 2)) Q (k0_pay21 i) sk)
        (ix2 x ⟨64 * (8 * g.val + r.val) + d.val, by omega⟩)
      = plain (fun p => A1 (ix2 ⟨2048 * b.val + p.val, by omega⟩ ⟨256 + (64 * g.val + d.val), by omega⟩)) (q x) (realScore qr kr b g r (q x)) (nr ⟨8 * g.val + r.val, by omega⟩) M := by
  have hi : (i 1).val < 8 := (i 1).isLt
  have hst : startOf (i 1) + 383 < 2048 := by unfold startOf; omega
  have hh : head g r = ⟨8 * g.val + r.val, by omega⟩ := rfl
  set w : Fin 384 → Fin 2048 := fun k => ⟨startOf (i 1) + k.val, by omega⟩ with hw
  have hscore : ∀ (k : Fin 384) (x : Fin 256), scoreOf (F := Ideal) (keysWin i X) Q (k0_pay21 i) g r (ix2 k x)
      = if seen (q x) (w k) then ((realScore qr kr b g r (q x) (w k) * (Real.log 2)⁻¹ : ℝ) : EReal) else ⊥ := by
    intro k x
    rw [scoreOf_at, sMat_at, slopeOf_at, scale_at, dist_at]
    simp only [hh]
    have hk' : ∀ d : Fin 64, keysWin i X (ix2 k ⟨64 * g.val + d.val, by omega⟩) = (kr ⟨2048 * b.val + (w k).val, by have := (w k).isLt; omega⟩ ⟨64 * g.val + d.val, by omega⟩ : EReal) := by
      intro d
      rw [keysWin_at, hX]
      exact hk _ ⟨64 * g.val + d.val, by omega⟩
    simp only [hk', hq, ← EReal.coe_mul, sum_coe]
    have e : seen (q x) (w k) ↔ (startOf (i 1) + k.val ≤ 256 * (i 1).val + x.val ∧ 256 * (i 1).val + x.val < startOf (i 1) + k.val + 128) := by
      unfold seen
      rw [hqv]
    by_cases hs : seen (q x) (w k)
    · rw [if_pos hs, if_pos (e.mp hs), ← EReal.coe_mul, ← EReal.coe_sub]
      congr 1
      unfold realScore
      have hd : (((256 * (i 1).val + x.val : ℕ) : ℤ) - ((startOf (i 1) + k.val : ℕ) : ℤ) : ℤ) = ((q x).val : ℤ) - ((w k).val : ℤ) := by rw [hqv]
      rw [hd]
      ring
    · rw [if_neg hs, if_neg (fun h => hs (e.mpr h)), EReal.coe_mul_top_of_pos (mul_pos (slopeR_pos _) (inv_pos.mpr (Real.log_pos (by norm_num)))), EReal.sub_top]
  have hk2 : hSink (F := Ideal) (sk (head g r)) = ((nr ⟨8 * g.val + r.val, by omega⟩ * (Real.log 2)⁻¹ : ℝ) : EReal) := by
    rw [sink2_at, hn, hh, ← EReal.coe_mul]
  obtain ⟨M2, hM2⟩ := max_real Finset.univ (fun k : Fin 384 => scoreOf (F := Ideal) (keysWin i X) Q (k0_pay21 i) g r (ix2 k x)) (by
    intro k _
    rw [hscore]
    split_ifs
    exacts [EReal.coe_ne_top _, bot_ne_top]) (nr ⟨8 * g.val + r.val, by omega⟩ * (Real.log 2)⁻¹)
  have hmx : hMax (F := Ideal) (scoreOf (keysWin i X) Q (k0_pay21 i) g r) (hSink (sk (head g r))) (ix2 0 x) = (M2 : EReal) := by
    rw [hMax_at, hk2]
    exact hM2
  rw [tiles_at, oMat_at]
  have hwgt : ∀ k : Fin 384, wOf (F := Ideal) (keysWin i X) Q (k0_pay21 i) sk g r (ix2 k x)
      = Ideal.exp2 ((if seen (q x) (w k) then ((realScore qr kr b g r (q x) (w k) * (Real.log 2)⁻¹ : ℝ) : EReal) else ⊥) - (M2 : EReal)) := by
    intro k
    show hExp (F := Ideal) (scoreOf (keysWin i X) Q (k0_pay21 i) g r) (hMax (scoreOf (keysWin i X) Q (k0_pay21 i) g r) (hSink (sk (head g r)))) (ix2 k x) = _
    rw [hExp_at, hmx, hscore]
  have hl : lOf (F := Ideal) (keysWin i X) Q (k0_pay21 i) sk g r (ix2 0 x)
      = (∑ k, Ideal.exp2 ((if seen (q x) (w k) then ((realScore qr kr b g r (q x) (w k) * (Real.log 2)⁻¹ : ℝ) : EReal) else ⊥) - (M2 : EReal)))
        + Ideal.exp2 (((nr ⟨8 * g.val + r.val, by omega⟩ * (Real.log 2)⁻¹ : ℝ) : EReal) - (M2 : EReal)) := by
    unfold lOf
    rw [hSum_at, hmx]
    exact congrArg₂ (· + ·) (Finset.sum_congr rfl fun k _ => by rw [hExp_at, hmx, hscore]) (by rw [hk2])
  simp only [hwgt, hl]
  have hvw : ∀ k : Fin 384, k0_pay24 (F := Ideal) (k0_pay22 (valsWin i X 0)) (k0_pay23 (valsWin i X 1)) (valsWin i X 2) (ix2 ⟨64 * g.val + d.val, by omega⟩ k)
      = A1 (ix2 ⟨2048 * b.val + (w k).val, by have := (w k).isLt; omega⟩ ⟨256 + (64 * g.val + d.val), by omega⟩) := by
    intro k
    rw [vw_at, hX]
  simp only [hvw]
  have s1 : startOf (i 1) = 128 * (2 * (i 1).val - 1) := rfl
  have hx := hqv x
  have hcover : ∀ p, seen (q x) p → ∃ k, w k = p := by
    intro p hp
    unfold seen at hp
    have hlt : p.val - startOf (i 1) < 384 := by omega
    exact ⟨⟨p.val - startOf (i 1), hlt⟩, Fin.ext (by show startOf (i 1) + (p.val - startOf (i 1)) = p.val; omega)⟩
  have hinj : Function.Injective w := fun k k' h => Fin.ext (by have e : startOf (i 1) + k.val = startOf (i 1) + k'.val := congrArg Fin.val h; omega)
  exact window_softmax w hinj (seen (q x))
    hcover
    (realScore qr kr b g r (q x)) (nr ⟨8 * g.val + r.val, by omega⟩)
    (fun p => A1 (ix2 ⟨2048 * b.val + p.val, by omega⟩ ⟨256 + (64 * g.val + d.val), by omega⟩)) M M2

end Cert.SwaIdeal.Own

end
-- ==== Proof.Swa.Final.lean ====
/- The attention kernel's result is the plain attention of its arguments. -/
module

public import proofs.«01_k».proof.Proof.Swa.Entry
public import Idealize.ShloMosaic.Lib.Pipeline.Value

@[expose] public section

set_option maxRecDepth 16384

noncomputable section

namespace Cert.SwaIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SwaIdeal Cert.SwaIdeal.Gen Cert.Attention
open Cert.SwaRefIdeal.Own (seen attend)

variable (m : (ℓ : Loc nD τ sig) → Buf (Elt Ideal) ℓ) (ρ : Dev nD → PrngReg)

/-- The run with the result named and the arguments unchanged. -/
theorem run_named : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩)
    (run_main m ρ)

/-- The three arguments of the launch, as arrays. -/
def argQ (c : Dev nD) : FVec Ideal S2048x16384 .bf16 := m ((c : Thread nD τ).loc main_arg0)
def argKV (c : Dev nD) : FVec Ideal S16384x512 .f32 := m ((c : Thread nD τ).loc main_arg1)
def argS (c : Dev nD) : FVec Ideal S32 .f32 := m ((c : Thread nD τ).loc main_arg2)

theorem iblk_q (c : Dev nD) (t : Fin cfg0.N) (n : Fin 2048) (x : Fin 256) :
    (iblk m c 1 t : FVec Ideal S2048x256 .bf16) (ix2 n x) = argQ m c (ix2 n ⟨256 * t.val + x.val, by have := t.isLt; have h : cfg0.N = 64 := N_0; omega⟩) := by
  unfold argQ
  blk_point [iblk, V, idx2 t]

theorem iblk_s (c : Dev nD) (t : Fin cfg0.N) (h : Fin 32) : (iblk m c 0 t : FVec Ideal S32 .f32) (ix1 h) = argS m c (ix1 h) := by
  unfold argS
  blk_point [iblk, V, idx2 t]

theorem coords1 : ∀ t : Fin cfg0.N, ((grid0.coords t) 1).val = t.val % 8 :=
  (by decide +kernel : ∀ t : Fin grid0.N, _)

/-- The result, over finite queries, keys and sinks. -/
theorem result (c : Dev nD) (qr : Fin 2048 → Fin 16384 → ℝ) (kr : Fin 16384 → Fin 256 → ℝ) (nr : Fin 32 → ℝ)
    (hq : ∀ i j, argQ m c (ix2 i j) = (qr i j : EReal)) (hk : ∀ (i : Fin 16384) (j : Fin 256), argKV m c (ix2 i ⟨j.val, by omega⟩) = (kr i j : EReal)) (hn : ∀ h, argS m c (ix1 h) = (nr h : EReal)) :
    (dats m 0 c).arrAt 3 cfg0.N = attend (argQ m c) (argKV m c) (argS m c) := by
  refine (dats m 0 c).arrAt_eq_of_covers 3 _ (by decide +kernel) fun t _ y => ?_
  have hN : cfg0.N = 64 := N_0
  have ht : t.val < 64 := lt_of_lt_of_eq t.isLt hN
  blk_simp
  rw [after0_3, outBlock]
  have hb : t.val / 8 < 8 := by omega
  have key : ∀ (x : Fin 256) (g : Fin 4) (r : Fin 8) (d : Fin 64),
      View.canon (blockOf (F := Ideal) (grid0.coords t) (ms0_0 t) (hs0_0 t) (ms0_1 t) (hs0_1 t) (iblk m c 0 t) (iblk m c 1 t)
          (keysWin (grid0.coords t) (kvOf m c ⟨t.val / 8, hb⟩)) (valsWin (grid0.coords t) (kvOf m c ⟨t.val / 8, hb⟩))) (ix2 x ⟨64 * (8 * g.val + r.val) + d.val, by omega⟩)
        = attend (argQ m c) (argKV m c) (argS m c) (ix2 ⟨256 * t.val + x.val, by omega⟩ ⟨64 * (8 * g.val + r.val) + d.val, by omega⟩) := by
    intro x g r d
    have hc := coords1 t
    obtain ⟨M, hM⟩ := plain_at (argQ m c) (argKV m c) (argS m c) qr kr nr hq hk hn ⟨t.val / 8, hb⟩ g r ⟨256 * (t.val % 8) + x.val, by omega⟩ d
    have e : (⟨256 * t.val + x.val, by omega⟩ : Fin 16384) = ⟨2048 * (t.val / 8) + (256 * (t.val % 8) + x.val), by omega⟩ := Fin.ext (by show 256 * t.val + x.val = 2048 * (t.val / 8) + (256 * (t.val % 8) + x.val); omega)
    refine Eq.trans ?_ ((hM.symm).trans (congrArg (fun z => attend (argQ m c) (argKV m c) (argS m c) (ix2 z _)) e.symm))
    unfold blockOf
    rw [queries_at]
    refine tile_at (grid0.coords t) (kvOf m c ⟨t.val / 8, hb⟩) (iblk m c 1 t) _ ⟨t.val / 8, hb⟩ (argKV m c) (fun _ _ => rfl) qr kr nr
      (fun x => ⟨256 * (t.val % 8) + x.val, by omega⟩) (fun x => ?_) (fun n x => ?_) hk (fun h => ?_) g r x d M
    · show 256 * (t.val % 8) + x.val = _
      rw [hc]
    · rw [iblk_q, hq]
      exact congrArg (fun z => ((qr n z : ℝ) : EReal)) (Fin.ext (by show 256 * t.val + x.val = 2048 * (t.val / 8) + (256 * (t.val % 8) + x.val); omega))
    · rw [sinks_at, iblk_s, hn]
  have split : ∀ z : Fin 2048, ∃ (g : Fin 4) (r : Fin 8) (d : Fin 64), z = ⟨64 * (8 * g.val + r.val) + d.val, by omega⟩ := fun z =>
    ⟨⟨z.val / 512, by omega⟩, ⟨z.val % 512 / 64, by omega⟩, ⟨z.val % 64, by omega⟩, Fin.ext (by show z.val = 64 * (8 * (z.val / 512) + z.val % 512 / 64) + z.val % 64; omega)⟩
  have hy0 : (y 0).val < 256 := (y 0).isLt
  have hy1 : (y 1).val < 2048 := (y 1).isLt
  obtain ⟨g, r, d, hz⟩ := split ⟨(y 1).val, hy1⟩
  have hy : y = ix2 ⟨(y 0).val, hy0⟩ ⟨64 * (8 * g.val + r.val) + d.val, by omega⟩ := by
    rw [← hz]
    funext a; fin_cases a <;> rfl
  have hz1 : (y 1).val = 64 * (8 * g.val + r.val) + d.val := congrArg Fin.val hz
  rw [hy]
  refine (key ⟨(y 0).val, hy0⟩ g r d).trans ?_
  generalize attend (argQ m c) (argKV m c) (argS m c) = A
  generalize (⟨(y 0).val, hy0⟩ : Fin 256) = x
  symm
  blk_point [idx2 t]

end Cert.SwaIdeal.Own

end
-- ==== Proof.lean ====
/- The calls of a decoder layer, each against its plain program: the attention here, the others in modules of their own. -/
module

public import proofs.«01_k».proof.Defs
public import proofs.«01_k».proof.Proof.Mlp.Result
public import proofs.«01_k».proof.Proof.MlpS.Result
public import proofs.«01_k».proof.Proof.Out.Result
public import proofs.«01_k».proof.Proof.Kv.Result
public import proofs.«01_k».proof.Proof.KvS.Result
public import proofs.«01_k».proof.Proof.Query.Result
public import proofs.«01_k».proof.Proof.Shared.Result
public import proofs.«01_k».proof.Proof.SharedS.Result
public import proofs.«01_k».proof.Proof.QueryB.Result
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Pre_finite
public import proofs.«01_k».proof.Proof.Swa.Bits
public import proofs.«01_k».proof.Proof.Swa.Final
public import proofs.«01_k».proof.Proof.Swa.Finite
public import Idealize.ShloMosaic.Adequacy
public import Idealize.ShloMosaic.Init
public import proofs.«01_k».proof.Proof.Gen.SwaRefIdeal.Run

@[expose] public section

noncomputable section

namespace Cert.Proof

open Idealize.ShloMosaic Idealize.SL.Sem

theorem preserves_swa : Cert.preserves_Swa_SwaIdeal :=
  ⟨IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl⟩

/-- The plain program declares no semaphore, and no operation writes an argument. -/
theorem frame_swaRef : Cert.quiescent_SwaRefIdeal := fun m ρ _ =>
  (θ_run Cert.SwaRefIdeal.defs _ _).mono (fun r h => ⟨fun c => (h c).2, Idealize.ShloMosaic.sem_eq_zero_of_no_sems (by decide) r.2⟩)
    (Cert.SwaRefIdeal.Value.run (F := Ideal) m ρ)

theorem algebraic_swa : Cert.algebraic_SwaIdeal_SwaRefIdeal_pre_finite := by
  intro m ρ m' ρ' hpre hagree
  refine ⟨fun c => Cert.SwaRefIdeal.Own.attend (Cert.SwaIdeal.Own.argQ m c) (Cert.SwaIdeal.Own.argKV m c) (Cert.SwaIdeal.Own.argS m c), ?_, ?_⟩
  · refine (θ_run Cert.SwaIdeal.defs _ _).mono (fun r h c => ⟨(h c).1.trans ?_, (h c).2⟩) (Cert.SwaIdeal.Own.run_named m ρ)
    obtain ⟨hq, hk, hn⟩ := Cert.SwaIdeal.Own.finite_args _ _ _ (hpre c)
    choose qr hq using hq
    choose kr hk using hk
    choose nr hn using hn
    exact Cert.SwaIdeal.Own.result m c qr kr nr hq hk hn
  · refine (θ_run Cert.SwaRefIdeal.defs _ _).mono (fun r h c => ⟨(h c).1.trans ?_, (h c).2⟩) (Cert.SwaRefIdeal.Value.run (F := Ideal) m' ρ')
    refine (Cert.SwaRefIdeal.Own.out_eq m' c).trans ?_
    rw [(hagree c).1, (hagree c).2.1, (hagree c).2.2]
    rfl

theorem claim : Cert.Claim :=
  ⟨Cert.Swa.Gen.facts, Cert.SwaIdeal.Gen.facts, Cert.SwaRefIdeal.Gen.facts,
    Cert.Mlp.Gen.facts, Cert.MlpIdeal.Gen.facts, Cert.MlpRefIdeal.Gen.facts,
    Cert.MlpS.Gen.facts, Cert.MlpSIdeal.Gen.facts, Cert.MlpSRefIdeal.Gen.facts,
    Cert.Out.Gen.facts, Cert.OutIdeal.Gen.facts, Cert.OutRefIdeal.Gen.facts,
    Cert.Kv.Gen.facts, Cert.KvIdeal.Gen.facts, Cert.KvRefIdeal.Gen.facts,
    Cert.KvS.Gen.facts, Cert.KvSIdeal.Gen.facts, Cert.KvSRefIdeal.Gen.facts,
    Cert.Query.Gen.facts, Cert.QueryIdeal.Gen.facts, Cert.QueryRefIdeal.Gen.facts,
    Cert.Shared.Gen.facts, Cert.SharedIdeal.Gen.facts, Cert.SharedRefIdeal.Gen.facts,
    Cert.SharedS.Gen.facts, Cert.SharedSIdeal.Gen.facts, Cert.SharedSRefIdeal.Gen.facts,
    Cert.QueryB.Gen.facts, Cert.QueryBIdeal.Gen.facts, Cert.QueryBRefIdeal.Gen.facts,
    Cert.Pre_finite.Gen.facts, Cert.Pre_finite_shared.Gen.facts, Cert.Pre_finite_shared_sample.Gen.facts, Cert.Pre_finite_query.Gen.facts,
  Cert.Swa.Own.frame_swa, fun m ρ _ => Cert.SwaIdeal.Own.frame m ρ, fun m ρ _ => Cert.SwaIdeal.Own.frame m ρ, frame_swaRef,
  fun m ρ _ => frame_swaRef m ρ trivial,
  frame_mlp, frame_mlpIdeal, frame_mlpRef,
  frame_mlpS, frame_mlpSIdeal, frame_mlpSRef,
  frame_out, frame_outIdeal, frame_outRef,
  frame_kv, frame_kvIdeal, frame_kvRef,
  frame_kvS, frame_kvSIdeal, frame_kvSRef,
  frame_query, frame_queryIdeal, frame_queryRef,
  frame_shared, frame_sharedIdeal, fun m ρ _ => frame_sharedIdeal m ρ trivial, frame_sharedRef, fun m ρ _ => frame_sharedRef m ρ trivial,
  frame_sharedS, frame_sharedSIdeal, fun m ρ _ => frame_sharedSIdeal m ρ trivial, frame_sharedSRef, fun m ρ _ => frame_sharedSRef m ρ trivial,
  frame_queryB, frame_queryBIdeal, fun m ρ _ => frame_queryBIdeal m ρ trivial, frame_queryBRef, fun m ρ _ => frame_queryBRef m ρ trivial,
  preserves_swa, algebraic_swa,
  trivial, algebraic_mlp,
  trivial, algebraic_mlpS,
  trivial, algebraic_out,
  trivial, algebraic_kv,
  trivial, algebraic_kvS,
  trivial, algebraic_query,
  trivial, algebraic_shared,
  trivial, algebraic_sharedS,
  trivial, algebraic_queryB⟩

end Cert.Proof

end
